-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_HcatKernel (m : (ℓ : Loc Cert.HcatKernel.nD Cert.HcatKernel.τ Cert.HcatKernel.sig) → Buf (Elt Bits) ℓ) : Prop :=
  True

def Pre_HcatKernelIdeal (m : (ℓ : Loc Cert.HcatKernelIdeal.nD Cert.HcatKernelIdeal.τ Cert.HcatKernelIdeal.sig) → Buf (Elt Ideal) ℓ) : Prop :=
  True

def Pre_HcatReferenceIdeal (m : (ℓ : Loc Cert.HcatReferenceIdeal.nD Cert.HcatReferenceIdeal.τ Cert.HcatReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_HaKernel (m : (ℓ : Loc Cert.HaKernel.nD Cert.HaKernel.τ Cert.HaKernel.sig) → Buf (Elt Bits) ℓ) : Prop :=
  True

def Pre_HaKernelIdeal (m : (ℓ : Loc Cert.HaKernelIdeal.nD Cert.HaKernelIdeal.τ Cert.HaKernelIdeal.sig) → Buf (Elt Ideal) ℓ) : Prop :=
  True

def Pre_HaReferenceIdeal (m : (ℓ : Loc Cert.HaReferenceIdeal.nD Cert.HaReferenceIdeal.τ Cert.HaReferenceIdeal.sig) → Buf (Elt Ideal) ℓ) : Prop :=
  True

def Pre_HbKernel (m : (ℓ : Loc Cert.HbKernel.nD Cert.HbKernel.τ Cert.HbKernel.sig) → Buf (Elt Bits) ℓ) : Prop :=
  True

def Pre_HbKernelIdeal (m : (ℓ : Loc Cert.HbKernelIdeal.nD Cert.HbKernelIdeal.τ Cert.HbKernelIdeal.sig) → Buf (Elt Ideal) ℓ) : Prop :=
  True

def Pre_HbReferenceIdeal (m : (ℓ : Loc Cert.HbReferenceIdeal.nD Cert.HbReferenceIdeal.τ Cert.HbReferenceIdeal.sig) → Buf (Elt Ideal) ℓ) : Prop :=
  True

def Pre_FdKernel (m : (ℓ : Loc Cert.FdKernel.nD Cert.FdKernel.τ Cert.FdKernel.sig) → Buf (Elt Bits) ℓ) : Prop :=
  True

def Pre_FdKernelIdeal (m : (ℓ : Loc Cert.FdKernelIdeal.nD Cert.FdKernelIdeal.τ Cert.FdKernelIdeal.sig) → Buf (Elt Ideal) ℓ) : Prop :=
  True

def Pre_FdReferenceIdeal (m : (ℓ : Loc Cert.FdReferenceIdeal.nD Cert.FdReferenceIdeal.τ Cert.FdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_HcatKernel [hHcatKernel : Cert.HcatKernel.Facts] : Prop :=
  ∀ (m : (ℓ : Loc Cert.HcatKernel.nD Cert.HcatKernel.τ Cert.HcatKernel.sig) → Buf (Elt Bits) ℓ) (g : Dev Cert.HcatKernel.nD → PrngReg), Pre_HcatKernel m →
    θ_run (Cert.HcatKernel.defs (F := Bits)) (onTc (τ := Cert.HcatKernel.τ) (Cert.HcatKernel.main (F := Bits))) ⟨m, fun _ => 0, g⟩ (fun r => (∀ c : Dev Cert.HcatKernel.nD,
      r.2.mem ((c.tc : Thread Cert.HcatKernel.nD Cert.HcatKernel.τ).loc Cert.HcatKernel.main_arg0) = m ((c.tc : Thread Cert.HcatKernel.nD Cert.HcatKernel.τ).loc Cert.HcatKernel.main_arg0)
      ∧ r.2.mem ((c.tc : Thread Cert.HcatKernel.nD Cert.HcatKernel.τ).loc Cert.HcatKernel.main_arg1) = m ((c.tc : Thread Cert.HcatKernel.nD Cert.HcatKernel.τ).loc Cert.HcatKernel.main_arg1))
      ∧ r.2.sem = fun _ => 0)

def quiescent_HcatKernelIdeal [hHcatKernelIdeal : Cert.HcatKernelIdeal.Facts] : Prop :=
  ∀ (m : (ℓ : Loc Cert.HcatKernelIdeal.nD Cert.HcatKernelIdeal.τ Cert.HcatKernelIdeal.sig) → Buf (Elt Ideal) ℓ) (g : Dev Cert.HcatKernelIdeal.nD → PrngReg), Pre_HcatKernelIdeal m →
    θ_run (Cert.HcatKernelIdeal.defs (F := Ideal)) (onTc (τ := Cert.HcatKernelIdeal.τ) (Cert.HcatKernelIdeal.main (F := Ideal))) ⟨m, fun _ => 0, g⟩ (fun r => (∀ c : Dev Cert.HcatKernelIdeal.nD,
      r.2.mem ((c.tc : Thread Cert.HcatKernelIdeal.nD Cert.HcatKernelIdeal.τ).loc Cert.HcatKernelIdeal.main_arg0) = m ((c.tc : Thread Cert.HcatKernelIdeal.nD Cert.HcatKernelIdeal.τ).loc Cert.HcatKernelIdeal.main_arg0)
      ∧ r.2.mem ((c.tc : Thread Cert.HcatKernelIdeal.nD Cert.HcatKernelIdeal.τ).loc Cert.HcatKernelIdeal.main_arg1) = m ((c.tc : Thread Cert.HcatKernelIdeal.nD Cert.HcatKernelIdeal.τ).loc Cert.HcatKernelIdeal.main_arg1))
      ∧ r.2.sem = fun _ => 0)

def quiescent_HcatReferenceIdeal [hHcatReferenceIdeal : Cert.HcatReferenceIdeal.Facts] : Prop :=
  ∀ (m : (ℓ : Loc Cert.HcatReferenceIdeal.nD Cert.HcatReferenceIdeal.τ Cert.HcatReferenceIdeal.sig) → Buf (Elt Ideal) ℓ) (g : Dev Cert.HcatReferenceIdeal.nD → PrngReg), Pre_HcatReferenceIdeal m →
    θ_run (Cert.HcatReferenceIdeal.defs (F := Ideal)) (onTc (τ := Cert.HcatReferenceIdeal.τ) (Cert.HcatReferenceIdeal.main (F := Ideal))) ⟨m, fun _ => 0, g⟩ (fun r => (∀ c : Dev Cert.HcatReferenceIdeal.nD,
      r.2.mem ((c.tc : Thread Cert.HcatReferenceIdeal.nD Cert.HcatReferenceIdeal.τ).loc Cert.HcatReferenceIdeal.main_arg0) = m ((c.tc : Thread Cert.HcatReferenceIdeal.nD Cert.HcatReferenceIdeal.τ).loc Cert.HcatReferenceIdeal.main_arg0)
      ∧ r.2.mem ((c.tc : Thread Cert.HcatReferenceIdeal.nD Cert.HcatReferenceIdeal.τ).loc Cert.HcatReferenceIdeal.main_arg1) = m ((c.tc : Thread Cert.HcatReferenceIdeal.nD Cert.HcatReferenceIdeal.τ).loc Cert.HcatReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1))
      ∧ r.2.sem = fun _ => 0)

def quiescent_HaKernel [hHaKernel : Cert.HaKernel.Facts] : Prop :=
  ∀ (m : (ℓ : Loc Cert.HaKernel.nD Cert.HaKernel.τ Cert.HaKernel.sig) → Buf (Elt Bits) ℓ) (g : Dev Cert.HaKernel.nD → PrngReg), Pre_HaKernel m →
    θ_run (Cert.HaKernel.defs (F := Bits)) (onTc (τ := Cert.HaKernel.τ) (Cert.HaKernel.main (F := Bits))) ⟨m, fun _ => 0, g⟩ (fun r => (∀ c : Dev Cert.HaKernel.nD,
      r.2.mem ((c.tc : Thread Cert.HaKernel.nD Cert.HaKernel.τ).loc Cert.HaKernel.main_arg0) = m ((c.tc : Thread Cert.HaKernel.nD Cert.HaKernel.τ).loc Cert.HaKernel.main_arg0)
      ∧ r.2.mem ((c.tc : Thread Cert.HaKernel.nD Cert.HaKernel.τ).loc Cert.HaKernel.main_arg1) = m ((c.tc : Thread Cert.HaKernel.nD Cert.HaKernel.τ).loc Cert.HaKernel.main_arg1))
      ∧ r.2.sem = fun _ => 0)

def quiescent_HaKernelIdeal [hHaKernelIdeal : Cert.HaKernelIdeal.Facts] : Prop :=
  ∀ (m : (ℓ : Loc Cert.HaKernelIdeal.nD Cert.HaKernelIdeal.τ Cert.HaKernelIdeal.sig) → Buf (Elt Ideal) ℓ) (g : Dev Cert.HaKernelIdeal.nD → PrngReg), Pre_HaKernelIdeal m →
    θ_run (Cert.HaKernelIdeal.defs (F := Ideal)) (onTc (τ := Cert.HaKernelIdeal.τ) (Cert.HaKernelIdeal.main (F := Ideal))) ⟨m, fun _ => 0, g⟩ (fun r => (∀ c : Dev Cert.HaKernelIdeal.nD,
      r.2.mem ((c.tc : Thread Cert.HaKernelIdeal.nD Cert.HaKernelIdeal.τ).loc Cert.HaKernelIdeal.main_arg0) = m ((c.tc : Thread Cert.HaKernelIdeal.nD Cert.HaKernelIdeal.τ).loc Cert.HaKernelIdeal.main_arg0)
      ∧ r.2.mem ((c.tc : Thread Cert.HaKernelIdeal.nD Cert.HaKernelIdeal.τ).loc Cert.HaKernelIdeal.main_arg1) = m ((c.tc : Thread Cert.HaKernelIdeal.nD Cert.HaKernelIdeal.τ).loc Cert.HaKernelIdeal.main_arg1))
      ∧ r.2.sem = fun _ => 0)

def quiescent_HaReferenceIdeal [hHaReferenceIdeal : Cert.HaReferenceIdeal.Facts] : Prop :=
  ∀ (m : (ℓ : Loc Cert.HaReferenceIdeal.nD Cert.HaReferenceIdeal.τ Cert.HaReferenceIdeal.sig) → Buf (Elt Ideal) ℓ) (g : Dev Cert.HaReferenceIdeal.nD → PrngReg), Pre_HaReferenceIdeal m →
    θ_run (Cert.HaReferenceIdeal.defs (F := Ideal)) (onTc (τ := Cert.HaReferenceIdeal.τ) (Cert.HaReferenceIdeal.main (F := Ideal))) ⟨m, fun _ => 0, g⟩ (fun r => (∀ c : Dev Cert.HaReferenceIdeal.nD,
      r.2.mem ((c.tc : Thread Cert.HaReferenceIdeal.nD Cert.HaReferenceIdeal.τ).loc Cert.HaReferenceIdeal.main_arg0) = m ((c.tc : Thread Cert.HaReferenceIdeal.nD Cert.HaReferenceIdeal.τ).loc Cert.HaReferenceIdeal.main_arg0)
      ∧ r.2.mem ((c.tc : Thread Cert.HaReferenceIdeal.nD Cert.HaReferenceIdeal.τ).loc Cert.HaReferenceIdeal.main_arg1) = m ((c.tc : Thread Cert.HaReferenceIdeal.nD Cert.HaReferenceIdeal.τ).loc Cert.HaReferenceIdeal.main_arg1))
      ∧ r.2.sem = fun _ => 0)

def quiescent_HbKernel [hHbKernel : Cert.HbKernel.Facts] : Prop :=
  ∀ (m : (ℓ : Loc Cert.HbKernel.nD Cert.HbKernel.τ Cert.HbKernel.sig) → Buf (Elt Bits) ℓ) (g : Dev Cert.HbKernel.nD → PrngReg), Pre_HbKernel m →
    θ_run (Cert.HbKernel.defs (F := Bits)) (onTc (τ := Cert.HbKernel.τ) (Cert.HbKernel.main (F := Bits))) ⟨m, fun _ => 0, g⟩ (fun r => (∀ c : Dev Cert.HbKernel.nD,
      r.2.mem ((c.tc : Thread Cert.HbKernel.nD Cert.HbKernel.τ).loc Cert.HbKernel.main_arg0) = m ((c.tc : Thread Cert.HbKernel.nD Cert.HbKernel.τ).loc Cert.HbKernel.main_arg0)
      ∧ r.2.mem ((c.tc : Thread Cert.HbKernel.nD Cert.HbKernel.τ).loc Cert.HbKernel.main_arg1) = m ((c.tc : Thread Cert.HbKernel.nD Cert.HbKernel.τ).loc Cert.HbKernel.main_arg1)
      ∧ r.2.mem ((c.tc : Thread Cert.HbKernel.nD Cert.HbKernel.τ).loc Cert.HbKernel.main_arg2) = m ((c.tc : Thread Cert.HbKernel.nD Cert.HbKernel.τ).loc Cert.HbKernel.main_arg2))
      ∧ r.2.sem = fun _ => 0)

def quiescent_HbKernelIdeal [hHbKernelIdeal : Cert.HbKernelIdeal.Facts] : Prop :=
  ∀ (m : (ℓ : Loc Cert.HbKernelIdeal.nD Cert.HbKernelIdeal.τ Cert.HbKernelIdeal.sig) → Buf (Elt Ideal) ℓ) (g : Dev Cert.HbKernelIdeal.nD → PrngReg), Pre_HbKernelIdeal m →
    θ_run (Cert.HbKernelIdeal.defs (F := Ideal)) (onTc (τ := Cert.HbKernelIdeal.τ) (Cert.HbKernelIdeal.main (F := Ideal))) ⟨m, fun _ => 0, g⟩ (fun r => (∀ c : Dev Cert.HbKernelIdeal.nD,
      r.2.mem ((c.tc : Thread Cert.HbKernelIdeal.nD Cert.HbKernelIdeal.τ).loc Cert.HbKernelIdeal.main_arg0) = m ((c.tc : Thread Cert.HbKernelIdeal.nD Cert.HbKernelIdeal.τ).loc Cert.HbKernelIdeal.main_arg0)
      ∧ r.2.mem ((c.tc : Thread Cert.HbKernelIdeal.nD Cert.HbKernelIdeal.τ).loc Cert.HbKernelIdeal.main_arg1) = m ((c.tc : Thread Cert.HbKernelIdeal.nD Cert.HbKernelIdeal.τ).loc Cert.HbKernelIdeal.main_arg1)
      ∧ r.2.mem ((c.tc : Thread Cert.HbKernelIdeal.nD Cert.HbKernelIdeal.τ).loc Cert.HbKernelIdeal.main_arg2) = m ((c.tc : Thread Cert.HbKernelIdeal.nD Cert.HbKernelIdeal.τ).loc Cert.HbKernelIdeal.main_arg2))
      ∧ r.2.sem = fun _ => 0)

def quiescent_HbReferenceIdeal [hHbReferenceIdeal : Cert.HbReferenceIdeal.Facts] : Prop :=
  ∀ (m : (ℓ : Loc Cert.HbReferenceIdeal.nD Cert.HbReferenceIdeal.τ Cert.HbReferenceIdeal.sig) → Buf (Elt Ideal) ℓ) (g : Dev Cert.HbReferenceIdeal.nD → PrngReg), Pre_HbReferenceIdeal m →
    θ_run (Cert.HbReferenceIdeal.defs (F := Ideal)) (onTc (τ := Cert.HbReferenceIdeal.τ) (Cert.HbReferenceIdeal.main (F := Ideal))) ⟨m, fun _ => 0, g⟩ (fun r => (∀ c : Dev Cert.HbReferenceIdeal.nD,
      r.2.mem ((c.tc : Thread Cert.HbReferenceIdeal.nD Cert.HbReferenceIdeal.τ).loc Cert.HbReferenceIdeal.main_arg0) = m ((c.tc : Thread Cert.HbReferenceIdeal.nD Cert.HbReferenceIdeal.τ).loc Cert.HbReferenceIdeal.main_arg0)
      ∧ r.2.mem ((c.tc : Thread Cert.HbReferenceIdeal.nD Cert.HbReferenceIdeal.τ).loc Cert.HbReferenceIdeal.main_arg1) = m ((c.tc : Thread Cert.HbReferenceIdeal.nD Cert.HbReferenceIdeal.τ).loc Cert.HbReferenceIdeal.main_arg1)
      ∧ r.2.mem ((c.tc : Thread Cert.HbReferenceIdeal.nD Cert.HbReferenceIdeal.τ).loc Cert.HbReferenceIdeal.main_arg2) = m ((c.tc : Thread Cert.HbReferenceIdeal.nD Cert.HbReferenceIdeal.τ).loc Cert.HbReferenceIdeal.main_arg2))
      ∧ r.2.sem = fun _ => 0)

def quiescent_FdKernel [hFdKernel : Cert.FdKernel.Facts] : Prop :=
  ∀ (m : (ℓ : Loc Cert.FdKernel.nD Cert.FdKernel.τ Cert.FdKernel.sig) → Buf (Elt Bits) ℓ) (g : Dev Cert.FdKernel.nD → PrngReg), Pre_FdKernel m →
    θ_run (Cert.FdKernel.defs (F := Bits)) (onTc (τ := Cert.FdKernel.τ) (Cert.FdKernel.main (F := Bits))) ⟨m, fun _ => 0, g⟩ (fun r => (∀ c : Dev Cert.FdKernel.nD,
      r.2.mem ((c.tc : Thread Cert.FdKernel.nD Cert.FdKernel.τ).loc Cert.FdKernel.main_arg0) = m ((c.tc : Thread Cert.FdKernel.nD Cert.FdKernel.τ).loc Cert.FdKernel.main_arg0)
      ∧ r.2.mem ((c.tc : Thread Cert.FdKernel.nD Cert.FdKernel.τ).loc Cert.FdKernel.main_arg1) = m ((c.tc : Thread Cert.FdKernel.nD Cert.FdKernel.τ).loc Cert.FdKernel.main_arg1))
      ∧ r.2.sem = fun _ => 0)

def quiescent_FdKernelIdeal [hFdKernelIdeal : Cert.FdKernelIdeal.Facts] : Prop :=
  ∀ (m : (ℓ : Loc Cert.FdKernelIdeal.nD Cert.FdKernelIdeal.τ Cert.FdKernelIdeal.sig) → Buf (Elt Ideal) ℓ) (g : Dev Cert.FdKernelIdeal.nD → PrngReg), Pre_FdKernelIdeal m →
    θ_run (Cert.FdKernelIdeal.defs (F := Ideal)) (onTc (τ := Cert.FdKernelIdeal.τ) (Cert.FdKernelIdeal.main (F := Ideal))) ⟨m, fun _ => 0, g⟩ (fun r => (∀ c : Dev Cert.FdKernelIdeal.nD,
      r.2.mem ((c.tc : Thread Cert.FdKernelIdeal.nD Cert.FdKernelIdeal.τ).loc Cert.FdKernelIdeal.main_arg0) = m ((c.tc : Thread Cert.FdKernelIdeal.nD Cert.FdKernelIdeal.τ).loc Cert.FdKernelIdeal.main_arg0)
      ∧ r.2.mem ((c.tc : Thread Cert.FdKernelIdeal.nD Cert.FdKernelIdeal.τ).loc Cert.FdKernelIdeal.main_arg1) = m ((c.tc : Thread Cert.FdKernelIdeal.nD Cert.FdKernelIdeal.τ).loc Cert.FdKernelIdeal.main_arg1))
      ∧ r.2.sem = fun _ => 0)

def quiescent_FdReferenceIdeal [hFdReferenceIdeal : Cert.FdReferenceIdeal.Facts] : Prop :=
  ∀ (m : (ℓ : Loc Cert.FdReferenceIdeal.nD Cert.FdReferenceIdeal.τ Cert.FdReferenceIdeal.sig) → Buf (Elt Ideal) ℓ) (g : Dev Cert.FdReferenceIdeal.nD → PrngReg), Pre_FdReferenceIdeal m →
    θ_run (Cert.FdReferenceIdeal.defs (F := Ideal)) (onTc (τ := Cert.FdReferenceIdeal.τ) (Cert.FdReferenceIdeal.main (F := Ideal))) ⟨m, fun _ => 0, g⟩ (fun r => (∀ c : Dev Cert.FdReferenceIdeal.nD,
      r.2.mem ((c.tc : Thread Cert.FdReferenceIdeal.nD Cert.FdReferenceIdeal.τ).loc Cert.FdReferenceIdeal.main_arg0) = m ((c.tc : Thread Cert.FdReferenceIdeal.nD Cert.FdReferenceIdeal.τ).loc Cert.FdReferenceIdeal.main_arg0)
      ∧ r.2.mem ((c.tc : Thread Cert.FdReferenceIdeal.nD Cert.FdReferenceIdeal.τ).loc Cert.FdReferenceIdeal.main_arg1) = m ((c.tc : Thread Cert.FdReferenceIdeal.nD Cert.FdReferenceIdeal.τ).loc Cert.FdReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v1_0)) (v1 : (c : Dev Cert.FfnKernelIdeal.nD) → Buf (Elt Ideal) ((c.tc : Thread Cert.FfnKernelIdeal.nD Cert.FfnKernelIdeal.τ).loc Cert.FfnKernelIdeal.main_v1_1)) (v2 : (c : Dev Cert.FfnKernelIdeal.nD) → Buf (Elt Ideal) ((c.tc : Thread Cert.FfnKernelIdeal.nD Cert.FfnKernelIdeal.τ).loc Cert.FfnKernelIdeal.main_v1_2)) (v3 : (c : Dev Cert.FfnKernelIdeal.nD) → Buf (Elt Ideal) ((c.tc : Thread Cert.FfnKernelIdeal.nD Cert.FfnKernelIdeal.τ).loc Cert.FfnKernelIdeal.main_v1_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v1_0) = v0 c
          ∧ r.2.mem ((c.tc : Thread Cert.FfnKernelIdeal.nD Cert.FfnKernelIdeal.τ).loc Cert.FfnKernelIdeal.main_v1_1) = v1 c
          ∧ r.2.mem ((c.tc : Thread Cert.FfnKernelIdeal.nD Cert.FfnKernelIdeal.τ).loc Cert.FfnKernelIdeal.main_v1_2) = v2 c
          ∧ r.2.mem ((c.tc : Thread Cert.FfnKernelIdeal.nD Cert.FfnKernelIdeal.τ).loc Cert.FfnKernelIdeal.main_v1_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v69) = v0 c
          ∧ r.2.mem ((c.tc : Thread Cert.FfnReferenceIdeal.nD Cert.FfnReferenceIdeal.τ).loc Cert.FfnReferenceIdeal.main_v70) = v1 c
          ∧ r.2.mem ((c.tc : Thread Cert.FfnReferenceIdeal.nD Cert.FfnReferenceIdeal.τ).loc Cert.FfnReferenceIdeal.main_v71) = v2 c
          ∧ r.2.mem ((c.tc : Thread Cert.FfnReferenceIdeal.nD Cert.FfnReferenceIdeal.τ).loc Cert.FfnReferenceIdeal.main_v34) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)) →
    ∃ (v0 : (c : Dev Cert.WinKernelIdeal.nD) → Buf (Elt Ideal) ((c.tc : Thread Cert.WinKernelIdeal.nD Cert.WinKernelIdeal.τ).loc Cert.WinKernelIdeal.main_v0)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v0) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v18) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v8) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v7) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_HcatKernel_HcatKernelIdeal : Prop :=
  True

def algebraic_HcatKernelIdeal_HcatReferenceIdeal [hHcatKernelIdeal : Cert.HcatKernelIdeal.Facts] [hHcatReferenceIdeal : Cert.HcatReferenceIdeal.Facts] : Prop :=
  ∀ (m : (ℓ : Loc Cert.HcatKernelIdeal.nD Cert.HcatKernelIdeal.τ Cert.HcatKernelIdeal.sig) → Buf (Elt Ideal) ℓ) (g : Dev Cert.HcatKernelIdeal.nD → PrngReg)
    (m' : (ℓ : Loc Cert.HcatReferenceIdeal.nD Cert.HcatReferenceIdeal.τ Cert.HcatReferenceIdeal.sig) → Buf (Elt Ideal) ℓ) (g' : Dev Cert.HcatReferenceIdeal.nD → PrngReg), Pre_HcatKernelIdeal m →
    (∀ c : Dev Cert.HcatKernelIdeal.nD,
      m' ((c.tc : Thread Cert.HcatReferenceIdeal.nD Cert.HcatReferenceIdeal.τ).loc Cert.HcatReferenceIdeal.main_arg0) = m ((c.tc : Thread Cert.HcatKernelIdeal.nD Cert.HcatKernelIdeal.τ).loc Cert.HcatKernelIdeal.main_arg0)
      ∧ m' ((c.tc : Thread Cert.HcatReferenceIdeal.nD Cert.HcatReferenceIdeal.τ).loc Cert.HcatReferenceIdeal.main_arg1) = m ((c.tc : Thread Cert.HcatKernelIdeal.nD Cert.HcatKernelIdeal.τ).loc Cert.HcatKernelIdeal.main_arg1)) →
    ∃ (v0 : (c : Dev Cert.HcatKernelIdeal.nD) → Buf (Elt Ideal) ((c.tc : Thread Cert.HcatKernelIdeal.nD Cert.HcatKernelIdeal.τ).loc Cert.HcatKernelIdeal.main_v0)),
      θ_run (Cert.HcatKernelIdeal.defs (F := Ideal)) (onTc (τ := Cert.HcatKernelIdeal.τ) (Cert.HcatKernelIdeal.main (F := Ideal))) ⟨m, fun _ => 0, g⟩ (fun r => ∀ c : Dev Cert.HcatKernelIdeal.nD,
          r.2.mem ((c.tc : Thread Cert.HcatKernelIdeal.nD Cert.HcatKernelIdeal.τ).loc Cert.HcatKernelIdeal.main_v0) = v0 c
          ∧ r.2.mem ((c.tc : Thread Cert.HcatKernelIdeal.nD Cert.HcatKernelIdeal.τ).loc Cert.HcatKernelIdeal.main_arg0) = m ((c.tc : Thread Cert.HcatKernelIdeal.nD Cert.HcatKernelIdeal.τ).loc Cert.HcatKernelIdeal.main_arg0)
          ∧ r.2.mem ((c.tc : Thread Cert.HcatKernelIdeal.nD Cert.HcatKernelIdeal.τ).loc Cert.HcatKernelIdeal.main_arg1) = m ((c.tc : Thread Cert.HcatKernelIdeal.nD Cert.HcatKernelIdeal.τ).loc Cert.HcatKernelIdeal.main_arg1))
      ∧ θ_run (Cert.HcatReferenceIdeal.defs (F := Ideal)) (onTc (τ := Cert.HcatReferenceIdeal.τ) (Cert.HcatReferenceIdeal.main (F := Ideal))) ⟨m', fun _ => 0, g'⟩ (fun r => ∀ c : Dev Cert.HcatReferenceIdeal.nD,
          r.2.mem ((c.tc : Thread Cert.HcatReferenceIdeal.nD Cert.HcatReferenceIdeal.τ).loc Cert.HcatReferenceIdeal.main_v14) = v0 c
          ∧ r.2.mem ((c.tc : Thread Cert.HcatReferenceIdeal.nD Cert.HcatReferenceIdeal.τ).loc Cert.HcatReferenceIdeal.main_arg0) = m' ((c.tc : Thread Cert.HcatReferenceIdeal.nD Cert.HcatReferenceIdeal.τ).loc Cert.HcatReferenceIdeal.main_arg0)
          ∧ r.2.mem ((c.tc : Thread Cert.HcatReferenceIdeal.nD Cert.HcatReferenceIdeal.τ).loc Cert.HcatReferenceIdeal.main_arg1) = m' ((c.tc : Thread Cert.HcatReferenceIdeal.nD Cert.HcatReferenceIdeal.τ).loc Cert.HcatReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v0)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v9) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)) →
    ∃ (v0 : (c : Dev Cert.FwdKernelIdeal.nD) → Buf (Elt Ideal) ((c.tc : Thread Cert.FwdKernelIdeal.nD Cert.FwdKernelIdeal.τ).loc Cert.FwdKernelIdeal.main_v0)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v0) = v0 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v4) = v0 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1))

def preserves_ActKernel_ActKernelIdeal : Prop :=
  True

def algebraic_ActKernelIdeal_ActReferenceIdeal [hActKernelIdeal : Cert.ActKernelIdeal.Facts] [hActReferenceIdeal : Cert.ActReferenceIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)) →
    ∃ (v0 : (c : Dev Cert.ActKernelIdeal.nD) → Buf (Elt Ideal) ((c.tc : Thread Cert.ActKernelIdeal.nD Cert.ActKernelIdeal.τ).loc Cert.ActKernelIdeal.main_v0)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v0) = v0 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v6) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1))

def preserves_HaKernel_HaKernelIdeal : Prop :=
  True

def algebraic_HaKernelIdeal_HaReferenceIdeal [hHaKernelIdeal : Cert.HaKernelIdeal.Facts] [hHaReferenceIdeal : Cert.HaReferenceIdeal.Facts] : Prop :=
  ∀ (m : (ℓ : Loc Cert.HaKernelIdeal.nD Cert.HaKernelIdeal.τ Cert.HaKernelIdeal.sig) → Buf (Elt Ideal) ℓ) (g : Dev Cert.HaKernelIdeal.nD → PrngReg)
    (m' : (ℓ : Loc Cert.HaReferenceIdeal.nD Cert.HaReferenceIdeal.τ Cert.HaReferenceIdeal.sig) → Buf (Elt Ideal) ℓ) (g' : Dev Cert.HaReferenceIdeal.nD → PrngReg), Pre_HaKernelIdeal m →
    (∀ c : Dev Cert.HaKernelIdeal.nD,
      m' ((c.tc : Thread Cert.HaReferenceIdeal.nD Cert.HaReferenceIdeal.τ).loc Cert.HaReferenceIdeal.main_arg0) = m ((c.tc : Thread Cert.HaKernelIdeal.nD Cert.HaKernelIdeal.τ).loc Cert.HaKernelIdeal.main_arg0)
      ∧ m' ((c.tc : Thread Cert.HaReferenceIdeal.nD Cert.HaReferenceIdeal.τ).loc Cert.HaReferenceIdeal.main_arg1) = m ((c.tc : Thread Cert.HaKernelIdeal.nD Cert.HaKernelIdeal.τ).loc Cert.HaKernelIdeal.main_arg1)) →
    ∃ (v0 : (c : Dev Cert.HaKernelIdeal.nD) → Buf (Elt Ideal) ((c.tc : Thread Cert.HaKernelIdeal.nD Cert.HaKernelIdeal.τ).loc Cert.HaKernelIdeal.main_v0)),
      θ_run (Cert.HaKernelIdeal.defs (F := Ideal)) (onTc (τ := Cert.HaKernelIdeal.τ) (Cert.HaKernelIdeal.main (F := Ideal))) ⟨m, fun _ => 0, g⟩ (fun r => ∀ c : Dev Cert.HaKernelIdeal.nD,
          r.2.mem ((c.tc : Thread Cert.HaKernelIdeal.nD Cert.HaKernelIdeal.τ).loc Cert.HaKernelIdeal.main_v0) = v0 c
          ∧ r.2.mem ((c.tc : Thread Cert.HaKernelIdeal.nD Cert.HaKernelIdeal.τ).loc Cert.HaKernelIdeal.main_arg0) = m ((c.tc : Thread Cert.HaKernelIdeal.nD Cert.HaKernelIdeal.τ).loc Cert.HaKernelIdeal.main_arg0)
          ∧ r.2.mem ((c.tc : Thread Cert.HaKernelIdeal.nD Cert.HaKernelIdeal.τ).loc Cert.HaKernelIdeal.main_arg1) = m ((c.tc : Thread Cert.HaKernelIdeal.nD Cert.HaKernelIdeal.τ).loc Cert.HaKernelIdeal.main_arg1))
      ∧ θ_run (Cert.HaReferenceIdeal.defs (F := Ideal)) (onTc (τ := Cert.HaReferenceIdeal.τ) (Cert.HaReferenceIdeal.main (F := Ideal))) ⟨m', fun _ => 0, g'⟩ (fun r => ∀ c : Dev Cert.HaReferenceIdeal.nD,
          r.2.mem ((c.tc : Thread Cert.HaReferenceIdeal.nD Cert.HaReferenceIdeal.τ).loc Cert.HaReferenceIdeal.main_v6) = v0 c
          ∧ r.2.mem ((c.tc : Thread Cert.HaReferenceIdeal.nD Cert.HaReferenceIdeal.τ).loc Cert.HaReferenceIdeal.main_arg0) = m' ((c.tc : Thread Cert.HaReferenceIdeal.nD Cert.HaReferenceIdeal.τ).loc Cert.HaReferenceIdeal.main_arg0)
          ∧ r.2.mem ((c.tc : Thread Cert.HaReferenceIdeal.nD Cert.HaReferenceIdeal.τ).loc Cert.HaReferenceIdeal.main_arg1) = m' ((c.tc : Thread Cert.HaReferenceIdeal.nD Cert.HaReferenceIdeal.τ).loc Cert.HaReferenceIdeal.main_arg1))

def preserves_HbKernel_HbKernelIdeal : Prop :=
  True

def algebraic_HbKernelIdeal_HbReferenceIdeal [hHbKernelIdeal : Cert.HbKernelIdeal.Facts] [hHbReferenceIdeal : Cert.HbReferenceIdeal.Facts] : Prop :=
  ∀ (m : (ℓ : Loc Cert.HbKernelIdeal.nD Cert.HbKernelIdeal.τ Cert.HbKernelIdeal.sig) → Buf (Elt Ideal) ℓ) (g : Dev Cert.HbKernelIdeal.nD → PrngReg)
    (m' : (ℓ : Loc Cert.HbReferenceIdeal.nD Cert.HbReferenceIdeal.τ Cert.HbReferenceIdeal.sig) → Buf (Elt Ideal) ℓ) (g' : Dev Cert.HbReferenceIdeal.nD → PrngReg), Pre_HbKernelIdeal m →
    (∀ c : Dev Cert.HbKernelIdeal.nD,
      m' ((c.tc : Thread Cert.HbReferenceIdeal.nD Cert.HbReferenceIdeal.τ).loc Cert.HbReferenceIdeal.main_arg0) = m ((c.tc : Thread Cert.HbKernelIdeal.nD Cert.HbKernelIdeal.τ).loc Cert.HbKernelIdeal.main_arg0)
      ∧ m' ((c.tc : Thread Cert.HbReferenceIdeal.nD Cert.HbReferenceIdeal.τ).loc Cert.HbReferenceIdeal.main_arg1) = m ((c.tc : Thread Cert.HbKernelIdeal.nD Cert.HbKernelIdeal.τ).loc Cert.HbKernelIdeal.main_arg1)
      ∧ m' ((c.tc : Thread Cert.HbReferenceIdeal.nD Cert.HbReferenceIdeal.τ).loc Cert.HbReferenceIdeal.main_arg2) = m ((c.tc : Thread Cert.HbKernelIdeal.nD Cert.HbKernelIdeal.τ).loc Cert.HbKernelIdeal.main_arg2)) →
    ∃ (v0 : (c : Dev Cert.HbKernelIdeal.nD) → Buf (Elt Ideal) ((c.tc : Thread Cert.HbKernelIdeal.nD Cert.HbKernelIdeal.τ).loc Cert.HbKernelIdeal.main_v0)),
      θ_run (Cert.HbKernelIdeal.defs (F := Ideal)) (onTc (τ := Cert.HbKernelIdeal.τ) (Cert.HbKernelIdeal.main (F := Ideal))) ⟨m, fun _ => 0, g⟩ (fun r => ∀ c : Dev Cert.HbKernelIdeal.nD,
          r.2.mem ((c.tc : Thread Cert.HbKernelIdeal.nD Cert.HbKernelIdeal.τ).loc Cert.HbKernelIdeal.main_v0) = v0 c
          ∧ r.2.mem ((c.tc : Thread Cert.HbKernelIdeal.nD Cert.HbKernelIdeal.τ).loc Cert.HbKernelIdeal.main_arg0) = m ((c.tc : Thread Cert.HbKernelIdeal.nD Cert.HbKernelIdeal.τ).loc Cert.HbKernelIdeal.main_arg0)
          ∧ r.2.mem ((c.tc : Thread Cert.HbKernelIdeal.nD Cert.HbKernelIdeal.τ).loc Cert.HbKernelIdeal.main_arg1) = m ((c.tc : Thread Cert.HbKernelIdeal.nD Cert.HbKernelIdeal.τ).loc Cert.HbKernelIdeal.main_arg1)
          ∧ r.2.mem ((c.tc : Thread Cert.HbKernelIdeal.nD Cert.HbKernelIdeal.τ).loc Cert.HbKernelIdeal.main_arg2) = m ((c.tc : Thread Cert.HbKernelIdeal.nD Cert.HbKernelIdeal.τ).loc Cert.HbKernelIdeal.main_arg2))
      ∧ θ_run (Cert.HbReferenceIdeal.defs (F := Ideal)) (onTc (τ := Cert.HbReferenceIdeal.τ) (Cert.HbReferenceIdeal.main (F := Ideal))) ⟨m', fun _ => 0, g'⟩ (fun r => ∀ c : Dev Cert.HbReferenceIdeal.nD,
          r.2.mem ((c.tc : Thread Cert.HbReferenceIdeal.nD Cert.HbReferenceIdeal.τ).loc Cert.HbReferenceIdeal.main_v7) = v0 c
          ∧ r.2.mem ((c.tc : Thread Cert.HbReferenceIdeal.nD Cert.HbReferenceIdeal.τ).loc Cert.HbReferenceIdeal.main_arg0) = m' ((c.tc : Thread Cert.HbReferenceIdeal.nD Cert.HbReferenceIdeal.τ).loc Cert.HbReferenceIdeal.main_arg0)
          ∧ r.2.mem ((c.tc : Thread Cert.HbReferenceIdeal.nD Cert.HbReferenceIdeal.τ).loc Cert.HbReferenceIdeal.main_arg1) = m' ((c.tc : Thread Cert.HbReferenceIdeal.nD Cert.HbReferenceIdeal.τ).loc Cert.HbReferenceIdeal.main_arg1)
          ∧ r.2.mem ((c.tc : Thread Cert.HbReferenceIdeal.nD Cert.HbReferenceIdeal.τ).loc Cert.HbReferenceIdeal.main_arg2) = m' ((c.tc : Thread Cert.HbReferenceIdeal.nD Cert.HbReferenceIdeal.τ).loc Cert.HbReferenceIdeal.main_arg2))

def preserves_FdKernel_FdKernelIdeal : Prop :=
  True

def algebraic_FdKernelIdeal_FdReferenceIdeal [hFdKernelIdeal : Cert.FdKernelIdeal.Facts] [hFdReferenceIdeal : Cert.FdReferenceIdeal.Facts] : Prop :=
  ∀ (m : (ℓ : Loc Cert.FdKernelIdeal.nD Cert.FdKernelIdeal.τ Cert.FdKernelIdeal.sig) → Buf (Elt Ideal) ℓ) (g : Dev Cert.FdKernelIdeal.nD → PrngReg)
    (m' : (ℓ : Loc Cert.FdReferenceIdeal.nD Cert.FdReferenceIdeal.τ Cert.FdReferenceIdeal.sig) → Buf (Elt Ideal) ℓ) (g' : Dev Cert.FdReferenceIdeal.nD → PrngReg), Pre_FdKernelIdeal m →
    (∀ c : Dev Cert.FdKernelIdeal.nD,
      m' ((c.tc : Thread Cert.FdReferenceIdeal.nD Cert.FdReferenceIdeal.τ).loc Cert.FdReferenceIdeal.main_arg0) = m ((c.tc : Thread Cert.FdKernelIdeal.nD Cert.FdKernelIdeal.τ).loc Cert.FdKernelIdeal.main_arg0)
      ∧ m' ((c.tc : Thread Cert.FdReferenceIdeal.nD Cert.FdReferenceIdeal.τ).loc Cert.FdReferenceIdeal.main_arg1) = m ((c.tc : Thread Cert.FdKernelIdeal.nD Cert.FdKernelIdeal.τ).loc Cert.FdKernelIdeal.main_arg1)) →
    ∃ (v0 : (c : Dev Cert.FdKernelIdeal.nD) → Buf (Elt Ideal) ((c.tc : Thread Cert.FdKernelIdeal.nD Cert.FdKernelIdeal.τ).loc Cert.FdKernelIdeal.main_v0)),
      θ_run (Cert.FdKernelIdeal.defs (F := Ideal)) (onTc (τ := Cert.FdKernelIdeal.τ) (Cert.FdKernelIdeal.main (F := Ideal))) ⟨m, fun _ => 0, g⟩ (fun r => ∀ c : Dev Cert.FdKernelIdeal.nD,
          r.2.mem ((c.tc : Thread Cert.FdKernelIdeal.nD Cert.FdKernelIdeal.τ).loc Cert.FdKernelIdeal.main_v0) = v0 c
          ∧ r.2.mem ((c.tc : Thread Cert.FdKernelIdeal.nD Cert.FdKernelIdeal.τ).loc Cert.FdKernelIdeal.main_arg0) = m ((c.tc : Thread Cert.FdKernelIdeal.nD Cert.FdKernelIdeal.τ).loc Cert.FdKernelIdeal.main_arg0)
          ∧ r.2.mem ((c.tc : Thread Cert.FdKernelIdeal.nD Cert.FdKernelIdeal.τ).loc Cert.FdKernelIdeal.main_arg1) = m ((c.tc : Thread Cert.FdKernelIdeal.nD Cert.FdKernelIdeal.τ).loc Cert.FdKernelIdeal.main_arg1))
      ∧ θ_run (Cert.FdReferenceIdeal.defs (F := Ideal)) (onTc (τ := Cert.FdReferenceIdeal.τ) (Cert.FdReferenceIdeal.main (F := Ideal))) ⟨m', fun _ => 0, g'⟩ (fun r => ∀ c : Dev Cert.FdReferenceIdeal.nD,
          r.2.mem ((c.tc : Thread Cert.FdReferenceIdeal.nD Cert.FdReferenceIdeal.τ).loc Cert.FdReferenceIdeal.main_v3) = v0 c
          ∧ r.2.mem ((c.tc : Thread Cert.FdReferenceIdeal.nD Cert.FdReferenceIdeal.τ).loc Cert.FdReferenceIdeal.main_arg0) = m' ((c.tc : Thread Cert.FdReferenceIdeal.nD Cert.FdReferenceIdeal.τ).loc Cert.FdReferenceIdeal.main_arg0)
          ∧ r.2.mem ((c.tc : Thread Cert.FdReferenceIdeal.nD Cert.FdReferenceIdeal.τ).loc Cert.FdReferenceIdeal.main_arg1) = m' ((c.tc : Thread Cert.FdReferenceIdeal.nD Cert.FdReferenceIdeal.τ).loc Cert.FdReferenceIdeal.main_arg1))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hWinKernel : Cert.WinKernel.Facts) (hWinKernelIdeal : Cert.WinKernelIdeal.Facts) (hWinReferenceIdeal : Cert.WinReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hHcatKernel : Cert.HcatKernel.Facts) (hHcatKernelIdeal : Cert.HcatKernelIdeal.Facts) (hHcatReferenceIdeal : Cert.HcatReferenceIdeal.Facts) (hInKernel : Cert.InKernel.Facts) (hInKernelIdeal : Cert.InKernelIdeal.Facts) (hInReferenceIdeal : Cert.InReferenceIdeal.Facts) (hFwdKernel : Cert.FwdKernel.Facts) (hFwdKernelIdeal : Cert.FwdKernelIdeal.Facts) (hFwdReferenceIdeal : Cert.FwdReferenceIdeal.Facts) (hActKernel : Cert.ActKernel.Facts) (hActKernelIdeal : Cert.ActKernelIdeal.Facts) (hActReferenceIdeal : Cert.ActReferenceIdeal.Facts) (hHaKernel : Cert.HaKernel.Facts) (hHaKernelIdeal : Cert.HaKernelIdeal.Facts) (hHaReferenceIdeal : Cert.HaReferenceIdeal.Facts) (hHbKernel : Cert.HbKernel.Facts) (hHbKernelIdeal : Cert.HbKernelIdeal.Facts) (hHbReferenceIdeal : Cert.HbReferenceIdeal.Facts) (hFdKernel : Cert.FdKernel.Facts) (hFdKernelIdeal : Cert.FdKernelIdeal.Facts) (hFdReferenceIdeal : Cert.FdReferenceIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_HcatKernel (hHcatKernel := hHcatKernel)
    ∧ quiescent_HcatKernelIdeal (hHcatKernelIdeal := hHcatKernelIdeal)
    ∧ quiescent_HcatReferenceIdeal (hHcatReferenceIdeal := hHcatReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_ActKernel (hActKernel := hActKernel)
    ∧ quiescent_ActKernelIdeal (hActKernelIdeal := hActKernelIdeal)
    ∧ quiescent_ActReferenceIdeal (hActReferenceIdeal := hActReferenceIdeal)
    ∧ quiescent_HaKernel (hHaKernel := hHaKernel)
    ∧ quiescent_HaKernelIdeal (hHaKernelIdeal := hHaKernelIdeal)
    ∧ quiescent_HaReferenceIdeal (hHaReferenceIdeal := hHaReferenceIdeal)
    ∧ quiescent_HbKernel (hHbKernel := hHbKernel)
    ∧ quiescent_HbKernelIdeal (hHbKernelIdeal := hHbKernelIdeal)
    ∧ quiescent_HbReferenceIdeal (hHbReferenceIdeal := hHbReferenceIdeal)
    ∧ quiescent_FdKernel (hFdKernel := hFdKernel)
    ∧ quiescent_FdKernelIdeal (hFdKernelIdeal := hFdKernelIdeal)
    ∧ quiescent_FdReferenceIdeal (hFdReferenceIdeal := hFdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_WinKernel_WinKernelIdeal
    ∧ algebraic_WinKernelIdeal_WinReferenceIdeal (hWinKernelIdeal := hWinKernelIdeal) (hWinReferenceIdeal := hWinReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_HcatKernel_HcatKernelIdeal
    ∧ algebraic_HcatKernelIdeal_HcatReferenceIdeal (hHcatKernelIdeal := hHcatKernelIdeal) (hHcatReferenceIdeal := hHcatReferenceIdeal)
    ∧ preserves_InKernel_InKernelIdeal
    ∧ algebraic_InKernelIdeal_InReferenceIdeal (hInKernelIdeal := hInKernelIdeal) (hInReferenceIdeal := hInReferenceIdeal)
    ∧ preserves_FwdKernel_FwdKernelIdeal
    ∧ algebraic_FwdKernelIdeal_FwdReferenceIdeal (hFwdKernelIdeal := hFwdKernelIdeal) (hFwdReferenceIdeal := hFwdReferenceIdeal)
    ∧ preserves_ActKernel_ActKernelIdeal
    ∧ algebraic_ActKernelIdeal_ActReferenceIdeal (hActKernelIdeal := hActKernelIdeal) (hActReferenceIdeal := hActReferenceIdeal)
    ∧ preserves_HaKernel_HaKernelIdeal
    ∧ algebraic_HaKernelIdeal_HaReferenceIdeal (hHaKernelIdeal := hHaKernelIdeal) (hHaReferenceIdeal := hHaReferenceIdeal)
    ∧ preserves_HbKernel_HbKernelIdeal
    ∧ algebraic_HbKernelIdeal_HbReferenceIdeal (hHbKernelIdeal := hHbKernelIdeal) (hHbReferenceIdeal := hHbReferenceIdeal)
    ∧ preserves_FdKernel_FdKernelIdeal
    ∧ algebraic_FdKernelIdeal_FdReferenceIdeal (hFdKernelIdeal := hFdKernelIdeal) (hFdReferenceIdeal := hFdReferenceIdeal)
-- ==== Pre_finite.lean ====
abbrev S2048x1024 : Shape := ⟨2, ![2048, 1024]⟩
abbrev S2304x1024 : Shape := ⟨2, ![2304, 1024]⟩
abbrev S2304x12288 : Shape := ⟨2, ![2304, 12288]⟩
abbrev S8x8x64x512 : Shape := ⟨4, ![8, 8, 64, 512]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2304x1024 : S_.BroadcastsInDim S2304x1024 (![] : Fin 0 → Fin S2304x1024.rank)
  reducesTo_S2304x1024_S_d0_1 : S2304x1024.ReducesTo [0, 1] S_
  slices_S2304x12288_S2304x1024_0_7168 : S2304x12288.Slices ![0, 7168] S2304x1024
  bcast_S_S8x8x64x512 : S_.BroadcastsInDim S8x8x64x512 (![] : Fin 0 → Fin S8x8x64x512.rank)
  reducesTo_S8x8x64x512_S_d0_1_2_3 : S8x8x64x512.ReducesTo [0, 1, 2, 3] S_

variable [Facts]

def fn_part1 {F : FTy → Type} [FloatOps F] (main_arg3 : FVec F S8x8x64x512 .f32) (main_arg4 : FVec F S2048x1024 .bf16) (main_v16 : IVec S_ 1) (main_cst_4 : FVec F S_ .f32) : IVec S_ 1 :=
  let main_v17 : FVec F S8x8x64x512 .f32 := broadcastInDim S8x8x64x512 ![] bcast_S_S8x8x64x512 main_cst_4
  let main_v18 : IVec S8x8x64x512 1 := cmpf .olt main_arg3 main_v17
  let main_c_5 : IVec S_ 1 := constantI S_ 1 1#1
  let main_v19 : IVec S_ 1 := (fun x v => Host.reduce IntOp.andi x v reducesTo_S8x8x64x512_S_d0_1_2_3 h_S_) main_v18 main_c_5
  let main_v20 : IVec S_ 1 := andi main_v16 main_v19
  let main_v21 : FVec F S2048x1024 .f32 := (extf .f32 · bitsLt_bf16_f32) main_arg4
  let main_v22 : FVec F S2048x1024 .f32 := Host.absf main_v21
  let main_cst_6 : FVec F S_ .f32 := constant S_ .f32 0x7F800000#32
  let main_v23 : FVec F S2048x1024 .f32 := broadcastInDim S2048x1024 ![] bcast_S_S2048x1024 main_cst_6
  let main_v24 : IVec S2048x1024 1 := cmpf .olt main_v22 main_v23
  let main_c_7 : IVec S_ 1 := constantI S_ 1 1#1
  let main_v25 : IVec S_ 1 := (fun x v => Host.reduce IntOp.andi x v reducesTo_S2048x1024_S_d0_1 h_S_) main_v24 main_c_7
  let main_v26 : IVec S_ 1 := andi main_v20 main_v25
  main_v26

def fn {F : FTy → Type} [FloatOps F] (main_arg0 : FVec F S2048x1024 .bf16) (main_arg1 : FVec F S2304x1024 .bf16) (main_arg2 : FVec F S2304x12288 .f32) (main_arg3 : FVec F S8x8x64x512 .f32) (main_arg4 : FVec F S2048x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2304x1024 .f32 := (extf .f32 · bitsLt_bf16_f32) main_arg1
  let main_v6 : FVec F S2304x1024 .f32 := Host.absf main_v5
  let main_cst_0 : FVec F S_ .f32 := constant S_ .f32 0x7F800000#32
  let main_v7 : FVec F S2304x1024 .f32 := broadcastInDim S2304x1024 ![] bcast_S_S2304x1024 main_cst_0
  let main_v8 : IVec S2304x1024 1 := cmpf .olt main_v6 main_v7
  let main_c_1 : IVec S_ 1 := constantI S_ 1 1#1
  let main_v9 : IVec S_ 1 := (fun x v => Host.reduce IntOp.andi x v reducesTo_S2304x1024_S_d0_1 h_S_) main_v8 main_c_1
  let main_v10 : IVec S_ 1 := andi main_v4 main_v9
  let main_v11 : FVec F S2304x1024 .f32 := (extractStridedSlice S2304x1024 ![0, 7168] · slices_S2304x12288_S2304x1024_0_7168) main_arg2
  let main_v12 : FVec F S2304x1024 .f32 := Host.absf main_v11
  let main_cst_2 : FVec F S_ .f32 := constant S_ .f32 0x7F800000#32
  let main_v13 : FVec F S2304x1024 .f32 := broadcastInDim S2304x1024 ![] bcast_S_S2304x1024 main_cst_2
  let main_v14 : IVec S2304x1024 1 := cmpf .olt main_v12 main_v13
  let main_c_3 : IVec S_ 1 := constantI S_ 1 1#1
  let main_v15 : IVec S_ 1 := (fun x v => Host.reduce IntOp.andi x v reducesTo_S2304x1024_S_d0_1 h_S_) main_v14 main_c_3
  let main_v16 : IVec S_ 1 := andi main_v10 main_v15
  let main_cst_4 : FVec F S_ .f32 := constant S_ .f32 0x7F800000#32
  fn_part1 (F := F) main_arg3 main_arg4 main_v16 main_cst_4
-- ==== Pre_finite_ffn.lean ====
abbrev S2048x6144 : Shape := ⟨2, ![2048, 6144]⟩
abbrev S3x6144 : Shape := ⟨2, ![3, 6144]⟩
abbrev S1x6144 : Shape := ⟨2, ![1, 6144]⟩
abbrev S_ : Shape := ⟨0, ![]⟩

class Facts : Prop where
  bcast_S_S2048x6144 : S_.BroadcastsInDim S2048x6144 (![] : Fin 0 → Fin S2048x6144.rank)
  reducesTo_S2048x6144_S_d0_1 : S2048x6144.ReducesTo [0, 1] S_
  h_S_ : 0 < S_.numel
  bitsLt_bf16_f32 : FTy.bits .bf16 < FTy.bits .f32

variable [Facts]

def fn {F : FTy → Type} [FloatOps F] (main_arg0 : FVec F S2048x6144 .f32) (main_arg1 : FVec F S2048x6144 .f32) (main_arg2 : FVec F S3x6144 .f32) (main_arg3 : FVec F S1x6144 .f32) (main_arg4 : FVec F S2048x6144 .bf16) : IVec S_ 1 :=
  let main_v0 : FVec F S2048x6144 .f32 := Host.absf main_arg1
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_c : IVec S_ 1 := constantI S_ 1 1#1
  let main_v3 : IVec S_ 1 := (fun x v => Host.reduce IntOp.andi x v reducesTo_S2048x6144_S_d0_1 h_S_) main_v2 main_c
  let main_v4 : FVec F S2048x6144 .f32 := (extf .f32 · bitsLt_bf16_f32) main_arg4
  let main_v5 : FVec F S2048x6144 .f32 := Host.absf main_v4
  let main_cst_0 : FVec F S_ .f32 := constant S_ .f32 0x7F800000#32
  let main_v6 : FVec F S2048x6144 .f32 := broadcastInDim S2048x6144 ![] bcast_S_S2048x6144 main_cst_0
  let main_v7 : IVec S2048x6144 1 := cmpf .olt main_v5 main_v6
  let main_c_1 : IVec S_ 1 := constantI S_ 1 1#1
  let main_v8 : IVec S_ 1 := (fun x v => Host.reduce IntOp.andi x v reducesTo_S2048x6144_S_d0_1 h_S_) main_v7 main_c_1
  let main_v9 : IVec S_ 1 := andi main_v3 main_v8
  main_v9
-- ==== Kernel.lean ====
abbrev S2048x1024 : Shape := ⟨2, ![2048, 1024]⟩
abbrev S2304x1024 : Shape := ⟨2, ![2304, 1024]⟩
abbrev S2304x12288 : Shape := ⟨2, ![2304, 12288]⟩
abbrev S8x8x64x512 : Shape := ⟨4, ![8, 8, 64, 512]⟩
abbrev S64x512 : Shape := ⟨2, ![64, 512]⟩
abbrev S2304x512 : Shape := ⟨2, ![2304, 512]⟩
abbrev S4x1x64x512 : Shape := ⟨4, ![4, 1, 64, 512]⟩
abbrev S64x128 : Shape := ⟨2, ![64, 128]⟩
abbrev S512x128 : Shape := ⟨2, ![512, 128]⟩
abbrev S256x128 : Shape := ⟨2, ![256, 128]⟩
abbrev S1x1x64x512 : Shape := ⟨4, ![1, 1, 64, 512]⟩
abbrev S64x256 : Shape := ⟨2, ![64, 256]⟩
abbrev S64 : Shape := ⟨1, ![64]⟩
abbrev S64x1 : Shape := ⟨2, ![64, 1]⟩

abbrev nBuf : Space → Nat
  | .hbm => 9
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S2304x1024, .bf16⟩
  | .hbm, ⟨2, _⟩ => ⟨S2304x12288, .f32⟩
  | .hbm, ⟨3, _⟩ => ⟨S8x8x64x512, .f32⟩
  | .hbm, ⟨4, _⟩ => ⟨S2048x1024, .bf16⟩
  | .hbm, ⟨5, _⟩ => ⟨S2048x1024, .f32⟩
  | .hbm, ⟨6, _⟩ => ⟨S2304x1024, .f32⟩
  | .hbm, ⟨7, _⟩ => ⟨S2304x1024, .bf16⟩
  | .hbm, ⟨8, _⟩ => ⟨S8x8x64x512, .f32⟩
  | .local _ .vmem, ⟨0, _⟩ => ⟨S64x512, .bf16⟩
  | .local _ .vmem, ⟨1, _⟩ => ⟨S64x512, .bf16⟩
  | .local _ .vmem, ⟨2, _⟩ => ⟨S2304x512, .bf16⟩
  | .local _ .vmem, ⟨3, _⟩ => ⟨S2304x512, .bf16⟩
  | .local _ .vmem, ⟨4, _⟩ => ⟨S2304x512, .f32⟩
  | .local _ .vmem, ⟨5, _⟩ => ⟨S2304x512, .f32⟩
  | .local _ .vmem, ⟨6, _⟩ => ⟨S4x1x64x512, .f32⟩
  | .local _ .vmem, ⟨7, _⟩ => ⟨S4x1x64x512, .f32⟩
  | .local _ .vmem, ⟨8, _⟩ => ⟨S64x512, .bf16⟩
  | .local _ .vmem, ⟨9, _⟩ => ⟨S64x512, .bf16⟩
  | .local _ .vmem, ⟨10, _⟩ => ⟨S64x512, .f32⟩
  | .local _ .vmem, ⟨11, _⟩ => ⟨S64x512, .f32⟩
  | .local _ .vmem, ⟨12, _⟩ => ⟨S2304x512, .f32⟩
  | .local _ .vmem, ⟨13, _⟩ => ⟨S2304x512, .f32⟩
  | .local _ .vmem, ⟨14, _⟩ => ⟨S2304x512, .bf16⟩
  | .local _ .vmem, ⟨15, _⟩ => ⟨S2304x512, .bf16⟩
  | .local _ .vmem, ⟨16, _⟩ => ⟨S4x1x64x512, .f32⟩
  | .local _ .vmem, ⟨17, _⟩ => ⟨S4x1x64x512, .f32⟩
  | .local _ .vmem, ⟨18, _⟩ => ⟨S2304x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := Scalar.addi c256_i32 v3
  v4
def k0_off1 (i : grid0.Coords) : Fin 2 → Nat :=
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := Scalar.addi c256_i32 v3
  let v5 : BitVec 32 := v4
  let v13 : Index := Scalar.indexCast v5
  let c0_4 : Index := 0#32
  ![v13.toNat, 0]
def k0_off2 (i : grid0.Coords) : Fin 2 → Nat :=
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := Scalar.addi c256_i32 v3
  let v5 : BitVec 32 := v4
  let v117 : Index := Scalar.indexCast v5
  let c128_55 : Index := 128#32
  ![v117.toNat, 128]
def k0_off3 (i : grid0.Coords) : Fin 2 → Nat :=
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := Scalar.addi c256_i32 v3
  let v5 : BitVec 32 := v4
  let v221 : Index := Scalar.indexCast v5
  let c256_107 : Index := 256#32
  ![v221.toNat, 256]
def k0_off4 (i : grid0.Coords) : Fin 2 → Nat :=
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := Scalar.addi c256_i32 v3
  let v5 : BitVec 32 := v4
  let v325 : Index := Scalar.indexCast v5
  let c384_159 : Index := 384#32
  ![v325.toNat, 384]
def k0_cond10 (i : grid0.Coords) : BitVec 1 :=
  let arg1 : BitVec 32 := BitVec.ofNat 32 (i 1).val
  let c31_i32 : BitVec 32 := 31#32
  let v428 : BitVec 1 := Scalar.cmpi .eq arg1 c31_i32
  let v429 : BitVec 32 := Scalar.extui v428
  let c0_i32_210 : BitVec 32 := 0#32
  let v430 : BitVec 1 := Scalar.cmpi .ne v429 c0_i32_210
  v430

def k0_cond2 (i : grid0.Coords) : BitVec 1 :=
  let arg1 : BitVec 32 := BitVec.ofNat 32 (i 1).val
  let c4_i32_0 : BitVec 32 := 4#32
  let v6 : BitVec 1 := Scalar.cmpi .sle arg1 c4_i32_0
  let c28_i32 : BitVec 32 := 28#32
  let v7 : BitVec 1 := Scalar.cmpi .sgt arg1 c28_i32
  let v8 : BitVec 1 := Scalar.ori v6 v7
  let v111 : BitVec 32 := Scalar.extui v8
  let c0_i32_52 : BitVec 32 := 0#32
  let v112 : BitVec 1 := Scalar.cmpi .ne v111 c0_i32_52
  v112

def k0_cond3 (i : grid0.Coords) : BitVec 1 :=
  let arg1 : BitVec 32 := BitVec.ofNat 32 (i 1).val
  let c4_i32_0 : BitVec 32 := 4#32
  let v6 : BitVec 1 := Scalar.cmpi .sle arg1 c4_i32_0
  let c28_i32 : BitVec 32 := 28#32
  let v7 : BitVec 1 := Scalar.cmpi .sgt arg1 c28_i32
  let v8 : BitVec 1 := Scalar.ori v6 v7
  let v_true : BitVec 1 := 1#1
  let v113 : BitVec 1 := Scalar.xori v8 v_true
  let v114 : BitVec 32 := Scalar.extui v113
  let c0_i32_53 : BitVec 32 := 0#32
  let v115 : BitVec 1 := Scalar.cmpi .ne v114 c0_i32_53
  v115

def k0_cond4 (i : grid0.Coords) : BitVec 1 :=
  let arg1 : BitVec 32 := BitVec.ofNat 32 (i 1).val
  let c4_i32_0 : BitVec 32 := 4#32
  let v6 : BitVec 1 := Scalar.cmpi .sle arg1 c4_i32_0
  let c28_i32 : BitVec 32 := 28#32
  let v7 : BitVec 1 := Scalar.cmpi .sgt arg1 c28_i32
  let v8 : BitVec 1 := Scalar.ori v6 v7
  let v215 : BitVec 32 := Scalar.extui v8
  let c0_i32_103 : BitVec 32 := 0#32
  let v216 : BitVec 1 := Scalar.cmpi .ne v215 c0_i32_103
  v216

def k0_cond5 (i : grid0.Coords) : BitVec 1 :=
  let arg1 : BitVec 32 := BitVec.ofNat 32 (i 1).val
  let c4_i32_0 : BitVec 32 := 4#32
  let v6 : BitVec 1 := Scalar.cmpi .sle arg1 c4_i32_0
  let c28_i32 : BitVec 32 := 28#32
  let v7 : BitVec 1 := Scalar.cmpi .sgt arg1 c28_i32
  let v8 : BitVec 1 := Scalar.ori v6 v7
  let true_104 : BitVec 1 := 1#1
  let v217 : BitVec 1 := Scalar.xori v8 true_104
  let v218 : BitVec 32 := Scalar.extui v217
  let c0_i32_105 : BitVec 32 := 0#32
  let v219 : BitVec 1 := Scalar.cmpi .ne v218 c0_i32_105
  v219

def k0_cond6 (i : grid0.Coords) : BitVec 1 :=
  let arg1 : BitVec 32 := BitVec.ofNat 32 (i 1).val
  let c4_i32_0 : BitVec 32 := 4#32
  let v6 : BitVec 1 := Scalar.cmpi .sle arg1 c4_i32_0
  let c28_i32 : BitVec 32 := 28#32
  let v7 : BitVec 1 := Scalar.cmpi .sgt arg1 c28_i32
  let v8 : BitVec 1 := Scalar.ori v6 v7
  let v319 : BitVec 32 := Scalar.extui v8
  let c0_i32_155 : BitVec 32 := 0#32
  let v320 : BitVec 1 := Scalar.cmpi .ne v319 c0_i32_155
  v320

def k0_cond7 (i : grid0.Coords) : BitVec 1 :=
  let arg1 : BitVec 32 := BitVec.ofNat 32 (i 1).val
  let c4_i32_0 : BitVec 32 := 4#32
  let v6 : BitVec 1 := Scalar.cmpi .sle arg1 c4_i32_0
  let c28_i32 : BitVec 32 := 28#32
  let v7 : BitVec 1 := Scalar.cmpi .sgt arg1 c28_i32
  let v8 : BitVec 1 := Scalar.ori v6 v7
  let true_156 : BitVec 1 := 1#1
  let v321 : BitVec 1 := Scalar.xori v8 true_156
  let v322 : BitVec 32 := Scalar.extui v321
  let c0_i32_157 : BitVec 32 := 0#32
  let v323 : BitVec 1 := Scalar.cmpi .ne v322 c0_i32_157
  v323

def k0_cond8 (i : grid0.Coords) : BitVec 1 :=
  let arg1 : BitVec 32 := BitVec.ofNat 32 (i 1).val
  let c4_i32_0 : BitVec 32 := 4#32
  let v6 : BitVec 1 := Scalar.cmpi .sle arg1 c4_i32_0
  let c28_i32 : BitVec 32 := 28#32
  let v7 : BitVec 1 := Scalar.cmpi .sgt arg1 c28_i32
  let v8 : BitVec 1 := Scalar.ori v6 v7
  let v423 : BitVec 32 := Scalar.extui v8
  let c0_i32_207 : BitVec 32 := 0#32
  let v424 : BitVec 1 := Scalar.cmpi .ne v423 c0_i32_207
  v424

def k0_cond9 (i : grid0.Coords) : BitVec 1 :=
  let arg1 : BitVec 32 := BitVec.ofNat 32 (i 1).val
  let c4_i32_0 : BitVec 32 := 4#32
  let v6 : BitVec 1 := Scalar.cmpi .sle arg1 c4_i32_0
  let c28_i32 : BitVec 32 := 28#32
  let v7 : BitVec 1 := Scalar.cmpi .sgt arg1 c28_i32
  let v8 : BitVec 1 := Scalar.ori v6 v7
  let true_208 : BitVec 1 := 1#1
  let v425 : BitVec 1 := Scalar.xori v8 true_208
  let v426 : BitVec 32 := Scalar.extui v425
  let c0_i32_209 : BitVec 32 := 0#32
  let v427 : BitVec 1 := Scalar.cmpi .ne v426 c0_i32_209
  v427

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c24_i32 : BitVec 32 := 24#32
  let v1 : BitVec 32 := Scalar.maxsi c0_i32 v0
  let v2 : BitVec 32 := Scalar.minsi c24_i32 v1
  let v3 : BitVec 32 := Scalar.subi arg1 v2
  let c0_i32_0 : BitVec 32 := 0#32
  let c0_i32_1 : BitVec 32 := 0#32
  let c0_i32_2 : BitVec 32 := 0#32
  ![arg0.toNat, v3.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c24_i32 : BitVec 32 := 24#32
  let v1 : BitVec 32 := Scalar.maxsi c0_i32 v0
  let v2 : BitVec 32 := Scalar.minsi c24_i32 v1
  let v3 : BitVec 32 := Scalar.subi arg1 v2
  let c0_i32_0 : BitVec 32 := 0#32
  let c0_i32_1 : BitVec 32 := 0#32
  let c0_i32_2 : BitVec 32 := 0#32
  ![arg0.toNat, v3.toNat, c0_i32_0.toNat, c0_i32_1.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2304x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2304x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2048x1024 : Shape := ⟨2, ![2048, 1024]⟩
abbrev S2304x1024 : Shape := ⟨2, ![2304, 1024]⟩
abbrev S2304x12288 : Shape := ⟨2, ![2304, 12288]⟩
abbrev S8x8x64x512 : Shape := ⟨4, ![8, 8, 64, 512]⟩
abbrev S2048x8x128 : Shape := ⟨3, ![2048, 8, 128]⟩
abbrev S2304x8x128 : Shape := ⟨3, ![2304, 8, 128]⟩
abbrev S256x8x128 : Shape := ⟨3, ![256, 8, 128]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x64x8x128 : Shape := ⟨4, ![32, 64, 8, 128]⟩
abbrev S32x8x1 : Shape := ⟨3, ![32, 8, 1]⟩
abbrev S32x8x64x8x128 : Shape := ⟨5, ![32, 8, 64, 8, 128]⟩
abbrev S32x512x8x128 : Shape := ⟨4, ![32, 512, 8, 128]⟩
abbrev S8x32x64x512 : Shape := ⟨4, ![8, 32, 64, 512]⟩
abbrev S8x32x64x256 : Shape := ⟨4, ![8, 32, 64, 256]⟩
abbrev S8x32x64x768 : Shape := ⟨4, ![8, 32, 64, 768]⟩
abbrev S8x32x64 : Shape := ⟨3, ![8, 32, 64]⟩
abbrev S8x32x64x1 : Shape := ⟨4, ![8, 32, 64, 1]⟩
abbrev S32x8x128x64 : Shape := ⟨4, ![32, 8, 128, 64]⟩
abbrev S8x128x32x64 : Shape := ⟨4, ![8, 128, 32, 64]⟩
abbrev S8x128x256 : Shape := ⟨3, ![8, 128, 256]⟩
abbrev S32x8x64x512 : Shape := ⟨4, ![32, 8, 64, 512]⟩
abbrev S32x8x128x512 : Shape := ⟨4, ![32, 8, 128, 512]⟩
abbrev S8x256x128 : Shape := ⟨3, ![8, 256, 128]⟩
abbrev S8x32x64x128 : Shape := ⟨4, ![8, 32, 64, 128]⟩
abbrev S8x32x512x128 : Shape := ⟨4, ![8, 32, 512, 128]⟩

abbrev nBuf : Space → Nat
  | .hbm => 191
  | .vmem => 0
  | .smem => 0
  | _ => 0

abbrev hbmTy0_0 (i : Nat) : BufTy := match i % 128 with
  | 0 => ⟨S2048x1024, .bf16⟩
  | 1 => ⟨S2304x1024, .bf16⟩
  | 2 => ⟨S2304x12288, .f32⟩
  | 3 => ⟨S8x8x64x512, .f32⟩
  | 4 => ⟨S2048x1024, .bf16⟩
  | 5 => ⟨S2048x1024, .f32⟩
  | 6 => ⟨S2048x8x128, .f32⟩
  | 7 => ⟨S2304x1024, .f32⟩
  | 8 => ⟨S2304x8x128, .f32⟩
  | 9 => ⟨S2304x1024, .f32⟩
  | 10 => ⟨S2304x1024, .bf16⟩
  | 11 => ⟨S2304x1024, .f32⟩
  | 12 => ⟨S2304x8x128, .f32⟩
  | 13 => ⟨S2048x8x128, .f32⟩
  | 14 => ⟨S2048x8x128, .f32⟩
  | 15 => ⟨S256x8x128, .f32⟩
  | 16 => ⟨S256x8x128, .f32⟩
  | 17 => ⟨S32, .i32⟩
  | 18 => ⟨S_, .i32⟩
  | 19 => ⟨S32, .i32⟩
  | 20 => ⟨S32, .i32⟩
  | 21 => ⟨S_, .i32⟩
  | 22 => ⟨S_, .i32⟩
  | 23 => ⟨S_, .i32⟩
  | 24 => ⟨S32, .i32⟩
  | 25 => ⟨S32, .i32⟩
  | 26 => ⟨S_, .i32⟩
  | 27 => ⟨S32, .i32⟩
  | 28 => ⟨S32, .i32⟩
  | 29 => ⟨S32x1, .i32⟩
  | 30 => ⟨S8, .i32⟩
  | 31 => ⟨S1x8, .i32⟩
  | 32 => ⟨S32x8, .i32⟩
  | 33 => ⟨S32x8, .i32⟩
  | 34 => ⟨S32x8, .i32⟩
  | 35 => ⟨S32x64x8x128, .f32⟩
  | 36 => ⟨S32x64x8x128, .f32⟩
  | 37 => ⟨S_, .i32⟩
  | 38 => ⟨S32x8, .i32⟩
  | 39 => ⟨S32x8, .i1⟩
  | 40 => ⟨S_, .i32⟩
  | 41 => ⟨S32x8, .i32⟩
  | 42 => ⟨S32x8, .i32⟩
  | 43 => ⟨S32x8, .i32⟩
  | 44 => ⟨S32x8x1, .i32⟩
  | 45 => ⟨S32x8x64x8x128, .f32⟩
  | 46 => ⟨S32x512x8x128, .f32⟩
  | 47 => ⟨S32x64x8x128, .f32⟩
  | 48 => ⟨S_, .i32⟩
  | 49 => ⟨S32x8, .i32⟩
  | 50 => ⟨S32x8, .i1⟩
  | 51 => ⟨S_, .i32⟩
  | 52 => ⟨S32x8, .i32⟩
  | 53 => ⟨S32x8, .i32⟩
  | 54 => ⟨S32x8, .i32⟩
  | 55 => ⟨S32x8x1, .i32⟩
  | 56 => ⟨S32x8x64x8x128, .f32⟩
  | 57 => ⟨S32x512x8x128, .f32⟩
  | 58 => ⟨S8x32x64x512, .f32⟩
  | 59 => ⟨S_, .f32⟩
  | 60 => ⟨S8x32x64x512, .f32⟩
  | 61 => ⟨S8x32x64x512, .f32⟩
  | 62 => ⟨S32, .i32⟩
  | 63 => ⟨S_, .i32⟩
  | 64 => ⟨S32, .i32⟩
  | 65 => ⟨S32, .i1⟩
  | 66 => ⟨S_, .i32⟩
  | 67 => ⟨S32, .i32⟩
  | 68 => ⟨S32, .i32⟩
  | 69 => ⟨S32, .i32⟩
  | 70 => ⟨S32x1, .i32⟩
  | 71 => ⟨S8x32x64x512, .f32⟩
  | 72 => ⟨S8x32x64x512, .f32⟩
  | 73 => ⟨S8x32x64x256, .f32⟩
  | 74 => ⟨S_, .f32⟩
  | 75 => ⟨S8x32x64x256, .f32⟩
  | 76 => ⟨S8x32x64x256, .f32⟩
  | 77 => ⟨S8x32x64x768, .f32⟩
  | 78 => ⟨S_, .f32⟩
  | 79 => ⟨S8x32x64, .f32⟩
  | 80 => ⟨S8x32x64x1, .f32⟩
  | 81 => ⟨S8x32x64x768, .f32⟩
  | 82 => ⟨S8x32x64x768, .i1⟩
  | 83 => ⟨S8x32x64x768, .f32⟩
  | 84 => ⟨S_, .f32⟩
  | 85 => ⟨S8x32x64, .f32⟩
  | 86 => ⟨S_, .f32⟩
  | 87 => ⟨S8x32x64, .f32⟩
  | 88 => ⟨S8x32x64, .f32⟩
  | 89 => ⟨S_, .f32⟩
  | 90 => ⟨S8x32x64, .f32⟩
  | 91 => ⟨S8x32x64, .i1⟩
  | 92 => ⟨S_, .f32⟩
  | 93 => ⟨S8x32x64, .f32⟩
  | 94 => ⟨S8x32x64, .i1⟩
  | 95 => ⟨S_, .f32⟩
  | 96 => ⟨S8x32x64, .f32⟩
  | 97 => ⟨S_, .f32⟩
  | 98 => ⟨S8x32x64, .f32⟩
  | 99 => ⟨S_, .f32⟩
  | 100 => ⟨S8x32x64, .f32⟩
  | 101 => ⟨S8x32x64, .f32⟩
  | 102 => ⟨S8x32x64, .f32⟩
  | 103 => ⟨S8x32x64x1, .f32⟩
  | 104 => ⟨S8x32x64x768, .f32⟩
  | 105 => ⟨S8x32x64x768, .f32⟩
  | 106 => ⟨S8x32x64x768, .f32⟩
  | 107 => ⟨S_, .f32⟩
  | 108 => ⟨S8x32x64, .f32⟩
  | 109 => ⟨S8x32x64x1, .f32⟩
  | 110 => ⟨S8x32x64x768, .f32⟩
  | 111 => ⟨S8x32x64x768, .f32⟩
  | 112 => ⟨S8x32x64x1, .f32⟩
  | 113 => ⟨S_, .f32⟩
  | 114 => ⟨S8x32x64x1, .f32⟩
  | 115 => ⟨S8x32x64x1, .f32⟩
  | 116 => ⟨S8x32x64x512, .f32⟩
  | 117 => ⟨S32x8x128x64, .f32⟩
  | 118 => ⟨S32x64x8x128, .f32⟩
  | 119 => ⟨S8x32x64x256, .f32⟩
  | 120 => ⟨S8x128x32x64, .f32⟩
  | 121 => ⟨S32x64x8x128, .f32⟩
  | 122 => ⟨S32x64x8x128, .f32⟩
  | 123 => ⟨S2048x1024, .f32⟩
  | 124 => ⟨S2048x1024, .f32⟩
  | 125 => ⟨S32x64x8x128, .f32⟩
  | 126 => ⟨S8x128x32x64, .f32⟩
  | 127 => ⟨S8x32x64x256, .f32⟩
  | _ => ⟨S2048x1024, .bf16⟩

abbrev hbmTy0_1 (i : Nat) : BufTy := match i % 128 with
  | 0 => ⟨S8x128x256, .f32⟩
  | 1 => ⟨S256x8x128, .f32⟩
  | 2 => ⟨S_, .f32⟩
  | 3 => ⟨S8x32x64x768, .f32⟩
  | 4 => ⟨S32x8x128x64, .f32⟩
  | 5 => ⟨S32x8x64x512, .f32⟩
  | 6 => ⟨S8x32x64x512, .f32⟩
  | 7 => ⟨S32x8x128x512, .f32⟩
  | 8 => ⟨S32x512x8x128, .f32⟩
  | 9 => ⟨S_, .f32⟩
  | 10 => ⟨S8x32x64x768, .f32⟩
  | 11 => ⟨S8x32x64x768, .f32⟩
  | 12 => ⟨S8x32x64x768, .f32⟩
  | 13 => ⟨S8x32x64x768, .f32⟩
  | 14 => ⟨S8x32x64x768, .f32⟩
  | 15 => ⟨S_, .f32⟩
  | 16 => ⟨S8x32x64, .f32⟩
  | 17 => ⟨S8x32x64x1, .f32⟩
  | 18 => ⟨S8x32x64x1, .f32⟩
  | 19 => ⟨S8x32x64x768, .f32⟩
  | 20 => ⟨S8x32x64x768, .f32⟩
  | 21 => ⟨S_, .f32⟩
  | 22 => ⟨S8x32x64, .f32⟩
  | 23 => ⟨S8x32x64x768, .f32⟩
  | 24 => ⟨S8x32x64x768, .f32⟩
  | 25 => ⟨S8x32x64x768, .f32⟩
  | 26 => ⟨S8x32x64x512, .f32⟩
  | 27 => ⟨S8x32x64x256, .f32⟩
  | 28 => ⟨S_, .f32⟩
  | 29 => ⟨S8x32x64x256, .f32⟩
  | 30 => ⟨S8x32x64x256, .f32⟩
  | 31 => ⟨S8x256x128, .f32⟩
  | 32 => ⟨S256x8x128, .f32⟩
  | 33 => ⟨S8x32x64x128, .f32⟩
  | 34 => ⟨S32x64x8x128, .f32⟩
  | 35 => ⟨S_, .f32⟩
  | 36 => ⟨S8x8x64x512, .f32⟩
  | 37 => ⟨S8x8x64x512, .f32⟩
  | 38 => ⟨S_, .f32⟩
  | 39 => ⟨S8x32x64x512, .f32⟩
  | 40 => ⟨S8x32x64x512, .f32⟩
  | 41 => ⟨S8x32x512x128, .f32⟩
  | 42 => ⟨S32x512x8x128, .f32⟩
  | 43 => ⟨S8x32x64x128, .f32⟩
  | 44 => ⟨S32x64x8x128, .f32⟩
  | 45 => ⟨S32x64x8x128, .f32⟩
  | 46 => ⟨S32x8x64x8x128, .f32⟩
  | 47 => ⟨S_, .f32⟩
  | 48 => ⟨S32x64x8x128, .f32⟩
  | 49 => ⟨S32x64x8x128, .f32⟩
  | 50 => ⟨S2048x8x128, .f32⟩
  | 51 => ⟨S32x8x64x8x128, .f32⟩
  | 52 => ⟨S_, .f32⟩
  | 53 => ⟨S32x64x8x128, .f32⟩
  | 54 => ⟨S32x64x8x128, .f32⟩
  | 55 => ⟨S2048x8x128, .f32⟩
  | 56 => ⟨S2048x8x128, .f32⟩
  | 57 => ⟨S2304x8x128, .f32⟩
  | 58 => ⟨S2304x8x128, .f32⟩
  | 59 => ⟨S2048x1024, .f32⟩
  | 60 => ⟨S2304x1024, .f32⟩
  | 61 => ⟨S2304x1024, .f32⟩
  | 62 => ⟨S2304x1024, .bf16⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_19 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_20 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_21 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_22 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_23 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_24 : Ref sig .tc := ⟨.hbm, 163, rfl⟩
abbrev main_v127 : Ref sig .tc := ⟨.hbm, 164, rfl⟩
abbrev main_v128 : Ref sig .tc := ⟨.hbm, 165, rfl⟩
abbrev main_cst_25 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_26 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_27 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩

abbrev nD : Nat := 1
abbrev τ : Topo := Topo.v7x

variable {F : FTy → Type} [FloatOps F]
-- ==== FfnKernel.lean ====
abbrev S2048x6144 : Shape := ⟨2, ![2048, 6144]⟩
abbrev S3x6144 : Shape := ⟨2, ![3, 6144]⟩
abbrev S1x6144 : Shape := ⟨2, ![1, 6144]⟩
abbrev S_ : Shape := ⟨0, ![]⟩
abbrev S8x6144 : Shape := ⟨2, ![8, 6144]⟩
abbrev S2048x256 : Shape := ⟨2, ![2048, 256]⟩
abbrev S8x256 : Shape := ⟨2, ![8, 256]⟩
abbrev S1x256 : Shape := ⟨2, ![1, 256]⟩
abbrev S256 : Shape := ⟨1, ![256]⟩

abbrev nBuf : Space → Nat
  | .hbm => 12
  | .vmem => 18
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S3x6144, .f32⟩
  | .hbm, ⟨3, _⟩ => ⟨S1x6144, .f32⟩
  | .hbm, ⟨4, _⟩ => ⟨S2048x6144, .bf16⟩
  | .hbm, ⟨5, _⟩ => ⟨S_, .i32⟩
  | .hbm, ⟨6, _⟩ => ⟨S_, .f32⟩
  | .hbm, ⟨7, _⟩ => ⟨S8x6144, .f32⟩
  | .hbm, ⟨8, _⟩ => ⟨S2048x6144, .bf16⟩
  | .hbm, ⟨9, _⟩ => ⟨S2048x6144, .bf16⟩
  | .hbm, ⟨10, _⟩ => ⟨S8x6144, .f32⟩
  | .hbm, ⟨11, _⟩ => ⟨S1x6144, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S8x256, .f32⟩
  | .local _ .vmem, ⟨5, _⟩ => ⟨S8x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S8x256, .f32⟩
  | .local _ .vmem, ⟨15, _⟩ => ⟨S8x256, .f32⟩
  | .local _ .vmem, ⟨16, _⟩ => ⟨S1x256, .f32⟩
  | .local _ .vmem, ⟨17, _⟩ => ⟨S1x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S2048x6144 : Shape := ⟨2, ![2048, 6144]⟩
abbrev S3x6144 : Shape := ⟨2, ![3, 6144]⟩
abbrev S1x6144 : Shape := ⟨2, ![1, 6144]⟩
abbrev S_ : Shape := ⟨0, ![]⟩
abbrev S2050x6144 : Shape := ⟨2, ![2050, 6144]⟩
abbrev S6144 : Shape := ⟨1, ![6144]⟩
abbrev S8x6144 : Shape := ⟨2, ![8, 6144]⟩

abbrev nBuf : Space → Nat
  | .hbm => 110
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S3x6144, .f32⟩
  | .hbm, ⟨3, _⟩ => ⟨S1x6144, .f32⟩
  | .hbm, ⟨4, _⟩ => ⟨S2048x6144, .bf16⟩
  | .hbm, ⟨5, _⟩ => ⟨S1x6144, .f32⟩
  | .hbm, ⟨6, _⟩ => ⟨S_, .f32⟩
  | .hbm, ⟨7, _⟩ => ⟨S1x6144, .f32⟩
  | .hbm, ⟨8, _⟩ => ⟨S2050x6144, .f32⟩
  | .hbm, ⟨9, _⟩ => ⟨S_, .f32⟩
  | .hbm, ⟨10, _⟩ => ⟨S1x6144, .f32⟩
  | .hbm, ⟨11, _⟩ => ⟨S_, .f32⟩
  | .hbm, ⟨12, _⟩ => ⟨S1x6144, .f32⟩
  | .hbm, ⟨13, _⟩ => ⟨S2048x6144, .f32⟩
  | .hbm, ⟨14, _⟩ => ⟨S1x6144, .f32⟩
  | .hbm, ⟨15, _⟩ => ⟨S6144, .f32⟩
  | .hbm, ⟨16, _⟩ => ⟨S1x6144, .f32⟩
  | .hbm, ⟨17, _⟩ => ⟨S2048x6144, .f32⟩
  | .hbm, ⟨18, _⟩ => ⟨S2048x6144, .f32⟩
  | .hbm, ⟨19, _⟩ => ⟨S2048x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S2048x6144, .f32⟩
  | .hbm, ⟨24, _⟩ => ⟨S2048x6144, .f32⟩
  | .hbm, ⟨25, _⟩ => ⟨S2048x6144, .f32⟩
  | .hbm, ⟨26, _⟩ => ⟨S2048x6144, .f32⟩
  | .hbm, ⟨27, _⟩ => ⟨S1x6144, .f32⟩
  | .hbm, ⟨28, _⟩ => ⟨S6144, .f32⟩
  | .hbm, ⟨29, _⟩ => ⟨S1x6144, .f32⟩
  | .hbm, ⟨30, _⟩ => ⟨S2048x6144, .f32⟩
  | .hbm, ⟨31, _⟩ => ⟨S2048x6144, .f32⟩
  | .hbm, ⟨32, _⟩ => ⟨S2048x6144, .f32⟩
  | .hbm, ⟨33, _⟩ => ⟨S2048x6144, .f32⟩
  | .hbm, ⟨34, _⟩ => ⟨S2048x6144, .f32⟩
  | .hbm, ⟨35, _⟩ => ⟨S2048x6144, .f32⟩
  | .hbm, ⟨36, _⟩ => ⟨S2048x6144, .f32⟩
  | .hbm, ⟨37, _⟩ => ⟨S_, .f32⟩
  | .hbm, ⟨38, _⟩ => ⟨S2048x6144, .f32⟩
  | .hbm, ⟨39, _⟩ => ⟨S2048x6144, .f32⟩
  | .hbm, ⟨40, _⟩ => ⟨S_, .f32⟩
  | .hbm, ⟨41, _⟩ => ⟨S2048x6144, .f32⟩
  | .hbm, ⟨42, _⟩ => ⟨S2048x6144, .f32⟩
  | .hbm, ⟨43, _⟩ => ⟨S_, .f32⟩
  | .hbm, ⟨44, _⟩ => ⟨S2048x6144, .f32⟩
  | .hbm, ⟨45, _⟩ => ⟨S2048x6144, .f32⟩
  | .hbm, ⟨46, _⟩ => ⟨S2048x6144, .f32⟩
  | .hbm, ⟨47, _⟩ => ⟨S2048x6144, .f32⟩
  | .hbm, ⟨48, _⟩ => ⟨S2048x6144, .f32⟩
  | .hbm, ⟨49, _⟩ => ⟨S2048x6144, .f32⟩
  | .hbm, ⟨50, _⟩ => ⟨S2048x6144, .f32⟩
  | .hbm, ⟨51, _⟩ => ⟨S2048x6144, .f32⟩
  | .hbm, ⟨52, _⟩ => ⟨S2048x6144, .f32⟩
  | .hbm, ⟨53, _⟩ => ⟨S2048x6144, .f32⟩
  | .hbm, ⟨54, _⟩ => ⟨S2048x6144, .f32⟩
  | .hbm, ⟨55, _⟩ => ⟨S2048x6144, .f32⟩
  | .hbm, ⟨56, _⟩ => ⟨S_, .f32⟩
  | .hbm, ⟨57, _⟩ => ⟨S6144, .f32⟩
  | .hbm, ⟨58, _⟩ => ⟨S1x6144, .f32⟩
  | .hbm, ⟨59, _⟩ => ⟨S2048x6144, .f32⟩
  | .hbm, ⟨60, _⟩ => ⟨S_, .f32⟩
  | .hbm, ⟨61, _⟩ => ⟨S6144, .f32⟩
  | .hbm, ⟨62, _⟩ => ⟨S1x6144, .f32⟩
  | .hbm, ⟨63, _⟩ => ⟨S2048x6144, .f32⟩
  | .hbm, ⟨64, _⟩ => ⟨S2048x6144, .f32⟩
  | .hbm, ⟨65, _⟩ => ⟨S_, .f32⟩
  | .hbm, ⟨66, _⟩ => ⟨S6144, .f32⟩
  | .hbm, ⟨67, _⟩ => ⟨S1x6144, .f32⟩
  | .hbm, ⟨68, _⟩ => ⟨S_, .f32⟩
  | .hbm, ⟨69, _⟩ => ⟨S3x6144, .f32⟩
  | .hbm, ⟨70, _⟩ => ⟨S_, .f32⟩
  | .hbm, ⟨71, _⟩ => ⟨S2050x6144, .f32⟩
  | .hbm, ⟨72, _⟩ => ⟨S2048x6144, .f32⟩
  | .hbm, ⟨73, _⟩ => ⟨S_, .f32⟩
  | .hbm, ⟨74, _⟩ => ⟨S6144, .f32⟩
  | .hbm, ⟨75, _⟩ => ⟨S1x6144, .f32⟩
  | .hbm, ⟨76, _⟩ => ⟨S2048x6144, .f32⟩
  | .hbm, ⟨77, _⟩ => ⟨S2048x6144, .f32⟩
  | .hbm, ⟨78, _⟩ => ⟨S_, .f32⟩
  | .hbm, ⟨79, _⟩ => ⟨S6144, .f32⟩
  | .hbm, ⟨80, _⟩ => ⟨S1x6144, .f32⟩
  | .hbm, ⟨81, _⟩ => ⟨S_, .f32⟩
  | .hbm, ⟨82, _⟩ => ⟨S3x6144, .f32⟩
  | .hbm, ⟨83, _⟩ => ⟨S3x6144, .f32⟩
  | .hbm, ⟨84, _⟩ => ⟨S_, .f32⟩
  | .hbm, ⟨85, _⟩ => ⟨S2050x6144, .f32⟩
  | .hbm, ⟨86, _⟩ => ⟨S2050x6144, .f32⟩
  | .hbm, ⟨87, _⟩ => ⟨S2048x6144, .f32⟩
  | .hbm, ⟨88, _⟩ => ⟨S_, .f32⟩
  | .hbm, ⟨89, _⟩ => ⟨S6144, .f32⟩
  | .hbm, ⟨90, _⟩ => ⟨S1x6144, .f32⟩
  | .hbm, ⟨91, _⟩ => ⟨S2048x6144, .f32⟩
  | .hbm, ⟨92, _⟩ => ⟨S2048x6144, .f32⟩
  | .hbm, ⟨93, _⟩ => ⟨S_, .f32⟩
  | .hbm, ⟨94, _⟩ => ⟨S6144, .f32⟩
  | .hbm, ⟨95, _⟩ => ⟨S1x6144, .f32⟩
  | .hbm, ⟨96, _⟩ => ⟨S_, .f32⟩
  | .hbm, ⟨97, _⟩ => ⟨S3x6144, .f32⟩
  | .hbm, ⟨98, _⟩ => ⟨S3x6144, .f32⟩
  | .hbm, ⟨99, _⟩ => ⟨S_, .f32⟩
  | .hbm, ⟨100, _⟩ => ⟨S2050x6144, .f32⟩
  | .hbm, ⟨101, _⟩ => ⟨S2050x6144, .f32⟩
  | .hbm, ⟨102, _⟩ => ⟨S1x6144, .f32⟩
  | .hbm, ⟨103, _⟩ => ⟨S2048x6144, .f32⟩
  | .hbm, ⟨104, _⟩ => ⟨S1x6144, .f32⟩
  | .hbm, ⟨105, _⟩ => ⟨S2048x6144, .bf16⟩
  | .hbm, ⟨106, _⟩ => ⟨S2048x6144, .bf16⟩
  | .hbm, ⟨107, _⟩ => ⟨S_, .i32⟩
  | .hbm, ⟨108, _⟩ => ⟨S_, .f32⟩
  | .hbm, ⟨109, _⟩ => ⟨S8x6144, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v27_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v27_1 : Ref sig .tc := ⟨.hbm, 46, rfl⟩
abbrev main_v27_0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_v63 : Ref sig .tc := ⟨.hbm, 98, rfl⟩
abbrev main_cst_14 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c : Ref sig .tc := ⟨.hbm, 107, rfl⟩
abbrev main_call2_v0 : Ref sig .tc := ⟨.hbm, 108, rfl⟩
abbrev main_v71 : Ref sig .tc := ⟨.hbm, 109, rfl⟩

abbrev nD : Nat := 1
abbrev τ : Topo := Topo.v7x

variable {F : FTy → Type} [FloatOps F]
-- ==== WinKernel.lean ====
abbrev S2304x2048 : Shape := ⟨2, ![2304, 2048]⟩
abbrev S2304x12288 : Shape := ⟨2, ![2304, 12288]⟩
abbrev S8x2048x1536 : Shape := ⟨3, ![8, 2048, 1536]⟩
abbrev S2304x1024 : Shape := ⟨2, ![2304, 1024]⟩
abbrev S2304x768 : Shape := ⟨2, ![2304, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2304x12288, .bf16⟩
  | .hbm, ⟨2, _⟩ => ⟨S8x2048x1536, .bf16⟩
  | .local _ .vmem, ⟨0, _⟩ => ⟨S2304x1024, .bf16⟩
  | .local _ .vmem, ⟨1, _⟩ => ⟨S2304x1024, .bf16⟩
  | .local _ .vmem, ⟨2, _⟩ => ⟨S2304x768, .bf16⟩
  | .local _ .vmem, ⟨3, _⟩ => ⟨S2304x768, .bf16⟩
  | .local _ .vmem, ⟨4, _⟩ => ⟨S1x1024x768, .bf16⟩
  | .local _ .vmem, ⟨5, _⟩ => ⟨S1x1024x768, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinReferenceIdeal.lean ====
abbrev S2304x2048 : Shape := ⟨2, ![2304, 2048]⟩
abbrev S2304x12288 : Shape := ⟨2, ![2304, 12288]⟩
abbrev S2048x2048 : Shape := ⟨2, ![2048, 2048]⟩
abbrev S256x2048 : Shape := ⟨2, ![256, 2048]⟩
abbrev S_ : Shape := ⟨0, ![]⟩
abbrev S2048x12288 : Shape := ⟨2, ![2048, 12288]⟩
abbrev S256x12288 : Shape := ⟨2, ![256, 12288]⟩
abbrev S12288x2048 : Shape := ⟨2, ![12288, 2048]⟩
abbrev S2048x8x1536 : Shape := ⟨3, ![2048, 8, 1536]⟩
abbrev S8x2048x1536 : Shape := ⟨3, ![8, 2048, 1536]⟩

abbrev nBuf : Space → Nat
  | .hbm => 22
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x12288, .bf16⟩
  | .hbm, ⟨2, _⟩ => ⟨S2048x2048, .bf16⟩
  | .hbm, ⟨3, _⟩ => ⟨S2048x2048, .f32⟩
  | .hbm, ⟨4, _⟩ => ⟨S256x2048, .bf16⟩
  | .hbm, ⟨5, _⟩ => ⟨S256x2048, .f32⟩
  | .hbm, ⟨6, _⟩ => ⟨S_, .f32⟩
  | .hbm, ⟨7, _⟩ => ⟨S2048x12288, .f32⟩
  | .hbm, ⟨8, _⟩ => ⟨S2048x12288, .f32⟩
  | .hbm, ⟨9, _⟩ => ⟨S256x12288, .f32⟩
  | .hbm, ⟨10, _⟩ => ⟨S2048x12288, .bf16⟩
  | .hbm, ⟨11, _⟩ => ⟨S2048x12288, .f32⟩
  | .hbm, ⟨12, _⟩ => ⟨S256x12288, .bf16⟩
  | .hbm, ⟨13, _⟩ => ⟨S256x12288, .f32⟩
  | .hbm, ⟨14, _⟩ => ⟨S12288x2048, .f32⟩
  | .hbm, ⟨15, _⟩ => ⟨S2048x12288, .f32⟩
  | .hbm, ⟨16, _⟩ => ⟨S12288x2048, .f32⟩
  | .hbm, ⟨17, _⟩ => ⟨S2048x12288, .f32⟩
  | .hbm, ⟨18, _⟩ => ⟨S2048x12288, .f32⟩
  | .hbm, ⟨19, _⟩ => ⟨S2048x8x1536, .f32⟩
  | .hbm, ⟨20, _⟩ => ⟨S8x2048x1536, .f32⟩
  | .hbm, ⟨21, _⟩ => ⟨S8x2048x1536, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== UpKernel.lean ====
abbrev S2048x2048 : Shape := ⟨2, ![2048, 2048]⟩
abbrev S2048x6144 : Shape := ⟨2, ![2048, 6144]⟩
abbrev S8x2048x768 : Shape := ⟨3, ![8, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S8x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x8x768, .f32⟩
  | .hbm, ⟨10, _⟩ => ⟨S8x2048x768, .f32⟩
  | .hbm, ⟨11, _⟩ => ⟨S8x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownKernel.lean ====
abbrev S2048x6144 : Shape := ⟨2, ![2048, 6144]⟩
abbrev S2048x2048 : Shape := ⟨2, ![2048, 2048]⟩
abbrev S1x6144x2048 : Shape := ⟨3, ![1, 6144, 2048]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S1x6144x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S2048x6144 : Shape := ⟨2, ![2048, 6144]⟩
abbrev S2048x2048 : Shape := ⟨2, ![2048, 2048]⟩
abbrev S_ : Shape := ⟨0, ![]⟩
abbrev S6144x2048 : Shape := ⟨2, ![6144, 2048]⟩
abbrev S1x6144x2048 : Shape := ⟨3, ![1, 6144, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S_, .f32⟩
  | .hbm, ⟨3, _⟩ => ⟨S6144x2048, .f32⟩
  | .hbm, ⟨4, _⟩ => ⟨S2048x6144, .f32⟩
  | .hbm, ⟨5, _⟩ => ⟨S2048x2048, .f32⟩
  | .hbm, ⟨6, _⟩ => ⟨S2048x2048, .f32⟩
  | .hbm, ⟨7, _⟩ => ⟨S2048x6144, .f32⟩
  | .hbm, ⟨8, _⟩ => ⟨S6144x2048, .f32⟩
  | .hbm, ⟨9, _⟩ => ⟨S1x6144x2048, .f32⟩
  | .hbm, ⟨10, _⟩ => ⟨S1x6144x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== HcatKernel.lean ====
abbrev S2304x12288 : Shape := ⟨2, ![2304, 12288]⟩
abbrev S8x2048x1536 : Shape := ⟨3, ![8, 2048, 1536]⟩
abbrev S2304x2048 : Shape := ⟨2, ![2304, 2048]⟩
abbrev S768x1536 : Shape := ⟨2, ![768, 1536]⟩
abbrev S1x1024x1536 : Shape := ⟨3, ![1, 1024, 1536]⟩
abbrev S768x1024 : Shape := ⟨2, ![768, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S2304x12288, .bf16⟩
  | .hbm, ⟨1, _⟩ => ⟨S8x2048x1536, .bf16⟩
  | .hbm, ⟨2, _⟩ => ⟨S2304x2048, .bf16⟩
  | .local _ .vmem, ⟨0, _⟩ => ⟨S768x1536, .bf16⟩
  | .local _ .vmem, ⟨1, _⟩ => ⟨S768x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S2304x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HcatReferenceIdeal.lean ====
abbrev S2304x12288 : Shape := ⟨2, ![2304, 12288]⟩
abbrev S8x2048x1536 : Shape := ⟨3, ![8, 2048, 1536]⟩
abbrev S2048x8x1536 : Shape := ⟨3, ![2048, 8, 1536]⟩
abbrev S2048x12288 : Shape := ⟨2, ![2048, 12288]⟩
abbrev S_ : Shape := ⟨0, ![]⟩
abbrev S2048x2048 : Shape := ⟨2, ![2048, 2048]⟩
abbrev S256x2048 : Shape := ⟨2, ![256, 2048]⟩
abbrev S256x12288 : Shape := ⟨2, ![256, 12288]⟩
abbrev S2304x2048 : Shape := ⟨2, ![2304, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2304x12288, .bf16⟩
  | .hbm, ⟨1, _⟩ => ⟨S8x2048x1536, .bf16⟩
  | .hbm, ⟨2, _⟩ => ⟨S8x2048x1536, .f32⟩
  | .hbm, ⟨3, _⟩ => ⟨S2048x8x1536, .f32⟩
  | .hbm, ⟨4, _⟩ => ⟨S2048x12288, .f32⟩
  | .hbm, ⟨5, _⟩ => ⟨S_, .f32⟩
  | .hbm, ⟨6, _⟩ => ⟨S2048x2048, .f32⟩
  | .hbm, ⟨7, _⟩ => ⟨S_, .f32⟩
  | .hbm, ⟨8, _⟩ => ⟨S256x2048, .f32⟩
  | .hbm, ⟨9, _⟩ => ⟨S2048x12288, .f32⟩
  | .hbm, ⟨10, _⟩ => ⟨S256x12288, .f32⟩
  | .hbm, ⟨11, _⟩ => ⟨S2048x12288, .bf16⟩
  | .hbm, ⟨12, _⟩ => ⟨S2048x12288, .f32⟩
  | .hbm, ⟨13, _⟩ => ⟨S256x12288, .bf16⟩
  | .hbm, ⟨14, _⟩ => ⟨S256x12288, .f32⟩
  | .hbm, ⟨15, _⟩ => ⟨S256x2048, .f32⟩
  | .hbm, ⟨16, _⟩ => ⟨S2048x2048, .f32⟩
  | .hbm, ⟨17, _⟩ => ⟨S2304x2048, .f32⟩
  | .hbm, ⟨18, _⟩ => ⟨S2304x2048, .bf16⟩
  | _, _ => ⟨S2304x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== InKernel.lean ====
abbrev S2304x2048 : Shape := ⟨2, ![2304, 2048]⟩
abbrev S8x2048x1536 : Shape := ⟨3, ![8, 2048, 1536]⟩
abbrev S2304x12288 : Shape := ⟨2, ![2304, 12288]⟩
abbrev S768x2048 : Shape := ⟨2, ![768, 2048]⟩
abbrev S1x2048x768 : Shape := ⟨3, ![1, 2048, 768]⟩
abbrev S768x768 : Shape := ⟨2, ![768, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S8x2048x1536, .bf16⟩
  | .hbm, ⟨2, _⟩ => ⟨S2304x12288, .f32⟩
  | .local _ .vmem, ⟨0, _⟩ => ⟨S768x2048, .bf16⟩
  | .local _ .vmem, ⟨1, _⟩ => ⟨S768x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S768x768, .f32⟩
  | .local _ .vmem, ⟨5, _⟩ => ⟨S768x768, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S2304x2048 : Shape := ⟨2, ![2304, 2048]⟩
abbrev S8x2048x1536 : Shape := ⟨3, ![8, 2048, 1536]⟩
abbrev S2048x8x1536 : Shape := ⟨3, ![2048, 8, 1536]⟩
abbrev S2048x12288 : Shape := ⟨2, ![2048, 12288]⟩
abbrev S2048x2048 : Shape := ⟨2, ![2048, 2048]⟩
abbrev S256x2048 : Shape := ⟨2, ![256, 2048]⟩
abbrev S256x12288 : Shape := ⟨2, ![256, 12288]⟩
abbrev S2304x12288 : Shape := ⟨2, ![2304, 12288]⟩

abbrev nBuf : Space → Nat
  | .hbm => 12
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S8x2048x1536, .bf16⟩
  | .hbm, ⟨2, _⟩ => ⟨S8x2048x1536, .f32⟩
  | .hbm, ⟨3, _⟩ => ⟨S2048x8x1536, .f32⟩
  | .hbm, ⟨4, _⟩ => ⟨S2048x12288, .f32⟩
  | .hbm, ⟨5, _⟩ => ⟨S2048x2048, .bf16⟩
  | .hbm, ⟨6, _⟩ => ⟨S2048x2048, .f32⟩
  | .hbm, ⟨7, _⟩ => ⟨S256x2048, .bf16⟩
  | .hbm, ⟨8, _⟩ => ⟨S256x2048, .f32⟩
  | .hbm, ⟨9, _⟩ => ⟨S2048x12288, .f32⟩
  | .hbm, ⟨10, _⟩ => ⟨S256x12288, .f32⟩
  | .hbm, ⟨11, _⟩ => ⟨S2304x12288, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== FwdKernel.lean ====
abbrev S2048x2048 : Shape := ⟨2, ![2048, 2048]⟩
abbrev S8x2048x768 : Shape := ⟨3, ![8, 2048, 768]⟩
abbrev S2048x6144 : Shape := ⟨2, ![2048, 6144]⟩
abbrev S512x2048 : Shape := ⟨2, ![512, 2048]⟩
abbrev S1x2048x768 : Shape := ⟨3, ![1, 2048, 768]⟩
abbrev S512x768 : Shape := ⟨2, ![512, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x6144, .f32⟩
  | .local _ .vmem, ⟨0, _⟩ => ⟨S512x2048, .bf16⟩
  | .local _ .vmem, ⟨1, _⟩ => ⟨S512x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x768, .f32⟩
  | .local _ .vmem, ⟨5, _⟩ => ⟨S512x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdReferenceIdeal.lean ====
abbrev S2048x2048 : Shape := ⟨2, ![2048, 2048]⟩
abbrev S8x2048x768 : Shape := ⟨3, ![8, 2048, 768]⟩
abbrev S2048x8x768 : Shape := ⟨3, ![2048, 8, 768]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x2048, .f32⟩
  | .hbm, ⟨3, _⟩ => ⟨S8x2048x768, .f32⟩
  | .hbm, ⟨4, _⟩ => ⟨S2048x8x768, .f32⟩
  | .hbm, ⟨5, _⟩ => ⟨S2048x6144, .f32⟩
  | .hbm, ⟨6, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ActKernel.lean ====
abbrev S2048x2048 : Shape := ⟨2, ![2048, 2048]⟩
abbrev S1x6144x2048 : Shape := ⟨3, ![1, 6144, 2048]⟩
abbrev S2048x6144 : Shape := ⟨2, ![2048, 6144]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S1x6144x2048, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ActReferenceIdeal.lean ====
abbrev S2048x2048 : Shape := ⟨2, ![2048, 2048]⟩
abbrev S1x6144x2048 : Shape := ⟨3, ![1, 6144, 2048]⟩
abbrev S6144x2048 : Shape := ⟨2, ![6144, 2048]⟩
abbrev S_ : Shape := ⟨0, ![]⟩
abbrev S2048x6144 : Shape := ⟨2, ![2048, 6144]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x6144x2048, .bf16⟩
  | .hbm, ⟨2, _⟩ => ⟨S1x6144x2048, .f32⟩
  | .hbm, ⟨3, _⟩ => ⟨S6144x2048, .f32⟩
  | .hbm, ⟨4, _⟩ => ⟨S_, .f32⟩
  | .hbm, ⟨5, _⟩ => ⟨S2048x6144, .f32⟩
  | .hbm, ⟨6, _⟩ => ⟨S2048x2048, .f32⟩
  | .hbm, ⟨7, _⟩ => ⟨S2048x2048, .f32⟩
  | .hbm, ⟨8, _⟩ => ⟨S2048x6144, .f32⟩
  | .hbm, ⟨9, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HaKernel.lean ====
abbrev S2048x6144 : Shape := ⟨2, ![2048, 6144]⟩
abbrev S8x2048x768 : Shape := ⟨3, ![8, 2048, 768]⟩
abbrev S2048x2048 : Shape := ⟨2, ![2048, 2048]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S2048x2048, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HaReferenceIdeal.lean ====
abbrev S2048x6144 : Shape := ⟨2, ![2048, 6144]⟩
abbrev S8x2048x768 : Shape := ⟨3, ![8, 2048, 768]⟩
abbrev S2048x8x768 : Shape := ⟨3, ![2048, 8, 768]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S8x2048x768, .f32⟩
  | .hbm, ⟨3, _⟩ => ⟨S2048x8x768, .f32⟩
  | .hbm, ⟨4, _⟩ => ⟨S2048x6144, .f32⟩
  | .hbm, ⟨5, _⟩ => ⟨S_, .f32⟩
  | .hbm, ⟨6, _⟩ => ⟨S2048x2048, .f32⟩
  | .hbm, ⟨7, _⟩ => ⟨S2048x6144, .f32⟩
  | .hbm, ⟨8, _⟩ => ⟨S2048x6144, .f32⟩
  | .hbm, ⟨9, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HbKernel.lean ====
abbrev S2048x6144 : Shape := ⟨2, ![2048, 6144]⟩
abbrev S8x2048x768 : Shape := ⟨3, ![8, 2048, 768]⟩
abbrev S2048x2048 : Shape := ⟨2, ![2048, 2048]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S2048x2048, .f32⟩
  | .hbm, ⟨3, _⟩ => ⟨S2048x2048, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HbReferenceIdeal.lean ====
abbrev S2048x6144 : Shape := ⟨2, ![2048, 6144]⟩
abbrev S8x2048x768 : Shape := ⟨3, ![8, 2048, 768]⟩
abbrev S2048x2048 : Shape := ⟨2, ![2048, 2048]⟩
abbrev S2048x8x768 : Shape := ⟨3, ![2048, 8, 768]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S2048x2048, .f32⟩
  | .hbm, ⟨3, _⟩ => ⟨S8x2048x768, .f32⟩
  | .hbm, ⟨4, _⟩ => ⟨S2048x8x768, .f32⟩
  | .hbm, ⟨5, _⟩ => ⟨S2048x6144, .f32⟩
  | .hbm, ⟨6, _⟩ => ⟨S_, .f32⟩
  | .hbm, ⟨7, _⟩ => ⟨S2048x2048, .f32⟩
  | .hbm, ⟨8, _⟩ => ⟨S2048x6144, .f32⟩
  | .hbm, ⟨9, _⟩ => ⟨S2048x6144, .f32⟩
  | .hbm, ⟨10, _⟩ => ⟨S2048x2048, .f32⟩
  | .hbm, ⟨11, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FdKernel.lean ====
abbrev S2048x6144 : Shape := ⟨2, ![2048, 6144]⟩
abbrev S1x6144x2048 : Shape := ⟨3, ![1, 6144, 2048]⟩
abbrev S2048x2048 : Shape := ⟨2, ![2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S1x6144x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FdReferenceIdeal.lean ====
abbrev S2048x6144 : Shape := ⟨2, ![2048, 6144]⟩
abbrev S1x6144x2048 : Shape := ⟨3, ![1, 6144, 2048]⟩
abbrev S6144x2048 : Shape := ⟨2, ![6144, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S1x6144x2048, .bf16⟩
  | .hbm, ⟨2, _⟩ => ⟨S2048x6144, .f32⟩
  | .hbm, ⟨3, _⟩ => ⟨S1x6144x2048, .f32⟩
  | .hbm, ⟨4, _⟩ => ⟨S6144x2048, .f32⟩
  | .hbm, ⟨5, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.FfnPure.lean ====
module

public import Idealize.ShloMosaic.Lib.Pointwise

/-! The feed-forward activation's gradient, as functions of one column of extended reals. -/

@[expose] public section

noncomputable section

namespace Cert.FfnValue

open Idealize.ShloMosaic

/-- The row before, zero before the first. -/
def prev (u : Fin 2048 → EReal) (r : Fin 2048) : EReal :=
  if r.val = 0 then 0 else u ⟨(r.val + 2048 - 1) % 2048, Nat.mod_lt _ (by decide)⟩

/-- The row after, zero after the last. -/
def next (u : Fin 2048 → EReal) (r : Fin 2048) : EReal :=
  if r.val = 2047 then 0 else u ⟨(r.val + 2048 - 2047) % 2048, Nat.mod_lt _ (by decide)⟩

/-- The centred convolution of three taps down one column. -/
def conv (u : Fin 2048 → EReal) (w0 w1 w2 b : EReal) (r : Fin 2048) : EReal :=
  prev u r * w0 + u r * w1 + next u r * w2 + b

/-- The gradient of `x · logistic x` with cotangent `c`, by the product rule. -/
def gradR (c x : EReal) : EReal :=
  c * Ideal.logistic x + (x * c) * (Ideal.logistic x * (1 - Ideal.logistic x))

/-- The same gradient with the logistic factor taken out. -/
def gradK (c x : EReal) : EReal :=
  (c * Ideal.logistic x) * (1 + x * (1 - Ideal.logistic x))

theorem logistic_real (x : EReal) : ∃ s : ℝ, Ideal.logistic x = (s : EReal) := by
  induction x with
  | bot => exact ⟨0, by simp⟩
  | top => exact ⟨1, by simp⟩
  | coe r => exact ⟨_, Ideal.logistic_coe r⟩

/-- A real factor distributes over any sum of extended reals with a real first term. -/
theorem coe_mul_one_add (p : ℝ) (y : EReal) : (p : EReal) * (1 + y) = p + p * y := by
  induction y with
  | bot => rcases lt_trichotomy p 0 with h | h | h
           · simp [EReal.coe_mul_bot_of_neg h]
           · simp [h]
           · simp [EReal.coe_mul_bot_of_pos h]
  | top => rcases lt_trichotomy p 0 with h | h | h
           · have : (1 : EReal) + ⊤ = ⊤ := by rfl
             simp [this, EReal.coe_mul_top_of_neg h]
           · simp [h]
           · have : (1 : EReal) + ⊤ = ⊤ := by rfl
             simp [this, EReal.coe_mul_top_of_pos h]
  | coe r => norm_cast; ring

/-- With a real cotangent the two forms agree, whatever the convolution's value. -/
theorem gradK_eq (c : ℝ) (x : EReal) : gradK c x = gradR c x := by
  obtain ⟨s, hs⟩ := logistic_real x
  unfold gradK gradR
  rw [hs, ← EReal.coe_mul, coe_mul_one_add]
  rw [EReal.coe_mul]
  ac_rfl

theorem select_row (r : Fin 2048) (k : ℕ) (hk : k < 2048) (a b : EReal) :
    Scalar.select (IntOp.cmpi CmpIPredicate.eq (BitVec.ofNat 32 r.val) (BitVec.ofNat 32 k)) a b = if r.val = k then a else b := by
  have hr := r.isLt
  have : (BitVec.ofNat 32 r.val = BitVec.ofNat 32 k) ↔ r.val = k := by
    constructor
    · intro h
      have := congrArg BitVec.toNat h
      simp only [BitVec.toNat_ofNat] at this
      omega
    · intro h; rw [h]
  by_cases h : r.val = k
  · simp [Scalar.select, IntOp.cmpi, h]
  · have hb : (BitVec.ofNat 32 r.val == BitVec.ofNat 32 k) = false := by simpa [this] using h
    simp [Scalar.select, IntOp.cmpi, h, hb]

end Cert.FfnValue
end
-- ==== Proof.FfnRead.lean ====
module

public import proofs.«01_k».proof.Proof.FfnPure
public import proofs.«01_k».proof.Proof.Gen.FfnKernelIdeal.Skeleton

/-! What the kernel's body stores, read at an index of its block of 256 columns. -/

@[expose] public section

set_option maxRecDepth 16384

noncomputable section

namespace Cert.FfnValue

open Cert.FfnKernelIdeal Cert.FfnKernelIdeal.Gen Idealize.ShloMosaic Idealize.ShloMosaic.TcCoe

/-- A block of 256 columns, and one row of it. -/
abbrev Blk := Vec Ideal S2048x256 .f32
abbrev Row := Vec Ideal S1x256 .f32

theorem pay5_apply (v0 : Blk) (r : Fin 2048) (j : Fin 256) :
    k0_pay5 (F := Ideal) v0 (ix2 r j) = prev (fun r => v0 (ix2 r j)) r := by
  pointwise [k0_pay5, prev]
  exact select_row r 0 (by decide) _ _

theorem pay6_apply (v0 : Blk) (r : Fin 2048) (j : Fin 256) :
    k0_pay6 (F := Ideal) v0 (ix2 r j) = next (fun r => v0 (ix2 r j)) r := by
  pointwise [k0_pay6, next]
  exact select_row r 2047 (by decide) _ _

theorem pay7_apply (v0 : Blk) (v13 v17 v22 v27 : Row) (r : Fin 2048) (j : Fin 256) :
    k0_pay7 (F := Ideal) v0 v13 v17 v22 v27 (ix2 r j)
      = conv (fun r => v0 (ix2 r j)) (v13 (ix2 0 j)) (v17 (ix2 0 j)) (v22 (ix2 0 j)) (v27 (ix2 0 j)) r := by
  pointwise [k0_pay7, conv, pay5_apply, pay6_apply]

theorem pay8_apply (v0 : Blk) (v13 v17 v22 v27 : Row) (r : Fin 2048) (j : Fin 256) :
    k0_pay8 (F := Ideal) v0 v13 v17 v22 v27 (ix2 r j)
      = Ideal.logistic (conv (fun r => v0 (ix2 r j)) (v13 (ix2 0 j)) (v17 (ix2 0 j)) (v22 (ix2 0 j)) (v27 (ix2 0 j)) r) := by
  pointwise [k0_pay8, pay7_apply, Ideal.logistic]

theorem pay10_apply (v0 : Blk) (v13 v17 v22 v27 : Row) (v31 : Vec Ideal S2048x256 .bf16) (r : Fin 2048) (j : Fin 256) :
    k0_pay10 (F := Ideal) v0 v13 v17 v22 v27 v31 (ix2 r j)
      = v31 (ix2 r j) * conv (fun r => v0 (ix2 r j)) (v13 (ix2 0 j)) (v17 (ix2 0 j)) (v22 (ix2 0 j)) (v27 (ix2 0 j)) r
        * Ideal.logistic (conv (fun r => v0 (ix2 r j)) (v13 (ix2 0 j)) (v17 (ix2 0 j)) (v22 (ix2 0 j)) (v27 (ix2 0 j)) r) := by
  pointwise [k0_pay10, pay7_apply, pay8_apply, k0_pay9]

theorem pay11_apply (v29 v30 v32 v37 : Blk) (r : Fin 2048) (j : Fin 256) (h : v30 (ix2 r j) = Ideal.logistic (v29 (ix2 r j))) :
    k0_pay11 (F := Ideal) v29 v30 v32 v37 (ix2 r j) = gradK (v32 (ix2 r j) * v37 (ix2 r j)) (v29 (ix2 r j)) := by
  pointwise [k0_pay11, gradK, h]

theorem pay12_apply (v29 v30 v32 v37 : Blk) (v52 v56 v67 : Row) (r : Fin 2048) (j : Fin 256) :
    k0_pay12 (F := Ideal) v29 v30 v32 v37 v52 v56 v67 (ix2 r j)
      = next (fun r => k0_pay11 (F := Ideal) v29 v30 v32 v37 (ix2 r j)) r * v52 (ix2 0 j)
        + k0_pay11 (F := Ideal) v29 v30 v32 v37 (ix2 r j) * v56 (ix2 0 j)
        + prev (fun r => k0_pay11 (F := Ideal) v29 v30 v32 v37 (ix2 r j)) r * v67 (ix2 0 j) := by
  pointwise [k0_pay12, next, prev]
  have h0 (a b : EReal) : Scalar.select (IntOp.cmpi CmpIPredicate.eq (BitVec.ofNat 32 r.val) 0#32) a b = if r.val = 0 then a else b :=
    select_row r 0 (by decide) a b
  have h1 (a b : EReal) : Scalar.select (IntOp.cmpi CmpIPredicate.eq (BitVec.ofNat 32 r.val) 2047#32) a b = if r.val = 2047 then a else b :=
    select_row r 2047 (by decide) a b
  simp only [h0, h1, ite_mul, zero_mul]

theorem pay1_apply (v6 v45 : Blk) (j : Fin 256) :
    k0_pay1 (F := Ideal) v6 v45 (ix2 0 j) = ∑ r : Fin 2048, v45 (ix2 r j) * v6 (ix2 r j) := by
  pointwise [k0_pay1]

theorem pay2_apply (v0 v45 : Blk) (j : Fin 256) :
    k0_pay2 (F := Ideal) v0 v45 (ix2 0 j) = ∑ r : Fin 2048, v45 (ix2 r j) * v0 (ix2 r j) := by
  pointwise [k0_pay2]

theorem pay3_apply (v12 v45 : Blk) (j : Fin 256) :
    k0_pay3 (F := Ideal) v12 v45 (ix2 0 j) = ∑ r : Fin 2048, v45 (ix2 r j) * v12 (ix2 r j) := by
  pointwise [k0_pay3]

theorem pay4_apply (v45 : Blk) (j : Fin 256) :
    k0_pay4 (F := Ideal) v45 (ix2 0 j) = ∑ r : Fin 2048, v45 (ix2 r j) := by
  pointwise [k0_pay4]

end Cert.FfnValue
end
-- ==== Proof.FfnOut.lean ====
module

public import proofs.«01_k».proof.Proof.Gen.FfnKernelIdeal.Frame
public import Idealize.ShloMosaic.Lib.Pipeline.Value
public import Idealize.ShloMosaic.Lib.Pointwise

/-! What the kernel's body leaves in each output block, as the payloads of its input blocks. -/

@[expose] public section

set_option maxRecDepth 16384

noncomputable section

namespace Cert.FfnValue

open Cert.FfnKernelIdeal Cert.FfnKernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A row of the taps. -/
def row0 (x : Vec F S8x256 .f32) : Vec F S1x256 .f32 := View.ld x (Rect.unit (s := S8x256) ![0, 0] S1x256.size inb_S8x256_S1x256_0_0)
def row1 (x : Vec F S8x256 .f32) : Vec F S1x256 .f32 := View.ld x (Rect.unit (s := S8x256) ![1, 0] S1x256.size inb_S8x256_S1x256_1_0)
def row2 (x : Vec F S8x256 .f32) : Vec F S1x256 .f32 := View.ld x (Rect.unit (s := S8x256) ![2, 0] S1x256.size inb_S8x256_S1x256_2_0)

/-- The gradient of the convolution's value on the block. -/
def duc (x0 x1 : Vec F S2048x256 .f32) (x2 : Vec F S8x256 .f32) (x3 : Vec F S1x256 .f32) (x4 : Vec F S2048x256 .bf16) : FVec F S2048x256 .f32 :=
  k0_pay11 (k0_pay7 x0 (row0 x2) (row1 x2) (row2 x2) x3) (k0_pay8 x0 (row0 x2) (row1 x2) (row2 x2) x3) (k0_pay9 x4) x1

theorem out5_eq (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S8x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S8x256 .f32) (harg8 : arg8.IsWhole) (arg9 : Memref sig .tc .vmem S1x256 .f32) (harg9 : arg9.IsWhole)
    (x0 : Vec F S2048x256 .f32) (x1 : Vec F S2048x256 .f32) (x2 : Vec F S8x256 .f32) (x3 : Vec F S1x256 .f32) (x4 : Vec F S2048x256 .bf16) :
    out0_A_5 c i arg1 harg1 arg2 harg2 arg3 harg3 arg4 harg4 arg5 harg5 arg6 harg6 arg7 harg7 arg8 harg8 arg9 harg9 x0 x1 x2 x3 x4 = k0_pay12 (k0_pay7 x0 (row0 x2) (row1 x2) (row2 x2) x3) (k0_pay8 x0 (row0 x2) (row1 x2) (row2 x2) x3) (k0_pay9 x4) x1 (row0 x2) (row1 x2) (row2 x2) := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4)]
  unfold kernelRun0_A
  dsimp only
  sl_unfold_words
  simp only [View.readAt_eq_ld, harg1.read_unread, harg2.read_unread, harg3.read_unread, harg4.read_unread, harg5.read_unread]

  rw [View.canon_unit_zero hz]
  simp only [View.ld_unit_zero (S := S2048x256) hz, View.ld_unit_zero (S := S1x256) hz]
  rfl

theorem out6_eq (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S8x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S8x256 .f32) (harg8 : arg8.IsWhole) (arg9 : Memref sig .tc .vmem S1x256 .f32) (harg9 : arg9.IsWhole)
    (x0 : Vec F S2048x256 .f32) (x1 : Vec F S2048x256 .f32) (x2 : Vec F S8x256 .f32) (x3 : Vec F S1x256 .f32) (x4 : Vec F S2048x256 .bf16) :
    out0_A_6 c i arg1 harg1 arg2 harg2 arg3 harg3 arg4 harg4 arg5 harg5 arg6 harg6 arg7 harg7 arg8 harg8 arg9 harg9 x0 x1 x2 x3 x4 = k0_pay10 x0 (row0 x2) (row1 x2) (row2 x2) x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4)]
  unfold kernelRun0_A
  dsimp only
  sl_unfold_words
  simp only [View.readAt_eq_ld, harg1.read_unread, harg2.read_unread, harg3.read_unread, harg4.read_unread, harg5.read_unread]

  rw [View.canon_unit_zero hz]
  simp only [View.ld_unit_zero (S := S2048x256) hz, View.ld_unit_zero (S := S1x256) hz]
  rfl

theorem out8_eq (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S8x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S8x256 .f32) (harg8 : arg8.IsWhole) (arg9 : Memref sig .tc .vmem S1x256 .f32) (harg9 : arg9.IsWhole)
    (x0 : Vec F S2048x256 .f32) (x1 : Vec F S2048x256 .f32) (x2 : Vec F S8x256 .f32) (x3 : Vec F S1x256 .f32) (x4 : Vec F S2048x256 .bf16) :
    out0_A_8 c i arg1 harg1 arg2 harg2 arg3 harg3 arg4 harg4 arg5 harg5 arg6 harg6 arg7 harg7 arg8 harg8 arg9 harg9 x0 x1 x2 x3 x4 = k0_pay4 (duc x0 x1 x2 x3 x4) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4)]
  unfold kernelRun0_A
  dsimp only
  sl_unfold_words
  simp only [View.readAt_eq_ld, harg1.read_unread, harg2.read_unread, harg3.read_unread, harg4.read_unread, harg5.read_unread]

  rw [View.canon_unit_zero hz]
  simp only [View.ld_unit_zero (S := S2048x256) hz, View.ld_unit_zero (S := S1x256) hz]
  rfl

/-- A row's element, and what a store of a row leaves at an index. -/
theorem emb_row (off : Fin 2 → Nat) (inb : ∀ a, off a + S1x256.size a ≤ S8x256.size a) (k : Fin 8) (j : Fin 256) (h0 : off 0 = k.val) (h1 : off 1 = 0) :
    (Rect.unit (s := S8x256) off S1x256.size inb).emb (ix2 0 j) = ix2 k j := by
  funext a; apply Fin.ext
  match a with
  | ⟨0, _⟩ => show off 0 + 1 * 0 = k.val; omega
  | ⟨1, _⟩ => show off 1 + 1 * j.val = j.val; omega

theorem row0_apply (x : Vec F S8x256 .f32) (j : Fin 256) : row0 x (ix2 0 j) = x (ix2 0 j) :=
  congrArg x (emb_row ![0, 0] inb_S8x256_S1x256_0_0 0 j rfl rfl)
theorem row1_apply (x : Vec F S8x256 .f32) (j : Fin 256) : row1 x (ix2 0 j) = x (ix2 1 j) :=
  congrArg x (emb_row ![1, 0] inb_S8x256_S1x256_1_0 1 j rfl rfl)
theorem row2_apply (x : Vec F S8x256 .f32) (j : Fin 256) : row2 x (ix2 0 j) = x (ix2 2 j) :=
  congrArg x (emb_row ![2, 0] inb_S8x256_S1x256_2_0 2 j rfl rfl)

theorem canon_row (off : Fin 2 → Nat) (inb : ∀ a, off a + S1x256.size a ≤ S8x256.size a) (w : Vec F S1x256 .f32)
    (L : List (View.Piece (Elt F) S8x256 .f32)) (k : Fin 8) (j : Fin 256) (h0 : off 0 = k.val) (h1 : off 1 = 0) :
    View.canon (⟨Rect.unit (s := S8x256) off S1x256.size inb, w⟩ :: L) (ix2 k j) = w (ix2 0 j) := by
  rw [← emb_row off inb k j h0 h1]
  exact View.canon_cons_emb _ _ _ _

theorem canon_row_ne (off : Fin 2 → Nat) (inb : ∀ a, off a + S1x256.size a ≤ S8x256.size a) (w : Vec F S1x256 .f32)
    (L : List (View.Piece (Elt F) S8x256 .f32)) (k : Fin 8) (j : Fin 256) (h0 : off 0 ≠ k.val) :
    View.canon (⟨Rect.unit (s := S8x256) off S1x256.size inb, w⟩ :: L) (ix2 k j) = View.canon L (ix2 k j) := by
  apply View.canon_cons_of_not_mem
  intro h
  replace h : ix2 k j ∈ (Rect.unit (s := S8x256) off S1x256.size inb).set := h
  rw [Rect.mem_set_unit] at h
  have := h 0
  have e : ((ix2 k j : S8x256.Idx) 0).val = k.val := rfl
  have e1 : S1x256.size 0 = 1 := rfl
  rw [e, e1] at this
  omega

theorem out7_eq (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S8x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S8x256 .f32) (harg8 : arg8.IsWhole) (arg9 : Memref sig .tc .vmem S1x256 .f32) (harg9 : arg9.IsWhole)
    (x0 : Vec F S2048x256 .f32) (x1 : Vec F S2048x256 .f32) (x2 : Vec F S8x256 .f32) (x3 : Vec F S1x256 .f32) (x4 : Vec F S2048x256 .bf16) :
    out0_A_7 c i arg1 harg1 arg2 harg2 arg3 harg3 arg4 harg4 arg5 harg5 arg6 harg6 arg7 harg7 arg8 harg8 arg9 harg9 x0 x1 x2 x3 x4 = View.canon [⟨Rect.unit (s := S8x256) ![2, 0] S1x256.size inb_S8x256_S1x256_2_0, k0_pay3 (k0_pay6 x0) (duc x0 x1 x2 x3 x4)⟩, ⟨Rect.unit (s := S8x256) ![1, 0] S1x256.size inb_S8x256_S1x256_1_0, k0_pay2 x0 (duc x0 x1 x2 x3 x4)⟩, ⟨Rect.unit (s := S8x256) ![0, 0] S1x256.size inb_S8x256_S1x256_0_0, k0_pay1 (k0_pay5 x0) (duc x0 x1 x2 x3 x4)⟩, ⟨Rect.unit (s := S8x256) ![0, 0] S8x256.size inb_S8x256_S8x256_0_0, k0_pay13 (F := F)⟩] := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4)]
  unfold kernelRun0_A
  dsimp only
  sl_unfold_words
  simp only [View.readAt_eq_ld, harg1.read_unread, harg2.read_unread, harg3.read_unread, harg4.read_unread, harg5.read_unread]

  simp only [View.ld_unit_zero (S := S2048x256) hz, View.ld_unit_zero (S := S1x256) hz]
  rfl

/-- The four stores of the taps' gradient, row by row. -/
theorem rows_apply (p0 p1 p2 : Vec F S1x256 .f32) (z : Vec F S8x256 .f32) (k : Fin 8) (j : Fin 256) :
    View.canon (Val := Elt F) [⟨Rect.unit (s := S8x256) ![2, 0] S1x256.size inb_S8x256_S1x256_2_0, p2⟩, ⟨Rect.unit (s := S8x256) ![1, 0] S1x256.size inb_S8x256_S1x256_1_0, p1⟩, ⟨Rect.unit (s := S8x256) ![0, 0] S1x256.size inb_S8x256_S1x256_0_0, p0⟩, ⟨Rect.unit (s := S8x256) ![0, 0] S8x256.size inb_S8x256_S8x256_0_0, z⟩] (ix2 k j)
      = if k.val = 0 then p0 (ix2 0 j) else if k.val = 1 then p1 (ix2 0 j) else if k.val = 2 then p2 (ix2 0 j) else z (ix2 k j) := by
  by_cases h2 : k.val = 2
  · rw [canon_row ![2, 0] _ _ _ k j (by simp [h2]) rfl]; simp [h2]
  rw [canon_row_ne ![2, 0] _ _ _ k j (by simpa using fun h => h2 h.symm)]
  by_cases h1 : k.val = 1
  · rw [canon_row ![1, 0] _ _ _ k j (by simp [h1]) rfl]; simp [h1]
  rw [canon_row_ne ![1, 0] _ _ _ k j (by simpa using fun h => h1 h.symm)]
  by_cases h0 : k.val = 0
  · rw [canon_row ![0, 0] _ _ _ k j (by simp [h0]) rfl]; simp [h0]
  rw [canon_row_ne ![0, 0] _ _ _ k j (by simpa using fun h => h0 h.symm), View.canon_unit_zero hz]
  simp [h0, h1, h2]

end Cert.FfnValue
end
-- ==== Proof.FfnValue.lean ====
module

public import proofs.«01_k».proof.Proof.FfnRead
public import proofs.«01_k».proof.Proof.FfnOut
public import proofs.«01_k».proof.Proof.Gen.FfnKernelIdeal.Value

/-! The kernel's result arrays at an index: block `t` of the grid holds columns `256 t .. 256 t + 255`, and each
    result's element is a function of the same column of the arguments. -/

@[expose] public section

set_option maxRecDepth 16384

noncomputable section

namespace Cert.FfnValue

open Cert.FfnKernelIdeal Cert.FfnKernelIdeal.Gen
open Idealize.ShloMosaic Idealize.ShloMosaic.TcCoe Idealize.SL.Sem

/-- Column `j` of block `t`. -/
def col (t : Fin cfg0.N) (j : Fin 256) : Fin 6144 := ⟨256 * t.val + j.val, by
  have h : t.val < 24 := N_0 ▸ t.isLt
  omega⟩

theorem exists_col (q : Fin 6144) : ∃ t j, q = col t j :=
  ⟨⟨q.val / 256, by have h : cfg0.N = 24 := N_0; omega⟩, ⟨q.val % 256, Nat.mod_lt _ (by decide)⟩, Fin.ext (by simp only [col]; omega)⟩

theorem index_facts : ∀ t : Fin cfg0.N, (win0_0.index t (0 : Fin 2) = 0 ∧ win0_0.index t (1 : Fin 2) = t.val) ∧ (win0_1.index t (0 : Fin 2) = 0 ∧ win0_1.index t (1 : Fin 2) = t.val) ∧ (win0_2.index t (0 : Fin 2) = 0 ∧ win0_2.index t (1 : Fin 2) = t.val) ∧ (win0_3.index t (0 : Fin 2) = 0 ∧ win0_3.index t (1 : Fin 2) = t.val) ∧ (win0_4.index t (0 : Fin 2) = 0 ∧ win0_4.index t (1 : Fin 2) = t.val) ∧ (win0_5.index t (0 : Fin 2) = 0 ∧ win0_5.index t (1 : Fin 2) = t.val) ∧ (win0_6.index t (0 : Fin 2) = 0 ∧ win0_6.index t (1 : Fin 2) = t.val) ∧ (win0_7.index t (0 : Fin 2) = 0 ∧ win0_7.index t (1 : Fin 2) = t.val) ∧ (win0_8.index t (0 : Fin 2) = 0 ∧ win0_8.index t (1 : Fin 2) = t.val) :=
  (by decide +kernel : ∀ t : Fin grid0.N, _)

theorem emb0 (t : Fin cfg0.N) (r : Fin 2048) (j : Fin 256) : ((cfg0.win 0).blk t).view.emb (ix2 r j) = ix2 r (col t j) := by
  obtain ⟨h0, h1, h2, h3, h4, h5, h6, h7, h8⟩ := index_facts t
  funext a; apply Fin.ext
  match a with
  | ⟨0, _⟩ => show win0_0.index t (0 : Fin 2) * 2048 + 1 * r.val = r.val; omega
  | ⟨1, _⟩ => show win0_0.index t (1 : Fin 2) * 256 + 1 * j.val = 256 * t.val + j.val; omega

theorem emb1 (t : Fin cfg0.N) (r : Fin 2048) (j : Fin 256) : ((cfg0.win 1).blk t).view.emb (ix2 r j) = ix2 r (col t j) := by
  obtain ⟨h0, h1, h2, h3, h4, h5, h6, h7, h8⟩ := index_facts t
  funext a; apply Fin.ext
  match a with
  | ⟨0, _⟩ => show win0_1.index t (0 : Fin 2) * 2048 + 1 * r.val = r.val; omega
  | ⟨1, _⟩ => show win0_1.index t (1 : Fin 2) * 256 + 1 * j.val = 256 * t.val + j.val; omega

theorem emb2 (t : Fin cfg0.N) (r : Fin 8) (j : Fin 256) : ((cfg0.win 2).blk t).view.emb (ix2 r j) = ix2 r (col t j) := by
  obtain ⟨h0, h1, h2, h3, h4, h5, h6, h7, h8⟩ := index_facts t
  funext a; apply Fin.ext
  match a with
  | ⟨0, _⟩ => show win0_2.index t (0 : Fin 2) * 8 + 1 * r.val = r.val; omega
  | ⟨1, _⟩ => show win0_2.index t (1 : Fin 2) * 256 + 1 * j.val = 256 * t.val + j.val; omega

theorem emb3 (t : Fin cfg0.N) (r : Fin 1) (j : Fin 256) : ((cfg0.win 3).blk t).view.emb (ix2 r j) = ix2 r (col t j) := by
  obtain ⟨h0, h1, h2, h3, h4, h5, h6, h7, h8⟩ := index_facts t
  funext a; apply Fin.ext
  match a with
  | ⟨0, _⟩ => show win0_3.index t (0 : Fin 2) * 1 + 1 * r.val = r.val; omega
  | ⟨1, _⟩ => show win0_3.index t (1 : Fin 2) * 256 + 1 * j.val = 256 * t.val + j.val; omega

theorem emb4 (t : Fin cfg0.N) (r : Fin 2048) (j : Fin 256) : ((cfg0.win 4).blk t).view.emb (ix2 r j) = ix2 r (col t j) := by
  obtain ⟨h0, h1, h2, h3, h4, h5, h6, h7, h8⟩ := index_facts t
  funext a; apply Fin.ext
  match a with
  | ⟨0, _⟩ => show win0_4.index t (0 : Fin 2) * 2048 + 1 * r.val = r.val; omega
  | ⟨1, _⟩ => show win0_4.index t (1 : Fin 2) * 256 + 1 * j.val = 256 * t.val + j.val; omega

theorem emb5 (t : Fin cfg0.N) (r : Fin 2048) (j : Fin 256) : ((cfg0.win 5).blk t).view.emb (ix2 r j) = ix2 r (col t j) := by
  obtain ⟨h0, h1, h2, h3, h4, h5, h6, h7, h8⟩ := index_facts t
  funext a; apply Fin.ext
  match a with
  | ⟨0, _⟩ => show win0_5.index t (0 : Fin 2) * 2048 + 1 * r.val = r.val; omega
  | ⟨1, _⟩ => show win0_5.index t (1 : Fin 2) * 256 + 1 * j.val = 256 * t.val + j.val; omega

theorem emb6 (t : Fin cfg0.N) (r : Fin 2048) (j : Fin 256) : ((cfg0.win 6).blk t).view.emb (ix2 r j) = ix2 r (col t j) := by
  obtain ⟨h0, h1, h2, h3, h4, h5, h6, h7, h8⟩ := index_facts t
  funext a; apply Fin.ext
  match a with
  | ⟨0, _⟩ => show win0_6.index t (0 : Fin 2) * 2048 + 1 * r.val = r.val; omega
  | ⟨1, _⟩ => show win0_6.index t (1 : Fin 2) * 256 + 1 * j.val = 256 * t.val + j.val; omega

theorem emb7 (t : Fin cfg0.N) (r : Fin 8) (j : Fin 256) : ((cfg0.win 7).blk t).view.emb (ix2 r j) = ix2 r (col t j) := by
  obtain ⟨h0, h1, h2, h3, h4, h5, h6, h7, h8⟩ := index_facts t
  funext a; apply Fin.ext
  match a with
  | ⟨0, _⟩ => show win0_7.index t (0 : Fin 2) * 8 + 1 * r.val = r.val; omega
  | ⟨1, _⟩ => show win0_7.index t (1 : Fin 2) * 256 + 1 * j.val = 256 * t.val + j.val; omega

theorem emb8 (t : Fin cfg0.N) (r : Fin 1) (j : Fin 256) : ((cfg0.win 8).blk t).view.emb (ix2 r j) = ix2 r (col t j) := by
  obtain ⟨h0, h1, h2, h3, h4, h5, h6, h7, h8⟩ := index_facts t
  funext a; apply Fin.ext
  match a with
  | ⟨0, _⟩ => show win0_8.index t (0 : Fin 2) * 1 + 1 * r.val = r.val; omega
  | ⟨1, _⟩ => show win0_8.index t (1 : Fin 2) * 256 + 1 * j.val = 256 * t.val + j.val; omega

variable (m : (ℓ : Loc nD τ sig) → Buf (Elt Ideal) ℓ) (c : Dev nD)

/-- The arguments, as arrays. -/
abbrev U : FVec Ideal S2048x6144 .f32 := m ((c : Thread nD τ).loc main_arg0)
abbrev T3 : FVec Ideal S2048x6144 .f32 := m ((c : Thread nD τ).loc main_arg1)
abbrev W : FVec Ideal S3x6144 .f32 := m ((c : Thread nD τ).loc main_arg2)
abbrev B : FVec Ideal S1x6144 .f32 := m ((c : Thread nD τ).loc main_arg3)
abbrev DA : FVec Ideal S2048x6144 .bf16 := m ((c : Thread nD τ).loc main_arg4)

theorem iblk0 (t : Fin cfg0.N) (r : Fin 2048) (j : Fin 256) : iblk m c 0 t (ix2 r j) = U m c (ix2 r (col t j)) := by
  show V m c main_arg0 (((cfg0.win 0).blk t).view.emb (ix2 r j)) = _
  rw [emb0, V_main_arg0]

theorem iblk1 (t : Fin cfg0.N) (r : Fin 2048) (j : Fin 256) : iblk m c 1 t (ix2 r j) = T3 m c (ix2 r (col t j)) := by
  show V m c main_arg1 (((cfg0.win 1).blk t).view.emb (ix2 r j)) = _
  rw [emb1, V_main_arg1]

theorem iblk3 (t : Fin cfg0.N) (r : Fin 1) (j : Fin 256) : iblk m c 3 t (ix2 r j) = B m c (ix2 r (col t j)) := by
  show V m c main_arg3 (((cfg0.win 3).blk t).view.emb (ix2 r j)) = _
  rw [emb3, V_main_arg3]

theorem iblk4 (t : Fin cfg0.N) (r : Fin 2048) (j : Fin 256) : iblk m c 4 t (ix2 r j) = DA m c (ix2 r (col t j)) := by
  show V m c main_arg4 (((cfg0.win 4).blk t).view.emb (ix2 r j)) = _
  rw [emb4, V_main_arg4]

/-- The padded taps, as the region finds them. -/
theorem taps_apply (k : Fin 8) (hk : k.val < 3) (q : Fin 6144) : V m c main_v0 (ix2 k q) = W m c (ix2 ⟨k.val, hk⟩ q) := by
  have e : V m c main_v0 = (pad S8x6144 ![0, 0] ![5, 0] ![0, 0] (W m c) (sitofp (F := Ideal) .f32 (constantI S_ 32 0#32)) pads_S3x6144_S8x6144_050_000 h_S_) := by
    rfl
  rw [e]
  pointwise
  exact dif_pos hk

theorem iblk2 (t : Fin cfg0.N) (k : Fin 8) (hk : k.val < 3) (j : Fin 256) : iblk m c 2 t (ix2 k j) = W m c (ix2 ⟨k.val, hk⟩ (col t j)) := by
  show V m c main_v0 (((cfg0.win 2).blk t).view.emb (ix2 k j)) = _
  rw [emb2, taps_apply m c k hk]

/-- The convolution's value, and the gradient of it that the kernel forms. -/
def x (q : Fin 6144) (r : Fin 2048) : EReal :=
  conv (fun r => U m c (ix2 r q)) (W m c (ix2 0 q)) (W m c (ix2 1 q)) (W m c (ix2 2 q)) (B m c (ix2 0 q)) r
def d (q : Fin 6144) (r : Fin 2048) : EReal := gradK (DA m c (ix2 r q) * T3 m c (ix2 r q)) (x m c q r)

theorem row0_iblk (t : Fin cfg0.N) (j : Fin 256) : row0 (F := Ideal) (iblk m c 2 t) (ix2 0 j) = W m c (ix2 0 (col t j)) :=
  (row0_apply _ j).trans (iblk2 m c t 0 (by decide) j)
theorem row1_iblk (t : Fin cfg0.N) (j : Fin 256) : row1 (F := Ideal) (iblk m c 2 t) (ix2 0 j) = W m c (ix2 1 (col t j)) :=
  (row1_apply _ j).trans (iblk2 m c t 1 (by decide) j)
theorem row2_iblk (t : Fin cfg0.N) (j : Fin 256) : row2 (F := Ideal) (iblk m c 2 t) (ix2 0 j) = W m c (ix2 2 (col t j)) :=
  (row2_apply _ j).trans (iblk2 m c t 2 (by decide) j)

theorem conv_iblk (t : Fin cfg0.N) (r : Fin 2048) (j : Fin 256) :
    conv (fun r => (iblk m c 0 t : Blk) (ix2 r j)) (row0 (F := Ideal) (iblk m c 2 t) (ix2 0 j)) (row1 (F := Ideal) (iblk m c 2 t) (ix2 0 j))
      (row2 (F := Ideal) (iblk m c 2 t) (ix2 0 j)) ((iblk m c 3 t : Row) (ix2 0 j)) r = x m c (col t j) r := by
  rw [row0_iblk, row1_iblk, row2_iblk, iblk3]
  simp only [iblk0]
  rfl

theorem duc_iblk (t : Fin cfg0.N) (r : Fin 2048) (j : Fin 256) :
    duc (F := Ideal) (iblk m c 0 t) (iblk m c 1 t) (iblk m c 2 t) (iblk m c 3 t) (iblk m c 4 t) (ix2 r j) = d m c (col t j) r := by
  unfold duc
  rw [pay11_apply _ _ _ _ _ _ (by rw [pay7_apply, pay8_apply]), pay7_apply, conv_iblk]
  have h9 : k0_pay9 (F := Ideal) (iblk m c 4 t) (ix2 r j) = DA m c (ix2 r (col t j)) := iblk4 m c t r j
  rw [h9, iblk1]
  rfl

theorem final5 (t : Fin cfg0.N) (r : Fin 2048) (j : Fin 256) :
    (dats m 0 c).arrAt 5 cfg0.N (ix2 r (col t j))
      = next (d m c (col t j)) r * W m c (ix2 0 (col t j)) + d m c (col t j) r * W m c (ix2 1 (col t j)) + prev (d m c (col t j)) r * W m c (ix2 2 (col t j)) := by
  have b := congrFun (Cert.FfnKernelIdeal.Value.blocks5 m c t (flush0_5 t)) (ix2 r j)
  rw [Cert.FfnKernelIdeal.Value.flushed5_A] at b
  have b' : (dats m 0 c).arrAt 5 cfg0.N (((cfg0.win 5).blk t).view.emb (ix2 r j)) = out0_A_5 (F := Ideal) _ _ _ _ _ _ _ _ _ _ _ _ _ _ _ _ _ _ _ _ _ _ _ _ _ (ix2 r j) := b
  rw [emb5, out5_eq, pay12_apply] at b'
  rw [b', row0_iblk, row1_iblk, row2_iblk]
  have e : ∀ r, k0_pay11 (F := Ideal) _ _ _ _ (ix2 r j) = d m c (col t j) r := fun r => duc_iblk m c t r j
  simp only [e]

theorem final6 (t : Fin cfg0.N) (r : Fin 2048) (j : Fin 256) :
    (dats m 0 c).arrAt 6 cfg0.N (ix2 r (col t j)) = DA m c (ix2 r (col t j)) * x m c (col t j) r * Ideal.logistic (x m c (col t j) r) := by
  have b := congrFun (Cert.FfnKernelIdeal.Value.blocks6 m c t (flush0_6 t)) (ix2 r j)
  rw [Cert.FfnKernelIdeal.Value.flushed6_A] at b
  have b' : (dats m 0 c).arrAt 6 cfg0.N (((cfg0.win 6).blk t).view.emb (ix2 r j)) = out0_A_6 (F := Ideal) _ _ _ _ _ _ _ _ _ _ _ _ _ _ _ _ _ _ _ _ _ _ _ _ _ (ix2 r j) := b
  rw [emb6, out6_eq, pay10_apply] at b'
  rw [b', conv_iblk, iblk4]

theorem final8 (t : Fin cfg0.N) (j : Fin 256) :
    (dats m 0 c).arrAt 8 cfg0.N (ix2 0 (col t j)) = ∑ r : Fin 2048, d m c (col t j) r := by
  have b := congrFun (Cert.FfnKernelIdeal.Value.blocks8 m c t (flush0_8 t)) (ix2 0 j)
  rw [Cert.FfnKernelIdeal.Value.flushed8_A] at b
  have b' : (dats m 0 c).arrAt 8 cfg0.N (((cfg0.win 8).blk t).view.emb (ix2 0 j)) = out0_A_8 (F := Ideal) _ _ _ _ _ _ _ _ _ _ _ _ _ _ _ _ _ _ _ _ _ _ _ _ _ (ix2 0 j) := b
  rw [emb8, out8_eq, pay4_apply] at b'
  rw [b']
  simp only [duc_iblk]

theorem final7 (t : Fin cfg0.N) (k : Fin 8) (j : Fin 256) :
    (dats m 0 c).arrAt 7 cfg0.N (ix2 k (col t j))
      = if k.val = 0 then ∑ r : Fin 2048, d m c (col t j) r * prev (fun r => U m c (ix2 r (col t j))) r
        else if k.val = 1 then ∑ r : Fin 2048, d m c (col t j) r * U m c (ix2 r (col t j))
        else if k.val = 2 then ∑ r : Fin 2048, d m c (col t j) r * next (fun r => U m c (ix2 r (col t j))) r
        else 0 := by
  have b := congrFun (Cert.FfnKernelIdeal.Value.blocks7 m c t (flush0_7 t)) (ix2 k j)
  rw [Cert.FfnKernelIdeal.Value.flushed7_A] at b
  have b' : (dats m 0 c).arrAt 7 cfg0.N (((cfg0.win 7).blk t).view.emb (ix2 k j)) = out0_A_7 (F := Ideal) _ _ _ _ _ _ _ _ _ _ _ _ _ _ _ _ _ _ _ _ _ _ _ _ _ (ix2 k j) := b
  rw [emb7, out7_eq] at b'
  refine b'.trans ((rows_apply _ _ _ _ k j).trans ?_)
  rw [pay1_apply, pay2_apply, pay3_apply]
  have hz : k0_pay13 (F := Ideal) (ix2 k j) = 0 := by pointwise [k0_pay13]
  simp only [duc_iblk, pay5_apply, pay6_apply, iblk0, hz]

end Cert.FfnValue
end
-- ==== Proof.FfnRef.lean ====
module

public import proofs.«01_k».proof.Proof.FfnPure
public import proofs.«01_k».proof.Proof.Gen.FfnReferenceIdeal
public import Idealize.ShloMosaic.Lib.Pointwise

/-! The reference of the feed-forward activation's gradient, read at an index. Each stage of the reference's
    composed term has a name here (the padded input, its three shifted rows, the convolution, the gradient of the
    convolution's value), with a lemma that reads it as a function of one column. -/

@[expose] public section

set_option maxRecDepth 16384

noncomputable section

namespace Cert.FfnValue.Ref

open Cert.FfnReferenceIdeal Cert.FfnReferenceIdeal.Gen
open Idealize.ShloMosaic Idealize.ShloMosaic.TcCoe Idealize.SL.Sem

/-- An array of the step's 2048 rows and 6144 columns. -/
abbrev Arr := FVec Ideal S2048x6144 .f32

/-- The input between two rows of zeros. -/
def padded (u : Arr) : FVec Ideal S2050x6144 .f32 :=
  (concatenate S2050x6144 0 [⟨S1x6144, ((broadcastInDim S1x6144 ![] bcast_S_S1x6144 (constant S_ .f32 0x00000000#32)) : FVec Ideal S1x6144 .f32)⟩, ⟨S2048x6144, (u : FVec Ideal S2048x6144 .f32)⟩, ⟨S1x6144, ((broadcastInDim S1x6144 ![] bcast_S_S1x6144 (constant S_ .f32 0x00000000#32)) : FVec Ideal S1x6144 .f32)⟩] concatenates_S1x6144_S2048x6144_S1x6144_S2050x6144_d0 : FVec Ideal S2050x6144 .f32)

def before (u : Arr) : Arr := extractStridedSlice S2048x6144 ![0, 0] (padded u) slices_S2050x6144_S2048x6144_0_0
def here (u : Arr) : Arr := extractStridedSlice S2048x6144 ![1, 0] (padded u) slices_S2050x6144_S2048x6144_1_0
def after (u : Arr) : Arr := extractStridedSlice S2048x6144 ![2, 0] (padded u) slices_S2050x6144_S2048x6144_2_0

def tap0 (w : FVec Ideal S3x6144 .f32) : Arr :=
  broadcastInDim S2048x6144 ![0, 1] bcast_S1x6144_S2048x6144_0_1 (broadcastInDim S1x6144 ![1] bcast_S6144_S1x6144_1 (shapeCast _ (extractStridedSlice S1x6144 ![0, 0] w slices_S3x6144_S1x6144_0_0) shapeCasts_S1x6144_S6144))

def tap1 (w : FVec Ideal S3x6144 .f32) : Arr :=
  broadcastInDim S2048x6144 ![0, 1] bcast_S1x6144_S2048x6144_0_1 (broadcastInDim S1x6144 ![1] bcast_S6144_S1x6144_1 (shapeCast _ (extractStridedSlice S1x6144 ![1, 0] w slices_S3x6144_S1x6144_1_0) shapeCasts_S1x6144_S6144))

def tap2 (w : FVec Ideal S3x6144 .f32) : Arr :=
  broadcastInDim S2048x6144 ![0, 1] bcast_S1x6144_S2048x6144_0_1 (broadcastInDim S1x6144 ![1] bcast_S6144_S1x6144_1 (shapeCast _ (extractStridedSlice S1x6144 ![2, 0] w slices_S3x6144_S1x6144_2_0) shapeCasts_S1x6144_S6144))

/-- The convolution's value. -/
def val (u : Arr) (w : FVec Ideal S3x6144 .f32) (b : FVec Ideal S1x6144 .f32) : Arr :=
  addf (addf (addf (mulf (before u) (tap0 w)) (mulf (here u) (tap1 w))) (mulf (after u) (tap2 w)))
    (broadcastInDim S2048x6144 ![0, 1] bcast_S1x6144_S2048x6144_0_1 b)

def ones : Arr := broadcastInDim S2048x6144 ![] bcast_S_S2048x6144 (constant S_ .f32 0x3F800000#32)

/-- The logistic function, as the reference spells it. -/
def gate (x : Arr) : Arr := Host.divf ones (addf ones (Host.exp (Host.negf x)))

/-- The cotangent of the gated activation. -/
def cot (t3 : Arr) (da : FVec Ideal S2048x6144 .bf16) : Arr := mulf (extf .f32 da bitsLt_bf16_f32) t3

/-- The gradient of the convolution's value. -/
def dval (ct x : Arr) : Arr :=
  addf (mulf ct (gate x)) (mulf (mulf x ct) (mulf (gate x) (subf ones (gate x))))

/-- A tap's gradient. -/
def dtap (s d : Arr) : FVec Ideal S1x6144 .f32 :=
  broadcastInDim S1x6144 ![1] bcast_S6144_S1x6144_1 (Host.reduceAdd (shapeCast _ (Host.reduceAdd (mulf s d) (constant S_ .f32 0x00000000#32) reducesTo_S2048x6144_S6144_d0 h_S_) shapeCasts_S6144_S1x6144) (constant S_ .f32 0x00000000#32) reducesTo_S1x6144_S6144_d0 h_S_)

def res0 (d : Arr) (w : FVec Ideal S3x6144 .f32) : FVec Ideal S2048x6144 .bf16 :=
  truncf .bf16 (extractStridedSlice S2048x6144 ![1, 0]
    (addf (addf (pad S2050x6144 ![2, 0] ![0, 0] ![0, 0] (mulf d (tap2 w)) (constant S_ .f32 0x00000000#32) pads_S2048x6144_S2050x6144_200_000 h_S_)
      (pad S2050x6144 ![1, 0] ![1, 0] ![0, 0] (mulf d (tap1 w)) (constant S_ .f32 0x00000000#32) pads_S2048x6144_S2050x6144_110_000 h_S_))
      (pad S2050x6144 ![0, 0] ![2, 0] ![0, 0] (mulf d (tap0 w)) (constant S_ .f32 0x00000000#32) pads_S2048x6144_S2050x6144_020_000 h_S_))
    slices_S2050x6144_S2048x6144_1_0) bitsLt_bf16_f32

def res1 (x : Arr) (da : FVec Ideal S2048x6144 .bf16) : FVec Ideal S2048x6144 .bf16 :=
  truncf .bf16 (mulf (mulf x (gate x)) (extf .f32 da bitsLt_bf16_f32)) bitsLt_bf16_f32

def res2 (u d : Arr) : FVec Ideal S8x6144 .f32 :=
  pad S8x6144 ![0, 0] ![5, 0] ![0, 0] (addf (addf
    (pad S3x6144 ![2, 0] ![0, 0] ![0, 0] (dtap (after u) d) (constant S_ .f32 0x00000000#32) pads_S1x6144_S3x6144_200_000 h_S_)
    (pad S3x6144 ![1, 0] ![1, 0] ![0, 0] (dtap (here u) d) (constant S_ .f32 0x00000000#32) pads_S1x6144_S3x6144_110_000 h_S_))
    (pad S3x6144 ![0, 0] ![2, 0] ![0, 0] (dtap (before u) d) (constant S_ .f32 0x00000000#32) pads_S1x6144_S3x6144_020_000 h_S_))
    (sitofp .f32 (constantI S_ 32 0#32)) pads_S3x6144_S8x6144_050_000 h_S_

def res3 (d : Arr) : FVec Ideal S1x6144 .f32 :=
  shapeCast _ (Host.reduceAdd d (constant S_ .f32 0x00000000#32) reducesTo_S2048x6144_S6144_d0 h_S_) shapeCasts_S6144_S1x6144

/-! The stages at an index. -/

theorem before_apply (u : Arr) (r : Fin 2048) (j : Fin 6144) : before u (ix2 r j) = prev (fun r => u (ix2 r j)) r := by
  pointwise [before, padded, prev]
  have hr := r.isLt
  by_cases h : r.val = 0
  · simp [h]
  · rw [dif_neg (by omega), dif_pos (by omega), if_neg h]
    exact congrArg u (congrArg (fun i => ix2 i j) (Fin.ext (by simp only; omega)))

theorem here_apply (u : Arr) (r : Fin 2048) (j : Fin 6144) : here u (ix2 r j) = u (ix2 r j) := by
  pointwise [here, padded]

theorem after_apply (u : Arr) (r : Fin 2048) (j : Fin 6144) : after u (ix2 r j) = next (fun r => u (ix2 r j)) r := by
  pointwise [after, padded, next]
  have hr := r.isLt
  by_cases h : r.val = 2047
  · rw [dif_neg (by omega), dif_neg (by omega), if_pos h]
  · rw [dif_neg (by omega), dif_pos (by omega), if_neg h]
    exact congrArg u (congrArg (fun i => ix2 i j) (Fin.ext (by simp only; omega)))

theorem tap_apply (w : FVec Ideal S3x6144 .f32) (r : Fin 2048) (j : Fin 6144) :
    tap0 w (ix2 r j) = w (ix2 0 j) ∧ tap1 w (ix2 r j) = w (ix2 1 j) ∧ tap2 w (ix2 r j) = w (ix2 2 j) := by
  refine ⟨?_, ?_, ?_⟩
  · pointwise [tap0]
  · pointwise [tap1]
  · pointwise [tap2]

theorem val_apply (u : Arr) (w : FVec Ideal S3x6144 .f32) (b : FVec Ideal S1x6144 .f32) (r : Fin 2048) (j : Fin 6144) :
    val u w b (ix2 r j) = conv (fun r => u (ix2 r j)) (w (ix2 0 j)) (w (ix2 1 j)) (w (ix2 2 j)) (b (ix2 0 j)) r := by
  pointwise [val, conv, before_apply, here_apply, after_apply, tap_apply]

theorem gate_apply (x : Arr) (r : Fin 2048) (j : Fin 6144) : gate x (ix2 r j) = Ideal.logistic (x (ix2 r j)) := by
  pointwise [gate, ones, Ideal.logistic]

theorem dval_apply (ct x : Arr) (r : Fin 2048) (j : Fin 6144) :
    dval ct x (ix2 r j) = gradR (ct (ix2 r j)) (x (ix2 r j)) := by
  pointwise [dval, gate_apply, ones, gradR]

theorem cot_apply (t3 : Arr) (da : FVec Ideal S2048x6144 .bf16) (r : Fin 2048) (j : Fin 6144) :
    cot t3 da (ix2 r j) = da (ix2 r j) * t3 (ix2 r j) := by
  pointwise [cot]

theorem res1_apply (x : Arr) (da : FVec Ideal S2048x6144 .bf16) (r : Fin 2048) (j : Fin 6144) :
    res1 x da (ix2 r j) = (x (ix2 r j) * Ideal.logistic (x (ix2 r j))) * da (ix2 r j) := by
  pointwise [res1, gate_apply]

theorem res3_apply (d : Arr) (j : Fin 6144) : res3 d (ix2 0 j) = ∑ r : Fin 2048, d (ix2 r j) := by
  pointwise [res3]

theorem dtap_apply (s d : Arr) (j : Fin 6144) : dtap s d (ix2 0 j) = ∑ r : Fin 2048, s (ix2 r j) * d (ix2 r j) := by
  pointwise [dtap]
  exact Fintype.sum_unique _

theorem res2_apply (u d : Arr) (k : Fin 8) (j : Fin 6144) :
    res2 u d (ix2 k j) = if k.val = 0 then ∑ r : Fin 2048, prev (fun r => u (ix2 r j)) r * d (ix2 r j)
      else if k.val = 1 then ∑ r : Fin 2048, u (ix2 r j) * d (ix2 r j)
      else if k.val = 2 then ∑ r : Fin 2048, next (fun r => u (ix2 r j)) r * d (ix2 r j)
      else 0 := by
  have hz : (FloatOps.sitofp FTy.f32 0#32 : Ideal .f32) = (0 : EReal) := by
    show (((0#32 : BitVec 32).toInt : ℝ) : EReal) = 0
    simp
  fin_cases k <;> pointwise [res2, dtap_apply, before_apply, here_apply, after_apply, hz]

theorem res0_apply (d : Arr) (w : FVec Ideal S3x6144 .f32) (r : Fin 2048) (j : Fin 6144) :
    res0 d w (ix2 r j) = prev (fun r => d (ix2 r j)) r * w (ix2 2 j) + d (ix2 r j) * w (ix2 1 j) + next (fun r => d (ix2 r j)) r * w (ix2 0 j) := by
  pointwise [res0, tap_apply, prev, next]
  have hr := r.isLt
  have e1 : (if h : 2 ≤ 1 + r.val ∧ 1 + r.val - 2 < 2048 then d (ix2 ⟨1 + r.val - 2, h.2⟩ j) * w (ix2 2 j) else 0)
      = (if r.val = 0 then 0 else d (ix2 ⟨(r.val + 2048 - 1) % 2048, Nat.mod_lt _ (by decide)⟩ j)) * w (ix2 2 j) := by
    by_cases h : r.val = 0
    · rw [dif_neg (by omega), if_pos h, zero_mul]
    · rw [dif_pos (by omega), if_neg h]
      exact congrArg (fun i => d (ix2 i j) * w (ix2 2 j)) (Fin.ext (by simp only; omega))
  have e2 : (if h : 1 + r.val < 2048 then d (ix2 ⟨1 + r.val, h⟩ j) * w (ix2 0 j) else 0)
      = (if r.val = 2047 then 0 else d (ix2 ⟨(r.val + 2048 - 2047) % 2048, Nat.mod_lt _ (by decide)⟩ j)) * w (ix2 0 j) := by
    by_cases h : r.val = 2047
    · rw [dif_neg (by omega), if_pos h, zero_mul]
    · rw [dif_pos (by omega), if_neg h]
      exact congrArg (fun i => d (ix2 i j) * w (ix2 0 j)) (Fin.ext (by simp only; omega))
  rw [e1, e2]

end Cert.FfnValue.Ref
end
-- ==== Proof.FfnRefRun.lean ====
module

public import proofs.«01_k».proof.Proof.FfnRef
public import proofs.«01_k».proof.Proof.Gen.FfnReferenceIdeal.Run

/-! The reference's results by the names of its stages. -/

@[expose] public section

set_option maxRecDepth 16384

noncomputable section

namespace Cert.FfnValue.Ref

open Cert.FfnReferenceIdeal Cert.FfnReferenceIdeal.Gen Cert.FfnReferenceIdeal.Value
open Idealize.ShloMosaic Idealize.ShloMosaic.TcCoe Idealize.SL.Sem

variable (m : (ℓ : Loc nD τ sig) → Buf (Elt Ideal) ℓ) (c : Dev nD)

/-- The convolution's value and its gradient at the launch contents. -/
abbrev X : Arr := val (m ((c.tc : Thread nD τ).loc main_arg0)) (m ((c.tc : Thread nD τ).loc main_arg2)) (m ((c.tc : Thread nD τ).loc main_arg3))
abbrev D : Arr := dval (cot (m ((c.tc : Thread nD τ).loc main_arg1)) (m ((c.tc : Thread nD τ).loc main_arg4))) (X m c)

theorem out0_eq : res_out0 m c = res0 (D m c) (m ((c.tc : Thread nD τ).loc main_arg2)) := rfl
theorem out1_eq : res_out1 m c = res1 (X m c) (m ((c.tc : Thread nD τ).loc main_arg4)) := rfl
theorem out2_eq : res_out2 m c = res2 (m ((c.tc : Thread nD τ).loc main_arg0)) (D m c) := rfl
theorem out3_eq : res_out3 m c = res3 (D m c) := rfl

end Cert.FfnValue.Ref
end
-- ==== Proof.FfnFinite.lean ====
module

public import proofs.«01_k».proof.Proof.Gen.Pre_finite_ffn
public import Idealize.ShloMosaic.Lib.ReduceAll
public import Idealize.ShloMosaic.Lib.Pointwise

/-! The precondition read back: the elements it names are real numbers. -/

@[expose] public section

noncomputable section

namespace Cert.FfnValue

open Idealize.ShloMosaic

/-- An extended real that is less than infinity and whose negation is, is a real. -/
theorem real_of_abs_lt (x : EReal) (h : max x (-x) < ⊤) : ∃ r : ℝ, x = r := by
  induction x with
  | bot => simp at h
  | top => simp at h
  | coe r => exact ⟨r, rfl⟩

theorem lt_of_olt {x : EReal} (h : BitVec.ofBool (decide (max x (-x) < Ideal.ofBits FTy.f32 2139095040#32)) = 1#1) : max x (-x) < ⊤ := by
  have e : Ideal.ofBits FTy.f32 2139095040#32 = ⊤ := by simp [Ideal.ofBits, Ideal.ieee]
  rw [e] at h
  by_contra hc
  simp [hc] at h

open Cert.Pre_finite_ffn in
theorem finite_of_pre [Cert.Pre_finite_ffn.Facts] (a0 a1 : FVec Ideal S2048x6144 .f32) (a2 : FVec Ideal S3x6144 .f32) (a3 : FVec Ideal S1x6144 .f32)
    (a4 : FVec Ideal S2048x6144 .bf16) (h : Cert.Pre_finite_ffn.fn (F := Ideal) a0 a1 a2 a3 a4 = fun _ => 1#1) (i : S2048x6144.Idx) :
    (∃ r : ℝ, a1 i = r) ∧ ∃ r : ℝ, a4 i = r := by
  have h0 := congrFun h ix0
  unfold Cert.Pre_finite_ffn.fn at h0
  dsimp only at h0
  replace h0 : IntOp.andi _ _ = 1#1 := h0
  rw [IntOp.andi_eq_one] at h0
  have : Subsingleton S_.Idx := ⟨fun a b => funext fun k => k.elim0⟩
  have e1 := Host.reduce_andi_all _ _ _ _ _ h0.1 i
  have e2 := Host.reduce_andi_all _ _ _ _ _ h0.2 i
  constructor
  · apply real_of_abs_lt
    pointwise at e1
    exact lt_of_olt e1
  · apply real_of_abs_lt
    pointwise at e2
    exact lt_of_olt e2

end Cert.FfnValue
end
-- ==== Proof.FfnClaim.lean ====
module

public import proofs.«01_k».proof.Defs
public import proofs.«01_k».proof.Proof.FfnValue
public import proofs.«01_k».proof.Proof.FfnRefRun
public import proofs.«01_k».proof.Proof.FfnFinite
public import proofs.«01_k».proof.Proof.Gen.FfnKernel.Frame

/-! The claims about the gradient of the feed-forward activation. -/

@[expose] public section

set_option maxRecDepth 16384

noncomputable section

namespace Cert.FfnValue

open Idealize.ShloMosaic Idealize.ShloMosaic.TcCoe Idealize.SL.Sem

/-- Where the gated factor and the cotangent are real, the kernel's gradient of the convolution's value is the reference's. -/
theorem d_eq (m : (ℓ : Loc FfnKernelIdeal.nD FfnKernelIdeal.τ FfnKernelIdeal.sig) → Buf (Elt Ideal) ℓ) (c : Dev FfnKernelIdeal.nD)
    (h : ∀ i, (∃ r : ℝ, T3 m c i = r) ∧ ∃ r : ℝ, DA m c i = r) (q : Fin 6144) (r : Fin 2048) :
    d m c q r = Ref.dval (Ref.cot (T3 m c) (DA m c)) (Ref.val (U m c) (W m c) (B m c)) (ix2 r q) := by
  rw [Ref.dval_apply, Ref.cot_apply, Ref.val_apply]
  obtain ⟨⟨a, ha⟩, b, hb⟩ := h (ix2 r q)
  unfold d x
  rw [ha, hb, ← EReal.coe_mul, gradK_eq]

section
variable (m : (ℓ : Loc FfnKernelIdeal.nD FfnKernelIdeal.τ FfnKernelIdeal.sig) → Buf (Elt Ideal) ℓ) (c : Dev FfnKernelIdeal.nD)
  (h : ∀ i, (∃ r : ℝ, T3 m c i = r) ∧ ∃ r : ℝ, DA m c i = r)

/-- The reference's gradient of the convolution's value, at the kernel's arguments. -/
abbrev dRef : Ref.Arr := Ref.dval (Ref.cot (T3 m c) (DA m c)) (Ref.val (U m c) (W m c) (B m c))

include h in
theorem res0_eq : Ref.res0 (dRef m c) (W m c) = (Cert.FfnKernelIdeal.Gen.dats m 0 c).arrAt 5 Cert.FfnKernelIdeal.cfg0.N := by
  funext i
  obtain ⟨r, q, rfl⟩ : ∃ (r : Fin 2048) (q : Fin 6144), i = ix2 r q := ⟨i 0, i 1, eq_ix2 i⟩
  obtain ⟨t, j, rfl⟩ := exists_col q
  refine (Ref.res0_apply _ _ _ _).trans (Eq.trans ?_ (final5 m c t r j).symm)
  simp only [show d m c (col t j) = fun r => dRef m c (ix2 r (col t j)) from funext fun r => d_eq m c h _ r]
  ac_rfl

theorem res1_eq : Ref.res1 (Ref.val (U m c) (W m c) (B m c)) (DA m c) = (Cert.FfnKernelIdeal.Gen.dats m 0 c).arrAt 6 Cert.FfnKernelIdeal.cfg0.N := by
  funext i
  obtain ⟨r, q, rfl⟩ : ∃ (r : Fin 2048) (q : Fin 6144), i = ix2 r q := ⟨i 0, i 1, eq_ix2 i⟩
  obtain ⟨t, j, rfl⟩ := exists_col q
  refine (Ref.res1_apply _ _ _ _).trans (Eq.trans ?_ (final6 m c t r j).symm)
  rw [Ref.val_apply]
  unfold x
  ac_rfl

include h in
theorem res2_eq : Ref.res2 (U m c) (dRef m c) = (Cert.FfnKernelIdeal.Gen.dats m 0 c).arrAt 7 Cert.FfnKernelIdeal.cfg0.N := by
  funext i
  obtain ⟨k, q, rfl⟩ : ∃ (k : Fin 8) (q : Fin 6144), i = ix2 k q := ⟨i 0, i 1, eq_ix2 i⟩
  obtain ⟨t, j, rfl⟩ := exists_col q
  refine (Ref.res2_apply _ _ _ _).trans (Eq.trans ?_ (final7 m c t k j).symm)
  have hd : d m c (col t j) = fun r => dRef m c (ix2 r (col t j)) := funext fun r => d_eq m c h _ r
  generalize dRef m c = D at hd ⊢
  simp only [hd, fun (r : Fin 2048) (y : EReal) => mul_comm (D (ix2 r (col t j))) y]

include h in
theorem res3_eq : Ref.res3 (dRef m c) = (Cert.FfnKernelIdeal.Gen.dats m 0 c).arrAt 8 Cert.FfnKernelIdeal.cfg0.N := by
  funext i
  obtain ⟨k, q, rfl⟩ : ∃ (k : Fin 1) (q : Fin 6144), i = ix2 k q := ⟨i 0, i 1, eq_ix2 i⟩
  obtain rfl : k = 0 := Subsingleton.elim _ _
  obtain ⟨t, j, rfl⟩ := exists_col q
  refine (Ref.res3_apply _ _).trans (Eq.trans ?_ (final8 m c t j).symm)
  simp only [show d m c (col t j) = fun r => dRef m c (ix2 r (col t j)) from funext fun r => d_eq m c h _ r]
end

theorem algebraic : Cert.algebraic_FfnKernelIdeal_FfnReferenceIdeal_pre_finite_ffn := by
  intro m g m' g' hpre hargs
  have hf : ∀ c i, (∃ r : ℝ, T3 m c i = r) ∧ ∃ r : ℝ, DA m c i = r := fun c i => finite_of_pre _ _ _ _ _ (hpre c) i
  refine ⟨fun c => (Cert.FfnKernelIdeal.Gen.dats m 0 c).arrAt 5 Cert.FfnKernelIdeal.cfg0.N, fun c => (Cert.FfnKernelIdeal.Gen.dats m 0 c).arrAt 6 Cert.FfnKernelIdeal.cfg0.N,
    fun c => (Cert.FfnKernelIdeal.Gen.dats m 0 c).arrAt 7 Cert.FfnKernelIdeal.cfg0.N, fun c => (Cert.FfnKernelIdeal.Gen.dats m 0 c).arrAt 8 Cert.FfnKernelIdeal.cfg0.N,
    Cert.FfnKernelIdeal.Value.run_blocks m g, (θ_run Cert.FfnReferenceIdeal.defs _ _).mono (fun r h c => ?_) (Cert.FfnReferenceIdeal.Value.run m' g')⟩
  obtain ⟨h0, h1, h2, h3, hk⟩ := h c
  obtain ⟨a0, a1, a2, a3, a4⟩ := hargs c
  have eX : Ref.X m' c = Ref.val (U m c) (W m c) (B m c) := by unfold Ref.X; rw [a0, a2, a3]
  have eD : Ref.D m' c = dRef m c := by unfold Ref.D; rw [eX, a1, a4]
  refine ⟨h0.trans ?_, h1.trans ?_, h2.trans ?_, h3.trans ?_, hk⟩
  · refine (Ref.out0_eq m' c).trans ?_
    rw [eD, a2]; exact res0_eq m c (hf c)
  · refine (Ref.out1_eq m' c).trans ?_
    rw [eX, a4]; exact res1_eq m c
  · refine (Ref.out2_eq m' c).trans ?_
    rw [eD, a0]; exact res2_eq m c (hf c)
  · refine (Ref.out3_eq m' c).trans ?_
    rw [eD]; exact res3_eq m c (hf c)

end Cert.FfnValue
end
-- ==== Proof.NaOff.lean ====
module

public import proofs.«01_k».proof.Proof.Gen.KernelIdeal.Skeleton
public import proofs.«01_k».proof.Proof.Gen.KernelIdeal.Frame

@[expose] public section

namespace Cert.NaFrame

open Cert.KernelIdeal Cert.KernelIdeal.Gen
open Idealize.ShloMosaic

/-- The first of the eight picture rows that the queries of picture row `r` look at. -/
def band (r : ℕ) : ℕ := min (r - 4) 24

private theorem off_row : ∀ n : Fin 32, (Scalar.indexCast (Scalar.addi (256#32)
    (Scalar.muli (Scalar.minsi (24#32) (Scalar.maxsi (0#32) (Scalar.subi (BitVec.ofNat 32 n.val) 4#32))) 64#32))).toNat
      = 256 + 64 * min (n.val - 4) 24 := by decide +kernel

theorem off1_eq (i : grid0.Coords) : k0_off1 i = ![256 + 64 * min ((i 1).val - 4) 24, 0] := by
  unfold k0_off1; simp only [off_row (i 1)]
theorem off2_eq (i : grid0.Coords) : k0_off2 i = ![256 + 64 * min ((i 1).val - 4) 24, 128] := by
  unfold k0_off2; simp only [off_row (i 1)]
theorem off3_eq (i : grid0.Coords) : k0_off3 i = ![256 + 64 * min ((i 1).val - 4) 24, 256] := by
  unfold k0_off3; simp only [off_row (i 1)]
theorem off4_eq (i : grid0.Coords) : k0_off4 i = ![256 + 64 * min ((i 1).val - 4) 24, 384] := by
  unfold k0_off4; simp only [off_row (i 1)]

instance (i : grid0.Coords) : ClosedOff (k0_off1 i) := ⟨![256 + 64 * min ((i 1).val - 4) 24, 0], off1_eq i⟩
instance (i : grid0.Coords) : ClosedOff (k0_off2 i) := ⟨![256 + 64 * min ((i 1).val - 4) 24, 128], off2_eq i⟩
instance (i : grid0.Coords) : ClosedOff (k0_off3 i) := ⟨![256 + 64 * min ((i 1).val - 4) 24, 256], off3_eq i⟩
instance (i : grid0.Coords) : ClosedOff (k0_off4 i) := ⟨![256 + 64 * min ((i 1).val - 4) 24, 384], off4_eq i⟩

end Cert.NaFrame
-- ==== Proof.NaRunB.lean ====
module

public import proofs.«01_k».proof.Proof.NaOff

@[expose] public section

set_option maxRecDepth 16384

noncomputable section

namespace Cert.NaFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at a row whose window has a shift of its own: the slab of the bias gradient starts anew, the accumulators go on.
    The lists say which blocks each result's buffer is written with, the last first. -/
def runB (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : ¬ ((Scalar.cmpi .ne (Scalar.extui (Scalar.cmpi .eq (BitVec.ofNat 32 (i 1).val) 0#32)) 0#32) = 1#1)) (hc2 : k0_cond2 i = 1#1) (hc3 : ¬ (k0_cond3 i = 1#1)) (hc4 : k0_cond4 i = 1#1) (hc5 : ¬ (k0_cond5 i = 1#1)) (hc6 : k0_cond6 i = 1#1) (hc7 : ¬ (k0_cond7 i = 1#1)) (hc8 : k0_cond8 i = 1#1) (hc9 : ¬ (k0_cond9 i = 1#1)) (hc10 : ¬ (k0_cond10 i = 1#1))
    (x0 : Vec F S64x512 .bf16) (x1 : Vec F S2304x512 .bf16) (x2 : Vec F S2304x512 .f32) (x3 : Vec F S4x1x64x512 .f32) (x4 : Vec F S64x512 .bf16) (y6 : Vec F S2304x512 .f32) (ys : Vec F S2304x512 .f32) :
    Σ' (L5 : List (View.Piece (Elt F) S64x512 .f32)) (L6 : List (View.Piece (Elt F) S2304x512 .f32)) (L8 : List (View.Piece (Elt F) S4x1x64x512 .f32)), { LS : List (View.Piece (Elt F) S2304x512 .f32) //
      ∀ (y7 : Vec F S2304x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ (∃ d, owns (c : Thread nD τ) arg10 fullShare d) ∗ owns (c : Thread nD τ) arg11 fullShare ys
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, (arg7.view.loc (c : Thread nD τ) ↦[arg7.view.set]{fullShare} arg7.view.writes (Elt F) f L5)) ∗ (arg8.view.loc (c : Thread nD τ) ↦[arg8.view.set]{fullShare} arg8.view.writes (Elt F) (harg8.unread y6) L6) ∗ owns (c : Thread nD τ) arg9 fullShare y7 ∗ (∃ f, (arg10.view.loc (c : Thread nD τ) ↦[arg10.view.set]{fullShare} arg10.view.writes (Elt F) f L8)) ∗ (arg11.view.loc (c : Thread nD τ) ↦[arg11.view.set]{fullShare} arg11.view.writes (Elt F) (harg11.unread ys) LS)) -∗ K ⟨⟩))
          ⊢ wp frame (wpE (defs₀ (F := F)) Variants.none c none) E (cc0_na_bwd i arg2 harg2 arg3 harg3 arg4 harg4 arg5 harg5 arg6 harg6 arg7 harg7 arg8 harg8 arg9 harg9 arg10 harg10 arg11 harg11) K } := by
  refine ⟨?_, ?_, ?_, ?_, fun y7 E K => ?run⟩
  case run =>
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg11.eq_unread hf11
    sl_exec (disch := first | sl_exact hc1 | sl_exact hc2 | sl_exact hc3 | sl_exact hc4 | sl_exact hc5 | sl_exact hc6 | sl_exact hc7 | sl_exact hc8 | sl_exact hc9 | sl_exact hc10)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexact H8
    isplitl [H9]
    · iexists _; isplitr; · ipureintro; exact harg9.read_unread _
      iexact H9
    isplitl [H10]
    · iexists _; iexact H10
    iexact H11

end Cert.NaFrame

end
-- ==== Proof.NaRunC.lean ====
module

public import proofs.«01_k».proof.Proof.NaOff
public import proofs.«01_k».proof.Proof.NaRunB

@[expose] public section

set_option maxRecDepth 16384

noncomputable section

namespace Cert.NaFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at an inner row: the slab of the bias gradient and the accumulators all go on.
    The lists say which blocks each result's buffer is written with, the last first. -/
def runC (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : ¬ ((Scalar.cmpi .ne (Scalar.extui (Scalar.cmpi .eq (BitVec.ofNat 32 (i 1).val) 0#32)) 0#32) = 1#1)) (hc2 : ¬ (k0_cond2 i = 1#1)) (hc3 : k0_cond3 i = 1#1) (hc4 : ¬ (k0_cond4 i = 1#1)) (hc5 : k0_cond5 i = 1#1) (hc6 : ¬ (k0_cond6 i = 1#1)) (hc7 : k0_cond7 i = 1#1) (hc8 : ¬ (k0_cond8 i = 1#1)) (hc9 : k0_cond9 i = 1#1) (hc10 : ¬ (k0_cond10 i = 1#1))
    (x0 : Vec F S64x512 .bf16) (x1 : Vec F S2304x512 .bf16) (x2 : Vec F S2304x512 .f32) (x3 : Vec F S4x1x64x512 .f32) (x4 : Vec F S64x512 .bf16) (y6 : Vec F S2304x512 .f32) (y8 : Vec F S4x1x64x512 .f32) (ys : Vec F S2304x512 .f32) :
    Σ' (L5 : List (View.Piece (Elt F) S64x512 .f32)) (L6 : List (View.Piece (Elt F) S2304x512 .f32)) (L8 : List (View.Piece (Elt F) S4x1x64x512 .f32)), { LS : List (View.Piece (Elt F) S2304x512 .f32) //
      ∀ (y7 : Vec F S2304x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ owns (c : Thread nD τ) arg10 fullShare y8 ∗ owns (c : Thread nD τ) arg11 fullShare ys
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, (arg7.view.loc (c : Thread nD τ) ↦[arg7.view.set]{fullShare} arg7.view.writes (Elt F) f L5)) ∗ (arg8.view.loc (c : Thread nD τ) ↦[arg8.view.set]{fullShare} arg8.view.writes (Elt F) (harg8.unread y6) L6) ∗ owns (c : Thread nD τ) arg9 fullShare y7 ∗ (arg10.view.loc (c : Thread nD τ) ↦[arg10.view.set]{fullShare} arg10.view.writes (Elt F) (harg10.unread y8) L8) ∗ (arg11.view.loc (c : Thread nD τ) ↦[arg11.view.set]{fullShare} arg11.view.writes (Elt F) (harg11.unread ys) LS)) -∗ K ⟨⟩))
          ⊢ wp frame (wpE (defs₀ (F := F)) Variants.none c none) E (cc0_na_bwd i arg2 harg2 arg3 harg3 arg4 harg4 arg5 harg5 arg6 harg6 arg7 harg7 arg8 harg8 arg9 harg9 arg10 harg10 arg11 harg11) K } := by
  refine ⟨?_, ?_, ?_, ?_, fun y7 E K => ?run⟩
  case run =>
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg11.eq_unread hf11
    sl_exec (disch := first | sl_exact hc1 | sl_exact hc2 | sl_exact hc3 | sl_exact hc4 | sl_exact hc5 | sl_exact hc6 | sl_exact hc7 | sl_exact hc8 | sl_exact hc9 | sl_exact hc10)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexact H8
    isplitl [H9]
    · iexists _; isplitr; · ipureintro; exact harg9.read_unread _
      iexact H9
    isplitl [H10]
    · iexact H10
    iexact H11

end Cert.NaFrame

end
-- ==== Proof.NaRunD.lean ====
module

public import proofs.«01_k».proof.Proof.NaOff
public import proofs.«01_k».proof.Proof.NaRunC

@[expose] public section

set_option maxRecDepth 16384

noncomputable section

namespace Cert.NaFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at the last row: as at a row with a shift of its own, and the gradient of the values is written out.
    The lists say which blocks each result's buffer is written with, the last first. -/
def runD (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : ¬ ((Scalar.cmpi .ne (Scalar.extui (Scalar.cmpi .eq (BitVec.ofNat 32 (i 1).val) 0#32)) 0#32) = 1#1)) (hc2 : k0_cond2 i = 1#1) (hc3 : ¬ (k0_cond3 i = 1#1)) (hc4 : k0_cond4 i = 1#1) (hc5 : ¬ (k0_cond5 i = 1#1)) (hc6 : k0_cond6 i = 1#1) (hc7 : ¬ (k0_cond7 i = 1#1)) (hc8 : k0_cond8 i = 1#1) (hc9 : ¬ (k0_cond9 i = 1#1)) (hc10 : k0_cond10 i = 1#1)
    (x0 : Vec F S64x512 .bf16) (x1 : Vec F S2304x512 .bf16) (x2 : Vec F S2304x512 .f32) (x3 : Vec F S4x1x64x512 .f32) (x4 : Vec F S64x512 .bf16) (y6 : Vec F S2304x512 .f32) (ys : Vec F S2304x512 .f32) :
    Σ' (L5 : List (View.Piece (Elt F) S64x512 .f32)) (L6 : List (View.Piece (Elt F) S2304x512 .f32)) (L7 : List (View.Piece (Elt F) S2304x512 .bf16)) (L8 : List (View.Piece (Elt F) S4x1x64x512 .f32)), { LS : List (View.Piece (Elt F) S2304x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ (∃ d, owns (c : Thread nD τ) arg9 fullShare d) ∗ (∃ d, owns (c : Thread nD τ) arg10 fullShare d) ∗ owns (c : Thread nD τ) arg11 fullShare ys
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, (arg7.view.loc (c : Thread nD τ) ↦[arg7.view.set]{fullShare} arg7.view.writes (Elt F) f L5)) ∗ (arg8.view.loc (c : Thread nD τ) ↦[arg8.view.set]{fullShare} arg8.view.writes (Elt F) (harg8.unread y6) L6) ∗ (∃ f, (arg9.view.loc (c : Thread nD τ) ↦[arg9.view.set]{fullShare} arg9.view.writes (Elt F) f L7)) ∗ (∃ f, (arg10.view.loc (c : Thread nD τ) ↦[arg10.view.set]{fullShare} arg10.view.writes (Elt F) f L8)) ∗ (arg11.view.loc (c : Thread nD τ) ↦[arg11.view.set]{fullShare} arg11.view.writes (Elt F) (harg11.unread ys) LS)) -∗ K ⟨⟩))
          ⊢ wp frame (wpE (defs₀ (F := F)) Variants.none c none) E (cc0_na_bwd i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg11.eq_unread hf11
    sl_exec (disch := first | sl_exact hc1 | sl_exact hc2 | sl_exact hc3 | sl_exact hc4 | sl_exact hc5 | sl_exact hc6 | sl_exact hc7 | sl_exact hc8 | sl_exact hc9 | sl_exact hc10)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexact H8
    isplitl [H9]
    · iexists _; iexact H9
    isplitl [H10]
    · iexists _; iexact H10
    iexact H11

end Cert.NaFrame

end
-- ==== Proof.NaRunA.lean ====
module

public import proofs.«01_k».proof.Proof.NaOff
public import proofs.«01_k».proof.Proof.NaRunD

@[expose] public section

set_option maxRecDepth 16384

noncomputable section

namespace Cert.NaFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at the first row of a head group: both accumulators and the slab of the bias gradient start anew.
    The lists say which blocks each result's buffer is written with, the last first. -/
def runA (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : (Scalar.cmpi .ne (Scalar.extui (Scalar.cmpi .eq (BitVec.ofNat 32 (i 1).val) 0#32)) 0#32) = 1#1) (hc2 : k0_cond2 i = 1#1) (hc3 : ¬ (k0_cond3 i = 1#1)) (hc4 : k0_cond4 i = 1#1) (hc5 : ¬ (k0_cond5 i = 1#1)) (hc6 : k0_cond6 i = 1#1) (hc7 : ¬ (k0_cond7 i = 1#1)) (hc8 : k0_cond8 i = 1#1) (hc9 : ¬ (k0_cond9 i = 1#1)) (hc10 : ¬ (k0_cond10 i = 1#1))
    (x0 : Vec F S64x512 .bf16) (x1 : Vec F S2304x512 .bf16) (x2 : Vec F S2304x512 .f32) (x3 : Vec F S4x1x64x512 .f32) (x4 : Vec F S64x512 .bf16) :
    Σ' (L5 : List (View.Piece (Elt F) S64x512 .f32)) (L6 : List (View.Piece (Elt F) S2304x512 .f32)) (L8 : List (View.Piece (Elt F) S4x1x64x512 .f32)), { LS : List (View.Piece (Elt F) S2304x512 .f32) //
      ∀ (y7 : Vec F S2304x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare y7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, (arg7.view.loc (c : Thread nD τ) ↦[arg7.view.set]{fullShare} arg7.view.writes (Elt F) f L5)) ∗ (∃ f, (arg8.view.loc (c : Thread nD τ) ↦[arg8.view.set]{fullShare} arg8.view.writes (Elt F) f L6)) ∗ owns (c : Thread nD τ) arg9 fullShare y7 ∗ (∃ f, (arg10.view.loc (c : Thread nD τ) ↦[arg10.view.set]{fullShare} arg10.view.writes (Elt F) f L8)) ∗ (∃ f, (arg11.view.loc (c : Thread nD τ) ↦[arg11.view.set]{fullShare} arg11.view.writes (Elt F) f LS))) -∗ K ⟨⟩))
          ⊢ wp frame (wpE (defs₀ (F := F)) Variants.none c none) E (cc0_na_bwd i arg2 harg2 arg3 harg3 arg4 harg4 arg5 harg5 arg6 harg6 arg7 harg7 arg8 harg8 arg9 harg9 arg10 harg10 arg11 harg11) K } := by
  refine ⟨?_, ?_, ?_, ?_, fun y7 E K => ?run⟩
  case run =>
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5; obtain rfl := harg6.eq_unread hf6; obtain rfl := harg9.eq_unread hf9
    sl_exec (disch := first | sl_exact hc1 | sl_exact hc2 | sl_exact hc3 | sl_exact hc4 | sl_exact hc5 | sl_exact hc6 | sl_exact hc7 | sl_exact hc8 | sl_exact hc9 | sl_exact hc10)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; isplitr; · ipureintro; exact harg9.read_unread _
      iexact H9
    isplitl [H10]
    · iexists _; iexact H10
    iexists _; iexact H11

end Cert.NaFrame

end
-- ==== Proof.NaFrame.lean ====
module

public import Idealize.ShloMosaic.Lib.Claim
public import proofs.«01_k».proof.Proof.NaRunA

@[expose] public section

set_option maxRecDepth 16384

noncomputable section

namespace Cert.NaFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## Which case a point is in -/

/-- The branches the body takes at the first row of a head group. -/
abbrev isA (i : grid0.Coords) : Prop := (Scalar.cmpi .ne (Scalar.extui (Scalar.cmpi .eq (BitVec.ofNat 32 (i 1).val) 0#32)) 0#32) = 1#1 ∧ k0_cond2 i = 1#1 ∧ ¬ (k0_cond3 i = 1#1) ∧ k0_cond4 i = 1#1 ∧ ¬ (k0_cond5 i = 1#1) ∧ k0_cond6 i = 1#1 ∧ ¬ (k0_cond7 i = 1#1) ∧ k0_cond8 i = 1#1 ∧ ¬ (k0_cond9 i = 1#1) ∧ ¬ (k0_cond10 i = 1#1)
theorem isA_of : ∀ t : Fin cfg0.N, t.val % 32 = 0 → isA (grid0.coords t) :=
  (by decide +kernel : ∀ t : Fin grid0.N, t.val % 32 = 0 → isA (grid0.coords t))

/-- The branches the body takes at a row other than the first and the last whose window has a shift of its own. -/
abbrev isB (i : grid0.Coords) : Prop := ¬ ((Scalar.cmpi .ne (Scalar.extui (Scalar.cmpi .eq (BitVec.ofNat 32 (i 1).val) 0#32)) 0#32) = 1#1) ∧ k0_cond2 i = 1#1 ∧ ¬ (k0_cond3 i = 1#1) ∧ k0_cond4 i = 1#1 ∧ ¬ (k0_cond5 i = 1#1) ∧ k0_cond6 i = 1#1 ∧ ¬ (k0_cond7 i = 1#1) ∧ k0_cond8 i = 1#1 ∧ ¬ (k0_cond9 i = 1#1) ∧ ¬ (k0_cond10 i = 1#1)
theorem isB_of : ∀ t : Fin cfg0.N, t.val % 32 ≠ 0 ∧ ¬ (5 ≤ t.val % 32 ∧ t.val % 32 ≤ 28) ∧ t.val % 32 ≠ 31 → isB (grid0.coords t) :=
  (by decide +kernel : ∀ t : Fin grid0.N, t.val % 32 ≠ 0 ∧ ¬ (5 ≤ t.val % 32 ∧ t.val % 32 ≤ 28) ∧ t.val % 32 ≠ 31 → isB (grid0.coords t))

/-- The branches the body takes at an inner row. -/
abbrev isC (i : grid0.Coords) : Prop := ¬ ((Scalar.cmpi .ne (Scalar.extui (Scalar.cmpi .eq (BitVec.ofNat 32 (i 1).val) 0#32)) 0#32) = 1#1) ∧ ¬ (k0_cond2 i = 1#1) ∧ k0_cond3 i = 1#1 ∧ ¬ (k0_cond4 i = 1#1) ∧ k0_cond5 i = 1#1 ∧ ¬ (k0_cond6 i = 1#1) ∧ k0_cond7 i = 1#1 ∧ ¬ (k0_cond8 i = 1#1) ∧ k0_cond9 i = 1#1 ∧ ¬ (k0_cond10 i = 1#1)
theorem isC_of : ∀ t : Fin cfg0.N, 5 ≤ t.val % 32 ∧ t.val % 32 ≤ 28 → isC (grid0.coords t) :=
  (by decide +kernel : ∀ t : Fin grid0.N, 5 ≤ t.val % 32 ∧ t.val % 32 ≤ 28 → isC (grid0.coords t))

/-- The branches the body takes at the last row. -/
abbrev isD (i : grid0.Coords) : Prop := ¬ ((Scalar.cmpi .ne (Scalar.extui (Scalar.cmpi .eq (BitVec.ofNat 32 (i 1).val) 0#32)) 0#32) = 1#1) ∧ k0_cond2 i = 1#1 ∧ ¬ (k0_cond3 i = 1#1) ∧ k0_cond4 i = 1#1 ∧ ¬ (k0_cond5 i = 1#1) ∧ k0_cond6 i = 1#1 ∧ ¬ (k0_cond7 i = 1#1) ∧ k0_cond8 i = 1#1 ∧ ¬ (k0_cond9 i = 1#1) ∧ k0_cond10 i = 1#1
theorem isD_of : ∀ t : Fin cfg0.N, t.val % 32 = 31 → isD (grid0.coords t) :=
  (by decide +kernel : ∀ t : Fin grid0.N, t.val % 32 = 31 → isD (grid0.coords t))

/-! ## The body at a point, case by case -/

/-- The run of the body at point `t`, the first row of a head group, on the buffers the pipeline hands it. -/
abbrev atA (c : Dev nD) (t : Fin cfg0.N) (h : isA (grid0.coords t)) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _)
    h.1 h.2.1 h.2.2.1 h.2.2.2.1 h.2.2.2.2.1 h.2.2.2.2.2.1 h.2.2.2.2.2.2.1 h.2.2.2.2.2.2.2.1 h.2.2.2.2.2.2.2.2.1 h.2.2.2.2.2.2.2.2.2
    (iblk m c 0 t) (iblk m c 1 t) (iblk m c 2 t) (iblk m c 3 t) (iblk m c 4 t)

/-- The run of the body at point `t`, a row other than the first and the last whose window has a shift of its own, on the buffers the pipeline hands it. -/
abbrev atB (c : Dev nD) (t : Fin cfg0.N) (h : isB (grid0.coords t)) (y6 : Vec F S2304x512 .f32) (ys : Vec F S2304x512 .f32) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _)
    h.1 h.2.1 h.2.2.1 h.2.2.2.1 h.2.2.2.2.1 h.2.2.2.2.2.1 h.2.2.2.2.2.2.1 h.2.2.2.2.2.2.2.1 h.2.2.2.2.2.2.2.2.1 h.2.2.2.2.2.2.2.2.2
    (iblk m c 0 t) (iblk m c 1 t) (iblk m c 2 t) (iblk m c 3 t) (iblk m c 4 t) y6 ys

/-- The run of the body at point `t`, an inner row, on the buffers the pipeline hands it. -/
abbrev atC (c : Dev nD) (t : Fin cfg0.N) (h : isC (grid0.coords t)) (y6 : Vec F S2304x512 .f32) (y8 : Vec F S4x1x64x512 .f32) (ys : Vec F S2304x512 .f32) :=
  runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _)
    h.1 h.2.1 h.2.2.1 h.2.2.2.1 h.2.2.2.2.1 h.2.2.2.2.2.1 h.2.2.2.2.2.2.1 h.2.2.2.2.2.2.2.1 h.2.2.2.2.2.2.2.2.1 h.2.2.2.2.2.2.2.2.2
    (iblk m c 0 t) (iblk m c 1 t) (iblk m c 2 t) (iblk m c 3 t) (iblk m c 4 t) y6 y8 ys

/-- The run of the body at point `t`, the last row, on the buffers the pipeline hands it. -/
abbrev atD (c : Dev nD) (t : Fin cfg0.N) (h : isD (grid0.coords t)) (y6 : Vec F S2304x512 .f32) (ys : Vec F S2304x512 .f32) :=
  runD (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _)
    h.1 h.2.1 h.2.2.1 h.2.2.2.1 h.2.2.2.2.1 h.2.2.2.2.2.1 h.2.2.2.2.2.2.1 h.2.2.2.2.2.2.2.1 h.2.2.2.2.2.2.2.2.1 h.2.2.2.2.2.2.2.2.2
    (iblk m c 0 t) (iblk m c 1 t) (iblk m c 2 t) (iblk m c 3 t) (iblk m c 4 t) y6 ys

/-- What a point leaves: the block of the query gradient, the accumulated gradient of the keys, the gradient of the
    values, the slab of the bias gradient, and the accumulated gradient of the values. -/
abbrev Out (F : FTy → Type) [FloatOps F] := Vec F S64x512 .f32 × Vec F S2304x512 .f32 × Vec F S2304x512 .bf16 × Vec F S4x1x64x512 .f32 × Vec F S2304x512 .f32

/-- What the body leaves at the first row of a head group. -/
def stepA (c : Dev nD) (t : Fin cfg0.N) (h : isA (grid0.coords t)) : Out F :=
  (View.canon (atA m c t h ).1,
   View.canon (atA m c t h ).2.1,
   View.canon [],
   View.canon (atA m c t h ).2.2.1,
   View.canon (atA m c t h ).2.2.2.1)

/-- What the body leaves at a row other than the first and the last whose window has a shift of its own, given what the point before left. -/
def stepB (c : Dev nD) (t : Fin cfg0.N) (h : isB (grid0.coords t)) (y : Out F) : Out F :=
  (View.canon (atB m c t h y.2.1 y.2.2.2.2).1,
   (win0_6.stage (cfg0.slots t 6)).view.read (Elt F) ((win0_6.stage (cfg0.slots t 6)).view.writes (Elt F) ((hstage0_6 ((cfg0.slots t 6).cast nbuf0_6)).unread y.2.1) (atB m c t h y.2.1 y.2.2.2.2).2.1),
   View.canon [],
   View.canon (atB m c t h y.2.1 y.2.2.2.2).2.2.1,
   (Memref.whole cc0_scratch0).view.read (Elt F) ((Memref.whole cc0_scratch0).view.writes (Elt F) ((Memref.isWhole_whole cc0_scratch0).unread y.2.2.2.2) (atB m c t h y.2.1 y.2.2.2.2).2.2.2.1))

/-- What the body leaves at an inner row, given what the point before left. -/
def stepC (c : Dev nD) (t : Fin cfg0.N) (h : isC (grid0.coords t)) (y : Out F) : Out F :=
  (View.canon (atC m c t h y.2.1 y.2.2.2.1 y.2.2.2.2).1,
   (win0_6.stage (cfg0.slots t 6)).view.read (Elt F) ((win0_6.stage (cfg0.slots t 6)).view.writes (Elt F) ((hstage0_6 ((cfg0.slots t 6).cast nbuf0_6)).unread y.2.1) (atC m c t h y.2.1 y.2.2.2.1 y.2.2.2.2).2.1),
   View.canon [],
   View.canon (atC m c t h y.2.1 y.2.2.2.1 y.2.2.2.2).2.2.1,
   (Memref.whole cc0_scratch0).view.read (Elt F) ((Memref.whole cc0_scratch0).view.writes (Elt F) ((Memref.isWhole_whole cc0_scratch0).unread y.2.2.2.2) (atC m c t h y.2.1 y.2.2.2.1 y.2.2.2.2).2.2.2.1))

/-- What the body leaves at the last row, given what the point before left. -/
def stepD (c : Dev nD) (t : Fin cfg0.N) (h : isD (grid0.coords t)) (y : Out F) : Out F :=
  (View.canon (atD m c t h y.2.1 y.2.2.2.2).1,
   (win0_6.stage (cfg0.slots t 6)).view.read (Elt F) ((win0_6.stage (cfg0.slots t 6)).view.writes (Elt F) ((hstage0_6 ((cfg0.slots t 6).cast nbuf0_6)).unread y.2.1) (atD m c t h y.2.1 y.2.2.2.2).2.1),
   View.canon (atD m c t h y.2.1 y.2.2.2.2).2.2.1,
   View.canon (atD m c t h y.2.1 y.2.2.2.2).2.2.2.1,
   (Memref.whole cc0_scratch0).view.read (Elt F) ((Memref.whole cc0_scratch0).view.writes (Elt F) ((Memref.isWhole_whole cc0_scratch0).unread y.2.2.2.2) (atD m c t h y.2.1 y.2.2.2.2).2.2.2.2.1))

/-- What the body leaves at point `t`, given what the point before left. -/
def step (c : Dev nD) (t : Fin cfg0.N) (y : Out F) : Out F :=
  if h : t.val % 32 = 0 then stepA m c t (isA_of t h)
  else if h' : 5 ≤ t.val % 32 ∧ t.val % 32 ≤ 28 then stepC m c t (isC_of t h') y
  else if h'' : t.val % 32 = 31 then stepD m c t (isD_of t h'') y
  else stepB m c t (isB_of t ⟨h, h', h''⟩) y

/-- What every point leaves. -/
def outs (c : Dev nD) : (n : ℕ) → n < cfg0.N → Out F
  | 0, hn => step m c ⟨0, hn⟩ (View.canon [], View.canon [], View.canon [], View.canon [], View.canon [])
  | n + 1, hn => step m c ⟨n + 1, hn⟩ (outs c n (Nat.lt_of_succ_lt hn))

theorem outs_pos (c : Dev nD) (n : ℕ) (hn : n < cfg0.N) (hz : n ≠ 0) :
    outs m c n hn = step m c ⟨n, hn⟩ (outs m c (n - 1) (Nat.lt_of_le_of_lt (Nat.sub_le _ _) hn)) := by
  cases n with
  | zero => exact absurd rfl hz
  | succ n => rfl

theorem outs_A (c : Dev nD) (t : Fin cfg0.N) (h : t.val % 32 = 0) : outs m c t.val t.isLt = stepA m c t (isA_of t h) := by
  obtain ⟨n, hn⟩ := t
  cases n with
  | zero => unfold outs step; exact dif_pos h
  | succ n => unfold outs step; exact dif_pos h
theorem outs_C (c : Dev nD) (t : Fin cfg0.N) (h : 5 ≤ t.val % 32 ∧ t.val % 32 ≤ 28) :
    outs m c t.val t.isLt = stepC m c t (isC_of t h) (outs m c (t.val - 1) (Nat.lt_of_le_of_lt (Nat.sub_le _ _) t.isLt)) := by
  rw [outs_pos m c t.val t.isLt (by omega)]; unfold step
  rw [dif_neg (by dsimp only; omega), dif_pos h]
theorem outs_D (c : Dev nD) (t : Fin cfg0.N) (h : t.val % 32 = 31) :
    outs m c t.val t.isLt = stepD m c t (isD_of t h) (outs m c (t.val - 1) (Nat.lt_of_le_of_lt (Nat.sub_le _ _) t.isLt)) := by
  rw [outs_pos m c t.val t.isLt (by omega)]; unfold step
  rw [dif_neg (by dsimp only; omega), dif_neg (by dsimp only; omega), dif_pos h]
theorem outs_B (c : Dev nD) (t : Fin cfg0.N) (h : t.val % 32 ≠ 0 ∧ ¬ (5 ≤ t.val % 32 ∧ t.val % 32 ≤ 28) ∧ t.val % 32 ≠ 31) :
    outs m c t.val t.isLt = stepB m c t (isB_of t h) (outs m c (t.val - 1) (Nat.lt_of_le_of_lt (Nat.sub_le _ _) t.isLt)) := by
  rw [outs_pos m c t.val t.isLt (by omega)]; unfold step
  rw [dif_neg h.1, dif_neg h.2.1, dif_neg h.2.2]

/-! ## Which writes cover their buffer -/

theorem coverA5 (c : Dev nD) (t : Fin cfg0.N) (h : isA (grid0.coords t)) (x : S64x512.Idx) :
    ∃ p ∈ (atA m c t h ).1, x ∈ p.1.set :=
  View.cover_of_tiledL (atA m c t h ).1 ![64, 128] (by sl_kernel_rfl) x
theorem coverA8 (c : Dev nD) (t : Fin cfg0.N) (h : isA (grid0.coords t)) (x : S4x1x64x512.Idx) :
    ∃ p ∈ (atA m c t h ).2.2.1, x ∈ p.1.set :=
  View.cover_of_tiledL (atA m c t h ).2.2.1 ![1, 1, 64, 512] (by sl_kernel_rfl) x
theorem coverA6 (c : Dev nD) (t : Fin cfg0.N) (h : isA (grid0.coords t)) (x : S2304x512.Idx) :
    ∃ p ∈ (atA m c t h ).2.1, x ∈ p.1.set :=
  View.cover_of_wholeMem (atA m c t h ).2.1 (by sl_whole_mem) x
theorem coverA9 (c : Dev nD) (t : Fin cfg0.N) (h : isA (grid0.coords t)) (x : S2304x512.Idx) :
    ∃ p ∈ (atA m c t h ).2.2.2.1, x ∈ p.1.set :=
  View.cover_of_wholeMem (atA m c t h ).2.2.2.1 (by sl_whole_mem) x
theorem coverB5 (c : Dev nD) (t : Fin cfg0.N) (h : isB (grid0.coords t)) (y6 : Vec F S2304x512 .f32) (ys : Vec F S2304x512 .f32) (x : S64x512.Idx) :
    ∃ p ∈ (atB m c t h y6 ys).1, x ∈ p.1.set :=
  View.cover_of_tiledL (atB m c t h y6 ys).1 ![64, 128] (by sl_kernel_rfl) x
theorem coverB8 (c : Dev nD) (t : Fin cfg0.N) (h : isB (grid0.coords t)) (y6 : Vec F S2304x512 .f32) (ys : Vec F S2304x512 .f32) (x : S4x1x64x512.Idx) :
    ∃ p ∈ (atB m c t h y6 ys).2.2.1, x ∈ p.1.set :=
  View.cover_of_tiledL (atB m c t h y6 ys).2.2.1 ![1, 1, 64, 512] (by sl_kernel_rfl) x
theorem coverC5 (c : Dev nD) (t : Fin cfg0.N) (h : isC (grid0.coords t)) (y6 : Vec F S2304x512 .f32) (y8 : Vec F S4x1x64x512 .f32) (ys : Vec F S2304x512 .f32) (x : S64x512.Idx) :
    ∃ p ∈ (atC m c t h y6 y8 ys).1, x ∈ p.1.set :=
  View.cover_of_tiledL (atC m c t h y6 y8 ys).1 ![64, 128] (by sl_kernel_rfl) x
theorem coverC8 (c : Dev nD) (t : Fin cfg0.N) (h : isC (grid0.coords t)) (y6 : Vec F S2304x512 .f32) (y8 : Vec F S4x1x64x512 .f32) (ys : Vec F S2304x512 .f32) (x : S4x1x64x512.Idx) :
    ∃ p ∈ (atC m c t h y6 y8 ys).2.2.1, x ∈ p.1.set :=
  View.cover_of_tiledL (atC m c t h y6 y8 ys).2.2.1 ![1, 1, 64, 512] (by sl_kernel_rfl) x
theorem coverD5 (c : Dev nD) (t : Fin cfg0.N) (h : isD (grid0.coords t)) (y6 : Vec F S2304x512 .f32) (ys : Vec F S2304x512 .f32) (x : S64x512.Idx) :
    ∃ p ∈ (atD m c t h y6 ys).1, x ∈ p.1.set :=
  View.cover_of_tiledL (atD m c t h y6 ys).1 ![64, 128] (by sl_kernel_rfl) x
theorem coverD8 (c : Dev nD) (t : Fin cfg0.N) (h : isD (grid0.coords t)) (y6 : Vec F S2304x512 .f32) (ys : Vec F S2304x512 .f32) (x : S4x1x64x512.Idx) :
    ∃ p ∈ (atD m c t h y6 ys).2.2.2.1, x ∈ p.1.set :=
  View.cover_of_tiledL (atD m c t h y6 ys).2.2.2.1 ![1, 1, 64, 512] (by sl_kernel_rfl) x
theorem coverD7 (c : Dev nD) (t : Fin cfg0.N) (h : isD (grid0.coords t)) (y6 : Vec F S2304x512 .f32) (ys : Vec F S2304x512 .f32) (x : S2304x512.Idx) :
    ∃ p ∈ (atD m c t h y6 ys).2.2.1, x ∈ p.1.set :=
  View.cover_of_wholeMem (atD m c t h y6 ys).2.2.1 (by sl_whole_mem) x

/-! ## The pipeline's invariant and its proof data -/

/-- Before point `n`: the buffer that accumulates the gradient of the values holds what the point before left. -/
def Phi (c : Dev nD) : (n : ℕ) → n ≤ cfg0.N → sProp 𝕄
  | 0, _ => Pipeline.ΦA spec0 c
  | n + 1, hn => iprop(owns (c : Thread nD τ) (Memref.whole cc0_scratch0) fullShare (outs m c n hn).2.2.2.2 ∗ (∃ r, prngReg c r))

theorem Phi_pos (c : Dev nD) (n : ℕ) (h : n ≤ cfg0.N) (hz : n ≠ 0) :
    Phi m c n h = iprop(owns (c : Thread nD τ) (Memref.whole cc0_scratch0) fullShare (outs m c (n - 1) (by omega)).2.2.2.2 ∗ (∃ r, prngReg c r)) := by
  cases n with
  | zero => exact absurd rfl hz
  | succ n => rfl

theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The proof data: every array as launched, every input's block left in place, the results as `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t.val t.isLt).1
    | ⟨6, _⟩ => (outs m c t.val t.isLt).2.1
    | ⟨7, _⟩ => (outs m c t.val t.isLt).2.2.1
    | ⟨8, _⟩ => (outs m c t.val t.isLt).2.2.2.1
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outs m c t.val t.isLt).1 := by dsimp only [dats]
theorem after6 (c : Dev nD) (t : Fin cfg0.N) : (dats m 0 c).after 6 t = (outs m c t.val t.isLt).2.1 := by dsimp only [dats]
theorem after7 (c : Dev nD) (t : Fin cfg0.N) : (dats m 0 c).after 7 t = (outs m c t.val t.isLt).2.2.1 := by dsimp only [dats]
theorem after8 (c : Dev nD) (t : Fin cfg0.N) : (dats m 0 c).after 8 t = (outs m c t.val t.isLt).2.2.2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The slab of the bias gradient is written at every point. -/
theorem live8 : ∀ i : grid0.Coords, cfg0.idle 8 i = false := by decide +kernel
/-- It is not written back before an inner row. -/
theorem keep8 : ∀ t : Fin cfg0.N, 5 ≤ t.val % 32 ∧ t.val % 32 ≤ 28 →
    (cfg0.win 8).flush ⟨t.val - 1, Nat.lt_of_le_of_lt (Nat.sub_le _ _) t.isLt⟩ = false := by decide +kernel
theorem idle7 : ∀ t : Fin cfg0.N, t.val % 32 ≠ 31 → cfg0.idle 7 (grid0.coords t) = true := by decide +kernel
theorem live7 : ∀ t : Fin cfg0.N, t.val % 32 = 31 → cfg0.idle 7 (grid0.coords t) = false := by decide +kernel
theorem keep7 : ∀ t : Fin cfg0.N, t.val % 32 ≠ 31 → (cfg0.win 7).flush t = false := fun t h =>
  Bool.eq_false_iff.mpr fun hf => h ((flush0_7 t).mp hf)

/-- Past the first row the accumulator of the keys' gradient holds what the row before left. -/
theorem before6 (c : Dev nD) (t : Fin cfg0.N) (h : t.val % 32 ≠ 0) (d) :
    (dats m 0 c).before 6 t d = (outs m c (t.val - 1) (Nat.lt_of_le_of_lt (Nat.sub_le _ _) t.isLt)).2.1 := by
  rw [Dat.before_out_kept _ 6 rfl t (by omega) (Bool.eq_false_iff.mpr fun h => by have := (flush0_6 _).mp h; dsimp only at this; omega)
    (fun _ => rfl) (fun _ _ => rfl)]
  dsimp only [dats]
/-- At an inner row the slab of the bias gradient holds what the row before left. -/
theorem before8 (c : Dev nD) (t : Fin cfg0.N) (h : 5 ≤ t.val % 32 ∧ t.val % 32 ≤ 28) (d) :
    (dats m 0 c).before 8 t d = (outs m c (t.val - 1) (Nat.lt_of_le_of_lt (Nat.sub_le _ _) t.isLt)).2.2.2.1 := by
  rw [Dat.before_out_kept _ 8 rfl t (by omega) (keep8 t h) live8 (fun _ _ => rfl)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body's triple at the first row of a head group. -/
theorem bodyA (c : Dev nD) (t : Fin cfg0.N) (h : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(owns (c : Thread nD τ) (Memref.whole cc0_scratch0) fullShare (outs m c t.val t.isLt).2.2.2.2 ∗ (∃ r, prngReg c r)) from rfl]
  rw [show (dats m 0 c).leavesExact 0 t = owns (c : Thread nD τ) (win0_0.stage (cfg0.slots t 0)) fullShare ((dats m 0 c).after 0 t) from by
    unfold Dat.leavesExact; rw [(rfl : cfg0.idle 0 (grid0.coords t) = false)], after0]
  rw [show (dats m 0 c).leavesExact 1 t = owns (c : Thread nD τ) (win0_1.stage (cfg0.slots t 1)) fullShare ((dats m 0 c).after 1 t) from by
    unfold Dat.leavesExact; rw [(rfl : cfg0.idle 1 (grid0.coords t) = false)], after1]
  rw [show (dats m 0 c).leavesExact 2 t = owns (c : Thread nD τ) (win0_2.stage (cfg0.slots t 2)) fullShare ((dats m 0 c).after 2 t) from by
    unfold Dat.leavesExact; rw [(rfl : cfg0.idle 2 (grid0.coords t) = false)], after2]
  rw [show (dats m 0 c).leavesExact 3 t = owns (c : Thread nD τ) (win0_3.stage (cfg0.slots t 3)) fullShare ((dats m 0 c).after 3 t) from by
    unfold Dat.leavesExact; rw [(rfl : cfg0.idle 3 (grid0.coords t) = false)], after3]
  rw [show (dats m 0 c).leavesExact 4 t = owns (c : Thread nD τ) (win0_4.stage (cfg0.slots t 4)) fullShare ((dats m 0 c).after 4 t) from by
    unfold Dat.leavesExact; rw [(rfl : cfg0.idle 4 (grid0.coords t) = false)], after4]
  rw [show (dats m 0 c).leavesExact 5 t = owns (c : Thread nD τ) (win0_5.stage (cfg0.slots t 5)) fullShare ((dats m 0 c).after 5 t) from by
    unfold Dat.leavesExact; rw [(rfl : cfg0.idle 5 (grid0.coords t) = false)], after5]
  rw [show (dats m 0 c).leavesExact 6 t = owns (c : Thread nD τ) (win0_6.stage (cfg0.slots t 6)) fullShare ((dats m 0 c).after 6 t) from by
    unfold Dat.leavesExact; rw [(rfl : cfg0.idle 6 (grid0.coords t) = false)], after6]
  rw [Dat.leavesExact_idle (dats m 0 c) 7 t (idle7 t (by omega)) (keep7 t (by omega))]
  rw [show (dats m 0 c).leavesExact 8 t = owns (c : Thread nD τ) (win0_8.stage (cfg0.slots t 8)) fullShare ((dats m 0 c).after 8 t) from by
    unfold Dat.leavesExact; rw [live8 (grid0.coords t)], after8]
  rw [outs_A m c t h]
  rw [Phi_castSucc m c t]
  have hphi : Phi m c t.val (Nat.le_of_lt t.isLt) ⊢ iprop((∃ d, owns (c : Thread nD τ) (Memref.whole cc0_scratch0) fullShare d) ∗ (∃ r, prngReg c r)) := by
    by_cases hz : t.val = 0
    · rw [show Phi m c t.val (Nat.le_of_lt t.isLt) = Pipeline.ΦA spec0 c from by
        obtain ⟨n, hn⟩ := t; dsimp only at hz; subst hz; rfl, PhiA_eq]
      try exact Idealize.SL.BI.Entails.refl _
    · rw [Phi_pos m c _ _ hz]
      iintro ⟨HS, Hg⟩
      isplitl [HS]
      · iexists _; iexact HS
      iexact Hg
  refine (sep_mono_left hphi).trans ?_
  unfold stepA; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atA m c t (isA_of t h) ).2.2.2.2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexists _; iexact H8
  isplitl [HS]; · iexact HS
  iintro ⟨H0, H1, H2, H3, H4, ⟨%e5, H5⟩, ⟨%e6, H6⟩, H7, ⟨%e8, H8⟩, ⟨%eS, HS⟩⟩
  isplitl [HS Hg]
  · isplitl [HS]
    · unfold owns; iexists _; isplitr
      swap; · iexact HS
      ipureintro; exact View.read_writes_eq_canon _ _ _ (coverA9 m c t (isA_of t h) )
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (coverA5 m c t (isA_of t h) )
  isplitl [H6]
  · unfold owns; iexists _; isplitr
    swap; · iexact H6
    ipureintro; exact View.read_writes_eq_canon _ _ _ (coverA6 m c t (isA_of t h) )
  isplitl [H7]
  · iexists _; iexact H7
  unfold owns; iexists _; isplitr
  swap; · iexact H8
  ipureintro; exact View.read_writes_eq_canon _ _ _ (coverA8 m c t (isA_of t h) )

set_option maxHeartbeats 4000000 in
/-- The body's triple at a row other than the first and the last whose window has a shift of its own. -/
theorem bodyB (c : Dev nD) (t : Fin cfg0.N) (h : t.val % 32 ≠ 0 ∧ ¬ (5 ≤ t.val % 32 ∧ t.val % 32 ≤ 28) ∧ t.val % 32 ≠ 31) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(owns (c : Thread nD τ) (Memref.whole cc0_scratch0) fullShare (outs m c t.val t.isLt).2.2.2.2 ∗ (∃ r, prngReg c r)) from rfl]
  rw [show (dats m 0 c).leavesExact 0 t = owns (c : Thread nD τ) (win0_0.stage (cfg0.slots t 0)) fullShare ((dats m 0 c).after 0 t) from by
    unfold Dat.leavesExact; rw [(rfl : cfg0.idle 0 (grid0.coords t) = false)], after0]
  rw [show (dats m 0 c).leavesExact 1 t = owns (c : Thread nD τ) (win0_1.stage (cfg0.slots t 1)) fullShare ((dats m 0 c).after 1 t) from by
    unfold Dat.leavesExact; rw [(rfl : cfg0.idle 1 (grid0.coords t) = false)], after1]
  rw [show (dats m 0 c).leavesExact 2 t = owns (c : Thread nD τ) (win0_2.stage (cfg0.slots t 2)) fullShare ((dats m 0 c).after 2 t) from by
    unfold Dat.leavesExact; rw [(rfl : cfg0.idle 2 (grid0.coords t) = false)], after2]
  rw [show (dats m 0 c).leavesExact 3 t = owns (c : Thread nD τ) (win0_3.stage (cfg0.slots t 3)) fullShare ((dats m 0 c).after 3 t) from by
    unfold Dat.leavesExact; rw [(rfl : cfg0.idle 3 (grid0.coords t) = false)], after3]
  rw [show (dats m 0 c).leavesExact 4 t = owns (c : Thread nD τ) (win0_4.stage (cfg0.slots t 4)) fullShare ((dats m 0 c).after 4 t) from by
    unfold Dat.leavesExact; rw [(rfl : cfg0.idle 4 (grid0.coords t) = false)], after4]
  rw [show (dats m 0 c).leavesExact 5 t = owns (c : Thread nD τ) (win0_5.stage (cfg0.slots t 5)) fullShare ((dats m 0 c).after 5 t) from by
    unfold Dat.leavesExact; rw [(rfl : cfg0.idle 5 (grid0.coords t) = false)], after5]
  rw [show (dats m 0 c).leavesExact 6 t = owns (c : Thread nD τ) (win0_6.stage (cfg0.slots t 6)) fullShare ((dats m 0 c).after 6 t) from by
    unfold Dat.leavesExact; rw [(rfl : cfg0.idle 6 (grid0.coords t) = false)], after6]
  rw [Dat.leavesExact_idle (dats m 0 c) 7 t (idle7 t (by omega)) (keep7 t (by omega))]
  rw [show (dats m 0 c).leavesExact 8 t = owns (c : Thread nD τ) (win0_8.stage (cfg0.slots t 8)) fullShare ((dats m 0 c).after 8 t) from by
    unfold Dat.leavesExact; rw [live8 (grid0.coords t)], after8]
  rw [outs_B m c t h]
  rw [Phi_castSucc m c t]
  rw [Phi_pos m c _ _ (by omega)]
  simp only [before6 m c t (by omega)]
  unfold stepB; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atB m c t (isB_of t h) (outs m c (t.val - 1) (Nat.lt_of_le_of_lt (Nat.sub_le _ _) t.isLt)).2.1 (outs m c (t.val - 1) (Nat.lt_of_le_of_lt (Nat.sub_le _ _) t.isLt)).2.2.2.2).2.2.2.2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  isplitl [HS]; · iexact HS
  iintro ⟨H0, H1, H2, H3, H4, ⟨%e5, H5⟩, H6, H7, ⟨%e8, H8⟩, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (coverB5 m c t (isB_of t h) _ _)
  isplitl [H6]
  · unfold owns; iexists _; isplitr
    swap; · iexact H6
    ipureintro; rfl
  isplitl [H7]
  · iexists _; iexact H7
  unfold owns; iexists _; isplitr
  swap; · iexact H8
  ipureintro; exact View.read_writes_eq_canon _ _ _ (coverB8 m c t (isB_of t h) _ _)

set_option maxHeartbeats 4000000 in
/-- The body's triple at an inner row. -/
theorem bodyC (c : Dev nD) (t : Fin cfg0.N) (h : 5 ≤ t.val % 32 ∧ t.val % 32 ≤ 28) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(owns (c : Thread nD τ) (Memref.whole cc0_scratch0) fullShare (outs m c t.val t.isLt).2.2.2.2 ∗ (∃ r, prngReg c r)) from rfl]
  rw [show (dats m 0 c).leavesExact 0 t = owns (c : Thread nD τ) (win0_0.stage (cfg0.slots t 0)) fullShare ((dats m 0 c).after 0 t) from by
    unfold Dat.leavesExact; rw [(rfl : cfg0.idle 0 (grid0.coords t) = false)], after0]
  rw [show (dats m 0 c).leavesExact 1 t = owns (c : Thread nD τ) (win0_1.stage (cfg0.slots t 1)) fullShare ((dats m 0 c).after 1 t) from by
    unfold Dat.leavesExact; rw [(rfl : cfg0.idle 1 (grid0.coords t) = false)], after1]
  rw [show (dats m 0 c).leavesExact 2 t = owns (c : Thread nD τ) (win0_2.stage (cfg0.slots t 2)) fullShare ((dats m 0 c).after 2 t) from by
    unfold Dat.leavesExact; rw [(rfl : cfg0.idle 2 (grid0.coords t) = false)], after2]
  rw [show (dats m 0 c).leavesExact 3 t = owns (c : Thread nD τ) (win0_3.stage (cfg0.slots t 3)) fullShare ((dats m 0 c).after 3 t) from by
    unfold Dat.leavesExact; rw [(rfl : cfg0.idle 3 (grid0.coords t) = false)], after3]
  rw [show (dats m 0 c).leavesExact 4 t = owns (c : Thread nD τ) (win0_4.stage (cfg0.slots t 4)) fullShare ((dats m 0 c).after 4 t) from by
    unfold Dat.leavesExact; rw [(rfl : cfg0.idle 4 (grid0.coords t) = false)], after4]
  rw [show (dats m 0 c).leavesExact 5 t = owns (c : Thread nD τ) (win0_5.stage (cfg0.slots t 5)) fullShare ((dats m 0 c).after 5 t) from by
    unfold Dat.leavesExact; rw [(rfl : cfg0.idle 5 (grid0.coords t) = false)], after5]
  rw [show (dats m 0 c).leavesExact 6 t = owns (c : Thread nD τ) (win0_6.stage (cfg0.slots t 6)) fullShare ((dats m 0 c).after 6 t) from by
    unfold Dat.leavesExact; rw [(rfl : cfg0.idle 6 (grid0.coords t) = false)], after6]
  rw [Dat.leavesExact_idle (dats m 0 c) 7 t (idle7 t (by omega)) (keep7 t (by omega))]
  rw [show (dats m 0 c).leavesExact 8 t = owns (c : Thread nD τ) (win0_8.stage (cfg0.slots t 8)) fullShare ((dats m 0 c).after 8 t) from by
    unfold Dat.leavesExact; rw [live8 (grid0.coords t)], after8]
  rw [outs_C m c t h]
  rw [Phi_castSucc m c t]
  rw [Phi_pos m c _ _ (by omega)]
  simp only [before6 m c t (by omega), before8 m c t h]
  unfold stepC; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atC m c t (isC_of t h) (outs m c (t.val - 1) (Nat.lt_of_le_of_lt (Nat.sub_le _ _) t.isLt)).2.1 (outs m c (t.val - 1) (Nat.lt_of_le_of_lt (Nat.sub_le _ _) t.isLt)).2.2.2.1 (outs m c (t.val - 1) (Nat.lt_of_le_of_lt (Nat.sub_le _ _) t.isLt)).2.2.2.2).2.2.2.2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [HS]; · iexact HS
  iintro ⟨H0, H1, H2, H3, H4, ⟨%e5, H5⟩, H6, H7, H8, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (coverC5 m c t (isC_of t h) _ _ _)
  isplitl [H6]
  · unfold owns; iexists _; isplitr
    swap; · iexact H6
    ipureintro; rfl
  isplitl [H7]
  · iexists _; iexact H7
  unfold owns; iexists _; isplitr
  swap; · iexact H8
  ipureintro; exact View.read_writes_eq_canon _ _ _ (coverC8 m c t (isC_of t h) _ _ _)

set_option maxHeartbeats 4000000 in
/-- The body's triple at the last row. -/
theorem bodyD (c : Dev nD) (t : Fin cfg0.N) (h : t.val % 32 = 31) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(owns (c : Thread nD τ) (Memref.whole cc0_scratch0) fullShare (outs m c t.val t.isLt).2.2.2.2 ∗ (∃ r, prngReg c r)) from rfl]
  rw [show (dats m 0 c).leavesExact 0 t = owns (c : Thread nD τ) (win0_0.stage (cfg0.slots t 0)) fullShare ((dats m 0 c).after 0 t) from by
    unfold Dat.leavesExact; rw [(rfl : cfg0.idle 0 (grid0.coords t) = false)], after0]
  rw [show (dats m 0 c).leavesExact 1 t = owns (c : Thread nD τ) (win0_1.stage (cfg0.slots t 1)) fullShare ((dats m 0 c).after 1 t) from by
    unfold Dat.leavesExact; rw [(rfl : cfg0.idle 1 (grid0.coords t) = false)], after1]
  rw [show (dats m 0 c).leavesExact 2 t = owns (c : Thread nD τ) (win0_2.stage (cfg0.slots t 2)) fullShare ((dats m 0 c).after 2 t) from by
    unfold Dat.leavesExact; rw [(rfl : cfg0.idle 2 (grid0.coords t) = false)], after2]
  rw [show (dats m 0 c).leavesExact 3 t = owns (c : Thread nD τ) (win0_3.stage (cfg0.slots t 3)) fullShare ((dats m 0 c).after 3 t) from by
    unfold Dat.leavesExact; rw [(rfl : cfg0.idle 3 (grid0.coords t) = false)], after3]
  rw [show (dats m 0 c).leavesExact 4 t = owns (c : Thread nD τ) (win0_4.stage (cfg0.slots t 4)) fullShare ((dats m 0 c).after 4 t) from by
    unfold Dat.leavesExact; rw [(rfl : cfg0.idle 4 (grid0.coords t) = false)], after4]
  rw [show (dats m 0 c).leavesExact 5 t = owns (c : Thread nD τ) (win0_5.stage (cfg0.slots t 5)) fullShare ((dats m 0 c).after 5 t) from by
    unfold Dat.leavesExact; rw [(rfl : cfg0.idle 5 (grid0.coords t) = false)], after5]
  rw [show (dats m 0 c).leavesExact 6 t = owns (c : Thread nD τ) (win0_6.stage (cfg0.slots t 6)) fullShare ((dats m 0 c).after 6 t) from by
    unfold Dat.leavesExact; rw [(rfl : cfg0.idle 6 (grid0.coords t) = false)], after6]
  rw [show (dats m 0 c).leavesExact 7 t = owns (c : Thread nD τ) (win0_7.stage (cfg0.slots t 7)) fullShare ((dats m 0 c).after 7 t) from by
    unfold Dat.leavesExact; rw [live7 t h], after7]
  rw [show (dats m 0 c).leavesExact 8 t = owns (c : Thread nD τ) (win0_8.stage (cfg0.slots t 8)) fullShare ((dats m 0 c).after 8 t) from by
    unfold Dat.leavesExact; rw [live8 (grid0.coords t)], after8]
  rw [outs_D m c t h]
  rw [Phi_castSucc m c t]
  rw [Phi_pos m c _ _ (by omega)]
  simp only [before6 m c t (by omega)]
  unfold stepD; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atD m c t (isD_of t h) (outs m c (t.val - 1) (Nat.lt_of_le_of_lt (Nat.sub_le _ _) t.isLt)).2.1 (outs m c (t.val - 1) (Nat.lt_of_le_of_lt (Nat.sub_le _ _) t.isLt)).2.2.2.2).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [HS]; · iexact HS
  iintro ⟨H0, H1, H2, H3, H4, ⟨%e5, H5⟩, H6, ⟨%e7, H7⟩, ⟨%e8, H8⟩, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (coverD5 m c t (isD_of t h) _ _)
  isplitl [H6]
  · unfold owns; iexists _; isplitr
    swap; · iexact H6
    ipureintro; rfl
  isplitl [H7]
  · unfold owns; iexists _; isplitr
    swap; · iexact H7
    ipureintro; exact View.read_writes_eq_canon _ _ _ (coverD7 m c t (isD_of t h) _ _)
  unfold owns; iexists _; isplitr
  swap; · iexact H8
  ipureintro; exact View.read_writes_eq_canon _ _ _ (coverD8 m c t (isD_of t h) _ _)

/-- The body's triple at any point. -/
theorem sound_body (c : Dev nD) (t : Fin cfg0.N) :
    bodyPre m c t ⊢ wp frame (wpE (defs₀ (F := F)) Variants.none c none) Set.univ (bodyAt0 t) (fun _ => bodyPost m c t) := by
  by_cases hA : t.val % 32 = 0
  · exact bodyA m c t hA
  by_cases hC : 5 ≤ t.val % 32 ∧ t.val % 32 ≤ 28
  · exact bodyC m c t hC
  by_cases hD : t.val % 32 = 31
  · exact bodyD m c t hD
  exact bodyB m c t ⟨hA, hC, hD⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- The whole program runs, ends with every counter at zero, and leaves every array at what the proof data says. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.NaFrame

end
-- ==== Proof.NaBits.lean ====
module

public import proofs.«01_k».proof.Defs
public import proofs.«01_k».proof.Proof.Gen.Kernel
public import proofs.«01_k».proof.Proof.NaFrame

/-! The frame of the attention's gradient in machine words, from the run proved at every carrier of the floats: the two
    programs have the same text, so their body tables are equal. -/

@[expose] public section

set_option maxRecDepth 16384

noncomputable section

namespace Cert.NaFrame

open Idealize.ShloMosaic

theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) defs₀_eq

theorem frame_kernel : Cert.quiescent_Kernel := fun m ρ _ => by
  rw [defs_eq]
  exact frame (F := Bits) m ρ

end Cert.NaFrame
end
-- ==== Proof.Products.lean ====
module

public import Idealize.ShloMosaic.Lib.Pipeline.Value
public import Idealize.ShloMosaic.Lib.Pointwise

/-! What the proofs about the large matrix products share. -/

@[expose] public section

namespace Cert.Products

theorem zeros2 : (![0, 0] : Fin 2 → Nat) = fun _ => 0 := funext fun a => by fin_cases a <;> rfl

theorem zeros3 : (![0, 0, 0] : Fin 3 → Nat) = fun _ => 0 := funext fun a => by fin_cases a <;> rfl

/-- Over the extended reals a sum over all tokens is the sum over the context and the sum over the latent ones. -/
theorem sum_tokens (f : Fin 2304 → EReal) :
    (∑ k : Fin 256, f ⟨k.val, by omega⟩) + ∑ k : Fin 2048, f ⟨256 + k.val, by omega⟩ = ∑ k, f k :=
  (Fin.sum_univ_add (a := 256) (b := 2048) f).symm

/-- A sum over consecutive blocks of indices is the sum over the indices. -/
theorem sum_blocks {M : Type} [AddCommMonoid M] (a b : ℕ) (f : Fin (a * b) → M) :
    ∑ i : Fin a, ∑ j : Fin b, f ⟨b * i.val + j.val, (by
      have := i.isLt; have := j.isLt
      calc b * i.val + j.val < b * i.val + b := by omega
        _ = b * (i.val + 1) := by ring
        _ ≤ b * a := Nat.mul_le_mul_left b (by omega)
        _ = a * b := Nat.mul_comm b a)⟩ = ∑ k, f k := by
  rw [← Fintype.sum_prod_type', ← finProdFinEquiv.sum_comp]
  exact Finset.sum_congr rfl fun p _ => congrArg f (Fin.ext (Nat.add_comm _ _))

end Cert.Products
end
-- ==== Proof.WinValue.lean ====
module

public import proofs.«01_k».proof.Defs
public import proofs.«01_k».proof.Proof.Gen.WinKernel
public import proofs.«01_k».proof.Proof.Gen.WinKernel.Frame
public import proofs.«01_k».proof.Proof.Gen.WinKernelIdeal
public import proofs.«01_k».proof.Proof.Gen.WinKernelIdeal.Value
public import proofs.«01_k».proof.Proof.Gen.WinReferenceIdeal
public import proofs.«01_k».proof.Proof.Gen.WinReferenceIdeal.Run
public import proofs.«01_k».proof.Proof.Products

/-! The gradient of the input projection's weights. Block `h` of the eight holds 1536 columns of the weights; a point of the
    grid computes 1024 rows and half of the columns of one block, over all tokens at once. -/

@[expose] public section

set_option maxRecDepth 16384

noncomputable section

namespace Cert.WinValue

open Idealize.ShloMosaic Idealize.ShloMosaic.TcCoe Idealize.SL.Sem Cert.Products

section Kernel
open Cert.WinKernelIdeal Cert.WinKernelIdeal.Gen

theorem pay_at (x0 : Vec Ideal S2304x1024 .bf16) (x1 : Vec Ideal S2304x768 .bf16) (a : Fin 1024) (b : Fin 768) :
    k0_pay1 x0 x1 (ix3 0 a b) = (∑ k : Fin 2304, x0 (ix2 k a) * x1 (ix2 k b) : EReal) := by
  unfold k0_pay1
  pointwise

theorem index_facts : ∀ t : Fin cfg0.N, (win0_0.index t (0 : Fin 2) = 0 ∧ win0_0.index t (1 : Fin 2) = t.val / 16)
    ∧ (win0_1.index t (0 : Fin 2) = 0 ∧ win0_1.index t (1 : Fin 2) = t.val % 16)
    ∧ (win0_2.index t (0 : Fin 3) = t.val % 16 / 2 ∧ win0_2.index t (1 : Fin 3) = t.val / 16 ∧ win0_2.index t (2 : Fin 3) = t.val % 2) :=
  (by decide +kernel : ∀ t : Fin grid0.N, _)

variable (m : (ℓ : Loc nD τ sig) → Buf (Elt Ideal) ℓ) (c : Dev nD)

abbrev X : FVec Ideal S2304x2048 .bf16 := m ((c : Thread nD τ).loc main_arg0)
abbrev Y : FVec Ideal S2304x12288 .bf16 := m ((c : Thread nD τ).loc main_arg1)

variable (h : Fin 8) (r : Fin 2048) (q : Fin 1536)

/-- The point that computes an element. -/
def pt : Fin cfg0.N := ⟨16 * (r.val / 1024) + (2 * h.val + q.val / 768), by rw [show cfg0.N = 32 from N_0]; omega⟩

theorem final : (dats m 0 c).arrAt 2 cfg0.N (ix3 h r q)
    = (∑ k : Fin 2304, X m c (ix2 k r) * Y m c (ix2 k (⟨h.val * 1536 + q.val, by omega⟩ : Fin 12288)) : EReal) := by
  obtain ⟨⟨i0, i1⟩, ⟨i2, i3⟩, i4, i5, i6⟩ := index_facts (pt h r q)
  have d16 : (pt h r q).val / 16 = r.val / 1024 := by unfold pt; dsimp only; omega
  have m16 : (pt h r q).val % 16 = 2 * h.val + q.val / 768 := by unfold pt; dsimp only; omega
  have m2 : (pt h r q).val % 2 = q.val / 768 := by unfold pt; dsimp only; omega
  rw [d16] at i1 i5; rw [m16] at i3 i4; rw [m2] at i6
  let a : Fin 1024 := ⟨r.val % 1024, by omega⟩
  let b : Fin 768 := ⟨q.val % 768, by omega⟩
  have e2 : ((cfg0.win 2).blk (pt h r q)).view.emb (ix3 0 a b) = ix3 h r q := by
    funext x; apply Fin.ext
    match x with
    | ⟨0, _⟩ => show win0_2.index (pt h r q) (0 : Fin 3) * 1 + 1 * 0 = h.val; omega
    | ⟨1, _⟩ => show win0_2.index (pt h r q) (1 : Fin 3) * 1024 + 1 * (r.val % 1024) = r.val; omega
    | ⟨2, _⟩ => show win0_2.index (pt h r q) (2 : Fin 3) * 768 + 1 * (q.val % 768) = q.val; omega
  have e0 : ∀ k, iblk m c 0 (pt h r q) (ix2 k a) = X m c (ix2 k r) := fun k => by
    show V m c main_arg0 (((cfg0.win 0).blk (pt h r q)).view.emb (ix2 k a)) = _
    rw [V_main_arg0]
    congr 1
    funext x; apply Fin.ext
    match x with
    | ⟨0, _⟩ => show win0_0.index (pt h r q) (0 : Fin 2) * 2304 + 1 * k.val = k.val; omega
    | ⟨1, _⟩ => show win0_0.index (pt h r q) (1 : Fin 2) * 1024 + 1 * (r.val % 1024) = r.val; omega
  have e1 : ∀ k, iblk m c 1 (pt h r q) (ix2 k b) = Y m c (ix2 k (⟨h.val * 1536 + q.val, by omega⟩ : Fin 12288)) := fun k => by
    show V m c main_arg1 (((cfg0.win 1).blk (pt h r q)).view.emb (ix2 k b)) = _
    rw [V_main_arg1]
    congr 1
    funext x; apply Fin.ext
    match x with
    | ⟨0, _⟩ => show win0_1.index (pt h r q) (0 : Fin 2) * 2304 + 1 * k.val = k.val; omega
    | ⟨1, _⟩ => show win0_1.index (pt h r q) (1 : Fin 2) * 768 + 1 * (q.val % 768) = h.val * 1536 + q.val; omega
  have w := congrFun (Cert.WinKernelIdeal.Value.blocks2 m c (pt h r q) (flush0_2 _)) (ix3 0 a b)
  rw [Cert.WinKernelIdeal.Value.flushed2] at w
  have w' : (dats m 0 c).arrAt 2 cfg0.N (((cfg0.win 2).blk (pt h r q)).view.emb (ix3 0 a b)) = out0_2 (F := Ideal) (iblk m c 0 (pt h r q)) (iblk m c 1 (pt h r q)) (ix3 0 a b) := w
  rw [e2] at w'
  unfold out0_2 r0_0 r0_1 r0_2 at w'
  rw [View.canon_unit_zero zeros3, View.ld_unit_zero (S := S2304x1024) zeros2, View.ld_unit_zero (S := S2304x768) zeros2, pay_at] at w'
  simp only [e0, e1] at w'
  exact w'

end Kernel

section Reference
open Cert.WinReferenceIdeal Cert.WinReferenceIdeal.Gen

/-- What the reference computes. -/
def ref (x : FVec Ideal S2304x2048 .bf16) (y : FVec Ideal S2304x12288 .bf16) : FVec Ideal S8x2048x1536 .bf16 :=
  truncf .bf16 (transpose S8x2048x1536 [1, 0, 2] (shapeCast _ (addf
      (transpose S2048x12288 [1, 0] (Host.dotGeneral dot_S256x12288_S256x2048_S12288x2048_0_0_1_1_n_n none
        (extf .f32 (extractStridedSlice S256x12288 ![0, 0] y slices_S2304x12288_S256x12288_0_0) bitsLt_bf16_f32)
        (extf .f32 (extractStridedSlice S256x2048 ![0, 0] x slices_S2304x2048_S256x2048_0_0) bitsLt_bf16_f32)) transposes_S12288x2048_S2048x12288_1_0)
      (transpose S2048x12288 [1, 0] (Host.dotGeneral dot_S2048x12288_S2048x2048_S12288x2048_0_0_1_1_n_n none
        (extf .f32 (extractStridedSlice S2048x12288 ![256, 0] y slices_S2304x12288_S2048x12288_256_0) bitsLt_bf16_f32)
        (extf .f32 (extractStridedSlice S2048x2048 ![256, 0] x slices_S2304x2048_S2048x2048_256_0) bitsLt_bf16_f32)) transposes_S12288x2048_S2048x12288_1_0))
    shapeCasts_S2048x12288_S2048x8x1536) transposes_S2048x8x1536_S8x2048x1536_1_0_2) bitsLt_bf16_f32

theorem ref_at (x : FVec Ideal S2304x2048 .bf16) (y : FVec Ideal S2304x12288 .bf16) (h : Fin 8) (r : Fin 2048) (q : Fin 1536) :
    ref x y (ix3 h r q) = (∑ k : Fin 2304, x (ix2 k r) * y (ix2 k (⟨h.val * 1536 + q.val, by omega⟩ : Fin 12288)) : EReal) := by
  rw [← sum_tokens]
  unfold ref
  pointwise
  congr 1
  · exact Finset.sum_congr rfl fun k _ => mul_comm _ _
  · exact Finset.sum_congr rfl fun k _ => mul_comm _ _

end Reference

theorem algebraic : Cert.algebraic_WinKernelIdeal_WinReferenceIdeal := by
  intro m g m' g' _ hargs
  refine ⟨fun c => (Cert.WinKernelIdeal.Gen.dats m 0 c).arrAt 2 Cert.WinKernelIdeal.cfg0.N, Cert.WinKernelIdeal.Value.run_blocks m g,
    (θ_run Cert.WinReferenceIdeal.defs _ _).mono (fun r h c => ?_) (Cert.WinReferenceIdeal.Value.run m' g')⟩
  obtain ⟨h0, hk⟩ := h c
  obtain ⟨a0, a1⟩ := hargs c
  rw [a0, a1] at h0
  refine ⟨h0.trans ?_, hk⟩
  funext i
  obtain ⟨u, r, q, rfl⟩ : ∃ (u : Fin 8) (r : Fin 2048) (q : Fin 1536), i = ix3 u r q := ⟨i 0, i 1, i 2, eq_ix3 i⟩
  exact (ref_at (X m c) (Y m c) u r q).trans (final m c u r q).symm

end Cert.WinValue
end
-- ==== Proof.ActValue.lean ====
module

public import proofs.«01_k».proof.Defs
public import proofs.«01_k».proof.Proof.Gen.ActKernel
public import proofs.«01_k».proof.Proof.Gen.ActKernel.Frame
public import proofs.«01_k».proof.Proof.Gen.ActKernelIdeal
public import proofs.«01_k».proof.Proof.Gen.ActKernelIdeal.Value
public import proofs.«01_k».proof.Proof.Gen.ActReferenceIdeal
public import proofs.«01_k».proof.Proof.Gen.ActReferenceIdeal.Run
public import proofs.«01_k».proof.Proof.Products

/-! The gradient of the FFN's activation: its down-projection, backward. A point of the grid computes 1024 rows and 1024 columns of
    the result at once, over the whole width. -/

@[expose] public section

set_option maxRecDepth 16384

noncomputable section

namespace Cert.ActValue

open Idealize.ShloMosaic Idealize.ShloMosaic.TcCoe Idealize.SL.Sem Cert.Products

section Kernel
open Cert.ActKernelIdeal Cert.ActKernelIdeal.Gen

section Stored
variable (c : Dev nD) (i : grid0.Coords) (arg3 : Memref sig .tc .vmem S1024x2048 .bf16) (harg3 : arg3.IsWhole)
    (arg4 : Memref sig .tc .vmem S1x1024x2048 .bf16) (harg4 : arg4.IsWhole) (arg5 : Memref sig .tc .vmem S1024x1024 .bf16) (harg5 : arg5.IsWhole)
    (arg6 : Memref sig .tc .vmem S1024x1024 .f32) (harg6 : arg6.IsWhole)
    (x0 : Vec Ideal S1024x2048 .bf16) (x1 : Vec Ideal S1x1024x2048 .bf16)

/-- The one point of an element stores the product in the accumulator and writes it out. -/
theorem stored_eq (h0 : cond0_0 i) (h1 : ¬cond0_1 i) (h2 : cond0_2 i) :
    out0_A_2 c i arg3 harg3 arg4 harg4 arg5 harg5 arg6 harg6 h0 h1 h2 x0 x1 = truncf .bf16 (k0_pay1 x0 x1) bitsLt_bf16_f32 := by
  unfold out0_A_2
  rw [View.read_writes_eq_canon _ _ _ (cover0_A_2 c i arg3 harg3 arg4 harg4 arg5 harg5 arg6 harg6 h0 h1 h2 x0 x1)]
  unfold kernelRun0_A
  dsimp only
  sl_unfold_words
  simp only [View.readAt_eq_ld, harg3.read_unread, harg4.read_unread]
  rw [View.canon_unit_zero zeros2]
  simp only [View.ld_unit_zero (S := S1024x2048) zeros2, View.ld_unit_zero (S := S1x1024x2048) zeros3]
  rw [View.readCov_unit_zero _ zeros2]
  unfold k0_pay2
  exact congrArg k0_pay4 (shapeCast_self _ _)

end Stored

theorem pay_at (x0 : Vec Ideal S1024x2048 .bf16) (x1 : Vec Ideal S1x1024x2048 .bf16) (a : Fin 1024) (b : Fin 1024) :
    truncf .bf16 (k0_pay1 x0 x1) bitsLt_bf16_f32 (ix2 a b) = (∑ k : Fin 2048, x0 (ix2 a k) * x1 (ix3 0 b k) : EReal) := by
  unfold k0_pay1
  pointwise

theorem index_facts : ∀ t : Fin cfg0.N, (win0_0.index t (0 : Fin 2) = t.val / 6 ∧ win0_0.index t (1 : Fin 2) = 0)
    ∧ (win0_1.index t (0 : Fin 3) = 0 ∧ win0_1.index t (1 : Fin 3) = t.val % 6 ∧ win0_1.index t (2 : Fin 3) = 0)
    ∧ (win0_2.index t (0 : Fin 2) = t.val / 6 ∧ win0_2.index t (1 : Fin 2) = t.val % 6) :=
  (by decide +kernel : ∀ t : Fin grid0.N, _)

variable (m : (ℓ : Loc nD τ sig) → Buf (Elt Ideal) ℓ) (c : Dev nD)

abbrev Y : FVec Ideal S2048x2048 .bf16 := m ((c : Thread nD τ).loc main_arg0)
abbrev W : FVec Ideal S1x6144x2048 .bf16 := m ((c : Thread nD τ).loc main_arg1)

variable (r : Fin 2048) (n : Fin 6144)

/-- The point that computes an element. -/
def pt : Fin cfg0.N := ⟨6 * (r.val / 1024) + n.val / 1024, by rw [show cfg0.N = 12 from N_0]; omega⟩

theorem final : (dats m 0 c).arrAt 2 cfg0.N (ix2 r n)
    = (∑ k : Fin 2048, Y m c (ix2 r k) * W m c (ix3 0 n k) : EReal) := by
  obtain ⟨⟨i0, i1⟩, ⟨i2, i3, i4⟩, i5, i6⟩ := index_facts (pt r n)
  have d : (pt r n).val / 6 = r.val / 1024 := by unfold pt; dsimp only; omega
  have e : (pt r n).val % 6 = n.val / 1024 := by unfold pt; dsimp only; omega
  rw [d] at i0 i5; rw [e] at i3 i6
  let a : Fin 1024 := ⟨r.val % 1024, by omega⟩
  let b : Fin 1024 := ⟨n.val % 1024, by omega⟩
  have e2 : ((cfg0.win 2).blk (pt r n)).view.emb (ix2 a b) = ix2 r n := by
    funext x; apply Fin.ext
    match x with
    | ⟨0, _⟩ => show win0_2.index (pt r n) (0 : Fin 2) * 1024 + 1 * (r.val % 1024) = r.val; omega
    | ⟨1, _⟩ => show win0_2.index (pt r n) (1 : Fin 2) * 1024 + 1 * (n.val % 1024) = n.val; omega
  have e0 : ∀ k, iblk m c 0 (pt r n) (ix2 a k) = Y m c (ix2 r k) := fun k => by
    show V m c main_arg0 (((cfg0.win 0).blk (pt r n)).view.emb (ix2 a k)) = _
    rw [V_main_arg0]
    congr 1
    funext x; apply Fin.ext
    match x with
    | ⟨0, _⟩ => show win0_0.index (pt r n) (0 : Fin 2) * 1024 + 1 * (r.val % 1024) = r.val; omega
    | ⟨1, _⟩ => show win0_0.index (pt r n) (1 : Fin 2) * 2048 + 1 * k.val = k.val; omega
  have e1 : ∀ k, iblk m c 1 (pt r n) (ix3 0 b k) = W m c (ix3 0 n k) := fun k => by
    show V m c main_arg1 (((cfg0.win 1).blk (pt r n)).view.emb (ix3 0 b k)) = _
    rw [V_main_arg1]
    congr 1
    funext x; apply Fin.ext
    match x with
    | ⟨0, _⟩ => show win0_1.index (pt r n) (0 : Fin 3) * 1 + 1 * 0 = 0; omega
    | ⟨1, _⟩ => show win0_1.index (pt r n) (1 : Fin 3) * 1024 + 1 * (n.val % 1024) = n.val; omega
    | ⟨2, _⟩ => show win0_1.index (pt r n) (2 : Fin 3) * 2048 + 1 * k.val = k.val; omega
  have w := congrFun (Cert.ActKernelIdeal.Value.blocks2 m c (pt r n) (flush0_2 _)) (ix2 a b)
  rw [Cert.ActKernelIdeal.Value.flushed2_A, stored_eq] at w
  have w' : (dats m 0 c).arrAt 2 cfg0.N (((cfg0.win 2).blk (pt r n)).view.emb (ix2 a b))
      = truncf .bf16 (k0_pay1 (iblk m c 0 (pt r n)) (iblk m c 1 (pt r n))) bitsLt_bf16_f32 (ix2 a b) := w
  rw [e2, pay_at] at w'
  simp only [e0, e1] at w'
  exact w'

end Kernel

section Reference
open Cert.ActReferenceIdeal Cert.ActReferenceIdeal.Gen

/-- What the reference computes. -/
def ref (y : FVec Ideal S2048x2048 .bf16) (w : FVec Ideal S1x6144x2048 .bf16) : FVec Ideal S2048x6144 .bf16 :=
  truncf .bf16 (Host.dotGeneral dot_S2048x2048_S6144x2048_S2048x6144_1_1_0_0_n_n none (extf .f32 y bitsLt_bf16_f32)
    (shapeCast _ (extf .f32 w bitsLt_bf16_f32) shapeCasts_S1x6144x2048_S6144x2048)) bitsLt_bf16_f32

theorem ref_at (y : FVec Ideal S2048x2048 .bf16) (w : FVec Ideal S1x6144x2048 .bf16) (r : Fin 2048) (n : Fin 6144) :
    ref y w (ix2 r n) = (∑ k : Fin 2048, y (ix2 r k) * w (ix3 0 n k) : EReal) := by
  unfold ref
  pointwise

end Reference

theorem algebraic : Cert.algebraic_ActKernelIdeal_ActReferenceIdeal := by
  intro m g m' g' _ hargs
  refine ⟨fun c => (Cert.ActKernelIdeal.Gen.dats m 0 c).arrAt 2 Cert.ActKernelIdeal.cfg0.N, Cert.ActKernelIdeal.Value.run_blocks m g,
    (θ_run Cert.ActReferenceIdeal.defs _ _).mono (fun r h c => ?_) (Cert.ActReferenceIdeal.Value.run m' g')⟩
  obtain ⟨h0, hk⟩ := h c
  obtain ⟨a0, a1⟩ := hargs c
  rw [a0, a1] at h0
  refine ⟨h0.trans ?_, hk⟩
  funext i
  obtain ⟨r, n, rfl⟩ : ∃ (r : Fin 2048) (n : Fin 6144), i = ix2 r n := ⟨i 0, i 1, eq_ix2 i⟩
  exact (ref_at (Y m c) (W m c) r n).trans (final m c r n).symm

end Cert.ActValue
end
-- ==== Proof.HaValue.lean ====
module

public import proofs.«01_k».proof.Defs
public import proofs.«01_k».proof.Proof.Gen.HaKernel
public import proofs.«01_k».proof.Proof.Gen.HaKernel.Frame
public import proofs.«01_k».proof.Proof.Gen.HaKernelIdeal
public import proofs.«01_k».proof.Proof.Gen.HaKernelIdeal.Value
public import proofs.«01_k».proof.Proof.Gen.HaReferenceIdeal
public import proofs.«01_k».proof.Proof.Gen.HaReferenceIdeal.Run
public import proofs.«01_k».proof.Proof.Products

/-! What the first up-projection of the FFN gives to the gradient of its operand. A block of 1024 rows and 1024 columns of the result is accumulated over eight
    points of the grid, one for each block of the weights, and written out at the last. -/

@[expose] public section

set_option maxRecDepth 16384

noncomputable section

namespace Cert.HaValue

open Idealize.ShloMosaic Idealize.ShloMosaic.TcCoe Idealize.SL.Sem Cert.Products

section Kernel
open Cert.HaKernelIdeal Cert.HaKernelIdeal.Gen

/-! What a point stores: the product of its blocks, alone at the first point and added to the accumulator at the others. -/

section Stored
variable (c : Dev nD) (i : grid0.Coords) (arg3 : Memref sig .tc .vmem S1024x768 .bf16) (harg3 : arg3.IsWhole)
    (arg4 : Memref sig .tc .vmem S1x1024x768 .bf16) (harg4 : arg4.IsWhole) (arg5 : Memref sig .tc .vmem S1024x1024 .f32) (harg5 : arg5.IsWhole)
    (arg6 : Memref sig .tc .vmem S1024x1024 .f32) (harg6 : arg6.IsWhole)
    (x0 : Vec Ideal S1024x768 .bf16) (x1 : Vec Ideal S1x1024x768 .bf16) (s : Vec Ideal S1024x1024 .f32)

theorem first_eq (h0 : cond0_0 i) (h1 : ¬cond0_1 i) (h2 : ¬cond0_2 i) :
    sout0_A_0 c i arg3 harg3 arg4 harg4 arg5 harg5 arg6 harg6 h0 h1 h2 x0 x1 = k0_pay1 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  simp only [View.readAt_eq_ld, harg3.read_unread, harg4.read_unread]
  rw [View.canon_unit_zero zeros2]
  simp only [View.ld_unit_zero (S := S1024x768) zeros2, View.ld_unit_zero (S := S1x1024x768) zeros3]
  unfold k0_pay2
  exact shapeCast_self _ _

theorem next_eq (h0 : ¬cond0_0 i) (h1 : cond0_1 i) (h2 : ¬cond0_2 i) :
    sout0_B_0 c i arg3 harg3 arg4 harg4 arg5 harg5 arg6 harg6 h0 h1 h2 x0 x1 s = addf s (k0_pay1 x0 x1) := by
  unfold sout0_B_0
  rw [View.read_writes_eq_canon _ _ _ (scover0_B_0 c i arg3 harg3 arg4 harg4 arg5 harg5 arg6 harg6 h0 h1 h2 x0 x1 s)]
  unfold kernelRun0_B
  dsimp only
  sl_unfold_words
  simp only [View.readAt_eq_ld, harg3.read_unread, harg4.read_unread, harg6.read_unread]
  rw [View.canon_unit_zero zeros2]
  simp only [View.ld_unit_zero (S := S1024x768) zeros2, View.ld_unit_zero (S := S1x1024x768) zeros3, View.ld_unit_zero (S := S1024x1024) zeros2]
  unfold k0_pay3
  exact shapeCast_self _ _

theorem last_eq (h0 : ¬cond0_0 i) (h1 : cond0_1 i) (h2 : cond0_2 i) :
    out0_C_2 c i arg3 harg3 arg4 harg4 arg5 harg5 arg6 harg6 h0 h1 h2 x0 x1 s = addf s (k0_pay1 x0 x1) := by
  unfold out0_C_2
  rw [View.read_writes_eq_canon _ _ _ (cover0_C_2 c i arg3 harg3 arg4 harg4 arg5 harg5 arg6 harg6 h0 h1 h2 x0 x1 s)]
  unfold kernelRun0_C
  dsimp only
  sl_unfold_words
  simp only [View.readAt_eq_ld, harg3.read_unread, harg4.read_unread, harg6.read_unread]
  rw [View.canon_unit_zero zeros2]
  simp only [View.ld_unit_zero (S := S1024x768) zeros2, View.ld_unit_zero (S := S1x1024x768) zeros3, View.ld_unit_zero (S := S1024x1024) zeros2]
  rw [View.readCov_unit_zero _ zeros2]
  unfold k0_pay3
  exact shapeCast_self _ _

end Stored

theorem pay_at (x0 : Vec Ideal S1024x768 .bf16) (x1 : Vec Ideal S1x1024x768 .bf16) (a : Fin 1024) (b : Fin 1024) :
    k0_pay1 x0 x1 (ix2 a b) = (∑ q : Fin 768, x0 (ix2 a q) * x1 (ix3 0 b q) : EReal) := by
  unfold k0_pay1
  pointwise

theorem index_facts : ∀ t : Fin cfg0.N, (win0_0.index t (0 : Fin 2) = t.val / 16 ∧ win0_0.index t (1 : Fin 2) = t.val % 8)
    ∧ (win0_1.index t (0 : Fin 3) = t.val % 8 ∧ win0_1.index t (1 : Fin 3) = t.val / 8 % 2 ∧ win0_1.index t (2 : Fin 3) = 0) :=
  (by decide +kernel : ∀ t : Fin grid0.N, _)

variable (m : (ℓ : Loc nD τ sig) → Buf (Elt Ideal) ℓ) (c : Dev nD)

abbrev Y : FVec Ideal S2048x6144 .bf16 := m ((c : Thread nD τ).loc main_arg0)
abbrev W : FVec Ideal S8x2048x768 .bf16 := m ((c : Thread nD τ).loc main_arg1)

variable (r : Fin 2048) (n : Fin 2048)

/-- What the `k`-th block of the weights adds to an element. -/
def term (k : ℕ) : EReal := ∑ q : Fin 768, Y m c (ix2 r ⟨(768 * k + q.val) % 6144, Nat.mod_lt _ (by decide)⟩) * W m c (ix3 (⟨k % 8, Nat.mod_lt _ (by decide)⟩ : Fin 8) n q)

/-- The points that compute an element, one after the other. -/
theorem pt_lt {k : ℕ} (hk : k < 8) : 8 * (2 * (r.val / 1024) + n.val / 1024) + k < cfg0.N := by rw [show cfg0.N = 32 from N_0]; omega

theorem product {k : ℕ} (hk : k < 8) :
    k0_pay1 (iblk m c 0 ⟨_, pt_lt r n hk⟩) (iblk m c 1 ⟨_, pt_lt r n hk⟩) (ix2 (⟨r.val % 1024, by omega⟩ : Fin 1024) (⟨n.val % 1024, by omega⟩ : Fin 1024)) = term m c r n k := by
  obtain ⟨⟨i0, i1⟩, i2, i3, i4⟩ := index_facts ⟨_, pt_lt r n hk⟩
  dsimp only at i0 i1 i2 i3
  rw [pay_at]
  unfold term
  refine Finset.sum_congr rfl fun q _ => ?_
  have e0 : iblk m c 0 ⟨_, pt_lt r n hk⟩ (ix2 (⟨r.val % 1024, by omega⟩ : Fin 1024) q) = Y m c (ix2 r ⟨(768 * k + q.val) % 6144, Nat.mod_lt _ (by decide)⟩) := by
    show V m c main_arg0 (((cfg0.win 0).blk ⟨_, pt_lt r n hk⟩).view.emb (ix2 (⟨r.val % 1024, by omega⟩ : Fin 1024) q)) = _
    rw [V_main_arg0]
    congr 1
    funext x; apply Fin.ext
    match x with
    | ⟨0, _⟩ => show win0_0.index ⟨_, pt_lt r n hk⟩ (0 : Fin 2) * 1024 + 1 * (r.val % 1024) = r.val; omega
    | ⟨1, _⟩ => show win0_0.index ⟨_, pt_lt r n hk⟩ (1 : Fin 2) * 768 + 1 * q.val = (768 * k + q.val) % 6144; omega
  have e1 : iblk m c 1 ⟨_, pt_lt r n hk⟩ (ix3 0 (⟨n.val % 1024, by omega⟩ : Fin 1024) q) = W m c (ix3 (⟨k % 8, Nat.mod_lt _ (by decide)⟩ : Fin 8) n q) := by
    show V m c main_arg1 (((cfg0.win 1).blk ⟨_, pt_lt r n hk⟩).view.emb (ix3 0 (⟨n.val % 1024, by omega⟩ : Fin 1024) q)) = _
    rw [V_main_arg1]
    congr 1
    funext x; apply Fin.ext
    match x with
    | ⟨0, _⟩ => show win0_1.index ⟨_, pt_lt r n hk⟩ (0 : Fin 3) * 1 + 1 * 0 = k % 8; omega
    | ⟨1, _⟩ => show win0_1.index ⟨_, pt_lt r n hk⟩ (1 : Fin 3) * 1024 + 1 * (n.val % 1024) = n.val; omega
    | ⟨2, _⟩ => show win0_1.index ⟨_, pt_lt r n hk⟩ (2 : Fin 3) * 768 + 1 * q.val = q.val; omega
  rw [e0, e1]

/-- The accumulator after `k + 1` of an element's points. -/
theorem acc_at : ∀ {k : ℕ} (hk : k < 7),
    (outsAt0 m c (8 * (2 * (r.val / 1024) + n.val / 1024) + k) (pt_lt r n (by omega))).2 (ix2 (⟨r.val % 1024, by omega⟩ : Fin 1024) (⟨n.val % 1024, by omega⟩ : Fin 1024))
      = (∑ j ∈ Finset.range (k + 1), term m c r n j : EReal)
  | 0, hk => by
    have e := outsAt0_A m c ⟨_, pt_lt r n (k := 0) (by omega)⟩ (by dsimp only; omega) (by dsimp only; omega) (by dsimp only; omega)
    rw [first_eq] at e
    rw [Finset.sum_range_one, ← product m c r n (k := 0) (by omega)]
    exact congrFun (congrArg Prod.snd e) _
  | k + 1, hk => by
    have e := outsAt0_B m c ⟨_, pt_lt r n (k := k + 1) (by omega)⟩ (by dsimp only; omega) (by dsimp only; omega) (by dsimp only; omega)
    rw [next_eq] at e
    rw [Finset.sum_range_succ, ← acc_at (k := k) (by omega), ← product m c r n (k := k + 1) (by omega)]
    exact congrFun (congrArg Prod.snd e) _

theorem final : Cert.HaKernelIdeal.Value.G2 m c (ix2 r n) = (∑ j ∈ Finset.range 8, term m c r n j : EReal) := by
  have hr := r.isLt
  have hn := n.isLt
  have hp : Cert.HaKernelIdeal.Value.pt2Of (ix2 r n) = 8 * (2 * (r.val / 1024) + n.val / 1024) + 7 := by
    show 8 * (2 * (r.val / 1024 - 0) + 1 * (n.val / 1024 - 0)) + 7 = _
    omega
  have hl : Cert.HaKernelIdeal.Value.loc2Of (ix2 r n) = ix2 (⟨r.val % 1024, by omega⟩ : Fin 1024) (⟨n.val % 1024, by omega⟩ : Fin 1024) := by
    funext x
    match x with
    | ⟨0, _⟩ => rfl
    | ⟨1, _⟩ => rfl
  have e := outsAt0_C m c ⟨_, pt_lt r n (k := 7) (by omega)⟩ (by dsimp only; omega) (by dsimp only; omega) (by dsimp only; omega)
  rw [last_eq] at e
  unfold Cert.HaKernelIdeal.Value.G2
  rw [dif_pos (by rw [hp]; exact pt_lt r n (by omega)), ← Cert.HaKernelIdeal.Value.outsAt0_sweep m c _ (by rw [hp]; exact pt_lt r n (by omega)), hl]
  rw [Finset.sum_range_succ, ← acc_at m c r n (k := 6) (by omega), ← product m c r n (k := 7) (by omega)]
  simp only [hp]
  exact congrFun (congrArg Prod.fst e) _

end Kernel

section Reference
open Cert.HaReferenceIdeal Cert.HaReferenceIdeal.Gen

/-- What the reference computes. -/
def ref (y : FVec Ideal S2048x6144 .bf16) (w : FVec Ideal S8x2048x768 .bf16) : FVec Ideal S2048x2048 .f32 :=
  Host.dotGeneral dot_S2048x6144_S2048x6144_S2048x2048_1_1_0_0_n_n none (extf .f32 y bitsLt_bf16_f32)
    (shapeCast _ (transpose S2048x8x768 [1, 0, 2] (extf .f32 w bitsLt_bf16_f32) transposes_S8x2048x768_S2048x8x768_1_0_2) shapeCasts_S2048x8x768_S2048x6144)

theorem ref_at (y : FVec Ideal S2048x6144 .bf16) (w : FVec Ideal S8x2048x768 .bf16) (r : Fin 2048) (n : Fin 2048) :
    ref y w (ix2 r n) = (∑ k : Fin 6144, y (ix2 r k) * w (ix3 (⟨k.val / 768, by omega⟩ : Fin 8) n (⟨k.val % 768, by omega⟩ : Fin 768)) : EReal) := by
  unfold ref
  pointwise

end Reference

section
open Cert.HaKernelIdeal

/-- The blocks of the weights in turn are all their columns. -/
theorem sum_terms (m : (ℓ : Loc nD τ sig) → Buf (Elt Ideal) ℓ) (c : Dev nD) (r : Fin 2048) (n : Fin 2048) :
    (∑ k : Fin 6144, Y m c (ix2 r k) * W m c (ix3 (⟨k.val / 768, by omega⟩ : Fin 8) n (⟨k.val % 768, by omega⟩ : Fin 768)) : EReal)
      = ∑ j ∈ Finset.range 8, term m c r n j := by
  rw [Finset.sum_range]
  refine (sum_blocks 8 768 (fun k : Fin 6144 => (Y m c (ix2 r k) * W m c (ix3 (⟨k.val / 768, by omega⟩ : Fin 8) n (⟨k.val % 768, by omega⟩ : Fin 768)) : EReal))).symm.trans ?_
  refine Finset.sum_congr rfl fun j _ => ?_
  unfold term
  refine Finset.sum_congr rfl fun q _ => ?_
  have hj := j.isLt
  have hq := q.isLt
  have e0 : (⟨768 * j.val + q.val, by omega⟩ : Fin 6144) = ⟨(768 * j.val + q.val) % 6144, Nat.mod_lt _ (by decide)⟩ := Fin.ext (by dsimp only; omega)
  have e1 : (⟨(768 * j.val + q.val) / 768, by omega⟩ : Fin 8) = ⟨j.val % 8, Nat.mod_lt _ (by decide)⟩ := Fin.ext (by dsimp only; omega)
  have e2 : (⟨(768 * j.val + q.val) % 768, Nat.mod_lt _ (by decide)⟩ : Fin 768) = q := Fin.ext (by dsimp only; omega)
  show Y m c (ix2 r (⟨768 * j.val + q.val, by omega⟩ : Fin 6144)) * W m c (ix3 (⟨(768 * j.val + q.val) / 768, by omega⟩ : Fin 8) n (⟨(768 * j.val + q.val) % 768, Nat.mod_lt _ (by decide)⟩ : Fin 768)) = _
  rw [e1, e2, e0]

end

theorem algebraic : Cert.algebraic_HaKernelIdeal_HaReferenceIdeal := by
  intro m g m' g' _ hargs
  refine ⟨fun c => Cert.HaKernelIdeal.Value.G2 m c, Cert.HaKernelIdeal.Value.run m g,
    (θ_run Cert.HaReferenceIdeal.defs _ _).mono (fun r h c => ?_) (Cert.HaReferenceIdeal.Value.run m' g')⟩
  obtain ⟨h0, hk⟩ := h c
  obtain ⟨a0, a1⟩ := hargs c
  rw [a0, a1] at h0
  refine ⟨h0.trans ?_, hk⟩
  funext i
  obtain ⟨r, n, rfl⟩ : ∃ (r : Fin 2048) (n : Fin 2048), i = ix2 r n := ⟨i 0, i 1, eq_ix2 i⟩
  exact (ref_at (Y m c) (W m c) r n).trans ((sum_terms m c r n).trans (final m c r n).symm)

end Cert.HaValue
end
-- ==== Proof.HbValue.lean ====
module

public import proofs.«01_k».proof.Defs
public import proofs.«01_k».proof.Proof.Gen.HbKernel
public import proofs.«01_k».proof.Proof.Gen.HbKernel.Frame
public import proofs.«01_k».proof.Proof.Gen.HbKernelIdeal
public import proofs.«01_k».proof.Proof.Gen.HbKernelIdeal.Value
public import proofs.«01_k».proof.Proof.Gen.HbReferenceIdeal
public import proofs.«01_k».proof.Proof.Gen.HbReferenceIdeal.Run
public import proofs.«01_k».proof.Proof.Products

/-! What the second up-projection of the FFN adds to the gradient of their operand. A block of 1024 rows and 1024 columns of the result is accumulated over eight
    points of the grid, one for each block of the weights, starting from what the first gave, and written out at the last. -/

@[expose] public section

set_option maxRecDepth 16384

noncomputable section

namespace Cert.HbValue

open Idealize.ShloMosaic Idealize.ShloMosaic.TcCoe Idealize.SL.Sem Cert.Products

section Kernel
open Cert.HbKernelIdeal Cert.HbKernelIdeal.Gen

/-! What a point stores: the product of its blocks, added to what is given at the first point and to the accumulator at the others. -/

section Stored
variable (c : Dev nD) (i : grid0.Coords) (arg3 : Memref sig .tc .vmem S1024x768 .bf16) (harg3 : arg3.IsWhole)
    (arg4 : Memref sig .tc .vmem S1x1024x768 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1024 .f32) (harg7 : arg7.IsWhole)
    (x0 : Vec Ideal S1024x768 .bf16) (x1 : Vec Ideal S1x1024x768 .bf16) (x2 s : Vec Ideal S1024x1024 .f32)

theorem first_eq (h0 : cond0_0 i) (h1 : ¬cond0_1 i) (h2 : ¬cond0_2 i) :
    sout0_A_0 c i arg3 harg3 arg4 harg4 arg5 harg5 arg6 harg6 arg7 harg7 h0 h1 h2 x0 x1 x2 = addf (k0_pay1 x0 x1) x2 := by
  unfold sout0_A_0
  rw [View.read_writes_eq_canon _ _ _ (scover0_A_0 c i arg3 harg3 arg4 harg4 arg5 harg5 arg6 harg6 arg7 harg7 h0 h1 h2 x0 x1 x2)]
  unfold kernelRun0_A
  dsimp only
  sl_unfold_words
  simp only [View.readAt_eq_ld, harg3.read_unread, harg4.read_unread, harg5.read_unread]
  rw [View.canon_unit_zero zeros2]
  simp only [View.ld_unit_zero (S := S1024x768) zeros2, View.ld_unit_zero (S := S1x1024x768) zeros3, View.ld_unit_zero (S := S1024x1024) zeros2]
  unfold k0_pay2
  exact shapeCast_self _ _

theorem next_eq (h0 : ¬cond0_0 i) (h1 : cond0_1 i) (h2 : ¬cond0_2 i) :
    sout0_B_0 c i arg3 harg3 arg4 harg4 arg5 harg5 arg6 harg6 arg7 harg7 h0 h1 h2 x0 x1 x2 s = addf s (k0_pay1 x0 x1) := by
  unfold sout0_B_0
  rw [View.read_writes_eq_canon _ _ _ (scover0_B_0 c i arg3 harg3 arg4 harg4 arg5 harg5 arg6 harg6 arg7 harg7 h0 h1 h2 x0 x1 x2 s)]
  unfold kernelRun0_B
  dsimp only
  sl_unfold_words
  simp only [View.readAt_eq_ld, harg3.read_unread, harg4.read_unread, harg7.read_unread]
  rw [View.canon_unit_zero zeros2]
  simp only [View.ld_unit_zero (S := S1024x768) zeros2, View.ld_unit_zero (S := S1x1024x768) zeros3, View.ld_unit_zero (S := S1024x1024) zeros2]
  unfold k0_pay3
  exact shapeCast_self _ _

theorem last_eq (h0 : ¬cond0_0 i) (h1 : cond0_1 i) (h2 : cond0_2 i) :
    out0_C_3 c i arg3 harg3 arg4 harg4 arg5 harg5 arg6 harg6 arg7 harg7 h0 h1 h2 x0 x1 x2 s = addf s (k0_pay1 x0 x1) := by
  unfold out0_C_3
  rw [View.read_writes_eq_canon _ _ _ (cover0_C_3 c i arg3 harg3 arg4 harg4 arg5 harg5 arg6 harg6 arg7 harg7 h0 h1 h2 x0 x1 x2 s)]
  unfold kernelRun0_C
  dsimp only
  sl_unfold_words
  simp only [View.readAt_eq_ld, harg3.read_unread, harg4.read_unread, harg7.read_unread]
  rw [View.canon_unit_zero zeros2]
  simp only [View.ld_unit_zero (S := S1024x768) zeros2, View.ld_unit_zero (S := S1x1024x768) zeros3, View.ld_unit_zero (S := S1024x1024) zeros2]
  rw [View.readCov_unit_zero _ zeros2]
  unfold k0_pay3
  exact shapeCast_self _ _

end Stored

theorem pay_at (x0 : Vec Ideal S1024x768 .bf16) (x1 : Vec Ideal S1x1024x768 .bf16) (a : Fin 1024) (b : Fin 1024) :
    k0_pay1 x0 x1 (ix2 a b) = (∑ q : Fin 768, x0 (ix2 a q) * x1 (ix3 0 b q) : EReal) := by
  unfold k0_pay1
  pointwise

theorem index_facts : ∀ t : Fin cfg0.N, (win0_0.index t (0 : Fin 2) = t.val / 16 ∧ win0_0.index t (1 : Fin 2) = t.val % 8)
    ∧ (win0_1.index t (0 : Fin 3) = t.val % 8 ∧ win0_1.index t (1 : Fin 3) = t.val / 8 % 2 ∧ win0_1.index t (2 : Fin 3) = 0)
    ∧ (win0_2.index t (0 : Fin 2) = t.val / 16 ∧ win0_2.index t (1 : Fin 2) = t.val / 8 % 2) :=
  (by decide +kernel : ∀ t : Fin grid0.N, _)

variable (m : (ℓ : Loc nD τ sig) → Buf (Elt Ideal) ℓ) (c : Dev nD)

abbrev Y : FVec Ideal S2048x6144 .bf16 := m ((c : Thread nD τ).loc main_arg0)
abbrev W : FVec Ideal S8x2048x768 .bf16 := m ((c : Thread nD τ).loc main_arg1)
abbrev D : FVec Ideal S2048x2048 .f32 := m ((c : Thread nD τ).loc main_arg2)

variable (r : Fin 2048) (n : Fin 2048)

/-- What the `k`-th block of the weights adds to an element. -/
def term (k : ℕ) : EReal := ∑ q : Fin 768, Y m c (ix2 r ⟨(768 * k + q.val) % 6144, Nat.mod_lt _ (by decide)⟩) * W m c (ix3 (⟨k % 8, Nat.mod_lt _ (by decide)⟩ : Fin 8) n q)

/-- The points that compute an element, one after the other. -/
theorem pt_lt {k : ℕ} (hk : k < 8) : 8 * (2 * (r.val / 1024) + n.val / 1024) + k < cfg0.N := by rw [show cfg0.N = 32 from N_0]; omega

theorem product {k : ℕ} (hk : k < 8) :
    k0_pay1 (iblk m c 0 ⟨_, pt_lt r n hk⟩) (iblk m c 1 ⟨_, pt_lt r n hk⟩) (ix2 (⟨r.val % 1024, by omega⟩ : Fin 1024) (⟨n.val % 1024, by omega⟩ : Fin 1024)) = term m c r n k := by
  obtain ⟨⟨i0, i1⟩, ⟨i2, i3, i4⟩, _⟩ := index_facts ⟨_, pt_lt r n hk⟩
  dsimp only at i0 i1 i2 i3
  rw [pay_at]
  unfold term
  refine Finset.sum_congr rfl fun q _ => ?_
  have e0 : iblk m c 0 ⟨_, pt_lt r n hk⟩ (ix2 (⟨r.val % 1024, by omega⟩ : Fin 1024) q) = Y m c (ix2 r ⟨(768 * k + q.val) % 6144, Nat.mod_lt _ (by decide)⟩) := by
    show V m c main_arg0 (((cfg0.win 0).blk ⟨_, pt_lt r n hk⟩).view.emb (ix2 (⟨r.val % 1024, by omega⟩ : Fin 1024) q)) = _
    rw [V_main_arg0]
    congr 1
    funext x; apply Fin.ext
    match x with
    | ⟨0, _⟩ => show win0_0.index ⟨_, pt_lt r n hk⟩ (0 : Fin 2) * 1024 + 1 * (r.val % 1024) = r.val; omega
    | ⟨1, _⟩ => show win0_0.index ⟨_, pt_lt r n hk⟩ (1 : Fin 2) * 768 + 1 * q.val = (768 * k + q.val) % 6144; omega
  have e1 : iblk m c 1 ⟨_, pt_lt r n hk⟩ (ix3 0 (⟨n.val % 1024, by omega⟩ : Fin 1024) q) = W m c (ix3 (⟨k % 8, Nat.mod_lt _ (by decide)⟩ : Fin 8) n q) := by
    show V m c main_arg1 (((cfg0.win 1).blk ⟨_, pt_lt r n hk⟩).view.emb (ix3 0 (⟨n.val % 1024, by omega⟩ : Fin 1024) q)) = _
    rw [V_main_arg1]
    congr 1
    funext x; apply Fin.ext
    match x with
    | ⟨0, _⟩ => show win0_1.index ⟨_, pt_lt r n hk⟩ (0 : Fin 3) * 1 + 1 * 0 = k % 8; omega
    | ⟨1, _⟩ => show win0_1.index ⟨_, pt_lt r n hk⟩ (1 : Fin 3) * 1024 + 1 * (n.val % 1024) = n.val; omega
    | ⟨2, _⟩ => show win0_1.index ⟨_, pt_lt r n hk⟩ (2 : Fin 3) * 768 + 1 * q.val = q.val; omega
  rw [e0, e1]

theorem given {k : ℕ} (hk : k < 8) : iblk m c 2 ⟨_, pt_lt r n hk⟩ (ix2 (⟨r.val % 1024, by omega⟩ : Fin 1024) (⟨n.val % 1024, by omega⟩ : Fin 1024)) = D m c (ix2 r n) := by
  obtain ⟨_, _, i0, i1⟩ := index_facts ⟨_, pt_lt r n hk⟩
  dsimp only at i0 i1
  show V m c main_arg2 (((cfg0.win 2).blk ⟨_, pt_lt r n hk⟩).view.emb (ix2 (⟨r.val % 1024, by omega⟩ : Fin 1024) (⟨n.val % 1024, by omega⟩ : Fin 1024))) = _
  rw [V_main_arg2]
  congr 1
  funext x; apply Fin.ext
  match x with
  | ⟨0, _⟩ => show win0_2.index ⟨_, pt_lt r n hk⟩ (0 : Fin 2) * 1024 + 1 * (r.val % 1024) = r.val; omega
  | ⟨1, _⟩ => show win0_2.index ⟨_, pt_lt r n hk⟩ (1 : Fin 2) * 1024 + 1 * (n.val % 1024) = n.val; omega

/-- The accumulator after `k + 1` of an element's points. -/
theorem acc_at : ∀ {k : ℕ} (hk : k < 7),
    (outsAt0 m c (8 * (2 * (r.val / 1024) + n.val / 1024) + k) (pt_lt r n (by omega))).2 (ix2 (⟨r.val % 1024, by omega⟩ : Fin 1024) (⟨n.val % 1024, by omega⟩ : Fin 1024))
      = (D m c (ix2 r n) + ∑ j ∈ Finset.range (k + 1), term m c r n j : EReal)
  | 0, hk => by
    have e := outsAt0_A m c ⟨_, pt_lt r n (k := 0) (by omega)⟩ (by dsimp only; omega) (by dsimp only; omega) (by dsimp only; omega)
    rw [first_eq] at e
    rw [Finset.sum_range_one, ← product m c r n (k := 0) (by omega), add_comm (D m c (ix2 r n)), ← given m c r n (k := 0) (by omega)]
    exact congrFun (congrArg Prod.snd e) _
  | k + 1, hk => by
    have e := outsAt0_B m c ⟨_, pt_lt r n (k := k + 1) (by omega)⟩ (by dsimp only; omega) (by dsimp only; omega) (by dsimp only; omega)
    rw [next_eq] at e
    rw [Finset.sum_range_succ, ← add_assoc (D m c (ix2 r n)), ← acc_at (k := k) (by omega), ← product m c r n (k := k + 1) (by omega)]
    exact congrFun (congrArg Prod.snd e) _

theorem final : Cert.HbKernelIdeal.Value.G3 m c (ix2 r n) = (D m c (ix2 r n) + ∑ j ∈ Finset.range 8, term m c r n j : EReal) := by
  have hr := r.isLt
  have hn := n.isLt
  have hp : Cert.HbKernelIdeal.Value.pt3Of (ix2 r n) = 8 * (2 * (r.val / 1024) + n.val / 1024) + 7 := by
    show 8 * (2 * (r.val / 1024 - 0) + 1 * (n.val / 1024 - 0)) + 7 = _
    omega
  have hl : Cert.HbKernelIdeal.Value.loc3Of (ix2 r n) = ix2 (⟨r.val % 1024, by omega⟩ : Fin 1024) (⟨n.val % 1024, by omega⟩ : Fin 1024) := by
    funext x
    match x with
    | ⟨0, _⟩ => rfl
    | ⟨1, _⟩ => rfl
  have e := outsAt0_C m c ⟨_, pt_lt r n (k := 7) (by omega)⟩ (by dsimp only; omega) (by dsimp only; omega) (by dsimp only; omega)
  rw [last_eq] at e
  unfold Cert.HbKernelIdeal.Value.G3
  rw [dif_pos (by rw [hp]; exact pt_lt r n (by omega)), ← Cert.HbKernelIdeal.Value.outsAt0_sweep m c _ (by rw [hp]; exact pt_lt r n (by omega)), hl]
  rw [Finset.sum_range_succ, ← add_assoc (D m c (ix2 r n)), ← acc_at m c r n (k := 6) (by omega), ← product m c r n (k := 7) (by omega)]
  simp only [hp]
  exact congrFun (congrArg Prod.fst e) _

end Kernel

section Reference
open Cert.HbReferenceIdeal Cert.HbReferenceIdeal.Gen

/-- What the reference computes. -/
def ref (y : FVec Ideal S2048x6144 .bf16) (w : FVec Ideal S8x2048x768 .bf16) (d : FVec Ideal S2048x2048 .f32) : FVec Ideal S2048x2048 .f32 :=
  addf d (Host.dotGeneral dot_S2048x6144_S2048x6144_S2048x2048_1_1_0_0_n_n none (extf .f32 y bitsLt_bf16_f32)
    (shapeCast _ (transpose S2048x8x768 [1, 0, 2] (extf .f32 w bitsLt_bf16_f32) transposes_S8x2048x768_S2048x8x768_1_0_2) shapeCasts_S2048x8x768_S2048x6144))

theorem ref_at (y : FVec Ideal S2048x6144 .bf16) (w : FVec Ideal S8x2048x768 .bf16) (d : FVec Ideal S2048x2048 .f32) (r : Fin 2048) (n : Fin 2048) :
    ref y w d (ix2 r n) = (d (ix2 r n) + ∑ k : Fin 6144, y (ix2 r k) * w (ix3 (⟨k.val / 768, by omega⟩ : Fin 8) n (⟨k.val % 768, by omega⟩ : Fin 768)) : EReal) := by
  unfold ref
  pointwise

end Reference

section
open Cert.HbKernelIdeal

/-- The blocks of the weights in turn are all their columns. -/
theorem sum_terms (m : (ℓ : Loc nD τ sig) → Buf (Elt Ideal) ℓ) (c : Dev nD) (r : Fin 2048) (n : Fin 2048) :
    (∑ k : Fin 6144, Y m c (ix2 r k) * W m c (ix3 (⟨k.val / 768, by omega⟩ : Fin 8) n (⟨k.val % 768, by omega⟩ : Fin 768)) : EReal)
      = ∑ j ∈ Finset.range 8, term m c r n j := by
  rw [Finset.sum_range]
  refine (sum_blocks 8 768 (fun k : Fin 6144 => (Y m c (ix2 r k) * W m c (ix3 (⟨k.val / 768, by omega⟩ : Fin 8) n (⟨k.val % 768, by omega⟩ : Fin 768)) : EReal))).symm.trans ?_
  refine Finset.sum_congr rfl fun j _ => ?_
  unfold term
  refine Finset.sum_congr rfl fun q _ => ?_
  have hj := j.isLt
  have hq := q.isLt
  have e0 : (⟨768 * j.val + q.val, by omega⟩ : Fin 6144) = ⟨(768 * j.val + q.val) % 6144, Nat.mod_lt _ (by decide)⟩ := Fin.ext (by dsimp only; omega)
  have e1 : (⟨(768 * j.val + q.val) / 768, by omega⟩ : Fin 8) = ⟨j.val % 8, Nat.mod_lt _ (by decide)⟩ := Fin.ext (by dsimp only; omega)
  have e2 : (⟨(768 * j.val + q.val) % 768, Nat.mod_lt _ (by decide)⟩ : Fin 768) = q := Fin.ext (by dsimp only; omega)
  show Y m c (ix2 r (⟨768 * j.val + q.val, by omega⟩ : Fin 6144)) * W m c (ix3 (⟨(768 * j.val + q.val) / 768, by omega⟩ : Fin 8) n (⟨(768 * j.val + q.val) % 768, Nat.mod_lt _ (by decide)⟩ : Fin 768)) = _
  rw [e1, e2, e0]

end

theorem algebraic : Cert.algebraic_HbKernelIdeal_HbReferenceIdeal := by
  intro m g m' g' _ hargs
  refine ⟨fun c => Cert.HbKernelIdeal.Value.G3 m c, Cert.HbKernelIdeal.Value.run m g,
    (θ_run Cert.HbReferenceIdeal.defs _ _).mono (fun r h c => ?_) (Cert.HbReferenceIdeal.Value.run m' g')⟩
  obtain ⟨h0, hk⟩ := h c
  obtain ⟨a0, a1, a2⟩ := hargs c
  rw [a0, a1, a2] at h0
  refine ⟨h0.trans ?_, hk⟩
  funext i
  obtain ⟨r, n, rfl⟩ : ∃ (r : Fin 2048) (n : Fin 2048), i = ix2 r n := ⟨i 0, i 1, eq_ix2 i⟩
  exact (ref_at (Y m c) (W m c) (D m c) r n).trans ((congrArg (D m c (ix2 r n) + ·) (sum_terms m c r n)).trans (final m c r n).symm)

end Cert.HbValue
end
-- ==== Proof.FdValue.lean ====
module

public import proofs.«01_k».proof.Defs
public import proofs.«01_k».proof.Proof.Gen.FdKernel
public import proofs.«01_k».proof.Proof.Gen.FdKernel.Frame
public import proofs.«01_k».proof.Proof.Gen.FdKernelIdeal
public import proofs.«01_k».proof.Proof.Gen.FdKernelIdeal.Value
public import proofs.«01_k».proof.Proof.Gen.FdReferenceIdeal
public import proofs.«01_k».proof.Proof.Gen.FdReferenceIdeal.Run
public import proofs.«01_k».proof.Proof.Products

/-! The FFN's down-projection, forward. A block of 512 rows and 1024 columns of the result is accumulated over three points of the
    grid, one for each 2048 rows of the weights, and written out at the last. -/

@[expose] public section

set_option maxRecDepth 16384

noncomputable section

namespace Cert.FdValue

open Idealize.ShloMosaic Idealize.ShloMosaic.TcCoe Idealize.SL.Sem Cert.Products

section Kernel
open Cert.FdKernelIdeal Cert.FdKernelIdeal.Gen

/-! What a point stores: the product of its blocks, alone at the first point and added to the accumulator at the others. -/

section Stored
variable (c : Dev nD) (i : grid0.Coords) (arg3 : Memref sig .tc .vmem S512x2048 .bf16) (harg3 : arg3.IsWhole)
    (arg4 : Memref sig .tc .vmem S1x2048x1024 .bf16) (harg4 : arg4.IsWhole) (arg5 : Memref sig .tc .vmem S512x1024 .f32) (harg5 : arg5.IsWhole)
    (arg6 : Memref sig .tc .vmem S512x1024 .f32) (harg6 : arg6.IsWhole)
    (x0 : Vec Ideal S512x2048 .bf16) (x1 : Vec Ideal S1x2048x1024 .bf16) (s : Vec Ideal S512x1024 .f32)

theorem first_eq (h0 : cond0_0 i) (h1 : ¬cond0_1 i) (h2 : ¬cond0_2 i) :
    sout0_A_0 c i arg3 harg3 arg4 harg4 arg5 harg5 arg6 harg6 h0 h1 h2 x0 x1 = k0_pay1 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  simp only [View.readAt_eq_ld, harg3.read_unread, harg4.read_unread]
  rw [View.canon_unit_zero zeros2]
  simp only [View.ld_unit_zero (S := S512x2048) zeros2, View.ld_unit_zero (S := S1x2048x1024) zeros3]
  unfold k0_pay2
  exact shapeCast_self _ _

theorem next_eq (h0 : ¬cond0_0 i) (h1 : cond0_1 i) (h2 : ¬cond0_2 i) :
    sout0_B_0 c i arg3 harg3 arg4 harg4 arg5 harg5 arg6 harg6 h0 h1 h2 x0 x1 s = addf s (k0_pay1 x0 x1) := by
  unfold sout0_B_0
  rw [View.read_writes_eq_canon _ _ _ (scover0_B_0 c i arg3 harg3 arg4 harg4 arg5 harg5 arg6 harg6 h0 h1 h2 x0 x1 s)]
  unfold kernelRun0_B
  dsimp only
  sl_unfold_words
  simp only [View.readAt_eq_ld, harg3.read_unread, harg4.read_unread, harg6.read_unread]
  rw [View.canon_unit_zero zeros2]
  simp only [View.ld_unit_zero (S := S512x2048) zeros2, View.ld_unit_zero (S := S1x2048x1024) zeros3, View.ld_unit_zero (S := S512x1024) zeros2]
  unfold k0_pay3
  exact shapeCast_self _ _

theorem last_eq (h0 : ¬cond0_0 i) (h1 : cond0_1 i) (h2 : cond0_2 i) :
    out0_C_2 c i arg3 harg3 arg4 harg4 arg5 harg5 arg6 harg6 h0 h1 h2 x0 x1 s = addf s (k0_pay1 x0 x1) := by
  unfold out0_C_2
  rw [View.read_writes_eq_canon _ _ _ (cover0_C_2 c i arg3 harg3 arg4 harg4 arg5 harg5 arg6 harg6 h0 h1 h2 x0 x1 s)]
  unfold kernelRun0_C
  dsimp only
  sl_unfold_words
  simp only [View.readAt_eq_ld, harg3.read_unread, harg4.read_unread, harg6.read_unread]
  rw [View.canon_unit_zero zeros2]
  simp only [View.ld_unit_zero (S := S512x2048) zeros2, View.ld_unit_zero (S := S1x2048x1024) zeros3, View.ld_unit_zero (S := S512x1024) zeros2]
  rw [View.readCov_unit_zero _ zeros2]
  unfold k0_pay3
  exact shapeCast_self _ _

end Stored

theorem pay_at (x0 : Vec Ideal S512x2048 .bf16) (x1 : Vec Ideal S1x2048x1024 .bf16) (a : Fin 512) (b : Fin 1024) :
    k0_pay1 x0 x1 (ix2 a b) = (∑ q : Fin 2048, x0 (ix2 a q) * x1 (ix3 0 q b) : EReal) := by
  unfold k0_pay1
  pointwise

theorem index_facts : ∀ t : Fin cfg0.N, (win0_0.index t (0 : Fin 2) = t.val / 6 ∧ win0_0.index t (1 : Fin 2) = t.val % 3)
    ∧ (win0_1.index t (0 : Fin 3) = 0 ∧ win0_1.index t (1 : Fin 3) = t.val % 3 ∧ win0_1.index t (2 : Fin 3) = t.val / 3 % 2) :=
  (by decide +kernel : ∀ t : Fin grid0.N, _)

variable (m : (ℓ : Loc nD τ sig) → Buf (Elt Ideal) ℓ) (c : Dev nD)

abbrev A : FVec Ideal S2048x6144 .bf16 := m ((c : Thread nD τ).loc main_arg0)
abbrev W : FVec Ideal S1x6144x2048 .bf16 := m ((c : Thread nD τ).loc main_arg1)

variable (r : Fin 2048) (n : Fin 2048)

/-- What the `k`-th block of the weights' rows adds to an element. -/
def term (k : ℕ) : EReal := ∑ q : Fin 2048, A m c (ix2 r ⟨(2048 * k + q.val) % 6144, Nat.mod_lt _ (by decide)⟩) * W m c (ix3 0 (⟨(2048 * k + q.val) % 6144, Nat.mod_lt _ (by decide)⟩ : Fin 6144) n)

/-- The points that compute an element, one after the other. -/
theorem pt_lt {k : ℕ} (hk : k < 3) : 3 * (2 * (r.val / 512) + n.val / 1024) + k < cfg0.N := by rw [show cfg0.N = 24 from N_0]; omega

theorem product {k : ℕ} (hk : k < 3) :
    k0_pay1 (iblk m c 0 ⟨_, pt_lt r n hk⟩) (iblk m c 1 ⟨_, pt_lt r n hk⟩) (ix2 (⟨r.val % 512, by omega⟩ : Fin 512) (⟨n.val % 1024, by omega⟩ : Fin 1024)) = term m c r n k := by
  obtain ⟨⟨i0, i1⟩, i2, i3, i4⟩ := index_facts ⟨_, pt_lt r n hk⟩
  dsimp only at i0 i1 i3 i4
  rw [pay_at]
  unfold term
  refine Finset.sum_congr rfl fun q _ => ?_
  have e0 : iblk m c 0 ⟨_, pt_lt r n hk⟩ (ix2 (⟨r.val % 512, by omega⟩ : Fin 512) q) = A m c (ix2 r ⟨(2048 * k + q.val) % 6144, Nat.mod_lt _ (by decide)⟩) := by
    show V m c main_arg0 (((cfg0.win 0).blk ⟨_, pt_lt r n hk⟩).view.emb (ix2 (⟨r.val % 512, by omega⟩ : Fin 512) q)) = _
    rw [V_main_arg0]
    congr 1
    funext x; apply Fin.ext
    match x with
    | ⟨0, _⟩ => show win0_0.index ⟨_, pt_lt r n hk⟩ (0 : Fin 2) * 512 + 1 * (r.val % 512) = r.val; omega
    | ⟨1, _⟩ => show win0_0.index ⟨_, pt_lt r n hk⟩ (1 : Fin 2) * 2048 + 1 * q.val = (2048 * k + q.val) % 6144; omega
  have e1 : iblk m c 1 ⟨_, pt_lt r n hk⟩ (ix3 0 q (⟨n.val % 1024, by omega⟩ : Fin 1024)) = W m c (ix3 0 (⟨(2048 * k + q.val) % 6144, Nat.mod_lt _ (by decide)⟩ : Fin 6144) n) := by
    show V m c main_arg1 (((cfg0.win 1).blk ⟨_, pt_lt r n hk⟩).view.emb (ix3 0 q (⟨n.val % 1024, by omega⟩ : Fin 1024))) = _
    rw [V_main_arg1]
    congr 1
    funext x; apply Fin.ext
    match x with
    | ⟨0, _⟩ => show win0_1.index ⟨_, pt_lt r n hk⟩ (0 : Fin 3) * 1 + 1 * 0 = 0; omega
    | ⟨1, _⟩ => show win0_1.index ⟨_, pt_lt r n hk⟩ (1 : Fin 3) * 2048 + 1 * q.val = (2048 * k + q.val) % 6144; omega
    | ⟨2, _⟩ => show win0_1.index ⟨_, pt_lt r n hk⟩ (2 : Fin 3) * 1024 + 1 * (n.val % 1024) = n.val; omega
  rw [e0, e1]

/-- The accumulator after `k + 1` of an element's points. -/
theorem acc_at : ∀ {k : ℕ} (hk : k < 2),
    (outsAt0 m c (3 * (2 * (r.val / 512) + n.val / 1024) + k) (pt_lt r n (by omega))).2 (ix2 (⟨r.val % 512, by omega⟩ : Fin 512) (⟨n.val % 1024, by omega⟩ : Fin 1024))
      = (∑ j ∈ Finset.range (k + 1), term m c r n j : EReal)
  | 0, hk => by
    have e := outsAt0_A m c ⟨_, pt_lt r n (k := 0) (by omega)⟩ (by dsimp only; omega) (by dsimp only; omega) (by dsimp only; omega)
    rw [first_eq] at e
    rw [Finset.sum_range_one, ← product m c r n (k := 0) (by omega)]
    exact congrFun (congrArg Prod.snd e) _
  | k + 1, hk => by
    have e := outsAt0_B m c ⟨_, pt_lt r n (k := k + 1) (by omega)⟩ (by dsimp only; omega) (by dsimp only; omega) (by dsimp only; omega)
    rw [next_eq] at e
    rw [Finset.sum_range_succ, ← acc_at (k := k) (by omega), ← product m c r n (k := k + 1) (by omega)]
    exact congrFun (congrArg Prod.snd e) _

theorem final : Cert.FdKernelIdeal.Value.G2 m c (ix2 r n) = (∑ j ∈ Finset.range 3, term m c r n j : EReal) := by
  have hr := r.isLt
  have hn := n.isLt
  have hp : Cert.FdKernelIdeal.Value.pt2Of (ix2 r n) = 3 * (2 * (r.val / 512) + n.val / 1024) + 2 := by
    show 3 * (2 * (r.val / 512 - 0) + 1 * (n.val / 1024 - 0)) + 2 = _
    omega
  have hl : Cert.FdKernelIdeal.Value.loc2Of (ix2 r n) = ix2 (⟨r.val % 512, by omega⟩ : Fin 512) (⟨n.val % 1024, by omega⟩ : Fin 1024) := by
    funext x
    match x with
    | ⟨0, _⟩ => rfl
    | ⟨1, _⟩ => rfl
  have e := outsAt0_C m c ⟨_, pt_lt r n (k := 2) (by omega)⟩ (by dsimp only; omega) (by dsimp only; omega) (by dsimp only; omega)
  rw [last_eq] at e
  unfold Cert.FdKernelIdeal.Value.G2
  rw [dif_pos (by rw [hp]; exact pt_lt r n (by omega)), ← Cert.FdKernelIdeal.Value.outsAt0_sweep m c _ (by rw [hp]; exact pt_lt r n (by omega)), hl]
  rw [Finset.sum_range_succ, ← acc_at m c r n (k := 1) (by omega), ← product m c r n (k := 2) (by omega)]
  simp only [hp]
  exact congrFun (congrArg Prod.fst e) _

end Kernel

section Reference
open Cert.FdReferenceIdeal Cert.FdReferenceIdeal.Gen

/-- What the reference computes. -/
def ref (a : FVec Ideal S2048x6144 .bf16) (w : FVec Ideal S1x6144x2048 .bf16) : FVec Ideal S2048x2048 .f32 :=
  Host.dotGeneral dot_S2048x6144_S6144x2048_S2048x2048_1_0_0_1_n_n none (extf .f32 a bitsLt_bf16_f32)
    (shapeCast _ (extf .f32 w bitsLt_bf16_f32) shapeCasts_S1x6144x2048_S6144x2048)

theorem ref_at (a : FVec Ideal S2048x6144 .bf16) (w : FVec Ideal S1x6144x2048 .bf16) (r : Fin 2048) (n : Fin 2048) :
    ref a w (ix2 r n) = (∑ k : Fin 6144, a (ix2 r k) * w (ix3 0 k n) : EReal) := by
  unfold ref
  pointwise

end Reference

section
open Cert.FdKernelIdeal

/-- The blocks of the weights in turn are all their rows. -/
theorem sum_terms (m : (ℓ : Loc nD τ sig) → Buf (Elt Ideal) ℓ) (c : Dev nD) (r : Fin 2048) (n : Fin 2048) :
    (∑ k : Fin 6144, A m c (ix2 r k) * W m c (ix3 0 k n) : EReal) = ∑ j ∈ Finset.range 3, term m c r n j := by
  rw [Finset.sum_range]
  refine (sum_blocks 3 2048 (fun k : Fin 6144 => (A m c (ix2 r k) * W m c (ix3 0 k n) : EReal))).symm.trans ?_
  refine Finset.sum_congr rfl fun j _ => ?_
  unfold term
  refine Finset.sum_congr rfl fun q _ => ?_
  have hj := j.isLt
  have hq := q.isLt
  have e0 : (⟨2048 * j.val + q.val, by omega⟩ : Fin 6144) = ⟨(2048 * j.val + q.val) % 6144, Nat.mod_lt _ (by decide)⟩ := Fin.ext (by dsimp only; omega)
  exact congrArg (fun k : Fin 6144 => A m c (ix2 r k) * W m c (ix3 0 k n)) e0

end

theorem algebraic : Cert.algebraic_FdKernelIdeal_FdReferenceIdeal := by
  intro m g m' g' _ hargs
  refine ⟨fun c => Cert.FdKernelIdeal.Value.G2 m c, Cert.FdKernelIdeal.Value.run m g,
    (θ_run Cert.FdReferenceIdeal.defs _ _).mono (fun r h c => ?_) (Cert.FdReferenceIdeal.Value.run m' g')⟩
  obtain ⟨h0, hk⟩ := h c
  obtain ⟨a0, a1⟩ := hargs c
  rw [a0, a1] at h0
  refine ⟨h0.trans ?_, hk⟩
  funext i
  obtain ⟨r, n, rfl⟩ : ∃ (r : Fin 2048) (n : Fin 2048), i = ix2 r n := ⟨i 0, i 1, eq_ix2 i⟩
  exact (ref_at (A m c) (W m c) r n).trans ((sum_terms m c r n).trans (final m c r n).symm)

end Cert.FdValue
end
-- ==== Proof.HcatValue.lean ====
module

public import proofs.«01_k».proof.Defs
public import proofs.«01_k».proof.Proof.Gen.HcatKernel
public import proofs.«01_k».proof.Proof.Gen.HcatKernel.Frame
public import proofs.«01_k».proof.Proof.Gen.HcatKernelIdeal
public import proofs.«01_k».proof.Proof.Gen.HcatKernelIdeal.Value
public import proofs.«01_k».proof.Proof.Gen.HcatReferenceIdeal
public import proofs.«01_k».proof.Proof.Gen.HcatReferenceIdeal.Run
public import proofs.«01_k».proof.Proof.Products

/-! The gradient of the input projection's operand. A block of 768 rows and 1024 columns of the result is accumulated over eight
    points of the grid, one for each block of the weights, and written out at the last. -/

@[expose] public section

set_option maxRecDepth 16384

noncomputable section

namespace Cert.HcatValue

open Idealize.ShloMosaic Idealize.ShloMosaic.TcCoe Idealize.SL.Sem Cert.Products

section Kernel
open Cert.HcatKernelIdeal Cert.HcatKernelIdeal.Gen

/-! What a point stores: the product of its blocks, alone at the first point and added to the accumulator at the others. -/

section Stored
variable (c : Dev nD) (i : grid0.Coords) (arg3 : Memref sig .tc .vmem S768x1536 .bf16) (harg3 : arg3.IsWhole)
    (arg4 : Memref sig .tc .vmem S1x1024x1536 .bf16) (harg4 : arg4.IsWhole) (arg5 : Memref sig .tc .vmem S768x1024 .bf16) (harg5 : arg5.IsWhole)
    (arg6 : Memref sig .tc .vmem S768x1024 .f32) (harg6 : arg6.IsWhole)
    (x0 : Vec Ideal S768x1536 .bf16) (x1 : Vec Ideal S1x1024x1536 .bf16) (s : Vec Ideal S768x1024 .f32)

theorem first_eq (h0 : cond0_0 i) (h1 : ¬cond0_1 i) (h2 : ¬cond0_2 i) :
    sout0_A_0 c i arg3 harg3 arg4 harg4 arg5 harg5 arg6 harg6 h0 h1 h2 x0 x1 = k0_pay1 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  simp only [View.readAt_eq_ld, harg3.read_unread, harg4.read_unread]
  rw [View.canon_unit_zero zeros2]
  simp only [View.ld_unit_zero (S := S768x1536) zeros2, View.ld_unit_zero (S := S1x1024x1536) zeros3]
  unfold k0_pay2
  exact shapeCast_self _ _

theorem next_eq (h0 : ¬cond0_0 i) (h1 : cond0_1 i) (h2 : ¬cond0_2 i) :
    sout0_B_0 c i arg3 harg3 arg4 harg4 arg5 harg5 arg6 harg6 h0 h1 h2 x0 x1 s = addf s (k0_pay1 x0 x1) := by
  unfold sout0_B_0
  rw [View.read_writes_eq_canon _ _ _ (scover0_B_0 c i arg3 harg3 arg4 harg4 arg5 harg5 arg6 harg6 h0 h1 h2 x0 x1 s)]
  unfold kernelRun0_B
  dsimp only
  sl_unfold_words
  simp only [View.readAt_eq_ld, harg3.read_unread, harg4.read_unread, harg6.read_unread]
  rw [View.canon_unit_zero zeros2]
  simp only [View.ld_unit_zero (S := S768x1536) zeros2, View.ld_unit_zero (S := S1x1024x1536) zeros3, View.ld_unit_zero (S := S768x1024) zeros2]
  unfold k0_pay3
  exact shapeCast_self _ _

theorem last_eq (h0 : ¬cond0_0 i) (h1 : cond0_1 i) (h2 : cond0_2 i) :
    out0_C_2 c i arg3 harg3 arg4 harg4 arg5 harg5 arg6 harg6 h0 h1 h2 x0 x1 s = truncf .bf16 (addf s (k0_pay1 x0 x1)) bitsLt_bf16_f32 := by
  unfold out0_C_2
  rw [View.read_writes_eq_canon _ _ _ (cover0_C_2 c i arg3 harg3 arg4 harg4 arg5 harg5 arg6 harg6 h0 h1 h2 x0 x1 s)]
  unfold kernelRun0_C
  dsimp only
  sl_unfold_words
  simp only [View.readAt_eq_ld, harg3.read_unread, harg4.read_unread, harg6.read_unread]
  rw [View.canon_unit_zero zeros2]
  simp only [View.ld_unit_zero (S := S768x1536) zeros2, View.ld_unit_zero (S := S1x1024x1536) zeros3, View.ld_unit_zero (S := S768x1024) zeros2]
  rw [View.readCov_unit_zero _ zeros2]
  unfold k0_pay3
  exact congrArg k0_pay4 (shapeCast_self _ _)

end Stored

theorem pay_at (x0 : Vec Ideal S768x1536 .bf16) (x1 : Vec Ideal S1x1024x1536 .bf16) (a : Fin 768) (b : Fin 1024) :
    k0_pay1 x0 x1 (ix2 a b) = (∑ q : Fin 1536, x0 (ix2 a q) * x1 (ix3 0 b q) : EReal) := by
  unfold k0_pay1
  pointwise

theorem index_facts : ∀ t : Fin cfg0.N, (win0_0.index t (0 : Fin 2) = t.val / 16 ∧ win0_0.index t (1 : Fin 2) = t.val % 8)
    ∧ (win0_1.index t (0 : Fin 3) = t.val % 8 ∧ win0_1.index t (1 : Fin 3) = t.val / 8 % 2 ∧ win0_1.index t (2 : Fin 3) = 0) :=
  (by decide +kernel : ∀ t : Fin grid0.N, _)

variable (m : (ℓ : Loc nD τ sig) → Buf (Elt Ideal) ℓ) (c : Dev nD)

abbrev Y : FVec Ideal S2304x12288 .bf16 := m ((c : Thread nD τ).loc main_arg0)
abbrev W : FVec Ideal S8x2048x1536 .bf16 := m ((c : Thread nD τ).loc main_arg1)

variable (r : Fin 2304) (n : Fin 2048)

/-- What the `k`-th block of the weights adds to an element. -/
def term (k : ℕ) : EReal := ∑ q : Fin 1536, Y m c (ix2 r ⟨(1536 * k + q.val) % 12288, Nat.mod_lt _ (by decide)⟩) * W m c (ix3 (⟨k % 8, Nat.mod_lt _ (by decide)⟩ : Fin 8) n q)

/-- The points that compute an element, one after the other. -/
theorem pt_lt {k : ℕ} (hk : k < 8) : 8 * (2 * (r.val / 768) + n.val / 1024) + k < cfg0.N := by rw [show cfg0.N = 48 from N_0]; omega

theorem product {k : ℕ} (hk : k < 8) :
    k0_pay1 (iblk m c 0 ⟨_, pt_lt r n hk⟩) (iblk m c 1 ⟨_, pt_lt r n hk⟩) (ix2 (⟨r.val % 768, by omega⟩ : Fin 768) (⟨n.val % 1024, by omega⟩ : Fin 1024)) = term m c r n k := by
  obtain ⟨⟨i0, i1⟩, i2, i3, i4⟩ := index_facts ⟨_, pt_lt r n hk⟩
  dsimp only at i0 i1 i2 i3
  rw [pay_at]
  unfold term
  refine Finset.sum_congr rfl fun q _ => ?_
  have e0 : iblk m c 0 ⟨_, pt_lt r n hk⟩ (ix2 (⟨r.val % 768, by omega⟩ : Fin 768) q) = Y m c (ix2 r ⟨(1536 * k + q.val) % 12288, Nat.mod_lt _ (by decide)⟩) := by
    show V m c main_arg0 (((cfg0.win 0).blk ⟨_, pt_lt r n hk⟩).view.emb (ix2 (⟨r.val % 768, by omega⟩ : Fin 768) q)) = _
    rw [V_main_arg0]
    congr 1
    funext x; apply Fin.ext
    match x with
    | ⟨0, _⟩ => show win0_0.index ⟨_, pt_lt r n hk⟩ (0 : Fin 2) * 768 + 1 * (r.val % 768) = r.val; omega
    | ⟨1, _⟩ => show win0_0.index ⟨_, pt_lt r n hk⟩ (1 : Fin 2) * 1536 + 1 * q.val = (1536 * k + q.val) % 12288; omega
  have e1 : iblk m c 1 ⟨_, pt_lt r n hk⟩ (ix3 0 (⟨n.val % 1024, by omega⟩ : Fin 1024) q) = W m c (ix3 (⟨k % 8, Nat.mod_lt _ (by decide)⟩ : Fin 8) n q) := by
    show V m c main_arg1 (((cfg0.win 1).blk ⟨_, pt_lt r n hk⟩).view.emb (ix3 0 (⟨n.val % 1024, by omega⟩ : Fin 1024) q)) = _
    rw [V_main_arg1]
    congr 1
    funext x; apply Fin.ext
    match x with
    | ⟨0, _⟩ => show win0_1.index ⟨_, pt_lt r n hk⟩ (0 : Fin 3) * 1 + 1 * 0 = k % 8; omega
    | ⟨1, _⟩ => show win0_1.index ⟨_, pt_lt r n hk⟩ (1 : Fin 3) * 1024 + 1 * (n.val % 1024) = n.val; omega
    | ⟨2, _⟩ => show win0_1.index ⟨_, pt_lt r n hk⟩ (2 : Fin 3) * 1536 + 1 * q.val = q.val; omega
  rw [e0, e1]

/-- The accumulator after `k + 1` of an element's points. -/
theorem acc_at : ∀ {k : ℕ} (hk : k < 7),
    (outsAt0 m c (8 * (2 * (r.val / 768) + n.val / 1024) + k) (pt_lt r n (by omega))).2 (ix2 (⟨r.val % 768, by omega⟩ : Fin 768) (⟨n.val % 1024, by omega⟩ : Fin 1024))
      = (∑ j ∈ Finset.range (k + 1), term m c r n j : EReal)
  | 0, hk => by
    have e := outsAt0_A m c ⟨_, pt_lt r n (k := 0) (by omega)⟩ (by dsimp only; omega) (by dsimp only; omega) (by dsimp only; omega)
    rw [first_eq] at e
    rw [Finset.sum_range_one, ← product m c r n (k := 0) (by omega)]
    exact congrFun (congrArg Prod.snd e) _
  | k + 1, hk => by
    have e := outsAt0_B m c ⟨_, pt_lt r n (k := k + 1) (by omega)⟩ (by dsimp only; omega) (by dsimp only; omega) (by dsimp only; omega)
    rw [next_eq] at e
    rw [Finset.sum_range_succ, ← acc_at (k := k) (by omega), ← product m c r n (k := k + 1) (by omega)]
    exact congrFun (congrArg Prod.snd e) _

theorem final : Cert.HcatKernelIdeal.Value.G2 m c (ix2 r n) = (∑ j ∈ Finset.range 8, term m c r n j : EReal) := by
  have hr := r.isLt
  have hn := n.isLt
  have hp : Cert.HcatKernelIdeal.Value.pt2Of (ix2 r n) = 8 * (2 * (r.val / 768) + n.val / 1024) + 7 := by
    show 8 * (2 * (r.val / 768 - 0) + 1 * (n.val / 1024 - 0)) + 7 = _
    omega
  have hl : Cert.HcatKernelIdeal.Value.loc2Of (ix2 r n) = ix2 (⟨r.val % 768, by omega⟩ : Fin 768) (⟨n.val % 1024, by omega⟩ : Fin 1024) := by
    funext x
    match x with
    | ⟨0, _⟩ => rfl
    | ⟨1, _⟩ => rfl
  have e := outsAt0_C m c ⟨_, pt_lt r n (k := 7) (by omega)⟩ (by dsimp only; omega) (by dsimp only; omega) (by dsimp only; omega)
  rw [last_eq] at e
  unfold Cert.HcatKernelIdeal.Value.G2
  rw [dif_pos (by rw [hp]; exact pt_lt r n (by omega)), ← Cert.HcatKernelIdeal.Value.outsAt0_sweep m c _ (by rw [hp]; exact pt_lt r n (by omega)), hl]
  rw [Finset.sum_range_succ, ← acc_at m c r n (k := 6) (by omega), ← product m c r n (k := 7) (by omega)]
  simp only [hp]
  exact congrFun (congrArg Prod.fst e) _

end Kernel

section Reference
open Cert.HcatReferenceIdeal Cert.HcatReferenceIdeal.Gen

/-- What the reference computes. -/
def ref (y : FVec Ideal S2304x12288 .bf16) (w : FVec Ideal S8x2048x1536 .bf16) : FVec Ideal S2304x2048 .bf16 :=
  let v : FVec Ideal S2048x12288 .f32 := shapeCast _ (transpose S2048x8x1536 [1, 0, 2] (extf .f32 w bitsLt_bf16_f32)
    transposes_S8x2048x1536_S2048x8x1536_1_0_2) shapeCasts_S2048x8x1536_S2048x12288
  truncf .bf16 (concatenate S2304x2048 0 [
    ⟨S256x2048, (Host.dotGeneral dot_S256x12288_S2048x12288_S256x2048_1_1_0_0_n_n none
      (extf .f32 (extractStridedSlice S256x12288 ![0, 0] y slices_S2304x12288_S256x12288_0_0) bitsLt_bf16_f32) v)⟩,
    ⟨S2048x2048, (Host.dotGeneral dot_S2048x12288_S2048x12288_S2048x2048_1_1_0_0_n_n none
      (extf .f32 (extractStridedSlice S2048x12288 ![256, 0] y slices_S2304x12288_S2048x12288_256_0) bitsLt_bf16_f32) v)⟩]
    concatenates_S256x2048_S2048x2048_S2304x2048_d0) bitsLt_bf16_f32

theorem ref_at (y : FVec Ideal S2304x12288 .bf16) (w : FVec Ideal S8x2048x1536 .bf16) (r : Fin 2304) (n : Fin 2048) :
    ref y w (ix2 r n) = (∑ k : Fin 12288, y (ix2 r k) * w (ix3 (⟨k.val / 1536, by omega⟩ : Fin 8) n (⟨k.val % 1536, by omega⟩ : Fin 1536)) : EReal) := by
  unfold ref
  pointwise
  split
  · rfl
  · have e : (⟨256 + (r.val - 256), by omega⟩ : Fin 2304) = r := Fin.ext (by dsimp only; omega)
    exact Finset.sum_congr rfl fun k _ => congrArg (fun r => y (ix2 r k) * w (ix3 (⟨k.val / 1536, by omega⟩ : Fin 8) n (⟨k.val % 1536, by omega⟩ : Fin 1536))) e

end Reference

section
open Cert.HcatKernelIdeal

/-- The blocks of the weights in turn are all their columns. -/
theorem sum_terms (m : (ℓ : Loc nD τ sig) → Buf (Elt Ideal) ℓ) (c : Dev nD) (r : Fin 2304) (n : Fin 2048) :
    (∑ k : Fin 12288, Y m c (ix2 r k) * W m c (ix3 (⟨k.val / 1536, by omega⟩ : Fin 8) n (⟨k.val % 1536, by omega⟩ : Fin 1536)) : EReal)
      = ∑ j ∈ Finset.range 8, term m c r n j := by
  rw [Finset.sum_range]
  refine (sum_blocks 8 1536 (fun k : Fin 12288 => (Y m c (ix2 r k) * W m c (ix3 (⟨k.val / 1536, by omega⟩ : Fin 8) n (⟨k.val % 1536, by omega⟩ : Fin 1536)) : EReal))).symm.trans ?_
  refine Finset.sum_congr rfl fun j _ => ?_
  unfold term
  refine Finset.sum_congr rfl fun q _ => ?_
  have hj := j.isLt
  have hq := q.isLt
  have e0 : (⟨1536 * j.val + q.val, by omega⟩ : Fin 12288) = ⟨(1536 * j.val + q.val) % 12288, Nat.mod_lt _ (by decide)⟩ := Fin.ext (by dsimp only; omega)
  have e1 : (⟨(1536 * j.val + q.val) / 1536, by omega⟩ : Fin 8) = ⟨j.val % 8, Nat.mod_lt _ (by decide)⟩ := Fin.ext (by dsimp only; omega)
  have e2 : (⟨(1536 * j.val + q.val) % 1536, Nat.mod_lt _ (by decide)⟩ : Fin 1536) = q := Fin.ext (by dsimp only; omega)
  show Y m c (ix2 r (⟨1536 * j.val + q.val, by omega⟩ : Fin 12288)) * W m c (ix3 (⟨(1536 * j.val + q.val) / 1536, by omega⟩ : Fin 8) n (⟨(1536 * j.val + q.val) % 1536, Nat.mod_lt _ (by decide)⟩ : Fin 1536)) = _
  rw [e1, e2, e0]

end

theorem algebraic : Cert.algebraic_HcatKernelIdeal_HcatReferenceIdeal := by
  intro m g m' g' _ hargs
  refine ⟨fun c => Cert.HcatKernelIdeal.Value.G2 m c, Cert.HcatKernelIdeal.Value.run m g,
    (θ_run Cert.HcatReferenceIdeal.defs _ _).mono (fun r h c => ?_) (Cert.HcatReferenceIdeal.Value.run m' g')⟩
  obtain ⟨h0, hk⟩ := h c
  obtain ⟨a0, a1⟩ := hargs c
  rw [a0, a1] at h0
  refine ⟨h0.trans ?_, hk⟩
  funext i
  obtain ⟨r, n, rfl⟩ : ∃ (r : Fin 2304) (n : Fin 2048), i = ix2 r n := ⟨i 0, i 1, eq_ix2 i⟩
  exact (ref_at (Y m c) (W m c) r n).trans ((sum_terms m c r n).trans (final m c r n).symm)

end Cert.HcatValue
end
-- ==== Proof.InValue.lean ====
module

public import proofs.«01_k».proof.Defs
public import proofs.«01_k».proof.Proof.Gen.InKernel
public import proofs.«01_k».proof.Proof.Gen.InKernel.Frame
public import proofs.«01_k».proof.Proof.Gen.InKernelIdeal
public import proofs.«01_k».proof.Proof.Gen.InKernelIdeal.Value
public import proofs.«01_k».proof.Proof.Gen.InReferenceIdeal
public import proofs.«01_k».proof.Proof.Gen.InReferenceIdeal.Run
public import proofs.«01_k».proof.Proof.Products

/-! The input projection, forward. Block `h` of the eight holds 1536 columns of the weights; a point of the grid computes 768 rows
    and half of the columns of one block. -/

@[expose] public section

set_option maxRecDepth 16384

noncomputable section

namespace Cert.InValue

open Idealize.ShloMosaic Idealize.ShloMosaic.TcCoe Idealize.SL.Sem Cert.Products

section Kernel
open Cert.InKernelIdeal Cert.InKernelIdeal.Gen

theorem pay_at (x0 : Vec Ideal S768x2048 .bf16) (x1 : Vec Ideal S1x2048x768 .bf16) (a : Fin 768) (b : Fin 768) :
    k0_pay1 x0 x1 (ix2 a b) = (∑ k : Fin 2048, x0 (ix2 a k) * x1 (ix3 0 k b) : EReal) := by
  unfold k0_pay1
  pointwise

theorem index_facts : ∀ t : Fin cfg0.N, (win0_0.index t (0 : Fin 2) = t.val / 16 ∧ win0_0.index t (1 : Fin 2) = 0)
    ∧ (win0_1.index t (0 : Fin 3) = t.val % 16 / 2 ∧ win0_1.index t (1 : Fin 3) = 0 ∧ win0_1.index t (2 : Fin 3) = t.val % 2)
    ∧ (win0_2.index t (0 : Fin 2) = t.val / 16 ∧ win0_2.index t (1 : Fin 2) = t.val % 16) :=
  (by decide +kernel : ∀ t : Fin grid0.N, _)

variable (m : (ℓ : Loc nD τ sig) → Buf (Elt Ideal) ℓ) (c : Dev nD)

abbrev X : FVec Ideal S2304x2048 .bf16 := m ((c : Thread nD τ).loc main_arg0)
abbrev W : FVec Ideal S8x2048x1536 .bf16 := m ((c : Thread nD τ).loc main_arg1)

variable (r : Fin 2304) (n : Fin 12288)

/-- The point that computes an element. -/
def pt : Fin cfg0.N := ⟨16 * (r.val / 768) + n.val / 768, by rw [show cfg0.N = 48 from N_0]; omega⟩

theorem final : (dats m 0 c).arrAt 2 cfg0.N (ix2 r n)
    = (∑ k : Fin 2048, X m c (ix2 r k) * W m c (ix3 (⟨n.val / 1536, by omega⟩ : Fin 8) k (⟨n.val % 1536, by omega⟩ : Fin 1536)) : EReal) := by
  obtain ⟨⟨i0, i1⟩, ⟨i2, i3, i4⟩, i5, i6⟩ := index_facts (pt r n)
  have d : (pt r n).val / 16 = r.val / 768 := by unfold pt; dsimp only; omega
  have e : (pt r n).val % 16 = n.val / 768 := by unfold pt; dsimp only; omega
  have e' : (pt r n).val % 2 = n.val / 768 % 2 := by unfold pt; dsimp only; omega
  rw [d] at i0 i5; rw [e] at i2 i6; rw [e'] at i4
  let a : Fin 768 := ⟨r.val % 768, by omega⟩
  let b : Fin 768 := ⟨n.val % 768, by omega⟩
  have e2 : ((cfg0.win 2).blk (pt r n)).view.emb (ix2 a b) = ix2 r n := by
    funext x; apply Fin.ext
    match x with
    | ⟨0, _⟩ => show win0_2.index (pt r n) (0 : Fin 2) * 768 + 1 * (r.val % 768) = r.val; omega
    | ⟨1, _⟩ => show win0_2.index (pt r n) (1 : Fin 2) * 768 + 1 * (n.val % 768) = n.val; omega
  have e0 : ∀ k, iblk m c 0 (pt r n) (ix2 a k) = X m c (ix2 r k) := fun k => by
    show V m c main_arg0 (((cfg0.win 0).blk (pt r n)).view.emb (ix2 a k)) = _
    rw [V_main_arg0]
    congr 1
    funext x; apply Fin.ext
    match x with
    | ⟨0, _⟩ => show win0_0.index (pt r n) (0 : Fin 2) * 768 + 1 * (r.val % 768) = r.val; omega
    | ⟨1, _⟩ => show win0_0.index (pt r n) (1 : Fin 2) * 2048 + 1 * k.val = k.val; omega
  have e1 : ∀ k, iblk m c 1 (pt r n) (ix3 0 k b) = W m c (ix3 (⟨n.val / 1536, by omega⟩ : Fin 8) k (⟨n.val % 1536, by omega⟩ : Fin 1536)) := fun k => by
    show V m c main_arg1 (((cfg0.win 1).blk (pt r n)).view.emb (ix3 0 k b)) = _
    rw [V_main_arg1]
    congr 1
    funext x; apply Fin.ext
    match x with
    | ⟨0, _⟩ => show win0_1.index (pt r n) (0 : Fin 3) * 1 + 1 * 0 = n.val / 1536; omega
    | ⟨1, _⟩ => show win0_1.index (pt r n) (1 : Fin 3) * 2048 + 1 * k.val = k.val; omega
    | ⟨2, _⟩ => show win0_1.index (pt r n) (2 : Fin 3) * 768 + 1 * (n.val % 768) = n.val % 1536; omega
  have w := congrFun (Cert.InKernelIdeal.Value.blocks2 m c (pt r n) (flush0_2 _)) (ix2 a b)
  rw [Cert.InKernelIdeal.Value.flushed2] at w
  have w' : (dats m 0 c).arrAt 2 cfg0.N (((cfg0.win 2).blk (pt r n)).view.emb (ix2 a b)) = out0_2 (F := Ideal) (iblk m c 0 (pt r n)) (iblk m c 1 (pt r n)) (ix2 a b) := w
  rw [e2] at w'
  unfold out0_2 r0_0 r0_1 r0_2 at w'
  rw [View.canon_unit_zero zeros2, View.ld_unit_zero (S := S768x2048) zeros2, View.ld_unit_zero (S := S1x2048x768) zeros3, pay_at] at w'
  simp only [e0, e1] at w'
  exact w'

end Kernel

section Reference
open Cert.InReferenceIdeal Cert.InReferenceIdeal.Gen

/-- What the reference computes. -/
def ref (x : FVec Ideal S2304x2048 .bf16) (w : FVec Ideal S8x2048x1536 .bf16) : FVec Ideal S2304x12288 .f32 :=
  let v : FVec Ideal S2048x12288 .f32 := shapeCast _ (transpose S2048x8x1536 [1, 0, 2] (extf .f32 w bitsLt_bf16_f32)
    transposes_S8x2048x1536_S2048x8x1536_1_0_2) shapeCasts_S2048x8x1536_S2048x12288
  concatenate S2304x12288 0 [
    ⟨S256x12288, (Host.dotGeneral dot_S256x2048_S2048x12288_S256x12288_1_0_0_1_n_n none
      (extf .f32 (extractStridedSlice S256x2048 ![0, 0] x slices_S2304x2048_S256x2048_0_0) bitsLt_bf16_f32) v)⟩,
    ⟨S2048x12288, (Host.dotGeneral dot_S2048x2048_S2048x12288_S2048x12288_1_0_0_1_n_n none
      (extf .f32 (extractStridedSlice S2048x2048 ![256, 0] x slices_S2304x2048_S2048x2048_256_0) bitsLt_bf16_f32) v)⟩]
    concatenates_S256x12288_S2048x12288_S2304x12288_d0

theorem ref_at (x : FVec Ideal S2304x2048 .bf16) (w : FVec Ideal S8x2048x1536 .bf16) (r : Fin 2304) (n : Fin 12288) :
    ref x w (ix2 r n) = (∑ k : Fin 2048, x (ix2 r k) * w (ix3 (⟨n.val / 1536, by omega⟩ : Fin 8) k (⟨n.val % 1536, by omega⟩ : Fin 1536)) : EReal) := by
  unfold ref
  pointwise
  split
  · rfl
  · have e : (⟨256 + (r.val - 256), by omega⟩ : Fin 2304) = r := Fin.ext (by dsimp only; omega)
    exact Finset.sum_congr rfl fun k _ => congrArg (fun r => x (ix2 r k) * w (ix3 (⟨n.val / 1536, by omega⟩ : Fin 8) k (⟨n.val % 1536, by omega⟩ : Fin 1536))) e

end Reference

theorem algebraic : Cert.algebraic_InKernelIdeal_InReferenceIdeal := by
  intro m g m' g' _ hargs
  refine ⟨fun c => (Cert.InKernelIdeal.Gen.dats m 0 c).arrAt 2 Cert.InKernelIdeal.cfg0.N, Cert.InKernelIdeal.Value.run_blocks m g,
    (θ_run Cert.InReferenceIdeal.defs _ _).mono (fun r h c => ?_) (Cert.InReferenceIdeal.Value.run m' g')⟩
  obtain ⟨h0, hk⟩ := h c
  obtain ⟨a0, a1⟩ := hargs c
  rw [a0, a1] at h0
  refine ⟨h0.trans ?_, hk⟩
  funext i
  obtain ⟨r, n, rfl⟩ : ∃ (r : Fin 2304) (n : Fin 12288), i = ix2 r n := ⟨i 0, i 1, eq_ix2 i⟩
  exact (ref_at (X m c) (W m c) r n).trans (final m c r n).symm

end Cert.InValue
end
-- ==== Proof.FwdValue.lean ====
module

public import proofs.«01_k».proof.Defs
public import proofs.«01_k».proof.Proof.Gen.FwdKernel
public import proofs.«01_k».proof.Proof.Gen.FwdKernel.Frame
public import proofs.«01_k».proof.Proof.Gen.FwdKernelIdeal
public import proofs.«01_k».proof.Proof.Gen.FwdKernelIdeal.Value
public import proofs.«01_k».proof.Proof.Gen.FwdReferenceIdeal
public import proofs.«01_k».proof.Proof.Gen.FwdReferenceIdeal.Run
public import proofs.«01_k».proof.Proof.Products

/-! Either of the FFN's two up-projections, forward. Block `h` of the eight holds 768 of the 6144 columns of the weights; a point of
    the grid computes 512 rows of one block's columns. -/

@[expose] public section

set_option maxRecDepth 16384

noncomputable section

namespace Cert.FwdValue

open Idealize.ShloMosaic Idealize.ShloMosaic.TcCoe Idealize.SL.Sem Cert.Products

section Kernel
open Cert.FwdKernelIdeal Cert.FwdKernelIdeal.Gen

theorem pay_at (x0 : Vec Ideal S512x2048 .bf16) (x1 : Vec Ideal S1x2048x768 .bf16) (a : Fin 512) (b : Fin 768) :
    k0_pay1 x0 x1 (ix2 a b) = (∑ k : Fin 2048, x0 (ix2 a k) * x1 (ix3 0 k b) : EReal) := by
  unfold k0_pay1
  pointwise

theorem index_facts : ∀ t : Fin cfg0.N, (win0_0.index t (0 : Fin 2) = t.val / 8 ∧ win0_0.index t (1 : Fin 2) = 0)
    ∧ (win0_1.index t (0 : Fin 3) = t.val % 8 ∧ win0_1.index t (1 : Fin 3) = 0 ∧ win0_1.index t (2 : Fin 3) = 0)
    ∧ (win0_2.index t (0 : Fin 2) = t.val / 8 ∧ win0_2.index t (1 : Fin 2) = t.val % 8) :=
  (by decide +kernel : ∀ t : Fin grid0.N, _)

variable (m : (ℓ : Loc nD τ sig) → Buf (Elt Ideal) ℓ) (c : Dev nD)

abbrev X : FVec Ideal S2048x2048 .bf16 := m ((c : Thread nD τ).loc main_arg0)
abbrev W : FVec Ideal S8x2048x768 .bf16 := m ((c : Thread nD τ).loc main_arg1)

variable (r : Fin 2048) (n : Fin 6144)

/-- The point that computes an element. -/
def pt : Fin cfg0.N := ⟨8 * (r.val / 512) + n.val / 768, by rw [show cfg0.N = 32 from N_0]; omega⟩

theorem final : (dats m 0 c).arrAt 2 cfg0.N (ix2 r n)
    = (∑ k : Fin 2048, X m c (ix2 r k) * W m c (ix3 (⟨n.val / 768, by omega⟩ : Fin 8) k (⟨n.val % 768, by omega⟩ : Fin 768)) : EReal) := by
  obtain ⟨⟨i0, i1⟩, ⟨i2, i3, i4⟩, i5, i6⟩ := index_facts (pt r n)
  have d : (pt r n).val / 8 = r.val / 512 := by unfold pt; dsimp only; omega
  have e : (pt r n).val % 8 = n.val / 768 := by unfold pt; dsimp only; omega
  rw [d] at i0 i5; rw [e] at i2 i6
  let a : Fin 512 := ⟨r.val % 512, by omega⟩
  let b : Fin 768 := ⟨n.val % 768, by omega⟩
  have e2 : ((cfg0.win 2).blk (pt r n)).view.emb (ix2 a b) = ix2 r n := by
    funext x; apply Fin.ext
    match x with
    | ⟨0, _⟩ => show win0_2.index (pt r n) (0 : Fin 2) * 512 + 1 * (r.val % 512) = r.val; omega
    | ⟨1, _⟩ => show win0_2.index (pt r n) (1 : Fin 2) * 768 + 1 * (n.val % 768) = n.val; omega
  have e0 : ∀ k, iblk m c 0 (pt r n) (ix2 a k) = X m c (ix2 r k) := fun k => by
    show V m c main_arg0 (((cfg0.win 0).blk (pt r n)).view.emb (ix2 a k)) = _
    rw [V_main_arg0]
    congr 1
    funext x; apply Fin.ext
    match x with
    | ⟨0, _⟩ => show win0_0.index (pt r n) (0 : Fin 2) * 512 + 1 * (r.val % 512) = r.val; omega
    | ⟨1, _⟩ => show win0_0.index (pt r n) (1 : Fin 2) * 2048 + 1 * k.val = k.val; omega
  have e1 : ∀ k, iblk m c 1 (pt r n) (ix3 0 k b) = W m c (ix3 (⟨n.val / 768, by omega⟩ : Fin 8) k (⟨n.val % 768, by omega⟩ : Fin 768)) := fun k => by
    show V m c main_arg1 (((cfg0.win 1).blk (pt r n)).view.emb (ix3 0 k b)) = _
    rw [V_main_arg1]
    congr 1
    funext x; apply Fin.ext
    match x with
    | ⟨0, _⟩ => show win0_1.index (pt r n) (0 : Fin 3) * 1 + 1 * 0 = n.val / 768; omega
    | ⟨1, _⟩ => show win0_1.index (pt r n) (1 : Fin 3) * 2048 + 1 * k.val = k.val; omega
    | ⟨2, _⟩ => show win0_1.index (pt r n) (2 : Fin 3) * 768 + 1 * (n.val % 768) = n.val % 768; omega
  have w := congrFun (Cert.FwdKernelIdeal.Value.blocks2 m c (pt r n) (flush0_2 _)) (ix2 a b)
  rw [Cert.FwdKernelIdeal.Value.flushed2] at w
  have w' : (dats m 0 c).arrAt 2 cfg0.N (((cfg0.win 2).blk (pt r n)).view.emb (ix2 a b)) = out0_2 (F := Ideal) (iblk m c 0 (pt r n)) (iblk m c 1 (pt r n)) (ix2 a b) := w
  rw [e2] at w'
  unfold out0_2 r0_0 r0_1 r0_2 at w'
  rw [View.canon_unit_zero zeros2, View.ld_unit_zero (S := S512x2048) zeros2, View.ld_unit_zero (S := S1x2048x768) zeros3, pay_at] at w'
  simp only [e0, e1] at w'
  exact w'

end Kernel

section Reference
open Cert.FwdReferenceIdeal Cert.FwdReferenceIdeal.Gen

/-- What the reference computes. -/
def ref (x : FVec Ideal S2048x2048 .bf16) (w : FVec Ideal S8x2048x768 .bf16) : FVec Ideal S2048x6144 .f32 :=
  Host.dotGeneral dot_S2048x2048_S2048x6144_S2048x6144_1_0_0_1_n_n none (extf .f32 x bitsLt_bf16_f32)
    (shapeCast _ (transpose S2048x8x768 [1, 0, 2] (extf .f32 w bitsLt_bf16_f32) transposes_S8x2048x768_S2048x8x768_1_0_2) shapeCasts_S2048x8x768_S2048x6144)

theorem ref_at (x : FVec Ideal S2048x2048 .bf16) (w : FVec Ideal S8x2048x768 .bf16) (r : Fin 2048) (n : Fin 6144) :
    ref x w (ix2 r n) = (∑ k : Fin 2048, x (ix2 r k) * w (ix3 (⟨n.val / 768, by omega⟩ : Fin 8) k (⟨n.val % 768, by omega⟩ : Fin 768)) : EReal) := by
  unfold ref
  pointwise

end Reference

theorem algebraic : Cert.algebraic_FwdKernelIdeal_FwdReferenceIdeal := by
  intro m g m' g' _ hargs
  refine ⟨fun c => (Cert.FwdKernelIdeal.Gen.dats m 0 c).arrAt 2 Cert.FwdKernelIdeal.cfg0.N, Cert.FwdKernelIdeal.Value.run_blocks m g,
    (θ_run Cert.FwdReferenceIdeal.defs _ _).mono (fun r h c => ?_) (Cert.FwdReferenceIdeal.Value.run m' g')⟩
  obtain ⟨h0, hk⟩ := h c
  obtain ⟨a0, a1⟩ := hargs c
  rw [a0, a1] at h0
  refine ⟨h0.trans ?_, hk⟩
  funext i
  obtain ⟨r, n, rfl⟩ : ∃ (r : Fin 2048) (n : Fin 6144), i = ix2 r n := ⟨i 0, i 1, eq_ix2 i⟩
  exact (ref_at (X m c) (W m c) r n).trans (final m c r n).symm

end Cert.FwdValue
end
-- ==== Proof.UpValue.lean ====
module

public import proofs.«01_k».proof.Defs
public import proofs.«01_k».proof.Proof.Gen.UpKernel
public import proofs.«01_k».proof.Proof.Gen.UpKernel.Frame
public import proofs.«01_k».proof.Proof.Gen.UpKernelIdeal
public import proofs.«01_k».proof.Proof.Gen.UpKernelIdeal.Value
public import proofs.«01_k».proof.Proof.Gen.UpReferenceIdeal
public import proofs.«01_k».proof.Proof.Gen.UpReferenceIdeal.Run
public import proofs.«01_k».proof.Proof.Products

/-! The gradient of either of the FFN's two up-projections' weights. Block `h` of the eight holds 768 of the 6144 columns (the FFN's
    5632 and zeros); a point of the grid computes 1024 rows of one block, over all tokens at once. -/

@[expose] public section

set_option maxRecDepth 16384

noncomputable section

namespace Cert.UpValue

open Idealize.ShloMosaic Idealize.ShloMosaic.TcCoe Idealize.SL.Sem Cert.Products

section Kernel
open Cert.UpKernelIdeal Cert.UpKernelIdeal.Gen

theorem pay_at (x0 : Vec Ideal S2048x1024 .bf16) (x1 : Vec Ideal S2048x768 .bf16) (a : Fin 1024) (q : Fin 768) :
    k0_pay1 x0 x1 (ix3 0 a q) = (∑ k : Fin 2048, x0 (ix2 k a) * x1 (ix2 k q) : EReal) := by
  unfold k0_pay1
  pointwise

theorem index_facts : ∀ t : Fin cfg0.N, (win0_0.index t (0 : Fin 2) = 0 ∧ win0_0.index t (1 : Fin 2) = t.val / 8)
    ∧ (win0_1.index t (0 : Fin 2) = 0 ∧ win0_1.index t (1 : Fin 2) = t.val % 8)
    ∧ (win0_2.index t (0 : Fin 3) = t.val % 8 ∧ win0_2.index t (1 : Fin 3) = t.val / 8 ∧ win0_2.index t (2 : Fin 3) = 0) :=
  (by decide +kernel : ∀ t : Fin grid0.N, _)

variable (m : (ℓ : Loc nD τ sig) → Buf (Elt Ideal) ℓ) (c : Dev nD)

abbrev X : FVec Ideal S2048x2048 .bf16 := m ((c : Thread nD τ).loc main_arg0)
abbrev Y : FVec Ideal S2048x6144 .bf16 := m ((c : Thread nD τ).loc main_arg1)

variable (h : Fin 8) (r : Fin 2048) (q : Fin 768)

/-- The point that computes an element. -/
def pt : Fin cfg0.N := ⟨8 * (r.val / 1024) + h.val, by rw [show cfg0.N = 16 from N_0]; omega⟩

theorem final : (dats m 0 c).arrAt 2 cfg0.N (ix3 h r q)
    = (∑ k : Fin 2048, X m c (ix2 k r) * Y m c (ix2 k (⟨h.val * 768 + q.val, by omega⟩ : Fin 6144)) : EReal) := by
  obtain ⟨⟨i0, i1⟩, ⟨i2, i3⟩, i4, i5, i6⟩ := index_facts (pt h r)
  have d8 : (pt h r).val / 8 = r.val / 1024 := by unfold pt; dsimp only; omega
  have m8 : (pt h r).val % 8 = h.val := by unfold pt; dsimp only; omega
  rw [d8] at i1 i5; rw [m8] at i3 i4
  let a : Fin 1024 := ⟨r.val % 1024, by omega⟩
  have e2 : ((cfg0.win 2).blk (pt h r)).view.emb (ix3 0 a q) = ix3 h r q := by
    funext x; apply Fin.ext
    match x with
    | ⟨0, _⟩ => show win0_2.index (pt h r) (0 : Fin 3) * 1 + 1 * 0 = h.val; omega
    | ⟨1, _⟩ => show win0_2.index (pt h r) (1 : Fin 3) * 1024 + 1 * (r.val % 1024) = r.val; omega
    | ⟨2, _⟩ => show win0_2.index (pt h r) (2 : Fin 3) * 768 + 1 * q.val = q.val; omega
  have e0 : ∀ k, iblk m c 0 (pt h r) (ix2 k a) = X m c (ix2 k r) := fun k => by
    show V m c main_arg0 (((cfg0.win 0).blk (pt h r)).view.emb (ix2 k a)) = _
    rw [V_main_arg0]
    congr 1
    funext x; apply Fin.ext
    match x with
    | ⟨0, _⟩ => show win0_0.index (pt h r) (0 : Fin 2) * 2048 + 1 * k.val = k.val; omega
    | ⟨1, _⟩ => show win0_0.index (pt h r) (1 : Fin 2) * 1024 + 1 * (r.val % 1024) = r.val; omega
  have e1 : ∀ k, iblk m c 1 (pt h r) (ix2 k q) = Y m c (ix2 k (⟨h.val * 768 + q.val, by omega⟩ : Fin 6144)) := fun k => by
    show V m c main_arg1 (((cfg0.win 1).blk (pt h r)).view.emb (ix2 k q)) = _
    rw [V_main_arg1]
    congr 1
    funext x; apply Fin.ext
    match x with
    | ⟨0, _⟩ => show win0_1.index (pt h r) (0 : Fin 2) * 2048 + 1 * k.val = k.val; omega
    | ⟨1, _⟩ => show win0_1.index (pt h r) (1 : Fin 2) * 768 + 1 * q.val = h.val * 768 + q.val; omega
  have w := congrFun (Cert.UpKernelIdeal.Value.blocks2 m c (pt h r) (flush0_2 _)) (ix3 0 a q)
  rw [Cert.UpKernelIdeal.Value.flushed2] at w
  have w' : (dats m 0 c).arrAt 2 cfg0.N (((cfg0.win 2).blk (pt h r)).view.emb (ix3 0 a q)) = out0_2 (F := Ideal) (iblk m c 0 (pt h r)) (iblk m c 1 (pt h r)) (ix3 0 a q) := w
  rw [e2] at w'
  unfold out0_2 r0_0 r0_1 r0_2 at w'
  rw [View.canon_unit_zero zeros3, View.ld_unit_zero (S := S2048x1024) zeros2, View.ld_unit_zero (S := S2048x768) zeros2, pay_at] at w'
  simp only [e0, e1] at w'
  exact w'

end Kernel

section Reference
open Cert.UpReferenceIdeal Cert.UpReferenceIdeal.Gen

/-- What the reference computes. -/
def ref (x : FVec Ideal S2048x2048 .bf16) (y : FVec Ideal S2048x6144 .bf16) : FVec Ideal S8x2048x768 .bf16 :=
  truncf .bf16 (transpose S8x2048x768 [1, 0, 2] (shapeCast _ (transpose S2048x6144 [1, 0]
    (Host.dotGeneral dot_S2048x6144_S2048x2048_S6144x2048_0_0_1_1_n_n none (extf .f32 y bitsLt_bf16_f32) (extf .f32 x bitsLt_bf16_f32))
    transposes_S6144x2048_S2048x6144_1_0) shapeCasts_S2048x6144_S2048x8x768) transposes_S2048x8x768_S8x2048x768_1_0_2) bitsLt_bf16_f32

theorem ref_at (x : FVec Ideal S2048x2048 .bf16) (y : FVec Ideal S2048x6144 .bf16) (h : Fin 8) (r : Fin 2048) (q : Fin 768) :
    ref x y (ix3 h r q) = (∑ k : Fin 2048, x (ix2 k r) * y (ix2 k (⟨h.val * 768 + q.val, by omega⟩ : Fin 6144)) : EReal) := by
  unfold ref
  pointwise
  exact Finset.sum_congr rfl fun k _ => mul_comm _ _

end Reference

theorem algebraic : Cert.algebraic_UpKernelIdeal_UpReferenceIdeal := by
  intro m g m' g' _ hargs
  refine ⟨fun c => (Cert.UpKernelIdeal.Gen.dats m 0 c).arrAt 2 Cert.UpKernelIdeal.cfg0.N, Cert.UpKernelIdeal.Value.run_blocks m g,
    (θ_run Cert.UpReferenceIdeal.defs _ _).mono (fun r h c => ?_) (Cert.UpReferenceIdeal.Value.run m' g')⟩
  obtain ⟨h0, hk⟩ := h c
  obtain ⟨a0, a1⟩ := hargs c
  rw [a0, a1] at h0
  refine ⟨h0.trans ?_, hk⟩
  funext i
  obtain ⟨u, r, q, rfl⟩ : ∃ (u : Fin 8) (r : Fin 2048) (q : Fin 768), i = ix3 u r q := ⟨i 0, i 1, i 2, eq_ix3 i⟩
  exact (ref_at (X m c) (Y m c) u r q).trans (final m c u r q).symm

end Cert.UpValue
end
-- ==== Proof.DownValue.lean ====
module

public import proofs.«01_k».proof.Defs
public import proofs.«01_k».proof.Proof.Gen.DownKernel
public import proofs.«01_k».proof.Proof.Gen.DownKernel.Frame
public import proofs.«01_k».proof.Proof.Gen.DownKernelIdeal
public import proofs.«01_k».proof.Proof.Gen.DownKernelIdeal.Value
public import proofs.«01_k».proof.Proof.Gen.DownReferenceIdeal
public import proofs.«01_k».proof.Proof.Gen.DownReferenceIdeal.Run
public import proofs.«01_k».proof.Proof.Products

/-! The gradient of the FFN's down-projection's weights: 6144 rows (the FFN's 5632 and zeros) by 2048 columns. A point of the grid
    computes 1024 rows and 512 columns, over all tokens at once. -/

@[expose] public section

set_option maxRecDepth 16384

noncomputable section

namespace Cert.DownValue

open Idealize.ShloMosaic Idealize.ShloMosaic.TcCoe Idealize.SL.Sem Cert.Products

section Kernel
open Cert.DownKernelIdeal Cert.DownKernelIdeal.Gen

theorem pay_at (x0 : Vec Ideal S2048x1024 .bf16) (x1 : Vec Ideal S2048x512 .bf16) (a : Fin 1024) (b : Fin 512) :
    k0_pay1 x0 x1 (ix3 0 a b) = (∑ k : Fin 2048, x0 (ix2 k a) * x1 (ix2 k b) : EReal) := by
  unfold k0_pay1
  pointwise

theorem index_facts : ∀ t : Fin cfg0.N, (win0_0.index t (0 : Fin 2) = 0 ∧ win0_0.index t (1 : Fin 2) = t.val / 4)
    ∧ (win0_1.index t (0 : Fin 2) = 0 ∧ win0_1.index t (1 : Fin 2) = t.val % 4)
    ∧ (win0_2.index t (0 : Fin 3) = 0 ∧ win0_2.index t (1 : Fin 3) = t.val / 4 ∧ win0_2.index t (2 : Fin 3) = t.val % 4) :=
  (by decide +kernel : ∀ t : Fin grid0.N, _)

variable (m : (ℓ : Loc nD τ sig) → Buf (Elt Ideal) ℓ) (c : Dev nD)

abbrev X : FVec Ideal S2048x6144 .bf16 := m ((c : Thread nD τ).loc main_arg0)
abbrev Y : FVec Ideal S2048x2048 .bf16 := m ((c : Thread nD τ).loc main_arg1)

variable (r : Fin 6144) (q : Fin 2048)

/-- The point that computes an element. -/
def pt : Fin cfg0.N := ⟨4 * (r.val / 1024) + q.val / 512, by rw [show cfg0.N = 24 from N_0]; omega⟩

theorem final : (dats m 0 c).arrAt 2 cfg0.N (ix3 0 r q)
    = (∑ k : Fin 2048, X m c (ix2 k r) * Y m c (ix2 k q) : EReal) := by
  obtain ⟨⟨i0, i1⟩, ⟨i2, i3⟩, i4, i5, i6⟩ := index_facts (pt r q)
  have d4 : (pt r q).val / 4 = r.val / 1024 := by unfold pt; dsimp only; omega
  have m4 : (pt r q).val % 4 = q.val / 512 := by unfold pt; dsimp only; omega
  rw [d4] at i1 i5; rw [m4] at i3 i6
  let a : Fin 1024 := ⟨r.val % 1024, by omega⟩
  let b : Fin 512 := ⟨q.val % 512, by omega⟩
  have e2 : ((cfg0.win 2).blk (pt r q)).view.emb (ix3 0 a b) = ix3 0 r q := by
    funext x; apply Fin.ext
    match x with
    | ⟨0, _⟩ => show win0_2.index (pt r q) (0 : Fin 3) * 1 + 1 * 0 = 0; omega
    | ⟨1, _⟩ => show win0_2.index (pt r q) (1 : Fin 3) * 1024 + 1 * (r.val % 1024) = r.val; omega
    | ⟨2, _⟩ => show win0_2.index (pt r q) (2 : Fin 3) * 512 + 1 * (q.val % 512) = q.val; omega
  have e0 : ∀ k, iblk m c 0 (pt r q) (ix2 k a) = X m c (ix2 k r) := fun k => by
    show V m c main_arg0 (((cfg0.win 0).blk (pt r q)).view.emb (ix2 k a)) = _
    rw [V_main_arg0]
    congr 1
    funext x; apply Fin.ext
    match x with
    | ⟨0, _⟩ => show win0_0.index (pt r q) (0 : Fin 2) * 2048 + 1 * k.val = k.val; omega
    | ⟨1, _⟩ => show win0_0.index (pt r q) (1 : Fin 2) * 1024 + 1 * (r.val % 1024) = r.val; omega
  have e1 : ∀ k, iblk m c 1 (pt r q) (ix2 k b) = Y m c (ix2 k q) := fun k => by
    show V m c main_arg1 (((cfg0.win 1).blk (pt r q)).view.emb (ix2 k b)) = _
    rw [V_main_arg1]
    congr 1
    funext x; apply Fin.ext
    match x with
    | ⟨0, _⟩ => show win0_1.index (pt r q) (0 : Fin 2) * 2048 + 1 * k.val = k.val; omega
    | ⟨1, _⟩ => show win0_1.index (pt r q) (1 : Fin 2) * 512 + 1 * (q.val % 512) = q.val; omega
  have w := congrFun (Cert.DownKernelIdeal.Value.blocks2 m c (pt r q) (flush0_2 _)) (ix3 0 a b)
  rw [Cert.DownKernelIdeal.Value.flushed2] at w
  have w' : (dats m 0 c).arrAt 2 cfg0.N (((cfg0.win 2).blk (pt r q)).view.emb (ix3 0 a b)) = out0_2 (F := Ideal) (iblk m c 0 (pt r q)) (iblk m c 1 (pt r q)) (ix3 0 a b) := w
  rw [e2] at w'
  unfold out0_2 r0_0 r0_1 r0_2 at w'
  rw [View.canon_unit_zero zeros3, View.ld_unit_zero (S := S2048x1024) zeros2, View.ld_unit_zero (S := S2048x512) zeros2, pay_at] at w'
  simp only [e0, e1] at w'
  exact w'

end Kernel

section Reference
open Cert.DownReferenceIdeal Cert.DownReferenceIdeal.Gen

/-- What the reference computes. -/
def ref (x : FVec Ideal S2048x6144 .bf16) (y : FVec Ideal S2048x2048 .bf16) : FVec Ideal S1x6144x2048 .bf16 :=
  truncf .bf16 (shapeCast _ (transpose S6144x2048 [1, 0]
    (Host.dotGeneral dot_S2048x2048_S2048x6144_S2048x6144_0_0_1_1_n_n none (extf .f32 y bitsLt_bf16_f32) (extf .f32 x bitsLt_bf16_f32))
    transposes_S2048x6144_S6144x2048_1_0) shapeCasts_S6144x2048_S1x6144x2048) bitsLt_bf16_f32

theorem ref_at (x : FVec Ideal S2048x6144 .bf16) (y : FVec Ideal S2048x2048 .bf16) (r : Fin 6144) (q : Fin 2048) :
    ref x y (ix3 0 r q) = (∑ k : Fin 2048, x (ix2 k r) * y (ix2 k q) : EReal) := by
  unfold ref
  pointwise
  exact Finset.sum_congr rfl fun k _ => mul_comm _ _

end Reference

theorem algebraic : Cert.algebraic_DownKernelIdeal_DownReferenceIdeal := by
  intro m g m' g' _ hargs
  refine ⟨fun c => (Cert.DownKernelIdeal.Gen.dats m 0 c).arrAt 2 Cert.DownKernelIdeal.cfg0.N, Cert.DownKernelIdeal.Value.run_blocks m g,
    (θ_run Cert.DownReferenceIdeal.defs _ _).mono (fun r h c => ?_) (Cert.DownReferenceIdeal.Value.run m' g')⟩
  obtain ⟨h0, hk⟩ := h c
  obtain ⟨a0, a1⟩ := hargs c
  rw [a0, a1] at h0
  refine ⟨h0.trans ?_, hk⟩
  funext i
  obtain ⟨r, q, rfl⟩ : ∃ (r : Fin 6144) (q : Fin 2048), i = ix3 0 r q :=
    ⟨i 1, i 2, (eq_ix3 i).trans (congrArg (fun u => ix3 u (i 1) (i 2)) (Subsingleton.elim _ _))⟩
  exact (ref_at (X m c) (Y m c) r q).trans (final m c r q).symm

end Cert.DownValue
end
-- ==== Proof.NaPure.lean ====
module

public import Idealize.ShloMosaic.Lib.Pointwise

/-! The gradient of one head of the neighbourhood attention over one row of the grid: 64 queries that read a band of
    512 keys and the 256 context keys. Two spellings, as functions of extended reals: one divides the exponentials
    by their sum first and takes the product of output and cotangent out of the gradient of the softmax, the other is
    the derivative of a quotient. They agree where the operands are real and no bias is `+∞`. -/

@[expose] public section

noncomputable section

namespace Cert.NaValue

open Idealize.ShloMosaic

/-- The operands of one head over one row: queries, keys and values of the band and of the context, the bias, and the
    cotangent of the output. -/
structure Blk where
  q : Fin 64 → Fin 128 → EReal
  kb : Fin 512 → Fin 128 → EReal
  kc : Fin 256 → Fin 128 → EReal
  vb : Fin 512 → Fin 128 → EReal
  vc : Fin 256 → Fin 128 → EReal
  b : Fin 64 → Fin 512 → EReal
  d : Fin 64 → Fin 128 → EReal

/-- The scale of the scores. -/
def sc : EReal := Ideal.ofBits .f32 0x3DB504F3#32

theorem sc_real : ∃ s : ℝ, sc = (s : EReal) := ⟨_, rfl⟩

namespace Blk

variable (B : Blk)

/-- The scores of the band and of the context. -/
def sB (c : Fin 64) (k : Fin 512) : EReal := (∑ d, B.q c d * B.kb k d) * sc + B.b c k
def sC (c : Fin 64) (n : Fin 256) : EReal := (∑ d, B.q c d * B.kc n d) * sc

/-- The greatest score of a query. -/
def mx (c : Fin 64) : EReal := max (Finset.univ.fold max ⊥ (B.sB c)) (Finset.univ.fold max ⊥ (B.sC c))

def eB (c : Fin 64) (k : Fin 512) : EReal := Ideal.exp (B.sB c k - B.mx c)
def eC (c : Fin 64) (n : Fin 256) : EReal := Ideal.exp (B.sC c n - B.mx c)

/-- The sum of a query's exponentials. -/
def sm (c : Fin 64) : EReal := (∑ k, B.eB c k) + ∑ n, B.eC c n

/-- The cotangent of the probabilities. -/
def uB (c : Fin 64) (k : Fin 512) : EReal := ∑ d, B.d c d * B.vb k d
def uC (c : Fin 64) (n : Fin 256) : EReal := ∑ d, B.d c d * B.vc n d

/-! The spelling with the probabilities. -/

def pB (c : Fin 64) (k : Fin 512) : EReal := B.eB c k * Ideal.div 1 (B.sm c)
def pC (c : Fin 64) (n : Fin 256) : EReal := B.eC c n * Ideal.div 1 (B.sm c)

/-- The product of a query's output and its cotangent. -/
def dl (c : Fin 64) : EReal := ∑ d, B.d c d * ((∑ k, B.pB c k * B.vb k d) + ∑ n, B.pC c n * B.vc n d)

def gB (c : Fin 64) (k : Fin 512) : EReal := B.pB c k * (B.uB c k - B.dl c)
def gC (c : Fin 64) (n : Fin 256) : EReal := B.pC c n * (B.uC c n - B.dl c)

def dq (c : Fin 64) (d : Fin 128) : EReal := ((∑ k, B.gB c k * B.kb k d) + ∑ n, B.gC c n * B.kc n d) * sc
def dkB (k : Fin 512) (d : Fin 128) : EReal := (∑ c, B.gB c k * B.q c d) * sc
def dkC (n : Fin 256) (d : Fin 128) : EReal := (∑ c, B.gC c n * B.q c d) * sc
def dvB (k : Fin 512) (d : Fin 128) : EReal := ∑ c, B.pB c k * B.d c d
def dvC (n : Fin 256) (d : Fin 128) : EReal := ∑ c, B.pC c n * B.d c d

/-! The spelling of the quotient's derivative. -/

def rpB (c : Fin 64) (k : Fin 512) : EReal := Ideal.div (B.eB c k) (B.sm c)
def rpC (c : Fin 64) (n : Fin 256) : EReal := Ideal.div (B.eC c n) (B.sm c)

/-- The gradient that reaches the sum of the exponentials. -/
def w (c : Fin 64) : EReal :=
  -((∑ k, B.uB c k * Ideal.div 1 (B.sm c * B.sm c) * B.eB c k) + ∑ n, B.uC c n * Ideal.div 1 (B.sm c * B.sm c) * B.eC c n)

def rgB (c : Fin 64) (k : Fin 512) : EReal := (Ideal.div (B.uB c k) (B.sm c) + B.w c) * B.eB c k
def rgC (c : Fin 64) (n : Fin 256) : EReal := (Ideal.div (B.uC c n) (B.sm c) + B.w c) * B.eC c n

def rdq (c : Fin 64) (d : Fin 128) : EReal := (∑ n, B.rgC c n * sc * B.kc n d) + ∑ k, B.rgB c k * sc * B.kb k d
def rdkB (k : Fin 512) (d : Fin 128) : EReal := ∑ c, B.rgB c k * sc * B.q c d
def rdkC (n : Fin 256) (d : Fin 128) : EReal := ∑ c, B.rgC c n * sc * B.q c d
def rdvB (k : Fin 512) (d : Fin 128) : EReal := ∑ c, B.d c d * B.rpB c k
def rdvC (n : Fin 256) (d : Fin 128) : EReal := ∑ c, B.d c d * B.rpC c n

/-- Every operand is real, the bias real or `-∞`. -/
structure Real : Prop where
  q : ∀ c d, ∃ r : ℝ, B.q c d = r
  kb : ∀ k d, ∃ r : ℝ, B.kb k d = r
  kc : ∀ n d, ∃ r : ℝ, B.kc n d = r
  vb : ∀ k d, ∃ r : ℝ, B.vb k d = r
  vc : ∀ n d, ∃ r : ℝ, B.vc n d = r
  b : ∀ c k, B.b c k < ⊤
  d : ∀ c d, ∃ r : ℝ, B.d c d = r

end Blk

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe (x y : ℝ) (hy : y ≠ 0) : Ideal.div (x : EReal) (y : EReal) = ((x * y⁻¹ : ℝ) : EReal) := by
  rw [Ideal.div, if_neg (by exact_mod_cast hy), EReal.coe_mul, EReal.coe_inv]

namespace Blk

variable {B : Blk} (hB : B.Real)

include hB in
theorem sC_real (c : Fin 64) (n : Fin 256) : ∃ r : ℝ, B.sC c n = r := by
  choose q hq using hB.q
  choose k hk using hB.kc
  obtain ⟨s, hs⟩ := sc_real
  exact ⟨(∑ d, q c d * k n d) * s, by simp only [sC, hq, hk, hs, ← EReal.coe_mul, coe_sum]⟩

include hB in
theorem sB_lt (c : Fin 64) (k : Fin 512) : B.sB c k < ⊤ := by
  choose q hq using hB.q
  choose kb hk using hB.kb
  obtain ⟨s, hs⟩ := sc_real
  have h : B.sB c k = (((∑ d, q c d * kb k d) * s : ℝ) : EReal) + B.b c k := by
    simp only [sB, hq, hk, hs, ← EReal.coe_mul, coe_sum]
  rw [h]
  exact EReal.add_lt_top (EReal.coe_ne_top _) (hB.b c k).ne

include hB in
theorem mx_real (c : Fin 64) : ∃ r : ℝ, B.mx c = r := by
  have hlt : B.mx c < ⊤ := by
    refine max_lt ?_ ?_
    · exact (Finset.sup_lt_iff (f := B.sB c) (s := Finset.univ) (by exact bot_lt_top)).2 fun k _ => sB_lt hB c k
    · refine (Finset.sup_lt_iff (f := B.sC c) (s := Finset.univ) (by exact bot_lt_top)).2 fun k _ => ?_
      obtain ⟨r, hr⟩ := sC_real hB c k
      rw [hr]; exact EReal.coe_lt_top r
  have hgt : ⊥ < B.mx c := by
    obtain ⟨r, hr⟩ := sC_real hB c 0
    refine lt_of_lt_of_le ?_ (le_trans (Finset.le_sup (f := B.sC c) (Finset.mem_univ 0)) (le_max_right _ _))
    rw [hr]; exact EReal.bot_lt_coe r
  exact ⟨_, (EReal.coe_toReal hlt.ne hgt.ne').symm⟩

include hB in
theorem eB_real (c : Fin 64) (k : Fin 512) : ∃ r : ℝ, 0 ≤ r ∧ B.eB c k = r := by
  obtain ⟨m, hm⟩ := mx_real hB c
  have h := sB_lt hB c k
  rw [eB, hm]
  revert h
  generalize B.sB c k = x
  intro h
  induction x with
  | bot => exact ⟨0, le_refl _, by simp⟩
  | top => exact absurd h (lt_irrefl _)
  | coe r => exact ⟨Real.exp (r - m), (Real.exp_pos _).le, by rw [← EReal.coe_sub, Ideal.exp_coe]⟩

include hB in
theorem eC_real (c : Fin 64) (n : Fin 256) : ∃ r : ℝ, 0 < r ∧ B.eC c n = r := by
  obtain ⟨m, hm⟩ := mx_real hB c
  obtain ⟨r, hr⟩ := sC_real hB c n
  exact ⟨Real.exp (r - m), Real.exp_pos _, by rw [eC, hm, hr, ← EReal.coe_sub, Ideal.exp_coe]⟩

/-- The real values behind the operands and the exponentials. -/
structure Vals (B : Blk) where
  q : Fin 64 → Fin 128 → ℝ
  kb : Fin 512 → Fin 128 → ℝ
  kc : Fin 256 → Fin 128 → ℝ
  vb : Fin 512 → Fin 128 → ℝ
  vc : Fin 256 → Fin 128 → ℝ
  d : Fin 64 → Fin 128 → ℝ
  eB : Fin 64 → Fin 512 → ℝ
  eC : Fin 64 → Fin 256 → ℝ
  s : ℝ
  hs : sc = (s : EReal)
  hq : ∀ c d, B.q c d = (q c d : EReal)
  hkb : ∀ k d, B.kb k d = (kb k d : EReal)
  hkc : ∀ n d, B.kc n d = (kc n d : EReal)
  hvb : ∀ k d, B.vb k d = (vb k d : EReal)
  hvc : ∀ n d, B.vc n d = (vc n d : EReal)
  hd : ∀ c d', B.d c d' = (d c d' : EReal)
  heB : ∀ c k, B.eB c k = (eB c k : EReal)
  heC : ∀ c n, B.eC c n = (eC c n : EReal)
  pos : ∀ c, 0 < (∑ k, eB c k) + ∑ n, eC c n

include hB in
theorem vals : Nonempty (Vals B) := by
  choose q hq using hB.q
  choose kb hkb using hB.kb
  choose kc hkc using hB.kc
  choose vb hvb using hB.vb
  choose vc hvc using hB.vc
  choose d hd using hB.d
  choose eB hB0 heB using eB_real hB
  choose eC hC0 heC using eC_real hB
  obtain ⟨s, hs⟩ := sc_real
  exact ⟨⟨q, kb, kc, vb, vc, d, eB, eC, s, hs, hq, hkb, hkc, hvb, hvc, hd, heB, heC, fun c =>
    add_pos_of_nonneg_of_pos (Finset.sum_nonneg fun k _ => hB0 c k) (Finset.sum_pos (fun n _ => hC0 c n) ⟨0, Finset.mem_univ _⟩)⟩⟩

namespace Vals

variable (V : Vals B)

def S (c : Fin 64) : ℝ := (∑ k, V.eB c k) + ∑ n, V.eC c n
def u (v : Fin 128 → ℝ) (c : Fin 64) : ℝ := ∑ d, V.d c d * v d
def del (c : Fin 64) : ℝ :=
  (∑ k, V.u (V.vb k) c * V.eB c k * (V.S c)⁻¹) + ∑ n, V.u (V.vc n) c * V.eC c n * (V.S c)⁻¹

include V

theorem sm_eq (c : Fin 64) : B.sm c = (V.S c : EReal) := by
  simp only [sm, V.heB, V.heC, coe_sum, ← EReal.coe_add, S]

theorem S_ne (c : Fin 64) : V.S c ≠ 0 := (V.pos c).ne'

theorem uB_eq (c : Fin 64) (k : Fin 512) : B.uB c k = (V.u (V.vb k) c : EReal) := by
  simp only [uB, V.hd, V.hvb, ← EReal.coe_mul, coe_sum, u]
theorem uC_eq (c : Fin 64) (n : Fin 256) : B.uC c n = (V.u (V.vc n) c : EReal) := by
  simp only [uC, V.hd, V.hvc, ← EReal.coe_mul, coe_sum, u]

theorem inv_eq (c : Fin 64) : Ideal.div 1 (B.sm c) = (((V.S c)⁻¹ : ℝ) : EReal) := by
  rw [V.sm_eq, ← EReal.coe_one, div_coe _ _ (V.S_ne c), one_mul]

theorem pB_eq (c : Fin 64) (k : Fin 512) : B.pB c k = ((V.eB c k * (V.S c)⁻¹ : ℝ) : EReal) := by
  simp only [pB, V.inv_eq, V.heB, ← EReal.coe_mul]
theorem pC_eq (c : Fin 64) (n : Fin 256) : B.pC c n = ((V.eC c n * (V.S c)⁻¹ : ℝ) : EReal) := by
  simp only [pC, V.inv_eq, V.heC, ← EReal.coe_mul]
theorem rpB_eq (c : Fin 64) (k : Fin 512) : B.rpB c k = ((V.eB c k * (V.S c)⁻¹ : ℝ) : EReal) := by
  rw [rpB, V.sm_eq, V.heB, div_coe _ _ (V.S_ne c)]
theorem rpC_eq (c : Fin 64) (n : Fin 256) : B.rpC c n = ((V.eC c n * (V.S c)⁻¹ : ℝ) : EReal) := by
  rw [rpC, V.sm_eq, V.heC, div_coe _ _ (V.S_ne c)]

theorem dl_eq (c : Fin 64) : B.dl c = (V.del c : EReal) := by
  simp only [dl, V.pB_eq, V.pC_eq, V.hd, V.hvb, V.hvc, ← EReal.coe_mul, coe_sum, ← EReal.coe_add, del, u]
  congr 1
  simp only [mul_add, Finset.sum_add_distrib, Finset.mul_sum, Finset.sum_mul]
  rw [Finset.sum_comm, Finset.sum_comm (s := Finset.univ) (t := Finset.univ) (f := fun (d : Fin 128) (n : Fin 256) => _)]
  congr 1 <;> exact Finset.sum_congr rfl fun _ _ => Finset.sum_congr rfl fun _ _ => by ring

theorem w_eq (c : Fin 64) : B.w c = ((-(V.del c * (V.S c)⁻¹) : ℝ) : EReal) := by
  have h : Ideal.div 1 (B.sm c * B.sm c) = (((V.S c * V.S c)⁻¹ : ℝ) : EReal) := by
    rw [V.sm_eq, ← EReal.coe_mul, ← EReal.coe_one, div_coe _ _ (mul_ne_zero (V.S_ne c) (V.S_ne c)), one_mul]
  simp only [w, h, V.uB_eq, V.uC_eq, V.heB, V.heC, ← EReal.coe_mul, coe_sum, ← EReal.coe_add, ← EReal.coe_neg, del]
  congr 2
  rw [add_mul, Finset.sum_mul, Finset.sum_mul, mul_inv]
  congr 1 <;> exact Finset.sum_congr rfl fun _ _ => by ring

theorem gB_eq (c : Fin 64) (k : Fin 512) : B.gB c k = ((V.eB c k * (V.S c)⁻¹ * (V.u (V.vb k) c - V.del c) : ℝ) : EReal) := by
  simp only [gB, V.pB_eq, V.uB_eq, V.dl_eq, ← EReal.coe_sub, ← EReal.coe_mul]
theorem gC_eq (c : Fin 64) (n : Fin 256) : B.gC c n = ((V.eC c n * (V.S c)⁻¹ * (V.u (V.vc n) c - V.del c) : ℝ) : EReal) := by
  simp only [gC, V.pC_eq, V.uC_eq, V.dl_eq, ← EReal.coe_sub, ← EReal.coe_mul]
theorem rgB_eq (c : Fin 64) (k : Fin 512) : B.rgB c k = B.gB c k := by
  rw [V.gB_eq, rgB, V.sm_eq, V.uB_eq, V.w_eq, V.heB, div_coe _ _ (V.S_ne c), ← EReal.coe_add, ← EReal.coe_mul]
  congr 1; ring
theorem rgC_eq (c : Fin 64) (n : Fin 256) : B.rgC c n = B.gC c n := by
  rw [V.gC_eq, rgC, V.sm_eq, V.uC_eq, V.w_eq, V.heC, div_coe _ _ (V.S_ne c), ← EReal.coe_add, ← EReal.coe_mul]
  congr 1; ring

end Vals

include hB

/-- The two spellings agree on real operands. -/
theorem rgB_eq (c : Fin 64) (k : Fin 512) : B.rgB c k = B.gB c k := let ⟨V⟩ := vals hB; V.rgB_eq c k

theorem rdq_eq (c : Fin 64) (d : Fin 128) : B.rdq c d = B.dq c d := by
  obtain ⟨V⟩ := vals hB
  simp only [rdq, dq, V.rgB_eq, V.rgC_eq, V.gB_eq, V.gC_eq, V.hs, V.hkb, V.hkc, ← EReal.coe_mul, coe_sum, ← EReal.coe_add]
  congr 1
  rw [add_comm, add_mul, Finset.sum_mul, Finset.sum_mul]
  congr 1 <;> exact Finset.sum_congr rfl fun _ _ => by ring

theorem rdkB_eq (k : Fin 512) (d : Fin 128) : B.rdkB k d = B.dkB k d := by
  obtain ⟨V⟩ := vals hB
  simp only [rdkB, dkB, V.rgB_eq, V.gB_eq, V.hs, V.hq, ← EReal.coe_mul, coe_sum]
  congr 1
  rw [Finset.sum_mul]
  exact Finset.sum_congr rfl fun _ _ => by ring

theorem rdkC_eq (n : Fin 256) (d : Fin 128) : B.rdkC n d = B.dkC n d := by
  obtain ⟨V⟩ := vals hB
  simp only [rdkC, dkC, V.rgC_eq, V.gC_eq, V.hs, V.hq, ← EReal.coe_mul, coe_sum]
  congr 1
  rw [Finset.sum_mul]
  exact Finset.sum_congr rfl fun _ _ => by ring

theorem rdvB_eq (k : Fin 512) (d : Fin 128) : B.rdvB k d = B.dvB k d := by
  obtain ⟨V⟩ := vals hB
  simp only [rdvB, dvB, V.rpB_eq, V.pB_eq]
  exact Finset.sum_congr rfl fun _ _ => mul_comm _ _

theorem rdvC_eq (n : Fin 256) (d : Fin 128) : B.rdvC n d = B.dvC n d := by
  obtain ⟨V⟩ := vals hB
  simp only [rdvC, dvC, V.rpC_eq, V.pC_eq]
  exact Finset.sum_congr rfl fun _ _ => mul_comm _ _

end Blk

end Cert.NaValue
end
-- ==== Proof.NaHead.lean ====
module

public import proofs.«01_k».proof.Proof.NaPure
public import proofs.«01_k».proof.Proof.Gen.KernelIdeal.Skeleton
public import Idealize.ShloMosaic.Lib.Pointwise

/-! What the kernel's body computes for one head from the blocks it loads, read at an index. -/

@[expose] public section

set_option maxRecDepth 16384

noncomputable section

namespace Cert.NaValue

open Cert.KernelIdeal Cert.KernelIdeal.Gen
open Idealize.ShloMosaic Idealize.ShloMosaic.TcCoe Idealize.SL.Sem

/-- The operands of a head, from the seven loaded blocks. -/
def ofLoads (q : Vec Ideal S64x128 .bf16) (kb : Vec Ideal S512x128 .bf16) (kc : Vec Ideal S256x128 .bf16)
    (vb : Vec Ideal S512x128 .f32) (vc : Vec Ideal S256x128 .f32) (b : Vec Ideal S1x1x64x512 .f32) (d : Vec Ideal S64x128 .bf16) : Blk where
  q c j := q (ix2 c j)
  kb k j := kb (ix2 k j)
  kc n j := kc (ix2 n j)
  vb k j := vb (ix2 k j)
  vc n j := vc (ix2 n j)
  b c k := b (ix4 0 0 c k)
  d c j := d (ix2 c j)

variable (q : Vec Ideal S64x128 .bf16) (kb : Vec Ideal S512x128 .bf16) (kc : Vec Ideal S256x128 .bf16)
  (vb : Vec Ideal S512x128 .f32) (vc : Vec Ideal S256x128 .f32) (b : Vec Ideal S1x1x64x512 .f32) (d : Vec Ideal S64x128 .bf16)

theorem pay9_at (c : Fin 64) (k : Fin 512) : k0_pay9 (F := Ideal) q kb b (ix2 c k) = (ofLoads q kb kc vb vc b d).sB c k := by
  unfold k0_pay9
  pointwise
  rfl

theorem pay10_at (c : Fin 64) (n : Fin 256) : k0_pay10 (F := Ideal) q kc (ix2 c n) = (ofLoads q kb kc vb vc b d).sC c n := by
  unfold k0_pay10
  pointwise
  rfl

theorem pay11_at (c : Fin 64) : k0_pay11 (F := Ideal) q kb b (ix1 c) = Finset.univ.fold max ⊥ ((ofLoads q kb kc vb vc b d).sB c) := by
  unfold k0_pay11
  pointwise [pay9_at q kb kc vb vc b d]
  rfl

theorem pay12_at (c : Fin 64) : k0_pay12 (F := Ideal) (k0_pay10 q kc) (k0_pay11 q kb b) (ix2 c 0) = (ofLoads q kb kc vb vc b d).mx c := by
  unfold k0_pay12
  pointwise [pay11_at q kb kc vb vc b d, pay10_at q kb kc vb vc b d]
  rfl

theorem pay7_at (k : Fin 512) (j : Fin 128) : k0_pay7 (F := Ideal) vb (ix2 k j) = vb (ix2 k j) := rfl
theorem pay8_at (n : Fin 256) (j : Fin 128) : k0_pay8 (F := Ideal) vc (ix2 n j) = vc (ix2 n j) := rfl

theorem pay13_at (c : Fin 64) (k : Fin 512) : k0_pay13 (F := Ideal) (k0_pay9 q kb b) (k0_pay10 q kc) (k0_pay11 q kb b) (ix2 c k) = (ofLoads q kb kc vb vc b d).eB c k := by
  unfold k0_pay13
  pointwise [pay12_at q kb kc vb vc b d, pay9_at q kb kc vb vc b d]
  rfl

theorem pay14_at (c : Fin 64) (n : Fin 256) : k0_pay14 (F := Ideal) (k0_pay10 q kc) (k0_pay11 q kb b) (ix2 c n) = (ofLoads q kb kc vb vc b d).eC c n := by
  unfold k0_pay14
  pointwise [pay12_at q kb kc vb vc b d, pay10_at q kb kc vb vc b d]
  rfl

theorem pay15_at (c : Fin 64) : k0_pay15 (F := Ideal) (k0_pay9 q kb b) (k0_pay10 q kc) (k0_pay11 q kb b) (ix2 c 0) = Ideal.div 1 ((ofLoads q kb kc vb vc b d).sm c) := by
  unfold k0_pay15
  pointwise [pay13_at q kb kc vb vc b d, pay14_at q kb kc vb vc b d]
  rfl

theorem pay16_at (c : Fin 64) (k : Fin 512) : k0_pay16 (F := Ideal) (k0_pay9 q kb b) (k0_pay10 q kc) (k0_pay11 q kb b) (ix2 c k) = (ofLoads q kb kc vb vc b d).pB c k := by
  unfold k0_pay16
  pointwise [pay13_at q kb kc vb vc b d, pay15_at q kb kc vb vc b d]
  rfl

theorem pay17_at (c : Fin 64) (n : Fin 256) : k0_pay17 (F := Ideal) (k0_pay9 q kb b) (k0_pay10 q kc) (k0_pay11 q kb b) (ix2 c n) = (ofLoads q kb kc vb vc b d).pC c n := by
  unfold k0_pay17
  pointwise [pay14_at q kb kc vb vc b d, pay15_at q kb kc vb vc b d]
  rfl

theorem pay20_at (c : Fin 64) :
    k0_pay20 (F := Ideal) (k0_pay7 vb) (k0_pay8 vc) (k0_pay9 q kb b) (k0_pay10 q kc) (k0_pay11 q kb b) d (ix2 c 0) = (ofLoads q kb kc vb vc b d).dl c := by
  unfold k0_pay20
  pointwise [pay16_at q kb kc vb vc b d, pay17_at q kb kc vb vc b d, k0_pay18, k0_pay7, k0_pay8]
  rfl

theorem pay21_at (c : Fin 64) (k : Fin 512) :
    k0_pay21 (F := Ideal) (k0_pay7 vb) (k0_pay8 vc) (k0_pay9 q kb b) (k0_pay10 q kc) (k0_pay11 q kb b) d (ix2 c k) = (ofLoads q kb kc vb vc b d).gB c k := by
  unfold k0_pay21
  pointwise [pay16_at q kb kc vb vc b d, pay20_at q kb kc vb vc b d, k0_pay18, k0_pay19, pay7_at]
  rfl

theorem pay22_at (c : Fin 64) (k : Fin 512) :
    k0_pay22 (F := Ideal) (k0_pay7 vb) (k0_pay8 vc) (k0_pay9 q kb b) (k0_pay10 q kc) (k0_pay11 q kb b) d (ix2 c k) = (ofLoads q kb kc vb vc b d).gB c k := by
  unfold k0_pay22
  pointwise [pay21_at q kb kc vb vc b d]

theorem pay23_at (c : Fin 64) (n : Fin 256) :
    k0_pay23 (F := Ideal) (k0_pay7 vb) (k0_pay8 vc) (k0_pay9 q kb b) (k0_pay10 q kc) (k0_pay11 q kb b) d (ix2 c n) = (ofLoads q kb kc vb vc b d).gC c n := by
  unfold k0_pay23
  pointwise [pay17_at q kb kc vb vc b d, pay20_at q kb kc vb vc b d, k0_pay18, k0_pay19, pay8_at]
  rfl

section Carrier

variable {F : FTy → Type} [FloatOps F]
variable (q : Vec F S64x128 .bf16) (kb : Vec F S512x128 .bf16) (kc : Vec F S256x128 .bf16)
  (vb : Vec F S512x128 .f32) (vc : Vec F S256x128 .f32) (b : Vec F S1x1x64x512 .f32) (d : Vec F S64x128 .bf16)

/-! What the body stores for one head. -/

def hdq : Vec F S64x128 .f32 :=
  k0_pay26 (k0_pay24 kb kc (k0_pay7 vb) (k0_pay8 vc) (k0_pay9 q kb b) (k0_pay10 q kc) (k0_pay11 q kb b) d) k0_pay25
def hdkB (old : Vec F S512x128 .f32) : Vec F S512x128 .f32 :=
  k0_pay27 q (k0_pay22 (k0_pay7 vb) (k0_pay8 vc) (k0_pay9 q kb b) (k0_pay10 q kc) (k0_pay11 q kb b) d) old
def hdkC (old : Vec F S256x128 .f32) : Vec F S256x128 .f32 :=
  k0_pay28 q (k0_pay23 (k0_pay7 vb) (k0_pay8 vc) (k0_pay9 q kb b) (k0_pay10 q kc) (k0_pay11 q kb b) d) old
def hdvB (old : Vec F S512x128 .f32) : Vec F S512x128 .f32 :=
  k0_pay29 (k0_pay16 (k0_pay9 q kb b) (k0_pay10 q kc) (k0_pay11 q kb b)) (k0_pay19 d) old
def hdvC (old : Vec F S256x128 .f32) : Vec F S256x128 .f32 :=
  k0_pay30 (k0_pay17 (k0_pay9 q kb b) (k0_pay10 q kc) (k0_pay11 q kb b)) (k0_pay19 d) old
def hdb : Vec F S1x1x64x512 .f32 :=
  k0_pay2 (k0_pay21 (k0_pay7 vb) (k0_pay8 vc) (k0_pay9 q kb b) (k0_pay10 q kc) (k0_pay11 q kb b) d)
def hdbAdd (old : Vec F S1x1x64x512 .f32) : Vec F S1x1x64x512 .f32 :=
  k0_pay3 (k0_pay21 (k0_pay7 vb) (k0_pay8 vc) (k0_pay9 q kb b) (k0_pay10 q kc) (k0_pay11 q kb b) d) old

end Carrier

theorem hdq_at (c : Fin 64) (j : Fin 128) : hdq (F := Ideal) q kb kc vb vc b d (ix2 c j) = (ofLoads q kb kc vb vc b d).dq c j := by
  unfold hdq k0_pay26 k0_pay24
  pointwise [pay22_at q kb kc vb vc b d, pay23_at q kb kc vb vc b d, k0_pay25]
  rfl

theorem hdkB_at (old : Vec Ideal S512x128 .f32) (k : Fin 512) (j : Fin 128) :
    hdkB (F := Ideal) q kb kc vb vc b d old (ix2 k j) = ((old (ix2 k j) + (ofLoads q kb kc vb vc b d).dkB k j : EReal) : EReal) := by
  unfold hdkB k0_pay27
  pointwise [pay22_at q kb kc vb vc b d]
  rfl

theorem hdkC_at (old : Vec Ideal S256x128 .f32) (n : Fin 256) (j : Fin 128) :
    hdkC (F := Ideal) q kb kc vb vc b d old (ix2 n j) = ((old (ix2 n j) + (ofLoads q kb kc vb vc b d).dkC n j : EReal) : EReal) := by
  unfold hdkC k0_pay28
  pointwise [pay23_at q kb kc vb vc b d]
  rfl

theorem hdvB_at (old : Vec Ideal S512x128 .f32) (k : Fin 512) (j : Fin 128) :
    hdvB (F := Ideal) q kb kc b d old (ix2 k j) = ((old (ix2 k j) + (ofLoads q kb kc vb vc b d).dvB k j : EReal) : EReal) := by
  unfold hdvB k0_pay29
  pointwise [pay16_at q kb kc vb vc b d, k0_pay19, k0_pay18]
  rfl

theorem hdvC_at (old : Vec Ideal S256x128 .f32) (n : Fin 256) (j : Fin 128) :
    hdvC (F := Ideal) q kb kc b d old (ix2 n j) = ((old (ix2 n j) + (ofLoads q kb kc vb vc b d).dvC n j : EReal) : EReal) := by
  unfold hdvC k0_pay30
  pointwise [pay17_at q kb kc vb vc b d, k0_pay19, k0_pay18]
  rfl

theorem hdb_at (c : Fin 64) (k : Fin 512) : hdb (F := Ideal) q kb kc vb vc b d (ix4 0 0 c k) = (ofLoads q kb kc vb vc b d).gB c k := by
  unfold hdb k0_pay2
  pointwise [pay21_at q kb kc vb vc b d]

theorem hdbAdd_at (old : Vec Ideal S1x1x64x512 .f32) (c : Fin 64) (k : Fin 512) :
    hdbAdd (F := Ideal) q kb kc vb vc b d old (ix4 0 0 c k) = ((old (ix4 0 0 c k) + (ofLoads q kb kc vb vc b d).gB c k : EReal) : EReal) := by
  unfold hdbAdd k0_pay3
  pointwise [pay21_at q kb kc vb vc b d]

end Cert.NaValue
end
-- ==== Proof.NaAcc.lean ====
module

public import proofs.«01_k».proof.Proof.Gen.KernelIdeal.Skeleton
public import Idealize.ShloMosaic.Lib.Pointwise
public import Idealize.ShloMosaic.Lib.WritesUnit
public import Idealize.ShloMosaic.Lib.Pipeline.FrameBody

/-! The accumulators of the body: eight stores at a point, for each of the four heads one into the rows of the band
    and one into the rows of the context. What a load between them reads, and what the buffer holds after them. -/

@[expose] public section

set_option maxRecDepth 16384

noncomputable section

namespace Cert.NaValue

open Cert.KernelIdeal Cert.KernelIdeal.Gen
open Idealize.ShloMosaic Idealize.ShloMosaic.TcCoe Idealize.SL.Sem

variable {F : FTy → Type} [FloatOps F]

/-- A position of a rectangle of unit stride lies outside another one that is apart from it on an axis. -/
theorem not_mem_unit {s : Shape} {off size off' size' : Fin s.rank → ℕ} {inb inb'} (a : Fin s.rank)
    (h : off a + size a ≤ off' a ∨ off' a + size' a ≤ off a) (j : (Rect.unit (s := s) off' size' inb').toLoadRect.shape.Idx) :
    (Rect.unit (s := s) off' size' inb').toLoadRect.idx j ∉ (Rect.unit (s := s) off size inb).set := by
  rw [Rect.mem_set_unit]
  intro hall
  have h1 := hall a
  have h2 : ((Rect.unit (s := s) off' size' inb').toLoadRect.idx j a).val = off' a + 1 * (j a).val := rfl
  have h3 : (j a).val < size' a := (j a).isLt
  omega

section Read

variable {sp : Space} {κ : Kind} (v : View sig κ sp S2304x512 .f32) (f : v.ty.Contents (Elt F))

theorem peel {a b n0 n1 : ℕ} {o : Fin 2 → ℕ} (ho : o = ![a, b]) (inb : ∀ x, o x + (![n0, n1] : Fin 2 → ℕ) x ≤ S2304x512.size x)
    (w : (Rect.unit (s := S2304x512) o ![n0, n1] inb).shape.Idx → Elt F .f32) (L : List (View.Piece (Elt F) S2304x512 .f32)) (r : Fin 2304) (c : Fin 512)
    (h : r.val < a ∨ a + n0 ≤ r.val ∨ c.val < b ∨ b + n1 ≤ c.val) :
    v.read (Elt F) (v.writes (Elt F) f (⟨Rect.unit (s := S2304x512) o ![n0, n1] inb, w⟩ :: L)) (ix2 r c) = v.read (Elt F) (v.writes (Elt F) f L) (ix2 r c) := by
  rcases h with h | h | h | h
  · exact View.read_writes_cons_unit_of_not_mem v f inb w L (ix2 r c) ho 0 (Or.inl h)
  · exact View.read_writes_cons_unit_of_not_mem v f inb w L (ix2 r c) ho 0 (Or.inr h)
  · exact View.read_writes_cons_unit_of_not_mem v f inb w L (ix2 r c) ho 1 (Or.inl h)
  · exact View.read_writes_cons_unit_of_not_mem v f inb w L (ix2 r c) ho 1 (Or.inr h)

theorem hit {a b n0 n1 : ℕ} {o : Fin 2 → ℕ} (ho : o = ![a, b]) (inb : ∀ x, o x + (![n0, n1] : Fin 2 → ℕ) x ≤ S2304x512.size x)
    (w : (Rect.unit (s := S2304x512) o ![n0, n1] inb).shape.Idx → Elt F .f32) (L : List (View.Piece (Elt F) S2304x512 .f32)) (r : Fin 2304) (c : Fin 512)
    (x0 : Fin n0) (x1 : Fin n1) (h0 : r.val = a + x0.val) (h1 : c.val = b + x1.val) :
    v.read (Elt F) (v.writes (Elt F) f (⟨Rect.unit (s := S2304x512) o ![n0, n1] inb, w⟩ :: L)) (ix2 r c) = w (ix2 x0 x1) :=
  View.read_writes_cons_unit_of_mem v f inb w L (ix2 r c) (ix2 x0 x1) ho (fun x => by
    revert x; exact Fin.forall_fin_two.mpr ⟨h0, h1⟩)

end Read

section Pieces

variable {o0 o1 o2 o3 : Fin 2 → ℕ}
  (i0 : ∀ x, o0 x + S512x128.size x ≤ S2304x512.size x) (i1 : ∀ x, o1 x + S512x128.size x ≤ S2304x512.size x)
  (i2 : ∀ x, o2 x + S512x128.size x ≤ S2304x512.size x) (i3 : ∀ x, o3 x + S512x128.size x ≤ S2304x512.size x)

abbrev P := View.Piece (Elt F) S2304x512 .f32

def b0 (w : Vec F S512x128 .f32) : P (F := F) := ⟨Rect.unit (s := S2304x512) o0 S512x128.size i0, w⟩
def c0 (w : Vec F S256x128 .f32) : P (F := F) := ⟨Rect.unit (s := S2304x512) ![0, 0] S256x128.size inb_S2304x512_S256x128_0_0, w⟩
def c1 (w : Vec F S256x128 .f32) : P (F := F) := ⟨Rect.unit (s := S2304x512) ![0, 128] S256x128.size inb_S2304x512_S256x128_0_128, w⟩
def c2 (w : Vec F S256x128 .f32) : P (F := F) := ⟨Rect.unit (s := S2304x512) ![0, 256] S256x128.size inb_S2304x512_S256x128_0_256, w⟩
def c3 (w : Vec F S256x128 .f32) : P (F := F) := ⟨Rect.unit (s := S2304x512) ![0, 384] S256x128.size inb_S2304x512_S256x128_0_384, w⟩

/-- The eight stores, the latest first. -/
def pieces (B : Fin 4 → Vec F S512x128 .f32) (C : Fin 4 → Vec F S256x128 .f32) : List (P (F := F)) :=
  [c3 (C 3), b0 i3 (B 3), c2 (C 2), b0 i2 (B 2), c1 (C 1), b0 i1 (B 1), c0 (C 0), b0 i0 (B 0)]

variable {m : ℕ} (h0 : o0 = ![256 + 64 * m, 0]) (h1 : o1 = ![256 + 64 * m, 128]) (h2 : o2 = ![256 + 64 * m, 256]) (h3 : o3 = ![256 + 64 * m, 384])

section After

variable {sp : Space} {κ : Kind} (v : View sig κ sp S2304x512 .f32) (f : v.ty.Contents (Elt F))
  (B : Fin 4 → Vec F S512x128 .f32) (C : Fin 4 → Vec F S256x128 .f32) (r : Fin 2304) (c : Fin 512)

include h0 h1 h2 h3

/-- A row of the band holds what the head's store into the band left. -/
theorem pieces_band (j : Fin 4) (k : Fin 512) (d : Fin 128) (hr : r.val = 256 + 64 * m + k.val) (hc : c.val = 128 * j.val + d.val) :
    v.read (Elt F) (v.writes (Elt F) f (pieces i0 i1 i2 i3 B C)) (ix2 r c) = B j (ix2 k d) := by
  have hd := d.isLt
  fin_cases j <;> simp only [Fin.zero_eta, Fin.mk_one, Fin.reduceFinMk, Fin.isValue, Fin.val_zero, Fin.val_one, Fin.val_two] at hc
  · refine (peel v f rfl _ _ _ r c (by omega)).trans <| (peel v f h3 _ _ _ r c (by omega)).trans <| (peel v f rfl _ _ _ r c (by omega)).trans <|
      (peel v f h2 _ _ _ r c (by omega)).trans <| (peel v f rfl _ _ _ r c (by omega)).trans <| (peel v f h1 _ _ _ r c (by omega)).trans <|
      (peel v f rfl _ _ _ r c (by omega)).trans <| hit v f h0 _ _ _ r c k d (by omega) (by omega)
  · refine (peel v f rfl _ _ _ r c (by omega)).trans <| (peel v f h3 _ _ _ r c (by omega)).trans <| (peel v f rfl _ _ _ r c (by omega)).trans <|
      (peel v f h2 _ _ _ r c (by omega)).trans <| (peel v f rfl _ _ _ r c (by omega)).trans <| hit v f h1 _ _ _ r c k d (by omega) (by omega)
  · refine (peel v f rfl _ _ _ r c (by omega)).trans <| (peel v f h3 _ _ _ r c (by omega)).trans <| (peel v f rfl _ _ _ r c (by omega)).trans <|
      hit v f h2 _ _ _ r c k d (by omega) (by omega)
  · have hc : c.val = 128 * 3 + d.val := hc
    exact (peel v f rfl _ _ _ r c (by omega)).trans <| hit v f h3 _ _ _ r c k d (by omega) (by omega)

/-- A row of the context holds what the head's store into the context left. -/
theorem pieces_ctx (j : Fin 4) (n : Fin 256) (d : Fin 128) (hr : r.val = n.val) (hc : c.val = 128 * j.val + d.val) :
    v.read (Elt F) (v.writes (Elt F) f (pieces i0 i1 i2 i3 B C)) (ix2 r c) = C j (ix2 n d) := by
  have hd := d.isLt
  fin_cases j <;> simp only [Fin.zero_eta, Fin.mk_one, Fin.reduceFinMk, Fin.isValue, Fin.val_zero, Fin.val_one, Fin.val_two] at hc
  · refine (peel v f rfl _ _ _ r c (by omega)).trans <| (peel v f h3 _ _ _ r c (by omega)).trans <| (peel v f rfl _ _ _ r c (by omega)).trans <|
      (peel v f h2 _ _ _ r c (by omega)).trans <| (peel v f rfl _ _ _ r c (by omega)).trans <| (peel v f h1 _ _ _ r c (by omega)).trans <|
      hit v f rfl _ _ _ r c n d (by omega) (by omega)
  · refine (peel v f rfl _ _ _ r c (by omega)).trans <| (peel v f h3 _ _ _ r c (by omega)).trans <| (peel v f rfl _ _ _ r c (by omega)).trans <|
      (peel v f h2 _ _ _ r c (by omega)).trans <| hit v f rfl _ _ _ r c n d (by omega) (by omega)
  · refine (peel v f rfl _ _ _ r c (by omega)).trans <| (peel v f h3 _ _ _ r c (by omega)).trans <| hit v f rfl _ _ _ r c n d (by omega) (by omega)
  · have hc : c.val = 128 * 3 + d.val := hc
    exact hit v f rfl _ _ _ r c n d (by omega) (by omega)

/-- The other rows hold what they held. -/
theorem pieces_out (hr : 256 ≤ r.val) (hk : r.val < 256 + 64 * m ∨ 256 + 64 * m + 512 ≤ r.val) :
    v.read (Elt F) (v.writes (Elt F) f (pieces i0 i1 i2 i3 B C)) (ix2 r c) = v.read (Elt F) f (ix2 r c) :=
  (peel v f rfl _ _ _ r c (by omega)).trans <| (peel v f h3 _ _ _ r c (by omega)).trans <| (peel v f rfl _ _ _ r c (by omega)).trans <|
    (peel v f h2 _ _ _ r c (by omega)).trans <| (peel v f rfl _ _ _ r c (by omega)).trans <| (peel v f h1 _ _ _ r c (by omega)).trans <|
    (peel v f rfl _ _ _ r c (by omega)).trans <| peel v f h0 _ _ _ r c (by omega)

end After

end Pieces

end Cert.NaValue
end
-- ==== Proof.NaLoads.lean ====
module

public import proofs.«01_k».proof.Proof.NaHead
public import proofs.«01_k».proof.Proof.NaAcc
public import proofs.«01_k».proof.Proof.NaOff

/-! What the body loads at a point for each of the four heads, read at an index of the blocks. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

variable {F : FTy → Type} [FloatOps F]

section Loads

variable {sp : Space} {κ : Kind}

/-- A head's columns of a block of 64 rows. -/
def lQ (v : View sig κ sp S64x512 .bf16) (f : v.ty.Contents (Elt F)) : Fin 4 → Vec F S64x128 .bf16 :=
  ![View.readAt (Elt F) v (Rect.unit (s := S64x512) ![0, 0] S64x128.size inb_S64x512_S64x128_0_0).toLoadRect f,
    View.readAt (Elt F) v (Rect.unit (s := S64x512) ![0, 128] S64x128.size inb_S64x512_S64x128_0_128).toLoadRect f,
    View.readAt (Elt F) v (Rect.unit (s := S64x512) ![0, 256] S64x128.size inb_S64x512_S64x128_0_256).toLoadRect f,
    View.readAt (Elt F) v (Rect.unit (s := S64x512) ![0, 384] S64x128.size inb_S64x512_S64x128_0_384).toLoadRect f]

/-- A head's columns of the band's rows. -/
def lB {e : EltTy} (i : grid0.Coords) (v : View sig κ sp S2304x512 e) (f : v.ty.Contents (Elt F)) : Fin 4 → Vec F S512x128 e :=
  ![View.readAt (Elt F) v (Rect.unit (s := S2304x512) (k0_off1 i) S512x128.size (k0_off1_inb i)).toLoadRect f,
    View.readAt (Elt F) v (Rect.unit (s := S2304x512) (k0_off2 i) S512x128.size (k0_off2_inb i)).toLoadRect f,
    View.readAt (Elt F) v (Rect.unit (s := S2304x512) (k0_off3 i) S512x128.size (k0_off3_inb i)).toLoadRect f,
    View.readAt (Elt F) v (Rect.unit (s := S2304x512) (k0_off4 i) S512x128.size (k0_off4_inb i)).toLoadRect f]

/-- A head's columns of the context's rows. -/
def lC {e : EltTy} (v : View sig κ sp S2304x512 e) (f : v.ty.Contents (Elt F)) : Fin 4 → Vec F S256x128 e :=
  ![View.readAt (Elt F) v (Rect.unit (s := S2304x512) ![0, 0] S256x128.size inb_S2304x512_S256x128_0_0).toLoadRect f,
    View.readAt (Elt F) v (Rect.unit (s := S2304x512) ![0, 128] S256x128.size inb_S2304x512_S256x128_0_128).toLoadRect f,
    View.readAt (Elt F) v (Rect.unit (s := S2304x512) ![0, 256] S256x128.size inb_S2304x512_S256x128_0_256).toLoadRect f,
    View.readAt (Elt F) v (Rect.unit (s := S2304x512) ![0, 384] S256x128.size inb_S2304x512_S256x128_0_384).toLoadRect f]

/-- A head's slab of the bias. -/
def lS (v : View sig κ sp S4x1x64x512 .f32) (f : v.ty.Contents (Elt F)) : Fin 4 → Vec F S1x1x64x512 .f32 :=
  ![View.readAt (Elt F) v (Rect.unit (s := S4x1x64x512) ![0, 0, 0, 0] S1x1x64x512.size inb_S4x1x64x512_S1x1x64x512_0_0_0_0).toLoadRect f,
    View.readAt (Elt F) v (Rect.unit (s := S4x1x64x512) ![1, 0, 0, 0] S1x1x64x512.size inb_S4x1x64x512_S1x1x64x512_1_0_0_0).toLoadRect f,
    View.readAt (Elt F) v (Rect.unit (s := S4x1x64x512) ![2, 0, 0, 0] S1x1x64x512.size inb_S4x1x64x512_S1x1x64x512_2_0_0_0).toLoadRect f,
    View.readAt (Elt F) v (Rect.unit (s := S4x1x64x512) ![3, 0, 0, 0] S1x1x64x512.size inb_S4x1x64x512_S1x1x64x512_3_0_0_0).toLoadRect f]

theorem lQ_at (v : View sig κ sp S64x512 .bf16) (f : v.ty.Contents (Elt F)) (j : Fin 4) (c : Fin 64) (d : Fin 128) :
    lQ v f j (ix2 c d) = v.read (Elt F) f (ix2 c ⟨128 * j.val + d.val, by omega⟩) := by
  fin_cases j
  · exact congrArg (v.read (Elt F) f) (funext fun a => by
      revert a
      exact Fin.forall_fin_two.mpr ⟨Fin.ext (by show 0 + 1 * c.val = c.val; omega), Fin.ext (by show 0 + 1 * d.val = 128 * 0 + d.val; omega)⟩)
  · exact congrArg (v.read (Elt F) f) (funext fun a => by
      revert a
      exact Fin.forall_fin_two.mpr ⟨Fin.ext (by show 0 + 1 * c.val = c.val; omega), Fin.ext (by show 128 + 1 * d.val = 128 * 1 + d.val; omega)⟩)
  · exact congrArg (v.read (Elt F) f) (funext fun a => by
      revert a
      exact Fin.forall_fin_two.mpr ⟨Fin.ext (by show 0 + 1 * c.val = c.val; omega), Fin.ext (by show 256 + 1 * d.val = 128 * 2 + d.val; omega)⟩)
  · exact congrArg (v.read (Elt F) f) (funext fun a => by
      revert a
      exact Fin.forall_fin_two.mpr ⟨Fin.ext (by show 0 + 1 * c.val = c.val; omega), Fin.ext (by show 384 + 1 * d.val = 128 * 3 + d.val; omega)⟩)

theorem lB_at {e : EltTy} (i : grid0.Coords) (v : View sig κ sp S2304x512 e) (f : v.ty.Contents (Elt F)) (j : Fin 4) (k : Fin 512) (d : Fin 128) :
    lB i v f j (ix2 k d) = v.read (Elt F) f (ix2 ⟨256 + 64 * min ((i 1).val - 4) 24 + k.val, by omega⟩ ⟨128 * j.val + d.val, by omega⟩) := by
  have h1 := off1_eq i
  have h2 := off2_eq i
  have h3 := off3_eq i
  have h4 := off4_eq i
  fin_cases j
  · exact congrArg (v.read (Elt F) f) (funext fun a => by
      revert a
      refine Fin.forall_fin_two.mpr ⟨Fin.ext ?_, Fin.ext ?_⟩
      · show k0_off1 i 0 + 1 * k.val = _; rw [h1]; show 256 + 64 * min ((i 1).val - 4) 24 + 1 * k.val = 256 + 64 * min ((i 1).val - 4) 24 + k.val; omega
      · show k0_off1 i 1 + 1 * d.val = _; rw [h1]; show 0 + 1 * d.val = 128 * 0 + d.val; omega)
  · exact congrArg (v.read (Elt F) f) (funext fun a => by
      revert a
      refine Fin.forall_fin_two.mpr ⟨Fin.ext ?_, Fin.ext ?_⟩
      · show k0_off2 i 0 + 1 * k.val = _; rw [h2]; show 256 + 64 * min ((i 1).val - 4) 24 + 1 * k.val = 256 + 64 * min ((i 1).val - 4) 24 + k.val; omega
      · show k0_off2 i 1 + 1 * d.val = _; rw [h2]; show 128 + 1 * d.val = 128 * 1 + d.val; omega)
  · exact congrArg (v.read (Elt F) f) (funext fun a => by
      revert a
      refine Fin.forall_fin_two.mpr ⟨Fin.ext ?_, Fin.ext ?_⟩
      · show k0_off3 i 0 + 1 * k.val = _; rw [h3]; show 256 + 64 * min ((i 1).val - 4) 24 + 1 * k.val = 256 + 64 * min ((i 1).val - 4) 24 + k.val; omega
      · show k0_off3 i 1 + 1 * d.val = _; rw [h3]; show 256 + 1 * d.val = 128 * 2 + d.val; omega)
  · exact congrArg (v.read (Elt F) f) (funext fun a => by
      revert a
      refine Fin.forall_fin_two.mpr ⟨Fin.ext ?_, Fin.ext ?_⟩
      · show k0_off4 i 0 + 1 * k.val = _; rw [h4]; show 256 + 64 * min ((i 1).val - 4) 24 + 1 * k.val = 256 + 64 * min ((i 1).val - 4) 24 + k.val; omega
      · show k0_off4 i 1 + 1 * d.val = _; rw [h4]; show 384 + 1 * d.val = 128 * 3 + d.val; omega)

theorem lC_at {e : EltTy} (v : View sig κ sp S2304x512 e) (f : v.ty.Contents (Elt F)) (j : Fin 4) (n : Fin 256) (d : Fin 128) :
    lC v f j (ix2 n d) = v.read (Elt F) f (ix2 ⟨n.val, by omega⟩ ⟨128 * j.val + d.val, by omega⟩) := by
  fin_cases j
  · exact congrArg (v.read (Elt F) f) (funext fun a => by
      revert a
      exact Fin.forall_fin_two.mpr ⟨Fin.ext (by show 0 + 1 * n.val = n.val; omega), Fin.ext (by show 0 + 1 * d.val = 128 * 0 + d.val; omega)⟩)
  · exact congrArg (v.read (Elt F) f) (funext fun a => by
      revert a
      exact Fin.forall_fin_two.mpr ⟨Fin.ext (by show 0 + 1 * n.val = n.val; omega), Fin.ext (by show 128 + 1 * d.val = 128 * 1 + d.val; omega)⟩)
  · exact congrArg (v.read (Elt F) f) (funext fun a => by
      revert a
      exact Fin.forall_fin_two.mpr ⟨Fin.ext (by show 0 + 1 * n.val = n.val; omega), Fin.ext (by show 256 + 1 * d.val = 128 * 2 + d.val; omega)⟩)
  · exact congrArg (v.read (Elt F) f) (funext fun a => by
      revert a
      exact Fin.forall_fin_two.mpr ⟨Fin.ext (by show 0 + 1 * n.val = n.val; omega), Fin.ext (by show 384 + 1 * d.val = 128 * 3 + d.val; omega)⟩)

theorem lS_at (v : View sig κ sp S4x1x64x512 .f32) (f : v.ty.Contents (Elt F)) (j : Fin 4) (c : Fin 64) (k : Fin 512) :
    lS v f j (ix4 0 0 c k) = v.read (Elt F) f (ix4 j 0 c k) := by
  fin_cases j <;>
    exact congrArg (v.read (Elt F) f) (funext fun a => by
      revert a
      refine Fin.forall_fin_succ.mpr ⟨Fin.ext rfl, Fin.forall_fin_succ.mpr ⟨Fin.ext rfl, Fin.forall_fin_two.mpr ⟨Fin.ext ?_, Fin.ext ?_⟩⟩⟩
      · show 0 + 1 * c.val = c.val; omega
      · show 0 + 1 * k.val = k.val; omega)

end Loads

section Head

variable (i : grid0.Coords) (arg2 : Memref sig .tc .vmem S64x512 .bf16) (harg2 : arg2.IsWhole) (arg3 : Memref sig .tc .vmem S2304x512 .bf16) (harg3 : arg3.IsWhole)
  (arg4 : Memref sig .tc .vmem S2304x512 .f32) (harg4 : arg4.IsWhole) (arg5 : Memref sig .tc .vmem S4x1x64x512 .f32) (harg5 : arg5.IsWhole)
  (arg6 : Memref sig .tc .vmem S64x512 .bf16) (harg6 : arg6.IsWhole)
  (x0 : Vec F S64x512 .bf16) (x1 : Vec F S2304x512 .bf16) (x2 : Vec F S2304x512 .f32) (x3 : Vec F S4x1x64x512 .f32) (x4 : Vec F S64x512 .bf16) (j : Fin 4)

/-! What the body stores for head `j` of a point. -/

def eDq : Vec F S64x128 .f32 := hdq (lQ arg2.view (harg2.unread x0) j) (lB i arg3.view (harg3.unread x1) j) (lC arg3.view (harg3.unread x1) j) (lB i arg4.view (harg4.unread x2) j) (lC arg4.view (harg4.unread x2) j) (lS arg5.view (harg5.unread x3) j) (lQ arg6.view (harg6.unread x4) j)
def eKB (old : Vec F S512x128 .f32) : Vec F S512x128 .f32 := hdkB (lQ arg2.view (harg2.unread x0) j) (lB i arg3.view (harg3.unread x1) j) (lC arg3.view (harg3.unread x1) j) (lB i arg4.view (harg4.unread x2) j) (lC arg4.view (harg4.unread x2) j) (lS arg5.view (harg5.unread x3) j) (lQ arg6.view (harg6.unread x4) j) old
def eKC (old : Vec F S256x128 .f32) : Vec F S256x128 .f32 := hdkC (lQ arg2.view (harg2.unread x0) j) (lB i arg3.view (harg3.unread x1) j) (lC arg3.view (harg3.unread x1) j) (lB i arg4.view (harg4.unread x2) j) (lC arg4.view (harg4.unread x2) j) (lS arg5.view (harg5.unread x3) j) (lQ arg6.view (harg6.unread x4) j) old
def eVB (old : Vec F S512x128 .f32) : Vec F S512x128 .f32 := hdvB (lQ arg2.view (harg2.unread x0) j) (lB i arg3.view (harg3.unread x1) j) (lC arg3.view (harg3.unread x1) j) (lS arg5.view (harg5.unread x3) j) (lQ arg6.view (harg6.unread x4) j) old
def eVC (old : Vec F S256x128 .f32) : Vec F S256x128 .f32 := hdvC (lQ arg2.view (harg2.unread x0) j) (lB i arg3.view (harg3.unread x1) j) (lC arg3.view (harg3.unread x1) j) (lS arg5.view (harg5.unread x3) j) (lQ arg6.view (harg6.unread x4) j) old
def eDb : Vec F S1x1x64x512 .f32 := hdb (lQ arg2.view (harg2.unread x0) j) (lB i arg3.view (harg3.unread x1) j) (lC arg3.view (harg3.unread x1) j) (lB i arg4.view (harg4.unread x2) j) (lC arg4.view (harg4.unread x2) j) (lS arg5.view (harg5.unread x3) j) (lQ arg6.view (harg6.unread x4) j)
def eDbAdd (old : Vec F S1x1x64x512 .f32) : Vec F S1x1x64x512 .f32 := hdbAdd (lQ arg2.view (harg2.unread x0) j) (lB i arg3.view (harg3.unread x1) j) (lC arg3.view (harg3.unread x1) j) (lB i arg4.view (harg4.unread x2) j) (lC arg4.view (harg4.unread x2) j) (lS arg5.view (harg5.unread x3) j) (lQ arg6.view (harg6.unread x4) j) old

end Head

/-- The operands of head `j` at a point in row `r` of the grid, from the blocks of the point. -/
def blkOf (r : ℕ) (x0 : Vec Ideal S64x512 .bf16) (x1 : Vec Ideal S2304x512 .bf16) (x2 : Vec Ideal S2304x512 .f32) (x3 : Vec Ideal S4x1x64x512 .f32)
    (x4 : Vec Ideal S64x512 .bf16) (j : Fin 4) : Blk where
  q c d := x0 (ix2 c ⟨128 * j.val + d.val, by omega⟩)
  kb k d := x1 (ix2 ⟨256 + 64 * min (r - 4) 24 + k.val, by omega⟩ ⟨128 * j.val + d.val, by omega⟩)
  kc n d := x1 (ix2 ⟨n.val, by omega⟩ ⟨128 * j.val + d.val, by omega⟩)
  vb k d := x2 (ix2 ⟨256 + 64 * min (r - 4) 24 + k.val, by omega⟩ ⟨128 * j.val + d.val, by omega⟩)
  vc n d := x2 (ix2 ⟨n.val, by omega⟩ ⟨128 * j.val + d.val, by omega⟩)
  b c k := x3 (ix4 j 0 c k)
  d c d := x4 (ix2 c ⟨128 * j.val + d.val, by omega⟩)

section Ideal

variable (i : grid0.Coords) (arg2 : Memref sig .tc .vmem S64x512 .bf16) (harg2 : arg2.IsWhole) (arg3 : Memref sig .tc .vmem S2304x512 .bf16) (harg3 : arg3.IsWhole)
  (arg4 : Memref sig .tc .vmem S2304x512 .f32) (harg4 : arg4.IsWhole) (arg5 : Memref sig .tc .vmem S4x1x64x512 .f32) (harg5 : arg5.IsWhole)
  (arg6 : Memref sig .tc .vmem S64x512 .bf16) (harg6 : arg6.IsWhole)
  (x0 : Vec Ideal S64x512 .bf16) (x1 : Vec Ideal S2304x512 .bf16) (x2 : Vec Ideal S2304x512 .f32) (x3 : Vec Ideal S4x1x64x512 .f32) (x4 : Vec Ideal S64x512 .bf16) (j : Fin 4)

include arg4 harg4

theorem ofLoads_eq : ofLoads (lQ arg2.view (harg2.unread x0) j) (lB i arg3.view (harg3.unread x1) j) (lC arg3.view (harg3.unread x1) j) (lB i arg4.view (harg4.unread x2) j) (lC arg4.view (harg4.unread x2) j) (lS arg5.view (harg5.unread x3) j) (lQ arg6.view (harg6.unread x4) j) = blkOf (i 1).val x0 x1 x2 x3 x4 j := by
  unfold ofLoads blkOf
  congr 1 <;> funext a b
  · rw [lQ_at, harg2.read_unread]
  · rw [lB_at, harg3.read_unread]
  · rw [lC_at, harg3.read_unread]
  · rw [lB_at, harg4.read_unread]
  · rw [lC_at, harg4.read_unread]
  · rw [lS_at, harg5.read_unread]
  · rw [lQ_at, harg6.read_unread]

theorem eDq_at (c : Fin 64) (d : Fin 128) : eDq (F := Ideal) i arg2 harg2 arg3 harg3 arg4 harg4 arg5 harg5 arg6 harg6 x0 x1 x2 x3 x4 j (ix2 c d) = (blkOf (i 1).val x0 x1 x2 x3 x4 j).dq c d := by
  rw [← ofLoads_eq i arg2 harg2 arg3 harg3 arg4 harg4 arg5 harg5 arg6 harg6 x0 x1 x2 x3 x4 j]
  exact hdq_at _ _ _ _ _ _ _ c d

theorem eKB_at (old : Vec Ideal S512x128 .f32) (k : Fin 512) (d : Fin 128) : eKB (F := Ideal) i arg2 harg2 arg3 harg3 arg4 harg4 arg5 harg5 arg6 harg6 x0 x1 x2 x3 x4 j old (ix2 k d) = ((old (ix2 k d) + (blkOf (i 1).val x0 x1 x2 x3 x4 j).dkB k d : EReal) : EReal) := by
  rw [← ofLoads_eq i arg2 harg2 arg3 harg3 arg4 harg4 arg5 harg5 arg6 harg6 x0 x1 x2 x3 x4 j]
  exact hdkB_at _ _ _ _ _ _ _ _ k d

theorem eKC_at (old : Vec Ideal S256x128 .f32) (n : Fin 256) (d : Fin 128) : eKC (F := Ideal) i arg2 harg2 arg3 harg3 arg4 harg4 arg5 harg5 arg6 harg6 x0 x1 x2 x3 x4 j old (ix2 n d) = ((old (ix2 n d) + (blkOf (i 1).val x0 x1 x2 x3 x4 j).dkC n d : EReal) : EReal) := by
  rw [← ofLoads_eq i arg2 harg2 arg3 harg3 arg4 harg4 arg5 harg5 arg6 harg6 x0 x1 x2 x3 x4 j]
  exact hdkC_at _ _ _ _ _ _ _ _ n d

theorem eVB_at (old : Vec Ideal S512x128 .f32) (k : Fin 512) (d : Fin 128) : eVB (F := Ideal) i arg2 harg2 arg3 harg3 arg5 harg5 arg6 harg6 x0 x1 x3 x4 j old (ix2 k d) = ((old (ix2 k d) + (blkOf (i 1).val x0 x1 x2 x3 x4 j).dvB k d : EReal) : EReal) := by
  rw [← ofLoads_eq i arg2 harg2 arg3 harg3 arg4 harg4 arg5 harg5 arg6 harg6 x0 x1 x2 x3 x4 j]
  exact hdvB_at _ _ _ _ _ _ _ _ k d

theorem eVC_at (old : Vec Ideal S256x128 .f32) (n : Fin 256) (d : Fin 128) : eVC (F := Ideal) i arg2 harg2 arg3 harg3 arg5 harg5 arg6 harg6 x0 x1 x3 x4 j old (ix2 n d) = ((old (ix2 n d) + (blkOf (i 1).val x0 x1 x2 x3 x4 j).dvC n d : EReal) : EReal) := by
  rw [← ofLoads_eq i arg2 harg2 arg3 harg3 arg4 harg4 arg5 harg5 arg6 harg6 x0 x1 x2 x3 x4 j]
  exact hdvC_at _ _ _ _ _ _ _ _ n d

theorem eDb_at (c : Fin 64) (k : Fin 512) : eDb (F := Ideal) i arg2 harg2 arg3 harg3 arg4 harg4 arg5 harg5 arg6 harg6 x0 x1 x2 x3 x4 j (ix4 0 0 c k) = (blkOf (i 1).val x0 x1 x2 x3 x4 j).gB c k := by
  rw [← ofLoads_eq i arg2 harg2 arg3 harg3 arg4 harg4 arg5 harg5 arg6 harg6 x0 x1 x2 x3 x4 j]
  exact hdb_at _ _ _ _ _ _ _ c k

theorem eDbAdd_at (old : Vec Ideal S1x1x64x512 .f32) (c : Fin 64) (k : Fin 512) : eDbAdd (F := Ideal) i arg2 harg2 arg3 harg3 arg4 harg4 arg5 harg5 arg6 harg6 x0 x1 x2 x3 x4 j old (ix4 0 0 c k) = ((old (ix4 0 0 c k) + (blkOf (i 1).val x0 x1 x2 x3 x4 j).gB c k : EReal) : EReal) := by
  rw [← ofLoads_eq i arg2 harg2 arg3 harg3 arg4 harg4 arg5 harg5 arg6 harg6 x0 x1 x2 x3 x4 j]
  exact hdbAdd_at _ _ _ _ _ _ _ _ c k

end Ideal

end Cert.NaValue
end
-- ==== Proof.NaStores.lean ====
module

public import proofs.«01_k».proof.Proof.NaLoads

/-! The eight stores of a point into an accumulator: what a head adds to is what the accumulator held before the point,
    for the stores of the other heads are apart from the head's own. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

variable {F : FTy → Type} [FloatOps F]

section Stores

variable {sp : Space} {κ : Kind} (i : grid0.Coords) (v : View sig κ sp S2304x512 .f32) (f : v.ty.Contents (Elt F))

theorem readAt_cons {B : LoadRect S2304x512} (p : View.Piece (Elt F) S2304x512 .f32) (L : List (View.Piece (Elt F) S2304x512 .f32))
    (h : ∀ j, B.idx j ∉ p.1.set) : View.readAt (Elt F) v B (v.writes (Elt F) f (p :: L)) = View.readAt (Elt F) v B (v.writes (Elt F) f L) :=
  View.readAt_writes_of_forall_not_mem v (v.writes (Elt F) f L) [p] B (fun j q hq => by
    rw [List.mem_singleton.mp hq]; exact h j)

section Apart

variable {o size : Fin 2 → ℕ} (inb : ∀ x, o x + size x ≤ S2304x512.size x) (w : (Rect.unit (s := S2304x512) o size inb).shape.Idx → Elt F .f32)
  (L : List (View.Piece (Elt F) S2304x512 .f32)) (j : Fin 4)

/-- A head's rows of the context are not touched by a store below them or into the columns of another head. -/
theorem lC_cons (h : 256 ≤ o 0 ∨ o 1 + size 1 ≤ 128 * j.val ∨ 128 * j.val + 128 ≤ o 1) :
    lC v (v.writes (Elt F) f (⟨Rect.unit (s := S2304x512) o size inb, w⟩ :: L)) j = lC v (v.writes (Elt F) f L) j := by
  fin_cases j
  · refine readAt_cons v f (B := (Rect.unit (s := S2304x512) ![0, 0] S256x128.size inb_S2304x512_S256x128_0_0).toLoadRect) _ L ?_
    rcases h with h | h | h
    · exact not_mem_unit (inb := inb) 0 (Or.inr (by show 0 + 256 ≤ o 0; omega))
    · exact not_mem_unit (inb := inb) 1 (Or.inl (by show o 1 + size 1 ≤ 0; exact h))
    · exact not_mem_unit (inb := inb) 1 (Or.inr (by show 0 + 128 ≤ o 1; exact h))
  · refine readAt_cons v f (B := (Rect.unit (s := S2304x512) ![0, 128] S256x128.size inb_S2304x512_S256x128_0_128).toLoadRect) _ L ?_
    rcases h with h | h | h
    · exact not_mem_unit (inb := inb) 0 (Or.inr (by show 0 + 256 ≤ o 0; omega))
    · exact not_mem_unit (inb := inb) 1 (Or.inl (by show o 1 + size 1 ≤ 128; exact h))
    · exact not_mem_unit (inb := inb) 1 (Or.inr (by show 128 + 128 ≤ o 1; exact h))
  · refine readAt_cons v f (B := (Rect.unit (s := S2304x512) ![0, 256] S256x128.size inb_S2304x512_S256x128_0_256).toLoadRect) _ L ?_
    rcases h with h | h | h
    · exact not_mem_unit (inb := inb) 0 (Or.inr (by show 0 + 256 ≤ o 0; omega))
    · exact not_mem_unit (inb := inb) 1 (Or.inl (by show o 1 + size 1 ≤ 256; exact h))
    · exact not_mem_unit (inb := inb) 1 (Or.inr (by show 256 + 128 ≤ o 1; exact h))
  · refine readAt_cons v f (B := (Rect.unit (s := S2304x512) ![0, 384] S256x128.size inb_S2304x512_S256x128_0_384).toLoadRect) _ L ?_
    rcases h with h | h | h
    · exact not_mem_unit (inb := inb) 0 (Or.inr (by show 0 + 256 ≤ o 0; omega))
    · exact not_mem_unit (inb := inb) 1 (Or.inl (by show o 1 + size 1 ≤ 384; exact h))
    · exact not_mem_unit (inb := inb) 1 (Or.inr (by show 384 + 128 ≤ o 1; exact h))

/-- A head's rows of the band are not touched by a store above them or into the columns of another head. -/
theorem lB_cons (h : o 0 + size 0 ≤ 256 ∨ o 1 + size 1 ≤ 128 * j.val ∨ 128 * j.val + 128 ≤ o 1) :
    lB i v (v.writes (Elt F) f (⟨Rect.unit (s := S2304x512) o size inb, w⟩ :: L)) j = lB i v (v.writes (Elt F) f L) j := by
  have h1 := off1_eq i
  have h2 := off2_eq i
  have h3 := off3_eq i
  have h4 := off4_eq i
  fin_cases j
  · have e0 : k0_off1 i 0 = 256 + 64 * min ((i 1).val - 4) 24 := by rw [h1]; rfl
    have e1 : k0_off1 i 1 = 0 := by rw [h1]; rfl
    refine readAt_cons v f (B := (Rect.unit (s := S2304x512) (k0_off1 i) S512x128.size (k0_off1_inb i)).toLoadRect) _ L ?_
    rcases h with h | h | h
    · exact not_mem_unit (inb := inb) 0 (Or.inl (by omega))
    · exact not_mem_unit (inb := inb) 1 (Or.inl (by rw [e1]; exact h))
    · exact not_mem_unit (inb := inb) 1 (Or.inr (by rw [e1]; exact h))
  · have e0 : k0_off2 i 0 = 256 + 64 * min ((i 1).val - 4) 24 := by rw [h2]; rfl
    have e1 : k0_off2 i 1 = 128 := by rw [h2]; rfl
    refine readAt_cons v f (B := (Rect.unit (s := S2304x512) (k0_off2 i) S512x128.size (k0_off2_inb i)).toLoadRect) _ L ?_
    rcases h with h | h | h
    · exact not_mem_unit (inb := inb) 0 (Or.inl (by omega))
    · exact not_mem_unit (inb := inb) 1 (Or.inl (by rw [e1]; exact h))
    · exact not_mem_unit (inb := inb) 1 (Or.inr (by rw [e1]; exact h))
  · have e0 : k0_off3 i 0 = 256 + 64 * min ((i 1).val - 4) 24 := by rw [h3]; rfl
    have e1 : k0_off3 i 1 = 256 := by rw [h3]; rfl
    refine readAt_cons v f (B := (Rect.unit (s := S2304x512) (k0_off3 i) S512x128.size (k0_off3_inb i)).toLoadRect) _ L ?_
    rcases h with h | h | h
    · exact not_mem_unit (inb := inb) 0 (Or.inl (by omega))
    · exact not_mem_unit (inb := inb) 1 (Or.inl (by rw [e1]; exact h))
    · exact not_mem_unit (inb := inb) 1 (Or.inr (by rw [e1]; exact h))
  · have e0 : k0_off4 i 0 = 256 + 64 * min ((i 1).val - 4) 24 := by rw [h4]; rfl
    have e1 : k0_off4 i 1 = 384 := by rw [h4]; rfl
    refine readAt_cons v f (B := (Rect.unit (s := S2304x512) (k0_off4 i) S512x128.size (k0_off4_inb i)).toLoadRect) _ L ?_
    rcases h with h | h | h
    · exact not_mem_unit (inb := inb) 0 (Or.inl (by omega))
    · exact not_mem_unit (inb := inb) 1 (Or.inl (by rw [e1]; exact h))
    · exact not_mem_unit (inb := inb) 1 (Or.inr (by rw [e1]; exact h))

end Apart

variable (gB : Fin 4 → Vec F S512x128 .f32 → Vec F S512x128 .f32) (gC : Fin 4 → Vec F S256x128 .f32 → Vec F S256x128 .f32)

/-- The stores of a point, from a function of what the accumulator holds at the head's rows. -/
def adds : List (View.Piece (Elt F) S2304x512 .f32) :=
  pieces (k0_off1_inb i) (k0_off2_inb i) (k0_off3_inb i) (k0_off4_inb i) (fun j => gB j (lB i v f j)) (fun j => gC j (lC v f j))

/-! The same stores when the loads between them read the accumulator as it stands: `aB` and `aC` hold those loads. -/

theorem stores_eq {aB0 aB1 aB2 aB3 : Vec F S512x128 .f32} {aC0 aC1 aC2 aC3 : Vec F S256x128 .f32}
    (hB0 : aB0 = lB i v f 0)
    (hC0 : aC0 = lC v (v.writes (Elt F) f [b0 (k0_off1_inb i) (gB 0 aB0)]) 0)
    (hB1 : aB1 = lB i v f 1)
    (hC1 : aC1 = lC v (v.writes (Elt F) f [b0 (k0_off2_inb i) (gB 1 aB1), c0 (gC 0 aC0), b0 (k0_off1_inb i) (gB 0 aB0)]) 1)
    (hB2 : aB2 = lB i v f 2)
    (hC2 : aC2 = lC v (v.writes (Elt F) f [b0 (k0_off3_inb i) (gB 2 aB2), c1 (gC 1 aC1), b0 (k0_off2_inb i) (gB 1 aB1), c0 (gC 0 aC0), b0 (k0_off1_inb i) (gB 0 aB0)]) 2)
    (hB3 : aB3 = lB i v f 3)
    (hC3 : aC3 = lC v (v.writes (Elt F) f [b0 (k0_off4_inb i) (gB 3 aB3), c2 (gC 2 aC2), b0 (k0_off3_inb i) (gB 2 aB2), c1 (gC 1 aC1), b0 (k0_off2_inb i) (gB 1 aB1), c0 (gC 0 aC0), b0 (k0_off1_inb i) (gB 0 aB0)]) 3) :
    ([c3 (gC 3 aC3), b0 (k0_off4_inb i) (gB 3 aB3), c2 (gC 2 aC2), b0 (k0_off3_inb i) (gB 2 aB2), c1 (gC 1 aC1), b0 (k0_off2_inb i) (gB 1 aB1), c0 (gC 0 aC0), b0 (k0_off1_inb i) (gB 0 aB0)] : List (View.Piece (Elt F) S2304x512 .f32)) = adds i v f gB gC := by
  have o1 := off1_eq i
  have o2 := off2_eq i
  have o3 := off3_eq i
  have o4 := off4_eq i
  have p0 : k0_off1 i 0 = 256 + 64 * min ((i 1).val - 4) 24 := by rw [o1]; rfl
  have q0 : k0_off1 i 1 = 0 := by rw [o1]; rfl
  have p1 : k0_off2 i 0 = 256 + 64 * min ((i 1).val - 4) 24 := by rw [o2]; rfl
  have q1 : k0_off2 i 1 = 128 := by rw [o2]; rfl
  have p2 : k0_off3 i 0 = 256 + 64 * min ((i 1).val - 4) 24 := by rw [o3]; rfl
  have q2 : k0_off3 i 1 = 256 := by rw [o3]; rfl
  have p3 : k0_off4 i 0 = 256 + 64 * min ((i 1).val - 4) 24 := by rw [o4]; rfl
  have q3 : k0_off4 i 1 = 384 := by rw [o4]; rfl
  have ehB0 : aB0 = lB i v f 0 := hB0
  have ehC0 : aC0 = lC v f 0 := hC0.trans <| (lC_cons v f _ _ _ 0 (Or.inl (by omega)))
  have ehB1 : aB1 = lB i v f 1 := hB1
  have ehC1 : aC1 = lC v f 1 := hC1.trans <| (lC_cons v f _ _ _ 1 (Or.inl (by omega))).trans <| (lC_cons v f _ _ _ 1 (Or.inr (Or.inl (by show 0 + 128 ≤ 128 * 1; omega)))).trans <| (lC_cons v f _ _ _ 1 (Or.inl (by omega)))
  have ehB2 : aB2 = lB i v f 2 := hB2
  have ehC2 : aC2 = lC v f 2 := hC2.trans <| (lC_cons v f _ _ _ 2 (Or.inl (by omega))).trans <| (lC_cons v f _ _ _ 2 (Or.inr (Or.inl (by show 128 + 128 ≤ 128 * 2; omega)))).trans <| (lC_cons v f _ _ _ 2 (Or.inl (by omega))).trans <| (lC_cons v f _ _ _ 2 (Or.inr (Or.inl (by show 0 + 128 ≤ 128 * 2; omega)))).trans <| (lC_cons v f _ _ _ 2 (Or.inl (by omega)))
  have ehB3 : aB3 = lB i v f 3 := hB3
  have ehC3 : aC3 = lC v f 3 := hC3.trans <| (lC_cons v f _ _ _ 3 (Or.inl (by omega))).trans <| (lC_cons v f _ _ _ 3 (Or.inr (Or.inl (by show 256 + 128 ≤ 128 * 3; omega)))).trans <| (lC_cons v f _ _ _ 3 (Or.inl (by omega))).trans <| (lC_cons v f _ _ _ 3 (Or.inr (Or.inl (by show 128 + 128 ≤ 128 * 3; omega)))).trans <| (lC_cons v f _ _ _ 3 (Or.inl (by omega))).trans <| (lC_cons v f _ _ _ 3 (Or.inr (Or.inl (by show 0 + 128 ≤ 128 * 3; omega)))).trans <| (lC_cons v f _ _ _ 3 (Or.inl (by omega)))
  rw [ehB0, ehC0, ehB1, ehC1, ehB2, ehC2, ehB3, ehC3]
  rfl

theorem stores_eq_of_loads {aB0 aB1 aB2 aB3 : Vec F S512x128 .f32} {aC0 aC1 aC2 aC3 : Vec F S256x128 .f32}
    (hB0 : aB0 = lB i v (v.writes (Elt F) f []) 0)
    (hC0 : aC0 = lC v (v.writes (Elt F) f [b0 (k0_off1_inb i) (gB 0 aB0)]) 0)
    (hB1 : aB1 = lB i v (v.writes (Elt F) f [c0 (gC 0 aC0), b0 (k0_off1_inb i) (gB 0 aB0)]) 1)
    (hC1 : aC1 = lC v (v.writes (Elt F) f [b0 (k0_off2_inb i) (gB 1 aB1), c0 (gC 0 aC0), b0 (k0_off1_inb i) (gB 0 aB0)]) 1)
    (hB2 : aB2 = lB i v (v.writes (Elt F) f [c1 (gC 1 aC1), b0 (k0_off2_inb i) (gB 1 aB1), c0 (gC 0 aC0), b0 (k0_off1_inb i) (gB 0 aB0)]) 2)
    (hC2 : aC2 = lC v (v.writes (Elt F) f [b0 (k0_off3_inb i) (gB 2 aB2), c1 (gC 1 aC1), b0 (k0_off2_inb i) (gB 1 aB1), c0 (gC 0 aC0), b0 (k0_off1_inb i) (gB 0 aB0)]) 2)
    (hB3 : aB3 = lB i v (v.writes (Elt F) f [c2 (gC 2 aC2), b0 (k0_off3_inb i) (gB 2 aB2), c1 (gC 1 aC1), b0 (k0_off2_inb i) (gB 1 aB1), c0 (gC 0 aC0), b0 (k0_off1_inb i) (gB 0 aB0)]) 3)
    (hC3 : aC3 = lC v (v.writes (Elt F) f [b0 (k0_off4_inb i) (gB 3 aB3), c2 (gC 2 aC2), b0 (k0_off3_inb i) (gB 2 aB2), c1 (gC 1 aC1), b0 (k0_off2_inb i) (gB 1 aB1), c0 (gC 0 aC0), b0 (k0_off1_inb i) (gB 0 aB0)]) 3) :
    ([c3 (gC 3 aC3), b0 (k0_off4_inb i) (gB 3 aB3), c2 (gC 2 aC2), b0 (k0_off3_inb i) (gB 2 aB2), c1 (gC 1 aC1), b0 (k0_off2_inb i) (gB 1 aB1), c0 (gC 0 aC0), b0 (k0_off1_inb i) (gB 0 aB0)] : List (View.Piece (Elt F) S2304x512 .f32)) = adds i v f gB gC := by
  have o1 := off1_eq i
  have o2 := off2_eq i
  have o3 := off3_eq i
  have o4 := off4_eq i
  have p0 : k0_off1 i 0 = 256 + 64 * min ((i 1).val - 4) 24 := by rw [o1]; rfl
  have q0 : k0_off1 i 1 = 0 := by rw [o1]; rfl
  have p1 : k0_off2 i 0 = 256 + 64 * min ((i 1).val - 4) 24 := by rw [o2]; rfl
  have q1 : k0_off2 i 1 = 128 := by rw [o2]; rfl
  have p2 : k0_off3 i 0 = 256 + 64 * min ((i 1).val - 4) 24 := by rw [o3]; rfl
  have q2 : k0_off3 i 1 = 256 := by rw [o3]; rfl
  have p3 : k0_off4 i 0 = 256 + 64 * min ((i 1).val - 4) 24 := by rw [o4]; rfl
  have q3 : k0_off4 i 1 = 384 := by rw [o4]; rfl
  have ehB0 : aB0 = lB i v f 0 := hB0
  have ehB1 : aB1 = lB i v f 1 := hB1.trans <| (lB_cons i v f _ _ _ 1 (Or.inl (by show 0 + 256 ≤ 256; omega))).trans <| (lB_cons i v f _ _ _ 1 (Or.inr (Or.inl (by show k0_off1 i 1 + 128 ≤ 128 * 1; omega))))
  have ehB2 : aB2 = lB i v f 2 := hB2.trans <| (lB_cons i v f _ _ _ 2 (Or.inl (by show 0 + 256 ≤ 256; omega))).trans <| (lB_cons i v f _ _ _ 2 (Or.inr (Or.inl (by show k0_off2 i 1 + 128 ≤ 128 * 2; omega)))).trans <| (lB_cons i v f _ _ _ 2 (Or.inl (by show 0 + 256 ≤ 256; omega))).trans <| (lB_cons i v f _ _ _ 2 (Or.inr (Or.inl (by show k0_off1 i 1 + 128 ≤ 128 * 2; omega))))
  have ehB3 : aB3 = lB i v f 3 := hB3.trans <| (lB_cons i v f _ _ _ 3 (Or.inl (by show 0 + 256 ≤ 256; omega))).trans <| (lB_cons i v f _ _ _ 3 (Or.inr (Or.inl (by show k0_off3 i 1 + 128 ≤ 128 * 3; omega)))).trans <| (lB_cons i v f _ _ _ 3 (Or.inl (by show 0 + 256 ≤ 256; omega))).trans <| (lB_cons i v f _ _ _ 3 (Or.inr (Or.inl (by show k0_off2 i 1 + 128 ≤ 128 * 3; omega)))).trans <| (lB_cons i v f _ _ _ 3 (Or.inl (by show 0 + 256 ≤ 256; omega))).trans <| (lB_cons i v f _ _ _ 3 (Or.inr (Or.inl (by show k0_off1 i 1 + 128 ≤ 128 * 3; omega))))
  exact stores_eq i v f gB gC ehB0 hC0 ehB1 hC1 ehB2 hC2 ehB3 hC3

end Stores

end Cert.NaValue
end
-- ==== Proof.NaStep.lean ====
module

public import proofs.«01_k».proof.Proof.NaStores
public import proofs.«01_k».proof.Proof.NaRunA

/-! What each case of the body stores, in terms of the four heads. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

variable {F : FTy → Type} [FloatOps F]

/-- The four stores of a point into the block of the query gradient, the latest first. -/
def heads5 (w : Fin 4 → Vec F S64x128 .f32) : List (View.Piece (Elt F) S64x512 .f32) :=
  [⟨Rect.unit (s := S64x512) ![0, 384] S64x128.size inb_S64x512_S64x128_0_384, w 3⟩, ⟨Rect.unit (s := S64x512) ![0, 256] S64x128.size inb_S64x512_S64x128_0_256, w 2⟩,
    ⟨Rect.unit (s := S64x512) ![0, 128] S64x128.size inb_S64x512_S64x128_0_128, w 1⟩, ⟨Rect.unit (s := S64x512) ![0, 0] S64x128.size inb_S64x512_S64x128_0_0, w 0⟩]

/-- The four stores of a point into the slab of the bias gradient, the latest first. -/
def heads8 (w : Fin 4 → Vec F S1x1x64x512 .f32) : List (View.Piece (Elt F) S4x1x64x512 .f32) :=
  [⟨Rect.unit (s := S4x1x64x512) ![3, 0, 0, 0] S1x1x64x512.size inb_S4x1x64x512_S1x1x64x512_3_0_0_0, w 3⟩, ⟨Rect.unit (s := S4x1x64x512) ![2, 0, 0, 0] S1x1x64x512.size inb_S4x1x64x512_S1x1x64x512_2_0_0_0, w 2⟩,
    ⟨Rect.unit (s := S4x1x64x512) ![1, 0, 0, 0] S1x1x64x512.size inb_S4x1x64x512_S1x1x64x512_1_0_0_0, w 1⟩, ⟨Rect.unit (s := S4x1x64x512) ![0, 0, 0, 0] S1x1x64x512.size inb_S4x1x64x512_S1x1x64x512_0_0_0_0, w 0⟩]

/-- The store that clears an accumulator. -/
def zero6 : View.Piece (Elt F) S2304x512 .f32 := ⟨Rect.unit (s := S2304x512) ![0, 0] S2304x512.size inb_S2304x512_S2304x512_0_0, k0_pay5⟩
def zeroS : View.Piece (Elt F) S2304x512 .f32 := ⟨Rect.unit (s := S2304x512) ![0, 0] S2304x512.size inb_S2304x512_S2304x512_0_0, k0_pay6⟩

end Cert.NaValue
end
-- ==== Proof.NaStepA0.lean ====
module

public import proofs.«01_k».proof.Proof.NaStep

/-! Stores over a block that was cleared first: the loads between them read zeros. -/

@[expose] public section

noncomputable section

namespace Cert.NaValue

open Cert.KernelIdeal Cert.KernelIdeal.Gen
open Idealize.ShloMosaic Idealize.ShloMosaic.TcCoe Idealize.SL.Sem

variable {F : FTy → Type} [FloatOps F]

/-- Eight stores, each of its own load of what was there, over the one store `z`. -/
theorem stores_chain (i : grid0.Coords) {κ : Kind} {sp : Space} (v : View sig κ sp S2304x512 .f32) (z : View.Piece (Elt F) S2304x512 .f32)
    (gB : Fin 4 → Vec F S512x128 .f32 → Vec F S512x128 .f32) (gC : Fin 4 → Vec F S256x128 .f32 → Vec F S256x128 .f32)
    {L1 L2 L3 L4 L5 L6 L7 L8 L9 : List (View.Piece (Elt F) S2304x512 .f32)}
    {aB0 aB1 aB2 aB3 : Vec F S512x128 .f32} {aC0 aC1 aC2 aC3 : Vec F S256x128 .f32}
    (h1 : L1 = [z])
    (hB0 : aB0 = lB i v (v.writes (Elt F) v.junk L1) 0) (h2 : L2 = b0 (k0_off1_inb i) (gB 0 aB0) :: L1)
    (hC0 : aC0 = lC v (v.writes (Elt F) v.junk L2) 0) (h3 : L3 = c0 (gC 0 aC0) :: L2)
    (hB1 : aB1 = lB i v (v.writes (Elt F) v.junk L3) 1) (h4 : L4 = b0 (k0_off2_inb i) (gB 1 aB1) :: L3)
    (hC1 : aC1 = lC v (v.writes (Elt F) v.junk L4) 1) (h5 : L5 = c1 (gC 1 aC1) :: L4)
    (hB2 : aB2 = lB i v (v.writes (Elt F) v.junk L5) 2) (h6 : L6 = b0 (k0_off3_inb i) (gB 2 aB2) :: L5)
    (hC2 : aC2 = lC v (v.writes (Elt F) v.junk L6) 2) (h7 : L7 = c2 (gC 2 aC2) :: L6)
    (hB3 : aB3 = lB i v (v.writes (Elt F) v.junk L7) 3) (h8 : L8 = b0 (k0_off4_inb i) (gB 3 aB3) :: L7)
    (hC3 : aC3 = lC v (v.writes (Elt F) v.junk L8) 3) (h9 : L9 = c3 (gC 3 aC3) :: L8) :
    L9 = adds i v (v.writes (Elt F) v.junk [z]) gB gC ++ [z] := by
  subst h1 h2 h3 h4 h5 h6 h7 h8 h9
  exact congrArg (· ++ [z]) (stores_eq_of_loads i v (v.writes (Elt F) v.junk [z]) gB gC hB0 hC0 hB1 hC1 hB2 hC2 hB3 hC3)

end Cert.NaValue
end
-- ==== Proof.NaStepA1.lean ====
module

public import proofs.«01_k».proof.Proof.NaStepA0

/-! What the body stores into the key block at the first row of a head group, in terms of the four heads. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

variable {F : FTy → Type} [FloatOps F]

section RunA

variable (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : (Scalar.cmpi .ne (Scalar.extui (Scalar.cmpi .eq (BitVec.ofNat 32 (i 1).val) 0#32)) 0#32) = 1#1) (hc2 : k0_cond2 i = 1#1) (hc3 : ¬ (k0_cond3 i = 1#1)) (hc4 : k0_cond4 i = 1#1) (hc5 : ¬ (k0_cond5 i = 1#1)) (hc6 : k0_cond6 i = 1#1) (hc7 : ¬ (k0_cond7 i = 1#1)) (hc8 : k0_cond8 i = 1#1) (hc9 : ¬ (k0_cond9 i = 1#1)) (hc10 : ¬ (k0_cond10 i = 1#1))
    (x0 : Vec F S64x512 .bf16) (x1 : Vec F S2304x512 .bf16) (x2 : Vec F S2304x512 .f32) (x3 : Vec F S4x1x64x512 .f32) (x4 : Vec F S64x512 .bf16)

set_option maxHeartbeats 4000000 in
theorem dkA_2 : runA.sl.H8_2 c i arg2 harg2 arg3 harg3 arg4 harg4 arg5 harg5 arg6 harg6 arg8 x0 x1 x2 x3 x4 = b0 (k0_off1_inb i) (eKB i arg2 harg2 arg3 harg3 arg4 harg4 arg5 harg5 arg6 harg6 x0 x1 x2 x3 x4 0 (lB i arg8.view (arg8.view.writes (Elt F) arg8.view.junk (runA.sl.H8_1 (F := F))) 0)) :: runA.sl.H8_1 (F := F) := rfl

set_option maxHeartbeats 4000000 in
theorem dkA_3 : runA.sl.H8_3 c i arg2 harg2 arg3 harg3 arg4 harg4 arg5 harg5 arg6 harg6 arg8 x0 x1 x2 x3 x4 = c0 (eKC i arg2 harg2 arg3 harg3 arg4 harg4 arg5 harg5 arg6 harg6 x0 x1 x2 x3 x4 0 (runA.sl.v88 c i arg2 harg2 arg3 harg3 arg4 harg4 arg5 harg5 arg6 harg6 arg8 x0 x1 x2 x3 x4)) :: runA.sl.H8_2 c i arg2 harg2 arg3 harg3 arg4 harg4 arg5 harg5 arg6 harg6 arg8 x0 x1 x2 x3 x4 := rfl

set_option maxHeartbeats 4000000 in
theorem dkA_4 : runA.sl.H8_4 c i arg2 harg2 arg3 harg3 arg4 harg4 arg5 harg5 arg6 harg6 arg8 x0 x1 x2 x3 x4 = b0 (k0_off2_inb i) (eKB i arg2 harg2 arg3 harg3 arg4 harg4 arg5 harg5 arg6 harg6 x0 x1 x2 x3 x4 1 (runA.sl.v184 c i arg2 harg2 arg3 harg3 arg4 harg4 arg5 harg5 arg6 harg6 arg8 x0 x1 x2 x3 x4)) :: runA.sl.H8_3 c i arg2 harg2 arg3 harg3 arg4 harg4 arg5 harg5 arg6 harg6 arg8 x0 x1 x2 x3 x4 := rfl

set_option maxHeartbeats 4000000 in
theorem dkA_5 : runA.sl.H8_5 c i arg2 harg2 arg3 harg3 arg4 harg4 arg5 harg5 arg6 harg6 arg8 x0 x1 x2 x3 x4 = c1 (eKC i arg2 harg2 arg3 harg3 arg4 harg4 arg5 harg5 arg6 harg6 x0 x1 x2 x3 x4 1 (runA.sl.v192 c i arg2 harg2 arg3 harg3 arg4 harg4 arg5 harg5 arg6 harg6 arg8 x0 x1 x2 x3 x4)) :: runA.sl.H8_4 c i arg2 harg2 arg3 harg3 arg4 harg4 arg5 harg5 arg6 harg6 arg8 x0 x1 x2 x3 x4 := rfl

set_option maxHeartbeats 4000000 in
theorem dkA_6 : runA.sl.H8_6 c i arg2 harg2 arg3 harg3 arg4 harg4 arg5 harg5 arg6 harg6 arg8 x0 x1 x2 x3 x4 = b0 (k0_off3_inb i) (eKB i arg2 harg2 arg3 harg3 arg4 harg4 arg5 harg5 arg6 harg6 x0 x1 x2 x3 x4 2 (runA.sl.v288 c i arg2 harg2 arg3 harg3 arg4 harg4 arg5 harg5 arg6 harg6 arg8 x0 x1 x2 x3 x4)) :: runA.sl.H8_5 c i arg2 harg2 arg3 harg3 arg4 harg4 arg5 harg5 arg6 harg6 arg8 x0 x1 x2 x3 x4 := rfl

set_option maxHeartbeats 4000000 in
theorem dkA_7 : runA.sl.H8_7 c i arg2 harg2 arg3 harg3 arg4 harg4 arg5 harg5 arg6 harg6 arg8 x0 x1 x2 x3 x4 = c2 (eKC i arg2 harg2 arg3 harg3 arg4 harg4 arg5 harg5 arg6 harg6 x0 x1 x2 x3 x4 2 (runA.sl.v296 c i arg2 harg2 arg3 harg3 arg4 harg4 arg5 harg5 arg6 harg6 arg8 x0 x1 x2 x3 x4)) :: runA.sl.H8_6 c i arg2 harg2 arg3 harg3 arg4 harg4 arg5 harg5 arg6 harg6 arg8 x0 x1 x2 x3 x4 := rfl

set_option maxHeartbeats 4000000 in
theorem dkA_8 : runA.sl.H8_8 c i arg2 harg2 arg3 harg3 arg4 harg4 arg5 harg5 arg6 harg6 arg8 x0 x1 x2 x3 x4 = b0 (k0_off4_inb i) (eKB i arg2 harg2 arg3 harg3 arg4 harg4 arg5 harg5 arg6 harg6 x0 x1 x2 x3 x4 3 (runA.sl.v392 c i arg2 harg2 arg3 harg3 arg4 harg4 arg5 harg5 arg6 harg6 arg8 x0 x1 x2 x3 x4)) :: runA.sl.H8_7 c i arg2 harg2 arg3 harg3 arg4 harg4 arg5 harg5 arg6 harg6 arg8 x0 x1 x2 x3 x4 := rfl

set_option maxHeartbeats 4000000 in
theorem dkA_9 : (runA (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4).2.1 = c3 (eKC i arg2 harg2 arg3 harg3 arg4 harg4 arg5 harg5 arg6 harg6 x0 x1 x2 x3 x4 3 (runA.sl.v400 c i arg2 harg2 arg3 harg3 arg4 harg4 arg5 harg5 arg6 harg6 arg8 x0 x1 x2 x3 x4)) :: runA.sl.H8_8 c i arg2 harg2 arg3 harg3 arg4 harg4 arg5 harg5 arg6 harg6 arg8 x0 x1 x2 x3 x4 := rfl

theorem dkA : (runA (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4).2.1 = adds i arg8.view (arg8.view.writes (Elt F) arg8.view.junk [zero6]) (fun j => eKB i arg2 harg2 arg3 harg3 arg4 harg4 arg5 harg5 arg6 harg6 x0 x1 x2 x3 x4 j) (fun j => eKC i arg2 harg2 arg3 harg3 arg4 harg4 arg5 harg5 arg6 harg6 x0 x1 x2 x3 x4 j) ++ [zero6] :=
  stores_chain i arg8.view zero6 (fun j => eKB i arg2 harg2 arg3 harg3 arg4 harg4 arg5 harg5 arg6 harg6 x0 x1 x2 x3 x4 j) (fun j => eKC i arg2 harg2 arg3 harg3 arg4 harg4 arg5 harg5 arg6 harg6 x0 x1 x2 x3 x4 j) (L1 := runA.sl.H8_1 (F := F)) rfl
    rfl (dkA_2 c i arg2 harg2 arg3 harg3 arg4 harg4 arg5 harg5 arg6 harg6 arg8 x0 x1 x2 x3 x4)
    rfl (dkA_3 c i arg2 harg2 arg3 harg3 arg4 harg4 arg5 harg5 arg6 harg6 arg8 x0 x1 x2 x3 x4)
    rfl (dkA_4 c i arg2 harg2 arg3 harg3 arg4 harg4 arg5 harg5 arg6 harg6 arg8 x0 x1 x2 x3 x4)
    rfl (dkA_5 c i arg2 harg2 arg3 harg3 arg4 harg4 arg5 harg5 arg6 harg6 arg8 x0 x1 x2 x3 x4)
    rfl (dkA_6 c i arg2 harg2 arg3 harg3 arg4 harg4 arg5 harg5 arg6 harg6 arg8 x0 x1 x2 x3 x4)
    rfl (dkA_7 c i arg2 harg2 arg3 harg3 arg4 harg4 arg5 harg5 arg6 harg6 arg8 x0 x1 x2 x3 x4)
    rfl (dkA_8 c i arg2 harg2 arg3 harg3 arg4 harg4 arg5 harg5 arg6 harg6 arg8 x0 x1 x2 x3 x4)
    rfl (dkA_9 c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4)

end RunA

end Cert.NaValue
end
-- ==== Proof.NaStepA2.lean ====
module

public import proofs.«01_k».proof.Proof.NaStepA0

/-! What the body stores into the scratch at the first row of a head group, in terms of the four heads. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

variable {F : FTy → Type} [FloatOps F]

section RunA

variable (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : (Scalar.cmpi .ne (Scalar.extui (Scalar.cmpi .eq (BitVec.ofNat 32 (i 1).val) 0#32)) 0#32) = 1#1) (hc2 : k0_cond2 i = 1#1) (hc3 : ¬ (k0_cond3 i = 1#1)) (hc4 : k0_cond4 i = 1#1) (hc5 : ¬ (k0_cond5 i = 1#1)) (hc6 : k0_cond6 i = 1#1) (hc7 : ¬ (k0_cond7 i = 1#1)) (hc8 : k0_cond8 i = 1#1) (hc9 : ¬ (k0_cond9 i = 1#1)) (hc10 : ¬ (k0_cond10 i = 1#1))
    (x0 : Vec F S64x512 .bf16) (x1 : Vec F S2304x512 .bf16) (x2 : Vec F S2304x512 .f32) (x3 : Vec F S4x1x64x512 .f32) (x4 : Vec F S64x512 .bf16)

set_option maxHeartbeats 4000000 in
theorem dvA_2 : runA.sl.H11_2 c i arg2 harg2 arg3 harg3 arg5 harg5 arg6 harg6 arg11 x0 x1 x3 x4 = b0 (k0_off1_inb i) (eVB i arg2 harg2 arg3 harg3 arg5 harg5 arg6 harg6 x0 x1 x3 x4 0 (lB i arg11.view (arg11.view.writes (Elt F) arg11.view.junk (runA.sl.H11_1 (F := F))) 0)) :: runA.sl.H11_1 (F := F) := rfl

set_option maxHeartbeats 4000000 in
theorem dvA_3 : runA.sl.H11_3 c i arg2 harg2 arg3 harg3 arg5 harg5 arg6 harg6 arg11 x0 x1 x3 x4 = c0 (eVC i arg2 harg2 arg3 harg3 arg5 harg5 arg6 harg6 x0 x1 x3 x4 0 (runA.sl.v104 c i arg2 harg2 arg3 harg3 arg5 harg5 arg6 harg6 arg11 x0 x1 x3 x4)) :: runA.sl.H11_2 c i arg2 harg2 arg3 harg3 arg5 harg5 arg6 harg6 arg11 x0 x1 x3 x4 := rfl

set_option maxHeartbeats 4000000 in
theorem dvA_4 : runA.sl.H11_4 c i arg2 harg2 arg3 harg3 arg5 harg5 arg6 harg6 arg11 x0 x1 x3 x4 = b0 (k0_off2_inb i) (eVB i arg2 harg2 arg3 harg3 arg5 harg5 arg6 harg6 x0 x1 x3 x4 1 (runA.sl.v200 c i arg2 harg2 arg3 harg3 arg5 harg5 arg6 harg6 arg11 x0 x1 x3 x4)) :: runA.sl.H11_3 c i arg2 harg2 arg3 harg3 arg5 harg5 arg6 harg6 arg11 x0 x1 x3 x4 := rfl

set_option maxHeartbeats 4000000 in
theorem dvA_5 : runA.sl.H11_5 c i arg2 harg2 arg3 harg3 arg5 harg5 arg6 harg6 arg11 x0 x1 x3 x4 = c1 (eVC i arg2 harg2 arg3 harg3 arg5 harg5 arg6 harg6 x0 x1 x3 x4 1 (runA.sl.v208 c i arg2 harg2 arg3 harg3 arg5 harg5 arg6 harg6 arg11 x0 x1 x3 x4)) :: runA.sl.H11_4 c i arg2 harg2 arg3 harg3 arg5 harg5 arg6 harg6 arg11 x0 x1 x3 x4 := rfl

set_option maxHeartbeats 4000000 in
theorem dvA_6 : runA.sl.H11_6 c i arg2 harg2 arg3 harg3 arg5 harg5 arg6 harg6 arg11 x0 x1 x3 x4 = b0 (k0_off3_inb i) (eVB i arg2 harg2 arg3 harg3 arg5 harg5 arg6 harg6 x0 x1 x3 x4 2 (runA.sl.v304 c i arg2 harg2 arg3 harg3 arg5 harg5 arg6 harg6 arg11 x0 x1 x3 x4)) :: runA.sl.H11_5 c i arg2 harg2 arg3 harg3 arg5 harg5 arg6 harg6 arg11 x0 x1 x3 x4 := rfl

set_option maxHeartbeats 4000000 in
theorem dvA_7 : runA.sl.H11_7 c i arg2 harg2 arg3 harg3 arg5 harg5 arg6 harg6 arg11 x0 x1 x3 x4 = c2 (eVC i arg2 harg2 arg3 harg3 arg5 harg5 arg6 harg6 x0 x1 x3 x4 2 (runA.sl.v312 c i arg2 harg2 arg3 harg3 arg5 harg5 arg6 harg6 arg11 x0 x1 x3 x4)) :: runA.sl.H11_6 c i arg2 harg2 arg3 harg3 arg5 harg5 arg6 harg6 arg11 x0 x1 x3 x4 := rfl

set_option maxHeartbeats 4000000 in
theorem dvA_8 : runA.sl.H11_8 c i arg2 harg2 arg3 harg3 arg5 harg5 arg6 harg6 arg11 x0 x1 x3 x4 = b0 (k0_off4_inb i) (eVB i arg2 harg2 arg3 harg3 arg5 harg5 arg6 harg6 x0 x1 x3 x4 3 (runA.sl.v408 c i arg2 harg2 arg3 harg3 arg5 harg5 arg6 harg6 arg11 x0 x1 x3 x4)) :: runA.sl.H11_7 c i arg2 harg2 arg3 harg3 arg5 harg5 arg6 harg6 arg11 x0 x1 x3 x4 := rfl

set_option maxHeartbeats 4000000 in
theorem dvA_9 : (runA (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4).2.2.2.1 = c3 (eVC i arg2 harg2 arg3 harg3 arg5 harg5 arg6 harg6 x0 x1 x3 x4 3 (runA.sl.v416 c i arg2 harg2 arg3 harg3 arg5 harg5 arg6 harg6 arg11 x0 x1 x3 x4)) :: runA.sl.H11_8 c i arg2 harg2 arg3 harg3 arg5 harg5 arg6 harg6 arg11 x0 x1 x3 x4 := rfl

theorem dvA : (runA (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4).2.2.2.1 = adds i arg11.view (arg11.view.writes (Elt F) arg11.view.junk [zeroS]) (fun j => eVB i arg2 harg2 arg3 harg3 arg5 harg5 arg6 harg6 x0 x1 x3 x4 j) (fun j => eVC i arg2 harg2 arg3 harg3 arg5 harg5 arg6 harg6 x0 x1 x3 x4 j) ++ [zeroS] :=
  stores_chain i arg11.view zeroS (fun j => eVB i arg2 harg2 arg3 harg3 arg5 harg5 arg6 harg6 x0 x1 x3 x4 j) (fun j => eVC i arg2 harg2 arg3 harg3 arg5 harg5 arg6 harg6 x0 x1 x3 x4 j) (L1 := runA.sl.H11_1 (F := F)) rfl
    rfl (dvA_2 c i arg2 harg2 arg3 harg3 arg5 harg5 arg6 harg6 arg11 x0 x1 x3 x4)
    rfl (dvA_3 c i arg2 harg2 arg3 harg3 arg5 harg5 arg6 harg6 arg11 x0 x1 x3 x4)
    rfl (dvA_4 c i arg2 harg2 arg3 harg3 arg5 harg5 arg6 harg6 arg11 x0 x1 x3 x4)
    rfl (dvA_5 c i arg2 harg2 arg3 harg3 arg5 harg5 arg6 harg6 arg11 x0 x1 x3 x4)
    rfl (dvA_6 c i arg2 harg2 arg3 harg3 arg5 harg5 arg6 harg6 arg11 x0 x1 x3 x4)
    rfl (dvA_7 c i arg2 harg2 arg3 harg3 arg5 harg5 arg6 harg6 arg11 x0 x1 x3 x4)
    rfl (dvA_8 c i arg2 harg2 arg3 harg3 arg5 harg5 arg6 harg6 arg11 x0 x1 x3 x4)
    rfl (dvA_9 c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4)

end RunA

end Cert.NaValue
end
-- ==== Proof.NaStepA.lean ====
module

public import proofs.«01_k».proof.Proof.NaStepA1
public import proofs.«01_k».proof.Proof.NaStepA2

/-! What the body stores at the first row of a head group, in terms of the four heads. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

variable {F : FTy → Type} [FloatOps F]

section RunA

variable (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : (Scalar.cmpi .ne (Scalar.extui (Scalar.cmpi .eq (BitVec.ofNat 32 (i 1).val) 0#32)) 0#32) = 1#1) (hc2 : k0_cond2 i = 1#1) (hc3 : ¬ (k0_cond3 i = 1#1)) (hc4 : k0_cond4 i = 1#1) (hc5 : ¬ (k0_cond5 i = 1#1)) (hc6 : k0_cond6 i = 1#1) (hc7 : ¬ (k0_cond7 i = 1#1)) (hc8 : k0_cond8 i = 1#1) (hc9 : ¬ (k0_cond9 i = 1#1)) (hc10 : ¬ (k0_cond10 i = 1#1))
    (x0 : Vec F S64x512 .bf16) (x1 : Vec F S2304x512 .bf16) (x2 : Vec F S2304x512 .f32) (x3 : Vec F S4x1x64x512 .f32) (x4 : Vec F S64x512 .bf16)

set_option maxHeartbeats 20000000 in
theorem dqA : (runA (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4).1 = heads5 (fun j => eDq i arg2 harg2 arg3 harg3 arg4 harg4 arg5 harg5 arg6 harg6 x0 x1 x2 x3 x4 j) := by rfl

set_option maxHeartbeats 20000000 in
theorem dbA : (runA (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4).2.2.1 = heads8 (fun j => eDb i arg2 harg2 arg3 harg3 arg4 harg4 arg5 harg5 arg6 harg6 x0 x1 x2 x3 x4 j) := by rfl

end RunA

end Cert.NaValue
end
-- ==== Proof.NaStepB.lean ====
module

public import proofs.«01_k».proof.Proof.NaStep

/-! What the body stores at a row other than the first and the last whose window has a shift of its own, in terms of the four heads. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

variable {F : FTy → Type} [FloatOps F]

section RunB

variable (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : ¬ ((Scalar.cmpi .ne (Scalar.extui (Scalar.cmpi .eq (BitVec.ofNat 32 (i 1).val) 0#32)) 0#32) = 1#1)) (hc2 : k0_cond2 i = 1#1) (hc3 : ¬ (k0_cond3 i = 1#1)) (hc4 : k0_cond4 i = 1#1) (hc5 : ¬ (k0_cond5 i = 1#1)) (hc6 : k0_cond6 i = 1#1) (hc7 : ¬ (k0_cond7 i = 1#1)) (hc8 : k0_cond8 i = 1#1) (hc9 : ¬ (k0_cond9 i = 1#1)) (hc10 : ¬ (k0_cond10 i = 1#1))
    (x0 : Vec F S64x512 .bf16) (x1 : Vec F S2304x512 .bf16) (x2 : Vec F S2304x512 .f32) (x3 : Vec F S4x1x64x512 .f32) (x4 : Vec F S64x512 .bf16) (y6 : Vec F S2304x512 .f32) (ys : Vec F S2304x512 .f32)

set_option maxHeartbeats 20000000 in
theorem dqB : (runB (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).1 = heads5 (fun j => eDq i arg2 harg2 arg3 harg3 arg4 harg4 arg5 harg5 arg6 harg6 x0 x1 x2 x3 x4 j) := by rfl

set_option maxHeartbeats 20000000 in
theorem dbB : (runB (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).2.2.1 = heads8 (fun j => eDb i arg2 harg2 arg3 harg3 arg4 harg4 arg5 harg5 arg6 harg6 x0 x1 x2 x3 x4 j) := by rfl

set_option maxHeartbeats 20000000 in
theorem dkB : (runB (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).2.1 = adds i arg8.view (harg8.unread y6) (fun j => eKB i arg2 harg2 arg3 harg3 arg4 harg4 arg5 harg5 arg6 harg6 x0 x1 x2 x3 x4 j) (fun j => eKC i arg2 harg2 arg3 harg3 arg4 harg4 arg5 harg5 arg6 harg6 x0 x1 x2 x3 x4 j) :=
  stores_eq i arg8.view (harg8.unread y6) (fun j => eKB i arg2 harg2 arg3 harg3 arg4 harg4 arg5 harg5 arg6 harg6 x0 x1 x2 x3 x4 j) (fun j => eKC i arg2 harg2 arg3 harg3 arg4 harg4 arg5 harg5 arg6 harg6 x0 x1 x2 x3 x4 j) rfl rfl rfl rfl rfl rfl rfl rfl

set_option maxHeartbeats 20000000 in
theorem dvB : (runB (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).2.2.2.1 = adds i arg11.view (harg11.unread ys) (fun j => eVB i arg2 harg2 arg3 harg3 arg5 harg5 arg6 harg6 x0 x1 x3 x4 j) (fun j => eVC i arg2 harg2 arg3 harg3 arg5 harg5 arg6 harg6 x0 x1 x3 x4 j) :=
  stores_eq i arg11.view (harg11.unread ys) (fun j => eVB i arg2 harg2 arg3 harg3 arg5 harg5 arg6 harg6 x0 x1 x3 x4 j) (fun j => eVC i arg2 harg2 arg3 harg3 arg5 harg5 arg6 harg6 x0 x1 x3 x4 j) rfl rfl rfl rfl rfl rfl rfl rfl

end RunB

end Cert.NaValue
end
-- ==== Proof.NaStepC.lean ====
module

public import proofs.«01_k».proof.Proof.NaStep

/-! What the body stores at an inner row, in terms of the four heads. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

variable {F : FTy → Type} [FloatOps F]

section RunC

variable (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : ¬ ((Scalar.cmpi .ne (Scalar.extui (Scalar.cmpi .eq (BitVec.ofNat 32 (i 1).val) 0#32)) 0#32) = 1#1)) (hc2 : ¬ (k0_cond2 i = 1#1)) (hc3 : k0_cond3 i = 1#1) (hc4 : ¬ (k0_cond4 i = 1#1)) (hc5 : k0_cond5 i = 1#1) (hc6 : ¬ (k0_cond6 i = 1#1)) (hc7 : k0_cond7 i = 1#1) (hc8 : ¬ (k0_cond8 i = 1#1)) (hc9 : k0_cond9 i = 1#1) (hc10 : ¬ (k0_cond10 i = 1#1))
    (x0 : Vec F S64x512 .bf16) (x1 : Vec F S2304x512 .bf16) (x2 : Vec F S2304x512 .f32) (x3 : Vec F S4x1x64x512 .f32) (x4 : Vec F S64x512 .bf16) (y6 : Vec F S2304x512 .f32) (y8 : Vec F S4x1x64x512 .f32) (ys : Vec F S2304x512 .f32)

set_option maxHeartbeats 20000000 in
theorem dqC : (runC (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 y8 ys).1 = heads5 (fun j => eDq i arg2 harg2 arg3 harg3 arg4 harg4 arg5 harg5 arg6 harg6 x0 x1 x2 x3 x4 j) := by rfl

set_option maxHeartbeats 20000000 in
theorem dbC : (runC (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 y8 ys).2.2.1 = heads8 (fun j => eDbAdd i arg2 harg2 arg3 harg3 arg4 harg4 arg5 harg5 arg6 harg6 x0 x1 x2 x3 x4 j (lS arg10.view (harg10.unread y8) j)) := by rfl

set_option maxHeartbeats 20000000 in
theorem dkC : (runC (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 y8 ys).2.1 = adds i arg8.view (harg8.unread y6) (fun j => eKB i arg2 harg2 arg3 harg3 arg4 harg4 arg5 harg5 arg6 harg6 x0 x1 x2 x3 x4 j) (fun j => eKC i arg2 harg2 arg3 harg3 arg4 harg4 arg5 harg5 arg6 harg6 x0 x1 x2 x3 x4 j) :=
  stores_eq i arg8.view (harg8.unread y6) (fun j => eKB i arg2 harg2 arg3 harg3 arg4 harg4 arg5 harg5 arg6 harg6 x0 x1 x2 x3 x4 j) (fun j => eKC i arg2 harg2 arg3 harg3 arg4 harg4 arg5 harg5 arg6 harg6 x0 x1 x2 x3 x4 j) rfl rfl rfl rfl rfl rfl rfl rfl

set_option maxHeartbeats 20000000 in
theorem dvC : (runC (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 y8 ys).2.2.2.1 = adds i arg11.view (harg11.unread ys) (fun j => eVB i arg2 harg2 arg3 harg3 arg5 harg5 arg6 harg6 x0 x1 x3 x4 j) (fun j => eVC i arg2 harg2 arg3 harg3 arg5 harg5 arg6 harg6 x0 x1 x3 x4 j) :=
  stores_eq i arg11.view (harg11.unread ys) (fun j => eVB i arg2 harg2 arg3 harg3 arg5 harg5 arg6 harg6 x0 x1 x3 x4 j) (fun j => eVC i arg2 harg2 arg3 harg3 arg5 harg5 arg6 harg6 x0 x1 x3 x4 j) rfl rfl rfl rfl rfl rfl rfl rfl

end RunC

end Cert.NaValue
end
-- ==== Proof.NaStepD.lean ====
module

public import proofs.«01_k».proof.Proof.NaStep

/-! What the body stores at the last row, in terms of the four heads. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

variable {F : FTy → Type} [FloatOps F]

section RunD

variable (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : ¬ ((Scalar.cmpi .ne (Scalar.extui (Scalar.cmpi .eq (BitVec.ofNat 32 (i 1).val) 0#32)) 0#32) = 1#1)) (hc2 : k0_cond2 i = 1#1) (hc3 : ¬ (k0_cond3 i = 1#1)) (hc4 : k0_cond4 i = 1#1) (hc5 : ¬ (k0_cond5 i = 1#1)) (hc6 : k0_cond6 i = 1#1) (hc7 : ¬ (k0_cond7 i = 1#1)) (hc8 : k0_cond8 i = 1#1) (hc9 : ¬ (k0_cond9 i = 1#1)) (hc10 : k0_cond10 i = 1#1)
    (x0 : Vec F S64x512 .bf16) (x1 : Vec F S2304x512 .bf16) (x2 : Vec F S2304x512 .f32) (x3 : Vec F S4x1x64x512 .f32) (x4 : Vec F S64x512 .bf16) (y6 : Vec F S2304x512 .f32) (ys : Vec F S2304x512 .f32)

set_option maxHeartbeats 20000000 in
theorem dqD : (runD (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).1 = heads5 (fun j => eDq i arg2 harg2 arg3 harg3 arg4 harg4 arg5 harg5 arg6 harg6 x0 x1 x2 x3 x4 j) := by rfl

set_option maxHeartbeats 20000000 in
theorem dbD : (runD (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).2.2.2.1 = heads8 (fun j => eDb i arg2 harg2 arg3 harg3 arg4 harg4 arg5 harg5 arg6 harg6 x0 x1 x2 x3 x4 j) := by rfl

set_option maxHeartbeats 20000000 in
theorem dkD : (runD (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).2.1 = adds i arg8.view (harg8.unread y6) (fun j => eKB i arg2 harg2 arg3 harg3 arg4 harg4 arg5 harg5 arg6 harg6 x0 x1 x2 x3 x4 j) (fun j => eKC i arg2 harg2 arg3 harg3 arg4 harg4 arg5 harg5 arg6 harg6 x0 x1 x2 x3 x4 j) :=
  stores_eq i arg8.view (harg8.unread y6) (fun j => eKB i arg2 harg2 arg3 harg3 arg4 harg4 arg5 harg5 arg6 harg6 x0 x1 x2 x3 x4 j) (fun j => eKC i arg2 harg2 arg3 harg3 arg4 harg4 arg5 harg5 arg6 harg6 x0 x1 x2 x3 x4 j) rfl rfl rfl rfl rfl rfl rfl rfl

set_option maxHeartbeats 20000000 in
theorem dvD : (runD (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).2.2.2.2.1 = adds i arg11.view (harg11.unread ys) (fun j => eVB i arg2 harg2 arg3 harg3 arg5 harg5 arg6 harg6 x0 x1 x3 x4 j) (fun j => eVC i arg2 harg2 arg3 harg3 arg5 harg5 arg6 harg6 x0 x1 x3 x4 j) :=
  stores_eq i arg11.view (harg11.unread ys) (fun j => eVB i arg2 harg2 arg3 harg3 arg5 harg5 arg6 harg6 x0 x1 x3 x4 j) (fun j => eVC i arg2 harg2 arg3 harg3 arg5 harg5 arg6 harg6 x0 x1 x3 x4 j) rfl rfl rfl rfl rfl rfl rfl rfl

set_option maxHeartbeats 20000000 in
theorem dvOutD : (runD (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).2.2.1 = [⟨Rect.unit (s := S2304x512) ![0, 0] S2304x512.size inb_S2304x512_S2304x512_0_0, k0_pay4 (View.readAt (Elt F) arg11.view (Rect.unit (s := S2304x512) ![0, 0] S2304x512.size inb_S2304x512_S2304x512_0_0).toLoadRect (arg11.view.writes (Elt F) (harg11.unread ys) (runD (F := F) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).2.2.2.2.1))⟩] := by rfl

end RunD

end Cert.NaValue
end
-- ==== Proof.NaPlace.lean ====
module

public import Idealize.ShloMosaic.Lib.Pointwise

/-! Where a row of the grid adds to the gradients of keys and values: the context, and the eight rows of its band. -/

@[expose] public section

noncomputable section

namespace Cert.NaValue

/-- What a row of the grid adds to row `n` of the keys' gradient: `C` to a context row, `B` to a row of its band, nothing
    to the other rows. -/
def place (r : ℕ) (B : Fin 512 → EReal) (C : Fin 256 → EReal) (n : Fin 2304) : EReal :=
  if h : n.val < 256 then C ⟨n.val, h⟩
  else if h : 256 + 64 * min (r - 4) 24 ≤ n.val ∧ n.val < 256 + 64 * min (r - 4) 24 + 512 then
    B ⟨n.val - (256 + 64 * min (r - 4) 24), by omega⟩
  else 0

theorem row_parts (n : Fin 2304) (hn : ¬n.val < 256) : ∃ (a : Fin 32) (c : Fin 64), n = ⟨256 + (a.val * 64 + c.val), by omega⟩ :=
  ⟨⟨(n.val - 256) / 64, by omega⟩, ⟨(n.val - 256) % 64, by omega⟩, Fin.ext (by show n.val = 256 + ((n.val - 256) / 64 * 64 + (n.val - 256) % 64); omega)⟩

theorem place_ctx (r : ℕ) (B : Fin 512 → EReal) (C : Fin 256 → EReal) (n : Fin 2304) (hn : n.val < 256) : place r B C n = C ⟨n.val, hn⟩ := dif_pos hn

theorem place_band (r a : Fin 32) (c : Fin 64) (B : Fin 512 → EReal) (C : Fin 256 → EReal) :
    place r.val B C ⟨256 + (a.val * 64 + c.val), by omega⟩ = if hr : min (r.val - 4) 24 ≤ a.val ∧ a.val < min (r.val - 4) 24 + 8 then
        B ⟨(a.val - min (r.val - 4) 24) * 64 + c.val, by omega⟩ else 0 := by
  refine (dif_neg (by show ¬ 256 + (a.val * 64 + c.val) < 256; omega)).trans ?_
  by_cases hr : min (r.val - 4) 24 ≤ a.val ∧ a.val < min (r.val - 4) 24 + 8
  · rw [dif_pos hr]
    refine (dif_pos (by show 256 + 64 * min (r.val - 4) 24 ≤ 256 + (a.val * 64 + c.val) ∧ 256 + (a.val * 64 + c.val) < 256 + 64 * min (r.val - 4) 24 + 512; omega)).trans ?_
    exact congrArg B (Fin.ext (by show 256 + (a.val * 64 + c.val) - (256 + 64 * min (r.val - 4) 24) = (a.val - min (r.val - 4) 24) * 64 + c.val; omega))
  · rw [dif_neg hr]
    exact dif_neg (by show ¬(256 + 64 * min (r.val - 4) 24 ≤ 256 + (a.val * 64 + c.val) ∧ 256 + (a.val * 64 + c.val) < 256 + 64 * min (r.val - 4) 24 + 512); omega)

theorem place_row (r : ℕ) (B : Fin 512 → EReal) (C : Fin 256 → EReal) (n : Fin 2304) (k : Fin 512) (hn : n.val = 256 + 64 * min (r - 4) 24 + k.val) :
    place r B C n = B k :=
  (dif_neg (by omega)).trans ((dif_pos (by omega)).trans (congrArg B (Fin.ext (by show n.val - (256 + 64 * min (r - 4) 24) = k.val; omega))))

theorem place_off (r : ℕ) (B : Fin 512 → EReal) (C : Fin 256 → EReal) (n : Fin 2304) (h : 256 ≤ n.val)
    (hn : n.val < 256 + 64 * min (r - 4) 24 ∨ 256 + 64 * min (r - 4) 24 + 512 ≤ n.val) : place r B C n = 0 :=
  (dif_neg (by omega)).trans (dif_neg (by omega))

end Cert.NaValue
end
-- ==== Proof.NaVal.lean ====
module

public import proofs.«01_k».proof.Proof.NaStepA
public import proofs.«01_k».proof.Proof.NaStepB
public import proofs.«01_k».proof.Proof.NaStepC
public import proofs.«01_k».proof.Proof.NaStepD
public import proofs.«01_k».proof.Proof.NaPlace

/-! What the stores of a point leave, element by element. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

/-- A head's column of a head group's block. -/
def colv (j : Fin 4) (d : Fin 128) : Fin 512 := ⟨128 * j.val + d.val, by omega⟩

/-- The eight stores of a point add the head's contribution to what the accumulator held. -/
theorem adds_at (i : grid0.Coords) {κ : Kind} {sp : Space} (v : View sig κ sp S2304x512 .f32) (f : v.ty.Contents (Elt Ideal))
    (gB : Fin 4 → Vec Ideal S512x128 .f32 → Vec Ideal S512x128 .f32) (gC : Fin 4 → Vec Ideal S256x128 .f32 → Vec Ideal S256x128 .f32)
    (j : Fin 4) (uB : Fin 512 → Fin 128 → EReal) (uC : Fin 256 → Fin 128 → EReal)
    (hB : ∀ old k d, gB j old (ix2 k d) = (old (ix2 k d) + uB k d : EReal)) (hC : ∀ old n d, gC j old (ix2 n d) = (old (ix2 n d) + uC n d : EReal))
    (r : Fin 2304) (d : Fin 128) :
    v.read (Elt Ideal) (v.writes (Elt Ideal) f (adds i v f gB gC)) (ix2 r (colv j d))
      = (v.read (Elt Ideal) f (ix2 r (colv j d)) + place (i 1).val (fun k => uB k d) (fun n => uC n d) r : EReal) := by
  unfold adds
  by_cases h : r.val < 256
  · rw [pieces_ctx _ _ _ _ (off1_eq i) (off2_eq i) (off3_eq i) (off4_eq i) v f _ _ r (colv j d) j ⟨r.val, h⟩ d rfl rfl, hC, lC_at, place_ctx _ _ _ r h]
    rfl
  · by_cases h' : 256 + 64 * min ((i 1).val - 4) 24 ≤ r.val ∧ r.val < 256 + 64 * min ((i 1).val - 4) 24 + 512
    · have hr : r.val = 256 + 64 * min ((i 1).val - 4) 24 + (⟨r.val - (256 + 64 * min ((i 1).val - 4) 24), by omega⟩ : Fin 512).val := by
        show r.val = 256 + 64 * min ((i 1).val - 4) 24 + (r.val - (256 + 64 * min ((i 1).val - 4) 24)); omega
      rw [pieces_band _ _ _ _ (off1_eq i) (off2_eq i) (off3_eq i) (off4_eq i) v f _ _ r (colv j d) j _ d hr rfl, hB, lB_at, place_row _ _ _ r _ hr]
      refine congrArg₂ (· + ·) (congrArg (fun x => v.read (Elt Ideal) f (ix2 x (colv j d))) (Fin.ext hr.symm)) rfl
    · rw [pieces_out _ _ _ _ (off1_eq i) (off2_eq i) (off3_eq i) (off4_eq i) v f _ _ r (colv j d) (by omega) (by omega), place_off _ _ _ r (by omega) (by omega), add_zero]

theorem hit5 {n : ℕ} (inb : ∀ a, (![0, n] : Fin 2 → ℕ) a + S64x128.size a ≤ S64x512.size a) (w : Vec Ideal S64x128 .f32)
    (L : List (View.Piece (Elt Ideal) S64x512 .f32)) (c : Fin 64) (d : Fin 128) (q : Fin 512) (h : q.val = n + d.val) :
    View.canon (⟨Rect.unit (s := S64x512) ![0, n] S64x128.size inb, w⟩ :: L) (ix2 c q) = w (ix2 c d) := by
  have e : (Rect.unit (s := S64x512) ![0, n] S64x128.size inb).emb (ix2 c d) = ix2 c q := by
    funext a; apply Fin.ext
    match a with
    | ⟨0, _⟩ => show 0 + 1 * c.val = c.val; omega
    | ⟨1, _⟩ => show n + 1 * d.val = q.val; omega
  rw [← e]
  exact View.canon_cons_emb _ _ _ _

theorem miss5 {n : ℕ} (inb : ∀ a, (![0, n] : Fin 2 → ℕ) a + S64x128.size a ≤ S64x512.size a) (w : Vec Ideal S64x128 .f32)
    (L : List (View.Piece (Elt Ideal) S64x512 .f32)) (c : Fin 64) (q : Fin 512) (h : q.val < n) :
    View.canon (⟨Rect.unit (s := S64x512) ![0, n] S64x128.size inb, w⟩ :: L) (ix2 c q) = View.canon L (ix2 c q) := by
  refine View.canon_cons_of_not_mem _ _ fun hm => ?_
  replace hm : ix2 c q ∈ (Rect.unit (s := S64x512) ![0, n] S64x128.size inb).set := hm
  rw [Rect.mem_set_unit] at hm
  have h1 : n ≤ q.val := (hm 1).1
  omega

/-- A head's columns of the block that the four stores leave. -/
theorem heads5_at (w : Fin 4 → Vec Ideal S64x128 .f32) (j : Fin 4) (c : Fin 64) (d : Fin 128) : View.canon (heads5 w) (ix2 c (colv j d)) = w j (ix2 c d) := by
  have hd := d.isLt
  unfold heads5
  match j with
  | ⟨0, _⟩ =>
    exact (miss5 _ _ _ c _ (by show 128 * 0 + d.val < 384; omega)).trans <| (miss5 _ _ _ c _ (by show 128 * 0 + d.val < 256; omega)).trans <|
      (miss5 _ _ _ c _ (by show 128 * 0 + d.val < 128; omega)).trans <| hit5 _ _ _ c d _ (by show 128 * 0 + d.val = 0 + d.val; omega)
  | ⟨1, _⟩ =>
    exact (miss5 _ _ _ c _ (by show 128 * 1 + d.val < 384; omega)).trans <| (miss5 _ _ _ c _ (by show 128 * 1 + d.val < 256; omega)).trans <|
      hit5 _ _ _ c d _ (by show 128 * 1 + d.val = 128 + d.val; omega)
  | ⟨2, _⟩ =>
    exact (miss5 _ _ _ c _ (by show 128 * 2 + d.val < 384; omega)).trans <| hit5 _ _ _ c d _ (by show 128 * 2 + d.val = 256 + d.val; omega)
  | ⟨3, _⟩ => exact hit5 _ _ _ c d _ (by show 128 * 3 + d.val = 384 + d.val; omega)

theorem hit8 {n : ℕ} (inb : ∀ a, (![n, 0, 0, 0] : Fin 4 → ℕ) a + S1x1x64x512.size a ≤ S4x1x64x512.size a) (w : Vec Ideal S1x1x64x512 .f32)
    (L : List (View.Piece (Elt Ideal) S4x1x64x512 .f32)) (j : Fin 4) (c : Fin 64) (k : Fin 512) (h : j.val = n) :
    View.canon (⟨Rect.unit (s := S4x1x64x512) ![n, 0, 0, 0] S1x1x64x512.size inb, w⟩ :: L) (ix4 j 0 c k) = w (ix4 0 0 c k) := by
  have e : (Rect.unit (s := S4x1x64x512) ![n, 0, 0, 0] S1x1x64x512.size inb).emb (ix4 0 0 c k) = ix4 j 0 c k := by
    funext a; apply Fin.ext
    match a with
    | ⟨0, _⟩ => show n + 1 * 0 = j.val; omega
    | ⟨1, _⟩ => rfl
    | ⟨2, _⟩ => show 0 + 1 * c.val = c.val; omega
    | ⟨3, _⟩ => show 0 + 1 * k.val = k.val; omega
  rw [← e]
  exact View.canon_cons_emb _ _ _ _

theorem miss8 {n : ℕ} (inb : ∀ a, (![n, 0, 0, 0] : Fin 4 → ℕ) a + S1x1x64x512.size a ≤ S4x1x64x512.size a) (w : Vec Ideal S1x1x64x512 .f32)
    (L : List (View.Piece (Elt Ideal) S4x1x64x512 .f32)) (j : Fin 4) (c : Fin 64) (k : Fin 512) (h : j.val < n) :
    View.canon (⟨Rect.unit (s := S4x1x64x512) ![n, 0, 0, 0] S1x1x64x512.size inb, w⟩ :: L) (ix4 j 0 c k) = View.canon L (ix4 j 0 c k) := by
  refine View.canon_cons_of_not_mem _ _ fun hm => ?_
  replace hm : ix4 j 0 c k ∈ (Rect.unit (s := S4x1x64x512) ![n, 0, 0, 0] S1x1x64x512.size inb).set := hm
  rw [Rect.mem_set_unit] at hm
  have h1 : n ≤ j.val := (hm 0).1
  omega

/-- A head's plane of the slab that the four stores leave. -/
theorem heads8_at (w : Fin 4 → Vec Ideal S1x1x64x512 .f32) (j : Fin 4) (c : Fin 64) (k : Fin 512) : View.canon (heads8 w) (ix4 j 0 c k) = w j (ix4 0 0 c k) := by
  unfold heads8
  match j with
  | ⟨0, _⟩ =>
    exact (miss8 _ _ _ _ c k (by show 0 < 3; omega)).trans <| (miss8 _ _ _ _ c k (by show 0 < 2; omega)).trans <|
      (miss8 _ _ _ _ c k (by show 0 < 1; omega)).trans <| hit8 _ _ _ _ c k rfl
  | ⟨1, _⟩ => exact (miss8 _ _ _ _ c k (by show 1 < 3; omega)).trans <| (miss8 _ _ _ _ c k (by show 1 < 2; omega)).trans <| hit8 _ _ _ _ c k rfl
  | ⟨2, _⟩ => exact (miss8 _ _ _ _ c k (by show 2 < 3; omega)).trans <| hit8 _ _ _ _ c k rfl
  | ⟨3, _⟩ => exact hit8 _ _ _ _ c k rfl

/-- A cleared accumulator holds zeros. -/
theorem clear_at {κ : Kind} {sp : Space} (v : View sig κ sp S2304x512 .f32) (z : Vec Ideal S2304x512 .f32) (x : S2304x512.Idx) :
    v.read (Elt Ideal) (v.writes (Elt Ideal) v.junk [⟨Rect.unit (s := S2304x512) ![0, 0] S2304x512.size inb_S2304x512_S2304x512_0_0, z⟩]) x = z x := by
  rw [View.read_writes_junk_apply_eq_canon]
  exact congrFun (View.canon_unit_zero (S := S2304x512) (funext fun a => by fin_cases a <;> rfl) _ _) x

theorem k0_pay5_at (x : S2304x512.Idx) : (k0_pay5 (F := Ideal)) x = (0 : EReal) := by
  show Ideal.ofBits .f32 0x00000000#32 = 0
  exact Ideal.ofBits_zero _

theorem k0_pay6_at (x : S2304x512.Idx) : (k0_pay6 (F := Ideal)) x = (0 : EReal) := by
  show Ideal.ofBits .f32 0x00000000#32 = 0
  exact Ideal.ofBits_zero _

end Cert.NaValue
end
-- ==== Proof.NaVal7.lean ====
module

public import proofs.«01_k».proof.Proof.NaVal

/-! The last row's store of the values' gradient: the accumulator, rounded to the result's type. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

theorem narrow_at (v : View sig .tc .vmem S2304x512 .f32) (f : v.ty.Contents (Elt Ideal)) (x : S2304x512.Idx) :
    View.canon [(⟨Rect.unit (s := S2304x512) ![0, 0] S2304x512.size inb_S2304x512_S2304x512_0_0, k0_pay4 (View.readAt (Elt Ideal) v (Rect.unit (s := S2304x512) ![0, 0] S2304x512.size inb_S2304x512_S2304x512_0_0).toLoadRect f)⟩ : View.Piece (Elt Ideal) S2304x512 .bf16)] x
      = (v.read (Elt Ideal) f x : EReal) := by
  refine (congrFun (View.canon_unit_zero (S := S2304x512) (funext fun a => by fin_cases a <;> rfl) _ _) x).trans ?_
  unfold k0_pay4
  dsimp only
  rw [View.readAt_eq_ld, View.ld_unit_zero (S := S2304x512) (funext fun a => by fin_cases a <;> rfl)]
  rfl

section RunD

variable (c : Dev nD) (i : grid0.Coords) (arg2 : Memref sig .tc .vmem S64x512 .bf16) (harg2 : arg2.IsWhole) (arg3 : Memref sig .tc .vmem S2304x512 .bf16) (harg3 : arg3.IsWhole) (arg4 : Memref sig .tc .vmem S2304x512 .f32) (harg4 : arg4.IsWhole) (arg5 : Memref sig .tc .vmem S4x1x64x512 .f32) (harg5 : arg5.IsWhole) (arg6 : Memref sig .tc .vmem S64x512 .bf16) (harg6 : arg6.IsWhole) (arg7 : Memref sig .tc .vmem S64x512 .f32) (harg7 : arg7.IsWhole) (arg8 : Memref sig .tc .vmem S2304x512 .f32) (harg8 : arg8.IsWhole) (arg9 : Memref sig .tc .vmem S2304x512 .bf16) (harg9 : arg9.IsWhole) (arg10 : Memref sig .tc .vmem S4x1x64x512 .f32) (harg10 : arg10.IsWhole) (arg11 : Memref sig .tc .vmem S2304x512 .f32) (harg11 : arg11.IsWhole)
    (hc1 : ¬ ((Scalar.cmpi .ne (Scalar.extui (Scalar.cmpi .eq (BitVec.ofNat 32 (i 1).val) 0#32)) 0#32) = 1#1)) (hc2 : k0_cond2 i = 1#1) (hc3 : ¬ (k0_cond3 i = 1#1)) (hc4 : k0_cond4 i = 1#1) (hc5 : ¬ (k0_cond5 i = 1#1)) (hc6 : k0_cond6 i = 1#1) (hc7 : ¬ (k0_cond7 i = 1#1)) (hc8 : k0_cond8 i = 1#1) (hc9 : ¬ (k0_cond9 i = 1#1)) (hc10 : k0_cond10 i = 1#1)
    (x0 : Vec Ideal S64x512 .bf16) (x1 : Vec Ideal S2304x512 .bf16) (x2 : Vec Ideal S2304x512 .f32) (x3 : Vec Ideal S4x1x64x512 .f32) (x4 : Vec Ideal S64x512 .bf16) (y6 : Vec Ideal S2304x512 .f32) (ys : Vec Ideal S2304x512 .f32)

theorem out7_at (x : S2304x512.Idx) : View.canon (runD (F := Ideal) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).2.2.1 x
    = (arg11.view.read (Elt Ideal) (arg11.view.writes (Elt Ideal) (harg11.unread ys) (runD (F := Ideal) c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys).2.2.2.2.1) x : EReal) :=
  (congrFun (congrArg View.canon (dvOutD c i arg2 harg2 arg3 harg3 arg4 harg4 arg5 harg5 arg6 harg6 arg7 harg7 arg8 harg8 arg9 harg9 arg10 harg10 arg11 harg11 hc1 hc2 hc3 hc4 hc5 hc6 hc7 hc8 hc9 hc10 x0 x1 x2 x3 x4 y6 ys)) x).trans (narrow_at arg11.view _ x)

end RunD

end Cert.NaValue
end
-- ==== Proof.NaVals.lean ====
module

public import proofs.«01_k».proof.Proof.NaVal7
public import proofs.«01_k».proof.Proof.NaFrame

/-! What every point leaves, element by element, from what the point before left. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

variable (m : (ℓ : Loc nD τ sig) → Buf (Elt Ideal) ℓ) (c : Dev nD) (t : Fin cfg0.N)

/-- The operands of head `j` at point `t`. -/
def W (j : Fin 4) : Blk := blkOf (grid0.coords t 1).val (iblk m c 0 t) (iblk m c 1 t) (iblk m c 2 t) (iblk m c 3 t) (iblk m c 4 t) j

/-- What head `j` of point `t` adds to the gradients of keys and values. -/
def addK (j : Fin 4) (r : Fin 2304) (d : Fin 128) : EReal := place (grid0.coords t 1).val (fun k => (W m c t j).dkB k d) (fun n => (W m c t j).dkC n d) r
def addV (j : Fin 4) (r : Fin 2304) (d : Fin 128) : EReal := place (grid0.coords t 1).val (fun k => (W m c t j).dvB k d) (fun n => (W m c t j).dvC n d) r

theorem canon_adds (i : grid0.Coords) {κ : Kind} {sp : Space} (v : View sig κ sp S2304x512 .f32) (z : View.Piece (Elt Ideal) S2304x512 .f32)
    (gB : Fin 4 → Vec Ideal S512x128 .f32 → Vec Ideal S512x128 .f32) (gC : Fin 4 → Vec Ideal S256x128 .f32 → Vec Ideal S256x128 .f32) (y : S2304x512.Idx) :
    View.canon (adds i v (v.writes (Elt Ideal) v.junk [z]) gB gC ++ [z]) y
      = v.read (Elt Ideal) (v.writes (Elt Ideal) (v.writes (Elt Ideal) v.junk [z]) (adds i v (v.writes (Elt Ideal) v.junk [z]) gB gC)) y := by
  rw [← View.read_writes_junk_apply_eq_canon v]
  rfl

section A

variable (h : isA (grid0.coords t)) (j : Fin 4)

theorem stepA5 (a : Fin 64) (d : Fin 128) : (stepA m c t h).1 (ix2 a (colv j d)) = (W m c t j).dq a d := by
  unfold stepA
  dsimp only
  rw [dqA, heads5_at, eDq_at]
  rfl

theorem stepA8 (a : Fin 64) (k : Fin 512) : (stepA m c t h).2.2.2.1 (ix4 j 0 a k) = (W m c t j).gB a k := by
  unfold stepA
  dsimp only
  rw [dbA, heads8_at, eDb_at]
  rfl

theorem stepA6 (r : Fin 2304) (d : Fin 128) : (stepA m c t h).2.1 (ix2 r (colv j d)) = addK m c t j r d := by
  unfold stepA
  dsimp only
  rw [dkA, canon_adds, adds_at _ _ _ _ _ j (W m c t j).dkB (W m c t j).dkC (fun old k d => eKB_at _ _ _ _ _ _ _ _ _ _ _ _ _ _ _ _ j old k d) (fun old n d => eKC_at _ _ _ _ _ _ _ _ _ _ _ _ _ _ _ _ j old n d)]
  unfold zero6
  rw [clear_at, k0_pay5_at, zero_add]
  rfl

theorem stepAS (r : Fin 2304) (d : Fin 128) : (stepA m c t h).2.2.2.2 (ix2 r (colv j d)) = addV m c t j r d := by
  unfold stepA
  dsimp only
  rw [dvA, canon_adds, adds_at _ _ _ _ _ j (W m c t j).dvB (W m c t j).dvC (fun old k d => eVB_at _ _ _ _ _ (win0_2.stage (cfg0.slots t 2)) (hstage0_2 ((cfg0.slots t 2).cast nbuf0_2)) _ _ _ _ _ _ (iblk m c 2 t) _ _ j old k d) (fun old n d => eVC_at _ _ _ _ _ (win0_2.stage (cfg0.slots t 2)) (hstage0_2 ((cfg0.slots t 2).cast nbuf0_2)) _ _ _ _ _ _ (iblk m c 2 t) _ _ j old n d)]
  unfold zeroS
  rw [clear_at, k0_pay6_at, zero_add]
  rfl

end A

section B

variable (h : isB (grid0.coords t)) (y : Out Ideal) (j : Fin 4)

theorem stepB5 (a : Fin 64) (d : Fin 128) : (stepB m c t h y).1 (ix2 a (colv j d)) = (W m c t j).dq a d := by
  unfold stepB
  dsimp only
  rw [dqB, heads5_at, eDq_at]
  rfl

theorem stepB8 (a : Fin 64) (k : Fin 512) : (stepB m c t h y).2.2.2.1 (ix4 j 0 a k) = (W m c t j).gB a k := by
  unfold stepB
  dsimp only
  rw [dbB, heads8_at, eDb_at]
  rfl

theorem stepB6 (r : Fin 2304) (d : Fin 128) : (stepB m c t h y).2.1 (ix2 r (colv j d)) = (y.2.1 (ix2 r (colv j d)) + addK m c t j r d : EReal) := by
  unfold stepB
  dsimp only
  rw [dkB, adds_at _ _ _ _ _ j (W m c t j).dkB (W m c t j).dkC (fun old k d => eKB_at _ _ _ _ _ _ _ _ _ _ _ _ _ _ _ _ j old k d) (fun old n d => eKC_at _ _ _ _ _ _ _ _ _ _ _ _ _ _ _ _ j old n d), Memref.IsWhole.read_unread]
  rfl

theorem stepBS (r : Fin 2304) (d : Fin 128) : (stepB m c t h y).2.2.2.2 (ix2 r (colv j d)) = (y.2.2.2.2 (ix2 r (colv j d)) + addV m c t j r d : EReal) := by
  unfold stepB
  dsimp only
  rw [dvB, adds_at _ _ _ _ _ j (W m c t j).dvB (W m c t j).dvC (fun old k d => eVB_at _ _ _ _ _ (win0_2.stage (cfg0.slots t 2)) (hstage0_2 ((cfg0.slots t 2).cast nbuf0_2)) _ _ _ _ _ _ (iblk m c 2 t) _ _ j old k d) (fun old n d => eVC_at _ _ _ _ _ (win0_2.stage (cfg0.slots t 2)) (hstage0_2 ((cfg0.slots t 2).cast nbuf0_2)) _ _ _ _ _ _ (iblk m c 2 t) _ _ j old n d)]
  exact congrArg (fun x : EReal => x + addV m c t j r d) (congrFun (Memref.IsWhole.read_unread (Memref.isWhole_whole cc0_scratch0) y.2.2.2.2) (ix2 r (colv j d)))

end B

section C

variable (h : isC (grid0.coords t)) (y : Out Ideal) (j : Fin 4)

theorem stepC5 (a : Fin 64) (d : Fin 128) : (stepC m c t h y).1 (ix2 a (colv j d)) = (W m c t j).dq a d := by
  unfold stepC
  dsimp only
  rw [dqC, heads5_at, eDq_at]
  rfl

theorem stepC8 (a : Fin 64) (k : Fin 512) : (stepC m c t h y).2.2.2.1 (ix4 j 0 a k) = (y.2.2.2.1 (ix4 j 0 a k) + (W m c t j).gB a k : EReal) := by
  unfold stepC
  dsimp only
  rw [dbC, heads8_at, eDbAdd_at, lS_at, Memref.IsWhole.read_unread]
  rfl

theorem stepC6 (r : Fin 2304) (d : Fin 128) : (stepC m c t h y).2.1 (ix2 r (colv j d)) = (y.2.1 (ix2 r (colv j d)) + addK m c t j r d : EReal) := by
  unfold stepC
  dsimp only
  rw [dkC, adds_at _ _ _ _ _ j (W m c t j).dkB (W m c t j).dkC (fun old k d => eKB_at _ _ _ _ _ _ _ _ _ _ _ _ _ _ _ _ j old k d) (fun old n d => eKC_at _ _ _ _ _ _ _ _ _ _ _ _ _ _ _ _ j old n d), Memref.IsWhole.read_unread]
  rfl

theorem stepCS (r : Fin 2304) (d : Fin 128) : (stepC m c t h y).2.2.2.2 (ix2 r (colv j d)) = (y.2.2.2.2 (ix2 r (colv j d)) + addV m c t j r d : EReal) := by
  unfold stepC
  dsimp only
  rw [dvC, adds_at _ _ _ _ _ j (W m c t j).dvB (W m c t j).dvC (fun old k d => eVB_at _ _ _ _ _ (win0_2.stage (cfg0.slots t 2)) (hstage0_2 ((cfg0.slots t 2).cast nbuf0_2)) _ _ _ _ _ _ (iblk m c 2 t) _ _ j old k d) (fun old n d => eVC_at _ _ _ _ _ (win0_2.stage (cfg0.slots t 2)) (hstage0_2 ((cfg0.slots t 2).cast nbuf0_2)) _ _ _ _ _ _ (iblk m c 2 t) _ _ j old n d)]
  exact congrArg (fun x : EReal => x + addV m c t j r d) (congrFun (Memref.IsWhole.read_unread (Memref.isWhole_whole cc0_scratch0) y.2.2.2.2) (ix2 r (colv j d)))

end C

section D

variable (h : isD (grid0.coords t)) (y : Out Ideal) (j : Fin 4)

theorem stepD5 (a : Fin 64) (d : Fin 128) : (stepD m c t h y).1 (ix2 a (colv j d)) = (W m c t j).dq a d := by
  unfold stepD
  dsimp only
  rw [dqD, heads5_at, eDq_at]
  rfl

theorem stepD8 (a : Fin 64) (k : Fin 512) : (stepD m c t h y).2.2.2.1 (ix4 j 0 a k) = (W m c t j).gB a k := by
  unfold stepD
  dsimp only
  rw [dbD, heads8_at, eDb_at]
  rfl

theorem stepD6 (r : Fin 2304) (d : Fin 128) : (stepD m c t h y).2.1 (ix2 r (colv j d)) = (y.2.1 (ix2 r (colv j d)) + addK m c t j r d : EReal) := by
  unfold stepD
  dsimp only
  rw [dkD, adds_at _ _ _ _ _ j (W m c t j).dkB (W m c t j).dkC (fun old k d => eKB_at _ _ _ _ _ _ _ _ _ _ _ _ _ _ _ _ j old k d) (fun old n d => eKC_at _ _ _ _ _ _ _ _ _ _ _ _ _ _ _ _ j old n d), Memref.IsWhole.read_unread]
  rfl

theorem stepDS (r : Fin 2304) (d : Fin 128) : (stepD m c t h y).2.2.2.2 (ix2 r (colv j d)) = (y.2.2.2.2 (ix2 r (colv j d)) + addV m c t j r d : EReal) := by
  unfold stepD
  dsimp only
  rw [dvD, adds_at _ _ _ _ _ j (W m c t j).dvB (W m c t j).dvC (fun old k d => eVB_at _ _ _ _ _ (win0_2.stage (cfg0.slots t 2)) (hstage0_2 ((cfg0.slots t 2).cast nbuf0_2)) _ _ _ _ _ _ (iblk m c 2 t) _ _ j old k d) (fun old n d => eVC_at _ _ _ _ _ (win0_2.stage (cfg0.slots t 2)) (hstage0_2 ((cfg0.slots t 2).cast nbuf0_2)) _ _ _ _ _ _ (iblk m c 2 t) _ _ j old n d)]
  exact congrArg (fun x : EReal => x + addV m c t j r d) (congrFun (Memref.IsWhole.read_unread (Memref.isWhole_whole cc0_scratch0) y.2.2.2.2) (ix2 r (colv j d)))

set_option maxHeartbeats 4000000 in
theorem stepD7 (x : S2304x512.Idx) : (stepD m c t h y).2.2.1 x = ((stepD m c t h y).2.2.2.2 x : EReal) := by
  unfold stepD
  dsimp only [atD]
  generalize hy6 : y.2.1 = y6
  generalize hys : y.2.2.2.2 = ys
  exact out7_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _)    h.1 h.2.1 h.2.2.1 h.2.2.2.1 h.2.2.2.2.1 h.2.2.2.2.2.1 h.2.2.2.2.2.2.1 h.2.2.2.2.2.2.2.1 h.2.2.2.2.2.2.2.2.1 h.2.2.2.2.2.2.2.2.2    (iblk m c 0 t) (iblk m c 1 t) (iblk m c 2 t) (iblk m c 3 t) (iblk m c 4 t) y6 ys x

end D

end Cert.NaValue
end
-- ==== Proof.NaOuts.lean ====
module

public import proofs.«01_k».proof.Proof.NaVals

/-! What the kernel's buffers hold after each row of a head group, as sums over the rows already done. -/

@[expose] public section

set_option maxRecDepth 16384

noncomputable section

namespace Cert.NaValue

open Cert.KernelIdeal Cert.KernelIdeal.Gen Cert.NaFrame
open Idealize.ShloMosaic Idealize.ShloMosaic.TcCoe Idealize.SL.Sem

/-! ## Sequences of sums -/

theorem sum_rows (s a : ℕ → EReal) (h0 : s 0 = a 0) (hs : ∀ r, r + 1 < 32 → s (r + 1) = s r + a (r + 1)) :
    ∀ r, r < 32 → s r = ∑ i ∈ Finset.range (r + 1), a i := by
  intro r
  induction r with
  | zero => intro _; simp [h0]
  | succ r ih => intro hr; rw [hs r hr, ih (by omega), Finset.sum_range_succ _ (r + 1)]

/-- Which of the eight bias slabs row `r` of the image uses. -/
def var (r : ℕ) : ℕ := r - min (r - 4) 24

/-- The last row of the image that uses slab `a`. -/
def last (a : Fin 8) : Fin 32 := ⟨if a.val < 4 then a.val else a.val + 24, by split <;> omega⟩

theorem var_last (a : Fin 8) : var (last a).val = a.val := by revert a; decide
theorem var_after (a : Fin 8) (r : Fin 32) (h : (last a).val < r.val) : var r.val ≠ a.val := by revert a r; decide
theorem var_before : ∀ r r' : Fin 32, r'.val < r.val → (r.val ≤ 4 ∨ 28 < r.val) → var r'.val ≠ var r.val := by decide
theorem var_same : ∀ r : Fin 32, 5 ≤ r.val → r.val ≤ 28 → var r.val = 4 := by decide

theorem sum_slabs (s a : ℕ → EReal) (h0 : ∀ r, r < 32 → (r ≤ 4 ∨ 28 < r) → s r = a r)
    (hs : ∀ r, 5 ≤ r + 1 → r + 1 ≤ 28 → s (r + 1) = s r + a (r + 1)) :
    ∀ r, r < 32 → s r = ∑ i ∈ Finset.range (r + 1), if var i = var r then a i else 0 := by
  intro r
  have hz : ∀ r, r < 32 → (r ≤ 4 ∨ 28 < r) → s r = ∑ i ∈ Finset.range (r + 1), if var i = var r then a i else 0 := by
    intro r hr h
    rw [h0 r hr h, Finset.sum_range_succ, if_pos rfl, Finset.sum_eq_zero, zero_add]
    intro i hi
    rw [Finset.mem_range] at hi
    exact if_neg (var_before ⟨r, hr⟩ ⟨i, by omega⟩ hi h)
  induction r with
  | zero => intro hr; exact hz 0 hr (Or.inl (by omega))
  | succ r ih =>
    intro hr
    by_cases h : r + 1 ≤ 4 ∨ 28 < r + 1
    · exact hz _ hr h
    · rw [hs r (by omega) (by omega), ih (by omega), Finset.sum_range_succ _ (r + 1), if_pos rfl]
      have e : var r = var (r + 1) := by
        rw [var_same ⟨r + 1, hr⟩ (by dsimp only; omega) (by dsimp only; omega)]
        unfold var; omega
      rw [e]

theorem sum_slab (s a : ℕ → EReal) (h0 : ∀ r, r < 32 → (r ≤ 4 ∨ 28 < r) → s r = a r)
    (hs : ∀ r, 5 ≤ r + 1 → r + 1 ≤ 28 → s (r + 1) = s r + a (r + 1)) (v : Fin 8) :
    s (last v).val = ∑ r : Fin 32, if var r.val = v.val then a r.val else 0 := by
  rw [sum_slabs s a h0 hs _ (last v).isLt, var_last, ← Finset.sum_range (fun i => if var i = v.val then a i else 0)]
  refine Finset.sum_subset (fun i hi => ?_) (fun i hi hn => ?_)
  · rw [Finset.mem_range] at hi ⊢; have := (last v).isLt; omega
  · rw [Finset.mem_range] at hi hn
    exact if_neg (var_after v ⟨i, hi⟩ (by dsimp only; omega))

/-! ## The points -/

/-- The point of head group `g` and image row `r`. -/
def pt (g : Fin 2) (r : Fin 32) : Fin cfg0.N := ⟨32 * g.val + r.val, by rw [show cfg0.N = 64 from N_0]; omega⟩

theorem coord_row (g : Fin 2) (r : Fin 32) : (grid0.coords (pt g r) 1).val = r.val := by
  have h : ∀ t : Fin cfg0.N, (grid0.coords t 1).val = t.val % 32 := (by decide +kernel : ∀ t : Fin grid0.N, (grid0.coords t 1).val = t.val % 32)
  rw [h]; show (32 * g.val + r.val) % 32 = r.val; omega

variable (m : (ℓ : Loc nD τ sig) → Buf (Elt Ideal) ℓ) (c : Dev nD)

/-- What the buffers hold after point `t`. -/
abbrev O (t : Fin cfg0.N) : Out Ideal := outs m c t.val t.isLt
/-- What they hold before it, for a point that is not the first. -/
abbrev O' (t : Fin cfg0.N) : Out Ideal := outs m c (t.val - 1) (Nat.lt_of_le_of_lt (Nat.sub_le _ _) t.isLt)

section
variable (t : Fin cfg0.N) (j : Fin 4)

theorem O5 (a : Fin 64) (d : Fin 128) : (O m c t).1 (ix2 a (colv j d)) = (W m c t j).dq a d := by
  unfold O
  by_cases hA : t.val % 32 = 0
  · rw [outs_A m c t hA, stepA5]
  by_cases hC : 5 ≤ t.val % 32 ∧ t.val % 32 ≤ 28
  · rw [outs_C m c t hC, stepC5]
  by_cases hD : t.val % 32 = 31
  · rw [outs_D m c t hD, stepD5]
  · rw [outs_B m c t ⟨hA, hC, hD⟩, stepB5]

theorem O6 (hA : t.val % 32 ≠ 0) (r : Fin 2304) (d : Fin 128) :
    (O m c t).2.1 (ix2 r (colv j d)) = ((O' m c t).2.1 (ix2 r (colv j d)) + addK m c t j r d : EReal) := by
  unfold O
  by_cases hC : 5 ≤ t.val % 32 ∧ t.val % 32 ≤ 28
  · rw [outs_C m c t hC, stepC6]
  by_cases hD : t.val % 32 = 31
  · rw [outs_D m c t hD, stepD6]
  · rw [outs_B m c t ⟨hA, hC, hD⟩, stepB6]

theorem OS (hA : t.val % 32 ≠ 0) (r : Fin 2304) (d : Fin 128) :
    (O m c t).2.2.2.2 (ix2 r (colv j d)) = ((O' m c t).2.2.2.2 (ix2 r (colv j d)) + addV m c t j r d : EReal) := by
  unfold O
  by_cases hC : 5 ≤ t.val % 32 ∧ t.val % 32 ≤ 28
  · rw [outs_C m c t hC, stepCS]
  by_cases hD : t.val % 32 = 31
  · rw [outs_D m c t hD, stepDS]
  · rw [outs_B m c t ⟨hA, hC, hD⟩, stepBS]

theorem O8 (hC : ¬ (5 ≤ t.val % 32 ∧ t.val % 32 ≤ 28)) (a : Fin 64) (k : Fin 512) :
    (O m c t).2.2.2.1 (ix4 j 0 a k) = (W m c t j).gB a k := by
  unfold O
  by_cases hA : t.val % 32 = 0
  · rw [outs_A m c t hA, stepA8]
  by_cases hD : t.val % 32 = 31
  · rw [outs_D m c t hD, stepD8]
  · rw [outs_B m c t ⟨hA, hC, hD⟩, stepB8]
end

variable (g : Fin 2) (j : Fin 4)

theorem out5 (r : Fin 32) (a : Fin 64) (d : Fin 128) : (O m c (pt g r)).1 (ix2 a (colv j d)) = (W m c (pt g r) j).dq a d := O5 m c (pt g r) j a d

theorem out6 (n : Fin 2304) (d : Fin 128) :
    (O m c (pt g 31)).2.1 (ix2 n (colv j d)) = (∑ r : Fin 32, addK m c (pt g r) j n d : EReal) := by
  have e := sum_rows (fun r => if h : r < 32 then (O m c (pt g ⟨r, h⟩)).2.1 (ix2 n (colv j d)) else (0 : EReal)) (fun r => if h : r < 32 then addK m c (pt g ⟨r, h⟩) j n d else 0)
    (by
      simp only [dif_pos (show 0 < 32 by omega)]
      have hA : (pt g ⟨0, by omega⟩).val % 32 = 0 := by show (32 * g.val + 0) % 32 = 0; omega
      unfold O
      rw [outs_A m c _ hA, stepA6])
    (fun r hr => by
      simp only [dif_pos hr, dif_pos (show r < 32 by omega)]
      exact O6 m c (pt g ⟨r + 1, hr⟩) j (by show (32 * g.val + (r + 1)) % 32 ≠ 0; omega) n d) 31 (by omega)
  rw [Finset.sum_range] at e
  simp only [dif_pos (show 31 < 32 by omega), Fin.is_lt, dif_pos] at e
  exact e

theorem outS (n : Fin 2304) (d : Fin 128) :
    (O m c (pt g 31)).2.2.2.2 (ix2 n (colv j d)) = (∑ r : Fin 32, addV m c (pt g r) j n d : EReal) := by
  have e := sum_rows (fun r => if h : r < 32 then (O m c (pt g ⟨r, h⟩)).2.2.2.2 (ix2 n (colv j d)) else (0 : EReal)) (fun r => if h : r < 32 then addV m c (pt g ⟨r, h⟩) j n d else 0)
    (by
      simp only [dif_pos (show 0 < 32 by omega)]
      have hA : (pt g ⟨0, by omega⟩).val % 32 = 0 := by show (32 * g.val + 0) % 32 = 0; omega
      unfold O
      rw [outs_A m c _ hA, stepAS])
    (fun r hr => by
      simp only [dif_pos hr, dif_pos (show r < 32 by omega)]
      exact OS m c (pt g ⟨r + 1, hr⟩) j (by show (32 * g.val + (r + 1)) % 32 ≠ 0; omega) n d) 31 (by omega)
  rw [Finset.sum_range] at e
  simp only [dif_pos (show 31 < 32 by omega), Fin.is_lt, dif_pos] at e
  exact e

theorem out7 (n : Fin 2304) (d : Fin 128) :
    (O m c (pt g 31)).2.2.1 (ix2 n (colv j d)) = (∑ r : Fin 32, addV m c (pt g r) j n d : EReal) := by
  have hD : (pt g 31).val % 32 = 31 := by show (32 * g.val + 31) % 32 = 31; omega
  rw [← outS]
  unfold O
  rw [outs_D m c _ hD]
  exact stepD7 _ _ _ _ _ _

theorem out8 (v : Fin 8) (a : Fin 64) (k : Fin 512) :
    (O m c (pt g (last v))).2.2.2.1 (ix4 j 0 a k) = (∑ r : Fin 32, if var r.val = v.val then (W m c (pt g r) j).gB a k else 0 : EReal) := by
  have e := sum_slab (fun r => if h : r < 32 then (O m c (pt g ⟨r, h⟩)).2.2.2.1 (ix4 j 0 a k) else (0 : EReal)) (fun r => if h : r < 32 then (W m c (pt g ⟨r, h⟩) j).gB a k else 0)
    (fun r hr h => by
      simp only [dif_pos hr]
      exact O8 m c (pt g ⟨r, hr⟩) j (by show ¬ (5 ≤ (32 * g.val + r) % 32 ∧ (32 * g.val + r) % 32 ≤ 28); omega) a k)
    (fun r h5 h28 => by
      simp only [dif_pos (show r + 1 < 32 by omega), dif_pos (show r < 32 by omega)]
      have hC : 5 ≤ (pt g ⟨r + 1, by omega⟩).val % 32 ∧ (pt g ⟨r + 1, by omega⟩).val % 32 ≤ 28 := by
        show 5 ≤ (32 * g.val + (r + 1)) % 32 ∧ (32 * g.val + (r + 1)) % 32 ≤ 28; omega
      exact (congrArg (fun o : Out Ideal => o.2.2.2.1 (ix4 j 0 a k)) (outs_C m c _ hC)).trans (stepC8 _ _ _ _ _ _ _ _)) v
  simp only [Fin.is_lt, dif_pos] at e
  exact e

end Cert.NaValue
end
-- ==== Proof.NaRef.lean ====
module

public import proofs.«01_k».proof.Proof.NaPure
public import proofs.«01_k».proof.Proof.Gen.ReferenceIdeal
public import Idealize.ShloMosaic.Lib.Pointwise

/-! The stages of the reference of the neighbourhood attention's gradient, by name, over the five arrays. -/

@[expose] public section

set_option maxRecDepth 16384

noncomputable section

namespace Cert.NaValue.Ref

open Cert.ReferenceIdeal Cert.ReferenceIdeal.Gen
open Idealize.ShloMosaic Idealize.ShloMosaic.TcCoe Idealize.SL.Sem

/-- The five arrays: queries, keys, the projections that hold the values, the bias with its mask, the cotangent. -/
structure Arrs where
  q : FVec Ideal S2048x1024 .bf16
  kall : FVec Ideal S2304x1024 .bf16
  p : FVec Ideal S2304x12288 .f32
  bias : FVec Ideal S8x8x64x512 .f32
  dO : FVec Ideal S2048x1024 .bf16

def v3 (A : Arrs) : FVec Ideal S2304x8x128 .f32 :=
  shapeCast _ (extf .f32 A.kall bitsLt_bf16_f32) shapeCasts_S2304x1024_S2304x8x128

def v7 (A : Arrs) : FVec Ideal S2304x8x128 .f32 :=
  shapeCast _ (extf .f32 (truncf .bf16 (extractStridedSlice S2304x1024 ![0, 7168] A.p slices_S2304x12288_S2304x1024_0_7168) bitsLt_bf16_f32) bitsLt_bf16_f32) shapeCasts_S2304x1024_S2304x8x128

def v10 (A : Arrs) : FVec Ideal S256x8x128 .f32 :=
  extractStridedSlice S256x8x128 ![0, 0, 0] (v3 A) slices_S2304x8x128_S256x8x128_0_0_0

def v11 (A : Arrs) : FVec Ideal S256x8x128 .f32 :=
  extractStridedSlice S256x8x128 ![0, 0, 0] (v7 A) slices_S2304x8x128_S256x8x128_0_0_0

def v12 : IVec S32 32 :=
  iotaInDim S32 32 0

def v15 : IVec S32 32 :=
  minsi (broadcastInDim S32 ![] bcast_S_S32 (id (constantI S_ 32 24#32))) (maxsi (broadcastInDim S32 ![] bcast_S_S32 (id (constantI S_ 32 0#32))) (subi (v12) (broadcastInDim S32 ![] bcast_S_S32 (constantI S_ 32 4#32))))

def v21 : IVec S32x8 32 :=
  addi (broadcastInDim S32x8 ![0, 1] bcast_S32x1_S32x8_0_1 (broadcastInDim S32x1 ![0] bcast_S32_S32x1_0 (v15))) (broadcastInDim S32x8 ![0, 1] bcast_S1x8_S32x8_0_1 (broadcastInDim S1x8 ![1] bcast_S8_S1x8_1 (iotaInDim S8 32 0)))

def v22 (A : Arrs) : FVec Ideal S32x64x8x128 .f32 :=
  shapeCast _ (shapeCast _ (extf .f32 A.q bitsLt_bf16_f32) shapeCasts_S2048x1024_S2048x8x128) shapeCasts_S2048x8x128_S32x64x8x128

def v29 : IVec S32x8x1 32 :=
  broadcastInDim S32x8x1 ![0, 1] bcast_S32x8_S32x8x1_0_1 (select (cmpi .slt (v21) (broadcastInDim S32x8 ![] bcast_S_S32x8 (constantI S_ 32 0#32))) (addi (v21) (broadcastInDim S32x8 ![] bcast_S_S32x8 (constantI S_ 32 32#32))) (v21))

def v31 (A : Arrs) : FVec Ideal S32x512x8x128 .f32 :=
  shapeCast _ (Host.gather gather_S32x64x8x128_S32x8x1_S32x8x64x8x128_234_0_n_n_0_2_1648128 (shapeCast _ (extractStridedSlice S2048x8x128 ![256, 0, 0] (v3 A) slices_S2304x8x128_S2048x8x128_256_0_0) shapeCasts_S2048x8x128_S32x64x8x128) (v29)) shapeCasts_S32x8x64x8x128_S32x512x8x128

def v38 : IVec S32x8x1 32 :=
  broadcastInDim S32x8x1 ![0, 1] bcast_S32x8_S32x8x1_0_1 (select (cmpi .slt (v21) (broadcastInDim S32x8 ![] bcast_S_S32x8 (constantI S_ 32 0#32))) (addi (v21) (broadcastInDim S32x8 ![] bcast_S_S32x8 (constantI S_ 32 32#32))) (v21))

def v40 (A : Arrs) : FVec Ideal S32x512x8x128 .f32 :=
  shapeCast _ (Host.gather gather_S32x64x8x128_S32x8x1_S32x8x64x8x128_234_0_n_n_0_2_1648128 (shapeCast _ (extractStridedSlice S2048x8x128 ![256, 0, 0] (v7 A) slices_S2304x8x128_S2048x8x128_256_0_0) shapeCasts_S2048x8x128_S32x64x8x128) (v38)) shapeCasts_S32x8x64x8x128_S32x512x8x128

def v44 : IVec S32 32 :=
  subi (v12) (v15)

def v50 : IVec S32x1 32 :=
  broadcastInDim S32x1 ![0] bcast_S32_S32x1_0 (select (cmpi .slt (v44) (broadcastInDim S32 ![] bcast_S_S32 (constantI S_ 32 0#32))) (addi (v44) (broadcastInDim S32 ![] bcast_S_S32 (constantI S_ 32 8#32))) (v44))

def v56 (A : Arrs) : FVec Ideal S8x32x64x768 .f32 :=
  concatenate S8x32x64x768 3 [⟨S8x32x64x512, (addf (mulf (Host.dotGeneral dot_S32x64x8x128_S32x512x8x128_S8x32x64x512_3_3_1_1_20_20 none (v22 A) (v31 A)) (broadcastInDim S8x32x64x512 ![] bcast_S_S8x32x64x512 (constant S_ .f32 0x3DB504F3#32))) (Host.gather gather_S8x8x64x512_S32x1_S8x32x64x512_023_1_n_n_1_1_8164512 A.bias (v50)))⟩, ⟨S8x32x64x256, (mulf (Host.dotGeneral dot_S32x64x8x128_S256x8x128_S8x32x64x256_3_2_01_0_2_1 none (v22 A) (v10 A)) (broadcastInDim S8x32x64x256 ![] bcast_S_S8x32x64x256 (constant S_ .f32 0x3DB504F3#32)))⟩] concatenates_S8x32x64x512_S8x32x64x256_S8x32x64x768_d3

def v57 (A : Arrs) : FVec Ideal S8x32x64 .f32 :=
  Host.reduce FloatOps.maximumf (v56 A) (constant S_ .f32 0xFF800000#32) reducesTo_S8x32x64x768_S8x32x64_d3 h_S_

def v77 (A : Arrs) : FVec Ideal S8x32x64x768 .f32 :=
  Host.exp (subf (v56 A) (broadcastInDim S8x32x64x768 ![0, 1, 2, 3] bcast_S8x32x64x1_S8x32x64x768_0_1_2_3 (broadcastInDim S8x32x64x1 ![0, 1, 2] bcast_S8x32x64_S8x32x64x1_0_1_2 (maximumf (broadcastInDim S8x32x64 ![] bcast_S_S8x32x64 (constant S_ .f32 0xFF800000#32)) (v57 A)))))

def v79 (A : Arrs) : FVec Ideal S8x32x64x1 .f32 :=
  broadcastInDim S8x32x64x1 ![0, 1, 2] bcast_S8x32x64_S8x32x64x1_0_1_2 (Host.reduceAdd (v77 A) (constant S_ .f32 0x00000000#32) reducesTo_S8x32x64x768_S8x32x64_d3 h_S_)

def v81 (A : Arrs) : FVec Ideal S8x32x64x768 .f32 :=
  Host.divf (v77 A) (broadcastInDim S8x32x64x768 ![0, 1, 2, 3] bcast_S8x32x64x1_S8x32x64x768_0_1_2_3 (v79 A))

def v85 (A : Arrs) : FVec Ideal S8x32x64x512 .f32 :=
  extractStridedSlice S8x32x64x512 ![0, 0, 0, 0] (v81 A) slices_S8x32x64x768_S8x32x64x512_0_0_0_0

def v88 (A : Arrs) : FVec Ideal S8x32x64x256 .f32 :=
  extractStridedSlice S8x32x64x256 ![0, 0, 0, 512] (v81 A) slices_S8x32x64x768_S8x32x64x256_0_0_0_512

def v94 (A : Arrs) : FVec Ideal S32x64x8x128 .f32 :=
  shapeCast _ (extf .f32 A.dO bitsLt_bf16_f32) shapeCasts_S2048x1024_S32x64x8x128

def v95 (A : Arrs) : FVec Ideal S8x128x32x64 .f32 :=
  transpose S8x128x32x64 [2, 3, 0, 1] (v94 A) transposes_S32x64x8x128_S8x128x32x64_2_3_0_1

def v100 (A : Arrs) : FVec Ideal S32x8x128x64 .f32 :=
  transpose S32x8x128x64 [0, 2, 3, 1] (v94 A) transposes_S32x64x8x128_S32x8x128x64_0_2_3_1

def v106 (A : Arrs) : FVec Ideal S8x32x64x768 .f32 :=
  addf (pad S8x32x64x768 ![0, 0, 0, 512] ![0, 0, 0, 0] ![0, 0, 0, 0] (Host.dotGeneral dot_S8x128x32x64_S256x8x128_S8x32x64x256_1_2_23_0_0_1 none (v95 A) (v11 A)) (constant S_ .f32 0x00000000#32) pads_S8x32x64x256_S8x32x64x768_000_000_000_51200 h_S_) (pad S8x32x64x768 ![0, 0, 0, 0] ![0, 0, 0, 256] ![0, 0, 0, 0] (transpose S8x32x64x512 [1, 0, 2, 3] (Host.dotGeneral dot_S32x8x128x64_S32x512x8x128_S32x8x64x512_2_3_3_1_01_02 none (v100 A) (v40 A)) transposes_S32x8x64x512_S8x32x64x512_1_0_2_3) (constant S_ .f32 0x00000000#32) pads_S8x32x64x512_S8x32x64x768_000_000_000_02560 h_S_)

def v118 (A : Arrs) : FVec Ideal S8x32x64x768 .f32 :=
  mulf (addf (Host.divf (v106 A) (broadcastInDim S8x32x64x768 ![0, 1, 2, 3] bcast_S8x32x64x1_S8x32x64x768_0_1_2_3 (v79 A))) (broadcastInDim S8x32x64x768 ![0, 1, 2] bcast_S8x32x64_S8x32x64x768_0_1_2 (Host.reduceAdd (Host.negf (shapeCast _ (Host.reduceAdd (mulf (mulf (v106 A) (broadcastInDim S8x32x64x768 ![0, 1, 2, 3] bcast_S8x32x64x1_S8x32x64x768_0_1_2_3 (Host.divf (broadcastInDim S8x32x64x1 ![] bcast_S_S8x32x64x1 (constant S_ .f32 0x3F800000#32)) (mulf (v79 A) (v79 A))))) (v77 A)) (constant S_ .f32 0x00000000#32) reducesTo_S8x32x64x768_S8x32x64_d3 h_S_) shapeCasts_S8x32x64_S8x32x64x1)) (constant S_ .f32 0x00000000#32) reducesTo_S8x32x64x1_S8x32x64_d3 h_S_))) (v77 A)

def v119 (A : Arrs) : FVec Ideal S8x32x64x512 .f32 :=
  extractStridedSlice S8x32x64x512 ![0, 0, 0, 0] (v118 A) slices_S8x32x64x768_S8x32x64x512_0_0_0_0

def v122 (A : Arrs) : FVec Ideal S8x32x64x256 .f32 :=
  mulf (extractStridedSlice S8x32x64x256 ![0, 0, 0, 512] (v118 A) slices_S8x32x64x768_S8x32x64x256_0_0_0_512) (broadcastInDim S8x32x64x256 ![] bcast_S_S8x32x64x256 (constant S_ .f32 0x3DB504F3#32))

def v130 (A : Arrs) : FVec Ideal S8x32x64x512 .f32 :=
  mulf (v119 A) (broadcastInDim S8x32x64x512 ![] bcast_S_S8x32x64x512 (constant S_ .f32 0x3DB504F3#32))

def v147 (A : Arrs) : FVec Ideal S2048x1024 .f32 :=
  shapeCast _ (shapeCast _ (addf (transpose S32x64x8x128 [1, 2, 0, 3] (Host.dotGeneral dot_S8x32x64x256_S256x8x128_S8x32x64x128_3_0_12_2_0_1 none (v122 A) (v10 A)) transposes_S8x32x64x128_S32x64x8x128_1_2_0_3) (transpose S32x64x8x128 [1, 2, 0, 3] (Host.dotGeneral dot_S8x32x64x512_S32x512x8x128_S8x32x64x128_3_1_2_3_01_20 none (v130 A) (v31 A)) transposes_S8x32x64x128_S32x64x8x128_1_2_0_3)) shapeCasts_S32x64x8x128_S2048x8x128) shapeCasts_S2048x8x128_S2048x1024

def v148 (A : Arrs) : FVec Ideal S2304x1024 .f32 :=
  shapeCast _ (concatenate S2304x8x128 0 [⟨S256x8x128, (transpose S256x8x128 [1, 0, 2] (Host.dotGeneral dot_S8x32x64x256_S32x64x8x128_S8x256x128_12_01_3_3_0_2 none (v122 A) (v22 A)) transposes_S8x256x128_S256x8x128_1_0_2)⟩, ⟨S2048x8x128, (shapeCast _ (Host.scatterAdd scatter_S32x64x8x128_S32x8x1_S32x8x64x8x128_234_0_0_2 (broadcastInDim S32x64x8x128 ![] bcast_S_S32x64x8x128 (constant S_ .f32 0x00000000#32)) (v29) (shapeCast _ (transpose S32x512x8x128 [1, 2, 0, 3] (Host.dotGeneral dot_S8x32x64x512_S32x64x8x128_S8x32x512x128_2_1_3_3_01_20 none (v130 A) (v22 A)) transposes_S8x32x512x128_S32x512x8x128_1_2_0_3) shapeCasts_S32x512x8x128_S32x8x64x8x128)) shapeCasts_S32x64x8x128_S2048x8x128)⟩] concatenates_S256x8x128_S2048x8x128_S2304x8x128_d0) shapeCasts_S2304x8x128_S2304x1024

def v150 (A : Arrs) : FVec Ideal S2304x1024 .bf16 :=
  truncf .bf16 (shapeCast _ (concatenate S2304x8x128 0 [⟨S256x8x128, (transpose S256x8x128 [2, 0, 1] (Host.dotGeneral dot_S8x128x32x64_S8x32x64x256_S8x128x256_23_12_1_3_0_0 none (v95 A) (v88 A)) transposes_S8x128x256_S256x8x128_2_0_1)⟩, ⟨S2048x8x128, (shapeCast _ (Host.scatterAdd scatter_S32x64x8x128_S32x8x1_S32x8x64x8x128_234_0_0_2 (broadcastInDim S32x64x8x128 ![] bcast_S_S32x64x8x128 (constant S_ .f32 0x00000000#32)) (v38) (shapeCast _ (transpose S32x512x8x128 [0, 3, 1, 2] (Host.dotGeneral dot_S32x8x128x64_S8x32x64x512_S32x8x128x512_3_2_2_3_01_10 none (v100 A) (v85 A)) transposes_S32x8x128x512_S32x512x8x128_0_3_1_2) shapeCasts_S32x512x8x128_S32x8x64x8x128)) shapeCasts_S32x64x8x128_S2048x8x128)⟩] concatenates_S256x8x128_S2048x8x128_S2304x8x128_d0) shapeCasts_S2304x8x128_S2304x1024) bitsLt_bf16_f32

def v128 (A : Arrs) : FVec Ideal S8x8x64x512 .f32 :=
  Host.scatterAdd scatter_S8x8x64x512_S32x1_S8x32x64x512_023_1_1_1 (broadcastInDim S8x8x64x512 ![] bcast_S_S8x8x64x512 (constant S_ .f32 0x00000000#32)) (v50) (v119 A)

end Cert.NaValue.Ref
end
-- ==== Proof.NaRefRead.lean ====
module

public import proofs.«01_k».proof.Proof.NaRef

/-! The stages of the reference read at an index. -/

@[expose] public section

set_option maxRecDepth 16384

noncomputable section

namespace Cert.NaValue.Ref

open Cert.ReferenceIdeal Cert.ReferenceIdeal.Gen
open Idealize.ShloMosaic Idealize.ShloMosaic.TcCoe Idealize.SL.Sem

variable (A : Arrs) (h : Fin 8) (r : Fin 32) (c : Fin 64) (d : Fin 128)

/-- A gathered row of the grid. -/
theorem gather_rows (X : FVec Ideal S32x64x8x128 .f32) (I : IVec S32x8x1 32) (j : Fin 8) :
    Host.gather gather_S32x64x8x128_S32x8x1_S32x8x64x8x128_234_0_n_n_0_2_1648128 X I (ix5 r j c h d)
      = X (ix4 ⟨min (I (ix3 r j 0)).toInt.toNat 31, by omega⟩ c h d) := by
  have hsi : gather_S32x64x8x128_S32x8x1_S32x8x64x8x128_234_0_n_n_0_2_1648128.siIdx (ix5 r j c h d) ⟨0, by decide⟩ = ix3 r j 0 := by
    funext b
    fin_cases b <;> rfl
  unfold Host.gather
  congr 1
  funext a
  refine Fin.ext ?_
  fin_cases a
  · exact congrArg (fun x => min (I x).toInt.toNat 31) hsi
  · exact Nat.zero_add _
  · exact Nat.zero_add _
  · exact Nat.zero_add _

/-- A gathered variant of the bias. -/
theorem gather_bias (X : FVec Ideal S8x8x64x512 .f32) (I : IVec S32x1 32) (k : Fin 512) :
    Host.gather gather_S8x8x64x512_S32x1_S8x32x64x512_023_1_n_n_1_1_8164512 X I (ix4 h r c k)
      = X (ix4 h ⟨min (I (ix2 r 0)).toInt.toNat 7, by omega⟩ c k) := by
  have hsi : gather_S8x8x64x512_S32x1_S8x32x64x512_023_1_n_n_1_1_8164512.siIdx (ix4 h r c k) ⟨0, by decide⟩ = ix2 r 0 := by
    funext b
    fin_cases b <;> rfl
  unfold Host.gather
  congr 1
  funext a
  refine Fin.ext ?_
  fin_cases a
  · exact Nat.zero_add _
  · exact congrArg (fun x => min (I x).toInt.toNat 7) hsi
  · exact Nat.zero_add _
  · exact Nat.zero_add _

theorem scatter_rows (I : IVec S32x8x1 32) (j : Fin 8) (n : ℕ) (hn : n < 32) (hI : (I (ix3 r j 0)).toInt = n) :
    scatter_S32x64x8x128_S32x8x1_S32x8x64x8x128_234_0_0_2.resultIdx? (ix5 r j c h d) I = some (ix4 ⟨n, hn⟩ c h d) := by
  have hsi : scatter_S32x64x8x128_S32x8x1_S32x8x64x8x128_234_0_0_2.siIdx (ix5 r j c h d) ⟨0, by decide⟩ = (ix3 r j 0) := by
    funext b
    fin_cases b <;> rfl
  have e : ∀ a, scatter_S32x64x8x128_S32x8x1_S32x8x64x8x128_234_0_0_2.start (ix5 r j c h d) I a + scatter_S32x64x8x128_S32x8x1_S32x8x64x8x128_234_0_0_2.window (ix5 r j c h d) a = ((ix4 ⟨n, hn⟩ c h d : S32x64x8x128.Idx) a).val := by
    intro a
    fin_cases a
    · exact (Int.add_zero _).trans ((congrArg (fun x => (I x).toInt) hsi).trans hI)
    · exact Int.zero_add _
    · exact Int.zero_add _
    · exact Int.zero_add _
  unfold ScatterDims.resultIdx?
  rw [dif_pos fun a => by rw [e a]; exact ⟨Int.natCast_nonneg _, Int.ofNat_lt.mpr ((ix4 ⟨n, hn⟩ c h d : S32x64x8x128.Idx) a).isLt⟩]
  exact congrArg some (funext fun a => Fin.ext ((congrArg Int.toNat (e a)).trans (Int.toNat_natCast _)))

theorem scatter_bias (I : IVec S32x1 32) (k : Fin 512) (n : ℕ) (hn : n < 8) (hI : (I (ix2 r 0)).toInt = n) :
    scatter_S8x8x64x512_S32x1_S8x32x64x512_023_1_1_1.resultIdx? (ix4 h r c k) I = some (ix4 h ⟨n, hn⟩ c k) := by
  have hsi : scatter_S8x8x64x512_S32x1_S8x32x64x512_023_1_1_1.siIdx (ix4 h r c k) ⟨0, by decide⟩ = (ix2 r 0) := by
    funext b
    fin_cases b <;> rfl
  have e : ∀ a, scatter_S8x8x64x512_S32x1_S8x32x64x512_023_1_1_1.start (ix4 h r c k) I a + scatter_S8x8x64x512_S32x1_S8x32x64x512_023_1_1_1.window (ix4 h r c k) a = ((ix4 h ⟨n, hn⟩ c k : S8x8x64x512.Idx) a).val := by
    intro a
    fin_cases a
    · exact Int.zero_add _
    · exact (Int.add_zero _).trans ((congrArg (fun x => (I x).toInt) hsi).trans hI)
    · exact Int.zero_add _
    · exact Int.zero_add _
  unfold ScatterDims.resultIdx?
  rw [dif_pos fun a => by rw [e a]; exact ⟨Int.natCast_nonneg _, Int.ofNat_lt.mpr ((ix4 h ⟨n, hn⟩ c k : S8x8x64x512.Idx) a).isLt⟩]
  exact congrArg some (funext fun a => Fin.ext ((congrArg Int.toNat (e a)).trans (Int.toNat_natCast _)))

/-- A head's column of a row of 1024. -/
def col : Fin 1024 := ⟨h.val * 128 + d.val, by omega⟩

theorem v3_at (n : Fin 2304) : v3 A (ix3 n h d) = A.kall (ix2 n (col h d)) := by
  unfold v3
  pointwise
  rfl

theorem v22_at : v22 A (ix4 r c h d) = A.q (ix2 ⟨r.val * 64 + c.val, by omega⟩ (col h d)) := by
  unfold v22
  pointwise
  rfl
theorem v94_at : v94 A (ix4 r c h d) = A.dO (ix2 ⟨r.val * 64 + c.val, by omega⟩ (col h d)) := by
  unfold v94
  pointwise
  rfl

theorem v79_at : v79 A (ix4 h r c 0) = ∑ n, v77 A (ix4 h r c n) := by
  unfold v79
  pointwise

theorem v81_at (n : Fin 768) : v81 A (ix4 h r c n) = Ideal.div (v77 A (ix4 h r c n)) (v79 A (ix4 h r c 0)) := by
  unfold v81
  pointwise
  done

theorem v15_at : v15 (ix1 r) = BitVec.ofNat 32 (min (r.val - 4) 24) := by
  unfold v15 v12
  pointwise
  revert r
  decide

theorem v29_at (j : Fin 8) : v29 (ix3 r j 0) = BitVec.ofNat 32 (min (r.val - 4) 24 + j.val) := by
  unfold v29 v21
  pointwise [v15_at]
  revert r j
  decide

theorem v50_at : v50 (ix2 r 0) = BitVec.ofNat 32 (r.val - min (r.val - 4) 24) := by
  unfold v50 v44 v12
  pointwise [v15_at]
  revert r
  decide

theorem v38_at (j : Fin 8) : v38 (ix3 r j 0) = BitVec.ofNat 32 (min (r.val - 4) 24 + j.val) := by
  unfold v38 v21
  pointwise [v15_at]
  revert r j
  decide

theorem ofBits_bot : Ideal.ofBits .f32 0xFF800000#32 = (⊥ : EReal) := by
  rfl

theorem v57_at : v57 A (ix3 h r c) = Finset.univ.fold max (Ideal.ofBits .f32 0xFF800000#32) (fun n => v56 A (ix4 h r c n)) := by
  unfold v57
  pointwise

theorem toInt_ofNat (n : ℕ) (hn : n < 100) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

theorem v7_at (n : Fin 2304) : v7 A (ix3 n h d) = A.p (ix2 n ⟨7168 + (h.val * 128 + d.val), by omega⟩) := by
  unfold v7
  pointwise

theorem v31_at (k : Fin 512) : v31 A (ix4 r k h d) = A.kall (ix2 ⟨256 + (min (r.val - 4) 24 * 64 + k.val), by omega⟩ (col h d)) := by
  unfold v31
  pointwise
  rw [gather_rows]
  pointwise [v29_at, v3_at]
  refine congrArg A.kall (congrArg (fun x => ix2 x (col h d)) (Fin.ext ?_))
  show _ = 256 + (min (r.val - 4) 24 * 64 + k.val)
  simp only [toInt_ofNat (min (r.val - 4) 24 + k.val / 64) (by omega), Int.toNat_natCast]
  omega

theorem v40_at (k : Fin 512) : v40 A (ix4 r k h d) = A.p (ix2 ⟨256 + (min (r.val - 4) 24 * 64 + k.val), by omega⟩ ⟨7168 + (h.val * 128 + d.val), by omega⟩) := by
  unfold v40
  pointwise
  rw [gather_rows]
  pointwise [v7_at]
  refine congrArg A.p (congrArg (fun x => ix2 x _) (Fin.ext ?_))
  show _ = 256 + (min (r.val - 4) 24 * 64 + k.val)
  simp only [v38_at, toInt_ofNat (min (r.val - 4) 24 + k.val / 64) (by omega), Int.toNat_natCast]
  omega

/-- The greatest of `-∞` and an array is the array. -/
theorem mm_at (Y : FVec Ideal S8x32x64 .f32) : (maximumf (broadcastInDim S8x32x64 ![] bcast_S_S8x32x64 (constant S_ .f32 0xFF800000#32) : FVec Ideal S8x32x64 .f32) Y : FVec Ideal S8x32x64 .f32) = Y := by
  funext i
  exact (congrArg (fun x => max x (Y i)) ofBits_bot).trans (max_eq_right bot_le)

theorem v77_at (n : Fin 768) : v77 A (ix4 h r c n) = Ideal.exp (v56 A (ix4 h r c n) - v57 A (ix3 h r c)) := by
  unfold v77
  rw [mm_at]
  pointwise

/-- The operands of head `h` at row `r` of the grid. -/
def Arrs.blk : Blk where
  q c d := A.q (ix2 ⟨r.val * 64 + c.val, by omega⟩ (col h d))
  kb k d := A.kall (ix2 ⟨256 + (min (r.val - 4) 24 * 64 + k.val), by omega⟩ (col h d))
  kc n d := A.kall (ix2 ⟨n.val, by omega⟩ (col h d))
  vb k d := A.p (ix2 ⟨256 + (min (r.val - 4) 24 * 64 + k.val), by omega⟩ ⟨7168 + (h.val * 128 + d.val), by omega⟩)
  vc n d := A.p (ix2 ⟨n.val, by omega⟩ ⟨7168 + (h.val * 128 + d.val), by omega⟩)
  b c k := A.bias (ix4 h ⟨r.val - min (r.val - 4) 24, by omega⟩ c k)
  d c d := A.dO (ix2 ⟨r.val * 64 + c.val, by omega⟩ (col h d))

/-! ## An axis of 768 is the band's 512 and the context's 256 -/

def inB (k : Fin 512) : Fin 768 := ⟨k.val, by omega⟩
def inC (n : Fin 256) : Fin 768 := ⟨512 + n.val, by omega⟩

theorem sum_parts (f : Fin 768 → EReal) : ∑ n, f n = (∑ k, f (inB k)) + ∑ n, f (inC n) :=
  Fin.sum_univ_add (a := 512) (b := 256) f

theorem sup_parts (f : Fin 768 → EReal) :
    Finset.univ.fold max ⊥ f = max (Finset.univ.fold max ⊥ fun k => f (inB k)) (Finset.univ.fold max ⊥ fun n => f (inC n)) := by
  show Finset.univ.sup f = max (Finset.univ.sup fun k => f (inB k)) (Finset.univ.sup fun n => f (inC n))
  refine le_antisymm (Finset.sup_le fun n _ => ?_) (max_le (Finset.sup_le fun k _ => Finset.le_sup (Finset.mem_univ _)) (Finset.sup_le fun k _ => Finset.le_sup (Finset.mem_univ _)))
  by_cases hn : n.val < 512
  · exact le_trans (Finset.le_sup (f := fun k => f (inB k)) (Finset.mem_univ (⟨n.val, hn⟩ : Fin 512))) (le_max_left _ _)
  · have e : n = inC ⟨n.val - 512, by omega⟩ := Fin.ext (by show n.val = 512 + (n.val - 512); omega)
    exact le_trans (le_trans (by rw [← e]) (Finset.le_sup (f := fun n => f (inC n)) (Finset.mem_univ (⟨n.val - 512, by omega⟩ : Fin 256)))) (le_max_right _ _)

theorem v56_B (k : Fin 512) : v56 A (ix4 h r c (inB k)) = (A.blk h r).sB c k := by
  unfold v56 inB
  pointwise [v22_at, v31_at]
  rw [gather_bias]
  refine congrArg (fun x => _ + A.bias (ix4 h x c k)) (Fin.ext ?_)
  show min (v50 (ix2 r 0)).toInt.toNat 7 = r.val - min (r.val - 4) 24
  rw [v50_at, toInt_ofNat _ (by omega), Int.toNat_natCast]
  omega

theorem v10_at (n : Fin 256) : v10 A (ix3 n h d) = A.kall (ix2 ⟨n.val, by omega⟩ (col h d)) := by
  unfold v10
  pointwise [v3_at]

theorem v11_at (n : Fin 256) : v11 A (ix3 n h d) = A.p (ix2 ⟨n.val, by omega⟩ ⟨7168 + (h.val * 128 + d.val), by omega⟩) := by
  unfold v11
  pointwise [v7_at]

theorem v56_C (n : Fin 256) : v56 A (ix4 h r c (inC n)) = (A.blk h r).sC c n := by
  unfold v56 inC
  pointwise [v22_at, v10_at]
  rfl

theorem v57_eq : v57 A (ix3 h r c) = (A.blk h r).mx c := by
  rw [v57_at, ofBits_bot, sup_parts]
  simp only [v56_B, v56_C]
  rfl

theorem v77_B (k : Fin 512) : v77 A (ix4 h r c (inB k)) = (A.blk h r).eB c k := by
  rw [v77_at, v57_eq, v56_B]
  rfl

theorem v77_C (n : Fin 256) : v77 A (ix4 h r c (inC n)) = (A.blk h r).eC c n := by
  rw [v77_at, v57_eq, v56_C]
  rfl

theorem v79_eq : v79 A (ix4 h r c 0) = (A.blk h r).sm c := by
  rw [v79_at, sum_parts]
  simp only [v77_B, v77_C]
  rfl

theorem v88_at (n : Fin 256) : v88 A (ix4 h r c n) = (A.blk h r).rpC c n := by
  refine (by unfold v88; pointwise; rfl : v88 A (ix4 h r c n) = v81 A (ix4 h r c (inC n))).trans ?_
  rw [v81_at, v79_eq, v77_C]
  rfl

theorem v85_at (k : Fin 512) : v85 A (ix4 h r c k) = (A.blk h r).rpB c k := by
  refine (by unfold v85; pointwise; rfl : v85 A (ix4 h r c k) = v81 A (ix4 h r c (inB k))).trans ?_
  rw [v81_at, v79_eq, v77_B]
  rfl

theorem v95_at : v95 A (ix4 h d r c) = A.dO (ix2 ⟨r.val * 64 + c.val, by omega⟩ (col h d)) := by
  unfold v95
  pointwise [v94_at]

theorem v100_at : v100 A (ix4 r h d c) = A.dO (ix2 ⟨r.val * 64 + c.val, by omega⟩ (col h d)) := by
  unfold v100
  pointwise [v94_at]

theorem v106_B (k : Fin 512) : v106 A (ix4 h r c (inB k)) = (A.blk h r).uB c k := by
  unfold v106 inB
  pointwise [v100_at, v40_at]
  rw [dif_neg (fun h => h.1), zero_add]
  rfl

theorem v106_C (n : Fin 256) : v106 A (ix4 h r c (inC n)) = (A.blk h r).uC c n := by
  unfold v106 inC
  pointwise [v95_at, v11_at]
  rfl

theorem v118_at (n : Fin 768) : v118 A (ix4 h r c n)
    = (Ideal.div (v106 A (ix4 h r c n)) (v79 A (ix4 h r c 0)) + -∑ x, v106 A (ix4 h r c x) * Ideal.div 1 (v79 A (ix4 h r c 0) * v79 A (ix4 h r c 0)) * v77 A (ix4 h r c x)) * v77 A (ix4 h r c n) := by
  unfold v118
  pointwise
  rw [Fin.sum_univ_one]

theorem v118_B (k : Fin 512) : v118 A (ix4 h r c (inB k)) = (A.blk h r).rgB c k := by
  rw [v118_at, sum_parts]
  simp only [v106_B, v106_C, v77_B, v77_C, v79_eq]
  rfl

theorem v118_C (n : Fin 256) : v118 A (ix4 h r c (inC n)) = (A.blk h r).rgC c n := by
  rw [v118_at, sum_parts]
  simp only [v106_B, v106_C, v77_B, v77_C, v79_eq]
  rfl

theorem v119_at (k : Fin 512) : v119 A (ix4 h r c k) = (A.blk h r).rgB c k :=
  (by unfold v119; pointwise; rfl : v119 A (ix4 h r c k) = v118 A (ix4 h r c (inB k))).trans (v118_B A h r c k)

theorem v122_at (n : Fin 256) : v122 A (ix4 h r c n) = (A.blk h r).rgC c n * sc :=
  (by unfold v122; pointwise; rfl : v122 A (ix4 h r c n) = v118 A (ix4 h r c (inC n)) * sc).trans (by rw [v118_C])

theorem v130_at (k : Fin 512) : v130 A (ix4 h r c k) = (A.blk h r).rgB c k * sc := by
  unfold v130
  pointwise [v119_at]
  rfl

end Cert.NaValue.Ref
end
-- ==== Proof.NaRefOut.lean ====
module

public import proofs.«01_k».proof.Proof.NaRefRead
public import proofs.«01_k».proof.Proof.NaPlace

/-! The results of the reference read at an index: sums of the rows' contributions. -/

@[expose] public section

set_option maxRecDepth 16384

noncomputable section

namespace Cert.NaValue

namespace Ref

open Cert.ReferenceIdeal Cert.ReferenceIdeal.Gen
open Idealize.ShloMosaic Idealize.ShloMosaic.TcCoe Idealize.SL.Sem

variable (A : Arrs) (h : Fin 8) (r : Fin 32) (c : Fin 64) (d : Fin 128)

/-- A scatter of bands of eight rows: row `a` gets, from every row whose band has it, the row of the band. -/
theorem scatter_rows_sum (X : FVec Ideal S32x64x8x128 .f32) (I : IVec S32x8x1 32) (U : FVec Ideal S32x8x64x8x128 .f32) (a : Fin 32)
    (hI : ∀ (r : Fin 32) (j : Fin 8), (I (ix3 r j 0)).toInt = (min (r.val - 4) 24 + j.val : ℕ)) :
    Host.scatterAdd scatter_S32x64x8x128_S32x8x1_S32x8x64x8x128_234_0_0_2 X I U (ix4 a c h d)
      = X (ix4 a c h d) + ∑ r : Fin 32, if hr : min (r.val - 4) 24 ≤ a.val ∧ a.val < min (r.val - 4) 24 + 8 then
          U (ix5 r ⟨a.val - min (r.val - 4) 24, by omega⟩ c h d) else 0 := by
  have key : ∀ (r : Fin 32) (j : Fin 8) (c' : Fin 64) (h' : Fin 8) (d' : Fin 128),
      scatter_S32x64x8x128_S32x8x1_S32x8x64x8x128_234_0_0_2.resultIdx? (ix5 r j c' h' d') I = some (ix4 ⟨min (r.val - 4) 24 + j.val, by omega⟩ c' h' d') :=
    fun r j c' h' d' => scatter_rows h' r c' d' I j _ (by omega) (hI r j)
  refine congrArg (X (ix4 a c h d) + ·) ?_
  have e : ∀ r : Fin 32, (if hr : min (r.val - 4) 24 ≤ a.val ∧ a.val < min (r.val - 4) 24 + 8 then
          U (ix5 r ⟨a.val - min (r.val - 4) 24, by omega⟩ c h d) else 0)
      = if min (r.val - 4) 24 ≤ a.val ∧ a.val < min (r.val - 4) 24 + 8 then U (ix5 r ⟨(a.val - min (r.val - 4) 24) % 8, Nat.mod_lt _ (by omega)⟩ c h d) else 0 := by
    intro r
    by_cases hr : min (r.val - 4) 24 ≤ a.val ∧ a.val < min (r.val - 4) 24 + 8
    · rw [dif_pos hr, if_pos hr]
      exact congrArg (fun x => U (ix5 r x c h d)) (Fin.ext (Nat.mod_eq_of_lt (by omega : a.val - min (r.val - 4) 24 < 8)).symm)
    · rw [dif_neg hr, if_neg hr]
  rw [Finset.sum_congr rfl fun r _ => e r, ← Finset.sum_filter]
  have ex : ∀ j : S32x8x64x8x128.Idx, ∃ (r : Fin 32) (j1 : Fin 8) (c' : Fin 64) (h' : Fin 8) (d' : Fin 128), j = ix5 r j1 c' h' d' :=
    fun j => ⟨_, _, _, _, _, eq_ix5 j⟩
  have inv : ∀ (r : Fin 32) (j : Fin 8) (c' : Fin 64) (h' : Fin 8) (d' : Fin 128),
      scatter_S32x64x8x128_S32x8x1_S32x8x64x8x128_234_0_0_2.resultIdx? (ix5 r j c' h' d') I = some (ix4 a c h d) →
      min (r.val - 4) 24 + j.val = a.val ∧ c' = c ∧ h' = h ∧ d' = d := by
    intro r j c' h' d' hj
    rw [key] at hj
    have hi := Option.some.inj hj
    exact ⟨congrArg Fin.val (congrFun hi 0), congrFun hi 1, congrFun hi 2, congrFun hi 3⟩
  have fin : ∀ (r : Fin 32) (j : Fin 8), min (r.val - 4) 24 + j.val = a.val →
      (⟨(a.val - min (r.val - 4) 24) % 8, Nat.mod_lt _ (by omega)⟩ : Fin 8) = j :=
    fun r j h1 => Fin.ext (by show (a.val - min (r.val - 4) 24) % 8 = j.val; omega)
  have back : ∀ j, scatter_S32x64x8x128_S32x8x1_S32x8x64x8x128_234_0_0_2.resultIdx? j I = some (ix4 a c h d) →
      ix5 (j 0) ⟨(a.val - min ((j 0).val - 4) 24) % 8, Nat.mod_lt _ (by omega)⟩ c h d = j := by
    intro j hj
    obtain ⟨r, j1, c', h', d', rfl⟩ := ex j
    obtain ⟨h1, h2, h3, h4⟩ := inv _ _ _ _ _ hj
    subst h2 h3 h4
    exact congrArg (fun x => ix5 r x c' h' d') (fin r j1 h1)
  refine Finset.sum_bij' (fun j _ => j 0) (fun r _ => ix5 r ⟨(a.val - min (r.val - 4) 24) % 8, Nat.mod_lt _ (by omega)⟩ c h d) ?_ ?_ ?_ ?_ ?_
  · intro j hj
    obtain ⟨r, j1, c', h', d', rfl⟩ := ex j
    have h1 := (inv _ _ _ _ _ (Finset.mem_filter.1 hj).2).1
    exact Finset.mem_filter.2 ⟨Finset.mem_univ r, (by omega : min (r.val - 4) 24 ≤ a.val ∧ a.val < min (r.val - 4) 24 + 8)⟩
  · intro r hr
    have h1 := (Finset.mem_filter.1 hr).2
    refine Finset.mem_filter.2 ⟨Finset.mem_univ _, (key _ _ _ _ _).trans ?_⟩
    congr 2
    exact Fin.ext (by show min (r.val - 4) 24 + (a.val - min (r.val - 4) 24) % 8 = a.val; omega)
  · intro j hj
    exact back j (Finset.mem_filter.1 hj).2
  · intro r _
    rfl
  · intro j hj
    exact congrArg U (back j (Finset.mem_filter.1 hj).2).symm

/-- A scatter of bias slabs: variant `a` gets the slab of every row that reads it. -/
theorem scatter_bias_sum (X : FVec Ideal S8x8x64x512 .f32) (I : IVec S32x1 32) (U : FVec Ideal S8x32x64x512 .f32) (a : Fin 8) (k : Fin 512)
    (hI : ∀ r : Fin 32, (I (ix2 r 0)).toInt = (r.val - min (r.val - 4) 24 : ℕ)) :
    Host.scatterAdd scatter_S8x8x64x512_S32x1_S8x32x64x512_023_1_1_1 X I U (ix4 h a c k)
      = X (ix4 h a c k) + ∑ r : Fin 32, if r.val - min (r.val - 4) 24 = a.val then U (ix4 h r c k) else 0 := by
  have key : ∀ (r : Fin 32) (c' : Fin 64) (h' : Fin 8) (k' : Fin 512),
      scatter_S8x8x64x512_S32x1_S8x32x64x512_023_1_1_1.resultIdx? (ix4 h' r c' k') I = some (ix4 h' ⟨r.val - min (r.val - 4) 24, by omega⟩ c' k') :=
    fun r c' h' k' => scatter_bias h' r c' I k' _ (by omega) (hI r)
  refine congrArg (X (ix4 h a c k) + ·) ?_
  rw [← Finset.sum_filter]
  have ex : ∀ j : S8x32x64x512.Idx, ∃ (h' : Fin 8) (r : Fin 32) (c' : Fin 64) (k' : Fin 512), j = ix4 h' r c' k' :=
    fun j => ⟨_, _, _, _, eq_ix4 j⟩
  have inv : ∀ j : S8x32x64x512.Idx, scatter_S8x8x64x512_S32x1_S8x32x64x512_023_1_1_1.resultIdx? j I = some (ix4 h a c k) →
      (j 1).val - min ((j 1).val - 4) 24 = a.val ∧ ix4 h (j 1) c k = j := by
    intro j hj
    obtain ⟨h', r, c', k', rfl⟩ := ex j
    rw [key] at hj
    have hi := Option.some.inj hj
    have h2 : h' = h := congrFun hi 0
    have h3 : c' = c := congrFun hi 2
    have h4 : k' = k := congrFun hi 3
    subst h2 h3 h4
    exact ⟨congrArg Fin.val (congrFun hi 1), rfl⟩
  refine Finset.sum_bij' (fun j _ => j 1) (fun r _ => ix4 h r c k) ?_ ?_ ?_ ?_ ?_
  · intro j hj
    exact Finset.mem_filter.2 ⟨Finset.mem_univ _, (inv j (Finset.mem_filter.1 hj).2).1⟩
  · intro r hr
    refine Finset.mem_filter.2 ⟨Finset.mem_univ _, (key _ _ _ _).trans ?_⟩
    congr 2
    exact Fin.ext (Finset.mem_filter.1 hr).2
  · intro j hj
    exact (inv j (Finset.mem_filter.1 hj).2).2
  · intro r _
    rfl
  · intro j hj
    exact congrArg U (inv j (Finset.mem_filter.1 hj).2).2.symm

theorem v128_at (a : Fin 8) (k : Fin 512) :
    v128 A (ix4 h a c k) = ∑ r : Fin 32, if r.val - min (r.val - 4) 24 = a.val then (A.blk h r).rgB c k else 0 := by
  unfold v128
  rw [scatter_bias_sum h c _ _ _ a k fun r => by rw [v50_at, toInt_ofNat _ (by omega)]]
  simp only [v119_at]
  pointwise
  done

theorem v147_at : v147 A (ix2 ⟨r.val * 64 + c.val, by omega⟩ (col h d)) = (A.blk h r).rdq c d := by
  unfold v147 col
  pointwise [v122_at, v130_at, v10_at, v31_at]
  rfl

theorem v148_ctx (n : Fin 256) : v148 A (ix2 ⟨n.val, by omega⟩ (col h d)) = ∑ r : Fin 32, (A.blk h r).rdkC n d := by
  unfold v148 col
  pointwise [v122_at, v22_at]
  rfl

theorem v150_ctx (n : Fin 256) : v150 A (ix2 ⟨n.val, by omega⟩ (col h d)) = ∑ r : Fin 32, (A.blk h r).rdvC n d := by
  unfold v150 col
  pointwise [v95_at, v88_at]
  rfl

theorem v148_band (a : Fin 32) : v148 A (ix2 ⟨256 + (a.val * 64 + c.val), by omega⟩ (col h d))
    = ∑ r : Fin 32, if hr : min (r.val - 4) 24 ≤ a.val ∧ a.val < min (r.val - 4) 24 + 8 then
        (A.blk h r).rdkB ⟨(a.val - min (r.val - 4) 24) * 64 + c.val, by omega⟩ d else 0 := by
  unfold v148 col
  pointwise
  rw [scatter_rows_sum h c d _ _ _ a fun r j => by rw [v29_at, toInt_ofNat _ (by omega)]]
  refine (congrArg₂ (· + ·) (?_ : _ = (0 : EReal)) (Finset.sum_congr rfl fun r _ => ?_)).trans (zero_add _)
  · pointwise
  · by_cases hr : min (r.val - 4) 24 ≤ a.val ∧ a.val < min (r.val - 4) 24 + 8
    · rw [dif_pos hr, dif_pos hr]
      pointwise [v130_at, v22_at]
      rfl
    · rw [dif_neg hr, dif_neg hr]

theorem v150_band (a : Fin 32) : v150 A (ix2 ⟨256 + (a.val * 64 + c.val), by omega⟩ (col h d))
    = ∑ r : Fin 32, if hr : min (r.val - 4) 24 ≤ a.val ∧ a.val < min (r.val - 4) 24 + 8 then
        (A.blk h r).rdvB ⟨(a.val - min (r.val - 4) 24) * 64 + c.val, by omega⟩ d else 0 := by
  unfold v150 col
  pointwise
  rw [scatter_rows_sum h c d _ _ _ a fun r j => by rw [v38_at, toInt_ofNat _ (by omega)]]
  refine (congrArg₂ (· + ·) (?_ : _ = (0 : EReal)) (Finset.sum_congr rfl fun r _ => ?_)).trans (zero_add _)
  · pointwise
  · by_cases hr : min (r.val - 4) 24 ≤ a.val ∧ a.val < min (r.val - 4) 24 + 8
    · rw [dif_pos hr, dif_pos hr]
      pointwise [v100_at, v85_at]
      rfl
    · rw [dif_neg hr, dif_neg hr]

/-- The keys' gradient, row by row. -/
theorem v148_at (n : Fin 2304) : v148 A (ix2 n (col h d)) = ∑ r : Fin 32, place r.val (fun k => (A.blk h r).rdkB k d) (fun n => (A.blk h r).rdkC n d) n := by
  by_cases hn : n.val < 256
  · exact (v148_ctx A h d ⟨n.val, hn⟩).trans (Finset.sum_congr rfl fun r _ => (place_ctx r.val (fun k => (A.blk h r).rdkB k d) (fun n => (A.blk h r).rdkC n d) n hn).symm)
  · obtain ⟨a, c, e⟩ := row_parts n hn
    rw [e]
    exact (v148_band A h c d a).trans (Finset.sum_congr rfl fun r _ => (place_band r a c (fun k => (A.blk h r).rdkB k d) (fun n => (A.blk h r).rdkC n d)).symm)

/-- The values' gradient, row by row. -/
theorem v150_at (n : Fin 2304) : v150 A (ix2 n (col h d)) = ∑ r : Fin 32, place r.val (fun k => (A.blk h r).rdvB k d) (fun n => (A.blk h r).rdvC n d) n := by
  by_cases hn : n.val < 256
  · exact (v150_ctx A h d ⟨n.val, hn⟩).trans (Finset.sum_congr rfl fun r _ => (place_ctx r.val (fun k => (A.blk h r).rdvB k d) (fun n => (A.blk h r).rdvC n d) n hn).symm)
  · obtain ⟨a, c, e⟩ := row_parts n hn
    rw [e]
    exact (v150_band A h c d a).trans (Finset.sum_congr rfl fun r _ => (place_band r a c (fun k => (A.blk h r).rdvB k d) (fun n => (A.blk h r).rdvC n d)).symm)

end Ref
end Cert.NaValue
end
-- ==== Proof.NaFinal.lean ====
module

public import proofs.«01_k».proof.Proof.NaOuts
public import proofs.«01_k».proof.Proof.NaRefOut

/-! The kernel's result arrays at an index. Head group `g` holds the four heads `4 g .. 4 g + 3`; the blocks written back
    are the row's for the queries, the group's for keys and values, and the slab's for the bias. -/

@[expose] public section

set_option maxRecDepth 16384

noncomputable section

namespace Cert.NaValue

open Cert.KernelIdeal Cert.KernelIdeal.Gen Cert.NaFrame
open Idealize.ShloMosaic Idealize.ShloMosaic.TcCoe Idealize.SL.Sem
open Cert.NaValue.Ref (Arrs col)

/-- Head `j` of group `g`. -/
def hd (g : Fin 2) (j : Fin 4) : Fin 8 := ⟨4 * g.val + j.val, by omega⟩

theorem index0 : ∀ t : Fin cfg0.N, win0_0.index t (0 : Fin 2) = t.val % 32 ∧ win0_0.index t (1 : Fin 2) = t.val / 32 :=
  (by decide +kernel : ∀ t : Fin grid0.N, _)
theorem index1 : ∀ t : Fin cfg0.N, win0_1.index t (0 : Fin 2) = 0 ∧ win0_1.index t (1 : Fin 2) = t.val / 32 :=
  (by decide +kernel : ∀ t : Fin grid0.N, _)
theorem index2 : ∀ t : Fin cfg0.N, win0_2.index t (0 : Fin 2) = 0 ∧ win0_2.index t (1 : Fin 2) = 14 + t.val / 32 :=
  (by decide +kernel : ∀ t : Fin grid0.N, _)
theorem index3 : ∀ t : Fin cfg0.N, win0_3.index t (0 : Fin 4) = t.val / 32 ∧ win0_3.index t (1 : Fin 4) = t.val % 32 - min (t.val % 32 - 4) 24 ∧ win0_3.index t (2 : Fin 4) = 0 ∧ win0_3.index t (3 : Fin 4) = 0 :=
  (by decide +kernel : ∀ t : Fin grid0.N, _)
theorem index4 : ∀ t : Fin cfg0.N, win0_4.index t (0 : Fin 2) = t.val % 32 ∧ win0_4.index t (1 : Fin 2) = t.val / 32 :=
  (by decide +kernel : ∀ t : Fin grid0.N, _)
theorem index5 : ∀ t : Fin cfg0.N, win0_5.index t (0 : Fin 2) = t.val % 32 ∧ win0_5.index t (1 : Fin 2) = t.val / 32 :=
  (by decide +kernel : ∀ t : Fin grid0.N, _)
theorem index6 : ∀ t : Fin cfg0.N, win0_6.index t (0 : Fin 2) = 0 ∧ win0_6.index t (1 : Fin 2) = t.val / 32 :=
  (by decide +kernel : ∀ t : Fin grid0.N, _)
theorem index7 : ∀ t : Fin cfg0.N, win0_7.index t (0 : Fin 2) = 0 ∧ win0_7.index t (1 : Fin 2) = t.val / 32 :=
  (by decide +kernel : ∀ t : Fin grid0.N, _)
theorem index8 : ∀ t : Fin cfg0.N, win0_8.index t (0 : Fin 4) = t.val / 32 ∧ win0_8.index t (1 : Fin 4) = t.val % 32 - min (t.val % 32 - 4) 24 ∧ win0_8.index t (2 : Fin 4) = 0 ∧ win0_8.index t (3 : Fin 4) = 0 :=
  (by decide +kernel : ∀ t : Fin grid0.N, _)

theorem pt_mod (g : Fin 2) (r : Fin 32) : (pt g r).val % 32 = r.val := by show (32 * g.val + r.val) % 32 = r.val; omega
theorem pt_div (g : Fin 2) (r : Fin 32) : (pt g r).val / 32 = g.val := by show (32 * g.val + r.val) / 32 = g.val; omega

theorem emb0 (g : Fin 2) (r : Fin 32) (a : Fin 64) (j : Fin 4) (d : Fin 128) :
    ((cfg0.win 0).blk (pt g r)).view.emb (ix2 a (colv j d)) = ix2 (⟨r.val * 64 + a.val, by omega⟩ : Fin 2048) (col (hd g j) d) := by
  have h := index0 (pt g r)
  simp only [pt_mod, pt_div] at h
  obtain ⟨h0, h1⟩ := h
  funext x; apply Fin.ext
  match x with
  | ⟨0, _⟩ => show win0_0.index (pt g r) (0 : Fin 2) * 64 + 1 * a.val = r.val * 64 + a.val; omega
  | ⟨1, _⟩ => show win0_0.index (pt g r) (1 : Fin 2) * 512 + 1 * (128 * j.val + d.val) = (4 * g.val + j.val) * 128 + d.val; omega
theorem emb1 (g : Fin 2) (r : Fin 32) (a : Fin 2304) (j : Fin 4) (d : Fin 128) :
    ((cfg0.win 1).blk (pt g r)).view.emb (ix2 a (colv j d)) = ix2 a (col (hd g j) d) := by
  have h := index1 (pt g r)
  simp only [pt_mod, pt_div] at h
  obtain ⟨h0, h1⟩ := h
  funext x; apply Fin.ext
  match x with
  | ⟨0, _⟩ => show win0_1.index (pt g r) (0 : Fin 2) * 2304 + 1 * a.val = a.val; omega
  | ⟨1, _⟩ => show win0_1.index (pt g r) (1 : Fin 2) * 512 + 1 * (128 * j.val + d.val) = (4 * g.val + j.val) * 128 + d.val; omega
theorem emb2 (g : Fin 2) (r : Fin 32) (a : Fin 2304) (j : Fin 4) (d : Fin 128) :
    ((cfg0.win 2).blk (pt g r)).view.emb (ix2 a (colv j d)) = ix2 a (⟨7168 + ((hd g j).val * 128 + d.val), by omega⟩ : Fin 12288) := by
  have h := index2 (pt g r)
  simp only [pt_mod, pt_div] at h
  obtain ⟨h0, h1⟩ := h
  funext x; apply Fin.ext
  match x with
  | ⟨0, _⟩ => show win0_2.index (pt g r) (0 : Fin 2) * 2304 + 1 * a.val = a.val; omega
  | ⟨1, _⟩ => show win0_2.index (pt g r) (1 : Fin 2) * 512 + 1 * (128 * j.val + d.val) = 7168 + ((4 * g.val + j.val) * 128 + d.val); omega
theorem emb3 (g : Fin 2) (r : Fin 32) (j : Fin 4) (a : Fin 64) (k : Fin 512) :
    ((cfg0.win 3).blk (pt g r)).view.emb (ix4 j 0 a k) = ix4 (hd g j) (⟨r.val - min (r.val - 4) 24, by omega⟩ : Fin 8) a k := by
  have h := index3 (pt g r)
  simp only [pt_mod, pt_div] at h
  obtain ⟨h0, h1, h2, h3⟩ := h
  funext x; apply Fin.ext
  match x with
  | ⟨0, _⟩ => show win0_3.index (pt g r) (0 : Fin 4) * 4 + 1 * j.val = 4 * g.val + j.val; omega
  | ⟨1, _⟩ => show win0_3.index (pt g r) (1 : Fin 4) * 1 + 1 * 0 = r.val - min (r.val - 4) 24; omega
  | ⟨2, _⟩ => show win0_3.index (pt g r) (2 : Fin 4) * 64 + 1 * a.val = a.val; omega
  | ⟨3, _⟩ => show win0_3.index (pt g r) (3 : Fin 4) * 512 + 1 * k.val = k.val; omega
theorem emb4 (g : Fin 2) (r : Fin 32) (a : Fin 64) (j : Fin 4) (d : Fin 128) :
    ((cfg0.win 4).blk (pt g r)).view.emb (ix2 a (colv j d)) = ix2 (⟨r.val * 64 + a.val, by omega⟩ : Fin 2048) (col (hd g j) d) := by
  have h := index4 (pt g r)
  simp only [pt_mod, pt_div] at h
  obtain ⟨h0, h1⟩ := h
  funext x; apply Fin.ext
  match x with
  | ⟨0, _⟩ => show win0_4.index (pt g r) (0 : Fin 2) * 64 + 1 * a.val = r.val * 64 + a.val; omega
  | ⟨1, _⟩ => show win0_4.index (pt g r) (1 : Fin 2) * 512 + 1 * (128 * j.val + d.val) = (4 * g.val + j.val) * 128 + d.val; omega
theorem emb5 (g : Fin 2) (r : Fin 32) (a : Fin 64) (j : Fin 4) (d : Fin 128) :
    ((cfg0.win 5).blk (pt g r)).view.emb (ix2 a (colv j d)) = ix2 (⟨r.val * 64 + a.val, by omega⟩ : Fin 2048) (col (hd g j) d) := by
  have h := index5 (pt g r)
  simp only [pt_mod, pt_div] at h
  obtain ⟨h0, h1⟩ := h
  funext x; apply Fin.ext
  match x with
  | ⟨0, _⟩ => show win0_5.index (pt g r) (0 : Fin 2) * 64 + 1 * a.val = r.val * 64 + a.val; omega
  | ⟨1, _⟩ => show win0_5.index (pt g r) (1 : Fin 2) * 512 + 1 * (128 * j.val + d.val) = (4 * g.val + j.val) * 128 + d.val; omega
theorem emb6 (g : Fin 2) (r : Fin 32) (a : Fin 2304) (j : Fin 4) (d : Fin 128) :
    ((cfg0.win 6).blk (pt g r)).view.emb (ix2 a (colv j d)) = ix2 a (col (hd g j) d) := by
  have h := index6 (pt g r)
  simp only [pt_mod, pt_div] at h
  obtain ⟨h0, h1⟩ := h
  funext x; apply Fin.ext
  match x with
  | ⟨0, _⟩ => show win0_6.index (pt g r) (0 : Fin 2) * 2304 + 1 * a.val = a.val; omega
  | ⟨1, _⟩ => show win0_6.index (pt g r) (1 : Fin 2) * 512 + 1 * (128 * j.val + d.val) = (4 * g.val + j.val) * 128 + d.val; omega
theorem emb7 (g : Fin 2) (r : Fin 32) (a : Fin 2304) (j : Fin 4) (d : Fin 128) :
    ((cfg0.win 7).blk (pt g r)).view.emb (ix2 a (colv j d)) = ix2 a (col (hd g j) d) := by
  have h := index7 (pt g r)
  simp only [pt_mod, pt_div] at h
  obtain ⟨h0, h1⟩ := h
  funext x; apply Fin.ext
  match x with
  | ⟨0, _⟩ => show win0_7.index (pt g r) (0 : Fin 2) * 2304 + 1 * a.val = a.val; omega
  | ⟨1, _⟩ => show win0_7.index (pt g r) (1 : Fin 2) * 512 + 1 * (128 * j.val + d.val) = (4 * g.val + j.val) * 128 + d.val; omega
theorem emb8 (g : Fin 2) (r : Fin 32) (j : Fin 4) (a : Fin 64) (k : Fin 512) :
    ((cfg0.win 8).blk (pt g r)).view.emb (ix4 j 0 a k) = ix4 (hd g j) (⟨r.val - min (r.val - 4) 24, by omega⟩ : Fin 8) a k := by
  have h := index8 (pt g r)
  simp only [pt_mod, pt_div] at h
  obtain ⟨h0, h1, h2, h3⟩ := h
  funext x; apply Fin.ext
  match x with
  | ⟨0, _⟩ => show win0_8.index (pt g r) (0 : Fin 4) * 4 + 1 * j.val = 4 * g.val + j.val; omega
  | ⟨1, _⟩ => show win0_8.index (pt g r) (1 : Fin 4) * 1 + 1 * 0 = r.val - min (r.val - 4) 24; omega
  | ⟨2, _⟩ => show win0_8.index (pt g r) (2 : Fin 4) * 64 + 1 * a.val = a.val; omega
  | ⟨3, _⟩ => show win0_8.index (pt g r) (3 : Fin 4) * 512 + 1 * k.val = k.val; omega

variable (m : (ℓ : Loc nD τ sig) → Buf (Elt Ideal) ℓ) (c : Dev nD)

/-- The kernel's arguments, as the reference takes them. -/
def args : Arrs where
  q := m ((c : Thread nD τ).loc main_arg0)
  kall := m ((c : Thread nD τ).loc main_arg1)
  p := m ((c : Thread nD τ).loc main_arg2)
  bias := m ((c : Thread nD τ).loc main_arg3)
  dO := m ((c : Thread nD τ).loc main_arg4)

variable (g : Fin 2) (r : Fin 32) (j : Fin 4)

theorem iblk0 (a : Fin 64) (d : Fin 128) : iblk m c 0 (pt g r) (ix2 a (colv j d)) = (args m c).q (ix2 (⟨r.val * 64 + a.val, by omega⟩ : Fin 2048) (col (hd g j) d)) := by
  show V m c main_arg0 (((cfg0.win 0).blk (pt g r)).view.emb (ix2 a (colv j d))) = _
  rw [emb0, V_main_arg0]; rfl
theorem iblk1 (a : Fin 2304) (d : Fin 128) : iblk m c 1 (pt g r) (ix2 a (colv j d)) = (args m c).kall (ix2 a (col (hd g j) d)) := by
  show V m c main_arg1 (((cfg0.win 1).blk (pt g r)).view.emb (ix2 a (colv j d))) = _
  rw [emb1, V_main_arg1]; rfl
theorem iblk2 (a : Fin 2304) (d : Fin 128) : iblk m c 2 (pt g r) (ix2 a (colv j d)) = (args m c).p (ix2 a (⟨7168 + ((hd g j).val * 128 + d.val), by omega⟩ : Fin 12288)) := by
  show V m c main_arg2 (((cfg0.win 2).blk (pt g r)).view.emb (ix2 a (colv j d))) = _
  rw [emb2, V_main_arg2]; rfl
theorem iblk4 (a : Fin 64) (d : Fin 128) : iblk m c 4 (pt g r) (ix2 a (colv j d)) = (args m c).dO (ix2 (⟨r.val * 64 + a.val, by omega⟩ : Fin 2048) (col (hd g j) d)) := by
  show V m c main_arg4 (((cfg0.win 4).blk (pt g r)).view.emb (ix2 a (colv j d))) = _
  rw [emb4, V_main_arg4]; rfl
theorem iblk3 (a : Fin 64) (k : Fin 512) : iblk m c 3 (pt g r) (ix4 j 0 a k) = (args m c).bias (ix4 (hd g j) (⟨r.val - min (r.val - 4) 24, by omega⟩ : Fin 8) a k) := by
  show V m c main_arg3 (((cfg0.win 3).blk (pt g r)).view.emb (ix4 j 0 a k)) = _
  rw [emb3, V_main_arg3]; rfl

/-- The operands of a head at a point are the reference's for that head and row. -/
theorem W_eq : W m c (pt g r) j = (args m c).blk (hd g j) r := by
  unfold W blkOf Arrs.blk
  rw [coord_row]
  congr 1
  · funext a d; exact iblk0 m c g r j a d
  · funext k d; refine (iblk1 m c g r j _ d).trans ?_; congr 2; apply Fin.ext; show 256 + 64 * min (r.val - 4) 24 + k.val = 256 + (min (r.val - 4) 24 * 64 + k.val); omega
  · funext n d; exact iblk1 m c g r j _ d
  · funext k d; refine (iblk2 m c g r j _ d).trans ?_; congr 2; apply Fin.ext; show 256 + 64 * min (r.val - 4) 24 + k.val = 256 + (min (r.val - 4) 24 * 64 + k.val); omega
  · funext n d; exact iblk2 m c g r j _ d
  · funext a k; exact iblk3 m c g r j a k
  · funext a d; exact iblk4 m c g r j a d

theorem addK_eq (n : Fin 2304) (d : Fin 128) :
    addK m c (pt g r) j n d = place r.val (fun k => ((args m c).blk (hd g j) r).dkB k d) (fun n => ((args m c).blk (hd g j) r).dkC n d) n := by
  unfold addK; rw [coord_row, W_eq]
theorem addV_eq (n : Fin 2304) (d : Fin 128) :
    addV m c (pt g r) j n d = place r.val (fun k => ((args m c).blk (hd g j) r).dvB k d) (fun n => ((args m c).blk (hd g j) r).dvC n d) n := by
  unfold addV; rw [coord_row, W_eq]

/-! ## The blocks written back -/

theorem inj5 : ∀ t t' : Fin cfg0.N, win0_5.index t = win0_5.index t' → t = t' :=
  (by decide +kernel : ∀ t t' : Fin grid0.N, win0_5.index t = win0_5.index t' → t = t')
theorem inj6 : ∀ t t' : Fin cfg0.N, win0_6.flush t = true → win0_6.flush t' = true → win0_6.index t = win0_6.index t' → t = t' :=
  (by decide +kernel : ∀ t t' : Fin grid0.N, win0_6.flush t = true → win0_6.flush t' = true → win0_6.index t = win0_6.index t' → t = t')
theorem inj7 : ∀ t t' : Fin cfg0.N, win0_7.flush t = true → win0_7.flush t' = true → win0_7.index t = win0_7.index t' → t = t' :=
  (by decide +kernel : ∀ t t' : Fin grid0.N, win0_7.flush t = true → win0_7.flush t' = true → win0_7.index t = win0_7.index t' → t = t')
theorem inj8 : ∀ t t' : Fin cfg0.N, win0_8.flush t = true → win0_8.flush t' = true → win0_8.index t = win0_8.index t' → t = t' :=
  (by decide +kernel : ∀ t t' : Fin grid0.N, win0_8.flush t = true → win0_8.flush t' = true → win0_8.index t = win0_8.index t' → t = t')
theorem flush8 : ∀ (g : Fin 2) (v : Fin 8), win0_8.flush (pt g (last v)) = true := by decide +kernel

theorem back5 (t : Fin cfg0.N) (hf : (cfg0.win 5).flush t = true) :
    ((cfg0.win 5).blk t).view.read (Elt Ideal) ((dats m 0 c).arrAt 5 cfg0.N) = (dats m 0 c).flushed 5 t :=
  (dats m 0 c).read_blk_arrAt_eq_flushed 5 (fun t t' ht ht' hne => (cfg0.win 5).disjoint_blk fun h => hne (inj5 t t' h)) cfg0.N t t.isLt hf
theorem flushed5 (t : Fin cfg0.N) : (dats m 0 c).flushed 5 t = (cfg0.win 5).cut (grid0.coords t) ((O m c t).1) := by
  show (cfg0.win 5).cut (grid0.coords t) ((dats m 0 c).after 5 t) = _
  rw [after5]
theorem back6 (t : Fin cfg0.N) (hf : (cfg0.win 6).flush t = true) :
    ((cfg0.win 6).blk t).view.read (Elt Ideal) ((dats m 0 c).arrAt 6 cfg0.N) = (dats m 0 c).flushed 6 t :=
  (dats m 0 c).read_blk_arrAt_eq_flushed 6 (fun t t' ht ht' hne => (cfg0.win 6).disjoint_blk fun h => hne (inj6 t t' ht ht' h)) cfg0.N t t.isLt hf
theorem flushed6 (t : Fin cfg0.N) : (dats m 0 c).flushed 6 t = (cfg0.win 6).cut (grid0.coords t) ((O m c t).2.1) := by
  show (cfg0.win 6).cut (grid0.coords t) ((dats m 0 c).after 6 t) = _
  rw [after6]
theorem back7 (t : Fin cfg0.N) (hf : (cfg0.win 7).flush t = true) :
    ((cfg0.win 7).blk t).view.read (Elt Ideal) ((dats m 0 c).arrAt 7 cfg0.N) = (dats m 0 c).flushed 7 t :=
  (dats m 0 c).read_blk_arrAt_eq_flushed 7 (fun t t' ht ht' hne => (cfg0.win 7).disjoint_blk fun h => hne (inj7 t t' ht ht' h)) cfg0.N t t.isLt hf
theorem flushed7 (t : Fin cfg0.N) : (dats m 0 c).flushed 7 t = (cfg0.win 7).cut (grid0.coords t) ((O m c t).2.2.1) := by
  show (cfg0.win 7).cut (grid0.coords t) ((dats m 0 c).after 7 t) = _
  rw [after7]
theorem back8 (t : Fin cfg0.N) (hf : (cfg0.win 8).flush t = true) :
    ((cfg0.win 8).blk t).view.read (Elt Ideal) ((dats m 0 c).arrAt 8 cfg0.N) = (dats m 0 c).flushed 8 t :=
  (dats m 0 c).read_blk_arrAt_eq_flushed 8 (fun t t' ht ht' hne => (cfg0.win 8).disjoint_blk fun h => hne (inj8 t t' ht ht' h)) cfg0.N t t.isLt hf
theorem flushed8 (t : Fin cfg0.N) : (dats m 0 c).flushed 8 t = (cfg0.win 8).cut (grid0.coords t) ((O m c t).2.2.2.1) := by
  show (cfg0.win 8).cut (grid0.coords t) ((dats m 0 c).after 8 t) = _
  rw [after8]

/-! ## The result arrays -/

theorem final5 (a : Fin 64) (d : Fin 128) :
    (dats m 0 c).arrAt 5 cfg0.N (ix2 (⟨r.val * 64 + a.val, by omega⟩ : Fin 2048) (col (hd g j) d)) = ((args m c).blk (hd g j) r).dq a d := by
  have b := congrFun (back5 m c (pt g r) (flush0_5 _)) (ix2 a (colv j d))
  rw [flushed5] at b
  have b' : (dats m 0 c).arrAt 5 cfg0.N (((cfg0.win 5).blk (pt g r)).view.emb (ix2 a (colv j d))) = (O m c (pt g r)).1 (ix2 a (colv j d)) := b
  rw [emb5, out5, W_eq] at b'
  exact b'

theorem final6 (n : Fin 2304) (d : Fin 128) :
    (dats m 0 c).arrAt 6 cfg0.N (ix2 n (col (hd g j) d))
      = (∑ r : Fin 32, place r.val (fun k => ((args m c).blk (hd g j) r).dkB k d) (fun n => ((args m c).blk (hd g j) r).dkC n d) n : EReal) := by
  have b := congrFun (back6 m c (pt g 31) ((flush0_6 _).mpr (pt_mod g 31))) (ix2 n (colv j d))
  rw [flushed6] at b
  have b' : (dats m 0 c).arrAt 6 cfg0.N (((cfg0.win 6).blk (pt g 31)).view.emb (ix2 n (colv j d))) = (O m c (pt g 31)).2.1 (ix2 n (colv j d)) := b
  rw [emb6, out6] at b'
  have e : (∑ r : Fin 32, addK m c (pt g r) j n d : EReal)
      = ∑ r : Fin 32, place r.val (fun k => ((args m c).blk (hd g j) r).dkB k d) (fun n => ((args m c).blk (hd g j) r).dkC n d) n :=
    Finset.sum_congr rfl fun r _ => addK_eq m c g r j n d
  exact b'.trans e

theorem final7 (n : Fin 2304) (d : Fin 128) :
    (dats m 0 c).arrAt 7 cfg0.N (ix2 n (col (hd g j) d))
      = (∑ r : Fin 32, place r.val (fun k => ((args m c).blk (hd g j) r).dvB k d) (fun n => ((args m c).blk (hd g j) r).dvC n d) n : EReal) := by
  have b := congrFun (back7 m c (pt g 31) ((flush0_7 _).mpr (pt_mod g 31))) (ix2 n (colv j d))
  rw [flushed7] at b
  have b' : (dats m 0 c).arrAt 7 cfg0.N (((cfg0.win 7).blk (pt g 31)).view.emb (ix2 n (colv j d))) = (O m c (pt g 31)).2.2.1 (ix2 n (colv j d)) := b
  rw [emb7, out7] at b'
  have e : (∑ r : Fin 32, addV m c (pt g r) j n d : EReal)
      = ∑ r : Fin 32, place r.val (fun k => ((args m c).blk (hd g j) r).dvB k d) (fun n => ((args m c).blk (hd g j) r).dvC n d) n :=
    Finset.sum_congr rfl fun r _ => addV_eq m c g r j n d
  exact b'.trans e

theorem final8 (v : Fin 8) (a : Fin 64) (k : Fin 512) :
    (dats m 0 c).arrAt 8 cfg0.N (ix4 (hd g j) v a k)
      = (∑ r : Fin 32, if r.val - min (r.val - 4) 24 = v.val then ((args m c).blk (hd g j) r).gB a k else 0 : EReal) := by
  have b := congrFun (back8 m c (pt g (last v)) (flush8 g v)) (ix4 j 0 a k)
  rw [flushed8] at b
  have b' : (dats m 0 c).arrAt 8 cfg0.N (((cfg0.win 8).blk (pt g (last v))).view.emb (ix4 j 0 a k)) = (O m c (pt g (last v))).2.2.2.1 (ix4 j 0 a k) := b
  rw [emb8, out8] at b'
  have e : (⟨(last v).val - min ((last v).val - 4) 24, by omega⟩ : Fin 8) = v := Fin.ext (var_last v)
  rw [e] at b'
  have e' : (∑ r : Fin 32, if var r.val = v.val then (W m c (pt g r) j).gB a k else 0 : EReal)
      = ∑ r : Fin 32, if r.val - min (r.val - 4) 24 = v.val then ((args m c).blk (hd g j) r).gB a k else 0 :=
    Finset.sum_congr rfl fun r _ => by rw [W_eq]; rfl
  exact b'.trans e'

end Cert.NaValue
end
-- ==== Proof.NaRefRun.lean ====
module

public import proofs.«01_k».proof.Proof.NaRef
public import proofs.«01_k».proof.Proof.Gen.ReferenceIdeal.Run

/-! The results of the neighbourhood attention's reference by the names of its stages. -/

@[expose] public section

set_option maxRecDepth 16384

noncomputable section

namespace Cert.NaValue.Ref

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (c : Dev nD)

/-- The five arrays at the launch. -/
abbrev arrs : Arrs := ⟨m ((c.tc : Thread nD τ).loc main_arg0), m ((c.tc : Thread nD τ).loc main_arg1), m ((c.tc : Thread nD τ).loc main_arg2),
  m ((c.tc : Thread nD τ).loc main_arg3), m ((c.tc : Thread nD τ).loc main_arg4)⟩

theorem main_v3 : res_main_v3 (launchContents m c) = v3 (arrs m c) := by
  unfold res_main_v3
  rfl

theorem main_v7 : res_main_v7 (launchContents m c) = v7 (arrs m c) := by
  unfold res_main_v7
  rfl

theorem main_v10 : res_main_v10 (launchContents m c) = v10 (arrs m c) := by
  unfold res_main_v10
  rw [main_v3]
  rfl

theorem main_v11 : res_main_v11 (launchContents m c) = v11 (arrs m c) := by
  unfold res_main_v11
  rw [main_v7]
  rfl

theorem main_v12 : res_main_v12 (launchContents m c) = v12 := by
  unfold res_main_v12
  rfl

theorem main_v15 : res_main_v15 (launchContents m c) = v15 := by
  unfold res_main_v15
  rw [main_v12]
  rfl

theorem main_v21 : res_main_v21 (launchContents m c) = v21 := by
  unfold res_main_v21
  rw [main_v15]
  rfl

theorem main_v22 : res_main_v22 (launchContents m c) = v22 (arrs m c) := by
  unfold res_main_v22
  rfl

theorem main_v29 : res_main_v29 (launchContents m c) = v29 := by
  unfold res_main_v29
  rw [main_v21]
  rfl

theorem main_v31 : res_main_v31 (launchContents m c) = v31 (arrs m c) := by
  unfold res_main_v31
  rw [main_v3, main_v29]
  rfl

theorem main_v38 : res_main_v38 (launchContents m c) = v38 := by
  unfold res_main_v38
  rw [main_v21]
  rfl

theorem main_v40 : res_main_v40 (launchContents m c) = v40 (arrs m c) := by
  unfold res_main_v40
  rw [main_v7, main_v38]
  rfl

theorem main_v44 : res_main_v44 (launchContents m c) = v44 := by
  unfold res_main_v44
  rw [main_v12, main_v15]
  rfl

theorem main_v50 : res_main_v50 (launchContents m c) = v50 := by
  unfold res_main_v50
  rw [main_v44]
  rfl

theorem main_v56 : res_main_v56 (launchContents m c) = v56 (arrs m c) := by
  unfold res_main_v56
  rw [main_v10, main_v22, main_v31, main_v50]
  rfl

theorem main_v57 : res_main_v57 (launchContents m c) = v57 (arrs m c) := by
  unfold res_main_v57
  rw [main_v56]
  rfl

theorem main_v77 : res_main_v77 (launchContents m c) = v77 (arrs m c) := by
  unfold res_main_v77
  rw [main_v56, main_v57]
  rfl

theorem main_v79 : res_main_v79 (launchContents m c) = v79 (arrs m c) := by
  unfold res_main_v79
  rw [main_v77]
  rfl

theorem main_v81 : res_main_v81 (launchContents m c) = v81 (arrs m c) := by
  unfold res_main_v81
  rw [main_v77, main_v79]
  rfl

theorem main_v85 : res_main_v85 (launchContents m c) = v85 (arrs m c) := by
  unfold res_main_v85
  rw [main_v81]
  rfl

theorem main_v88 : res_main_v88 (launchContents m c) = v88 (arrs m c) := by
  unfold res_main_v88
  rw [main_v81]
  rfl

theorem main_v94 : res_main_v94 (launchContents m c) = v94 (arrs m c) := by
  unfold res_main_v94
  rfl

theorem main_v95 : res_main_v95 (launchContents m c) = v95 (arrs m c) := by
  unfold res_main_v95
  rw [main_v94]
  rfl

theorem main_v100 : res_main_v100 (launchContents m c) = v100 (arrs m c) := by
  unfold res_main_v100
  rw [main_v94]
  rfl

theorem main_v106 : res_main_v106 (launchContents m c) = v106 (arrs m c) := by
  unfold res_main_v106
  rw [main_v11, main_v40, main_v95, main_v100]
  rfl

theorem main_v118 : res_main_v118 (launchContents m c) = v118 (arrs m c) := by
  unfold res_main_v118
  rw [main_v77, main_v79, main_v106]
  rfl

theorem main_v119 : res_main_v119 (launchContents m c) = v119 (arrs m c) := by
  unfold res_main_v119
  rw [main_v118]
  rfl

theorem main_v122 : res_main_v122 (launchContents m c) = v122 (arrs m c) := by
  unfold res_main_v122
  rw [main_v118]
  rfl

theorem main_v130 : res_main_v130 (launchContents m c) = v130 (arrs m c) := by
  unfold res_main_v130
  rw [main_v119]
  rfl

/-- What the reference leaves in its four results; its arguments end as they were. -/
theorem run' (ρ : Dev nD → PrngReg) :
    θ_run defs (onTc (τ := τ) (main (F := Ideal))) ⟨m, fun _ => 0, ρ⟩ fun r => ∀ c : Dev nD,
      r.2.mem ((c.tc : Thread nD τ).loc main_v147) = v147 (arrs m c)
      ∧ r.2.mem ((c.tc : Thread nD τ).loc main_v148) = v148 (arrs m c)
      ∧ r.2.mem ((c.tc : Thread nD τ).loc main_v150) = v150 (arrs m c)
      ∧ r.2.mem ((c.tc : Thread nD τ).loc main_v128) = v128 (arrs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨h0, h1, h2, h3, hk⟩ := h c
  rw [main_v10, main_v31, main_v122, main_v130] at h0
  rw [main_v22, main_v29, main_v122, main_v130] at h1
  rw [main_v38, main_v85, main_v88, main_v95, main_v100] at h2
  rw [main_v50, main_v119] at h3
  exact ⟨h0.trans rfl, h1.trans rfl, h2.trans rfl, h3.trans rfl, hk⟩

end Cert.NaValue.Ref
end
-- ==== Proof.NaFinite.lean ====
module

public import proofs.«01_k».proof.Proof.FfnFinite
public import proofs.«01_k».proof.Proof.Gen.Pre_finite
public import proofs.«01_k».proof.Proof.NaRefOut

/-! The precondition of the attention's gradient read back: the operands of every head and row are real numbers, and the
    bias is less than infinity. -/

@[expose] public section

set_option maxRecDepth 16384

noncomputable section

namespace Cert.NaValue

open Idealize.ShloMosaic
open Cert.NaValue.Ref (Arrs col)

theorem lt_of_olt {x : EReal} (h : BitVec.ofBool (decide (x < Ideal.ofBits FTy.f32 2139095040#32)) = 1#1) : x < ⊤ := by
  have e : Ideal.ofBits FTy.f32 2139095040#32 = ⊤ := by simp [Ideal.ofBits, Ideal.ieee]
  rw [e] at h
  by_contra hc
  simp [hc] at h

open Cert.Pre_finite in
theorem parts_of_pre [Cert.Pre_finite.Facts] (A : Arrs) (h : Cert.Pre_finite.fn (F := Ideal) A.q A.kall A.p A.bias A.dO = fun _ => 1#1) :
    (∀ i, ∃ r : ℝ, A.q i = r) ∧ (∀ i, ∃ r : ℝ, A.kall i = r) ∧ (∀ (n : Fin 2304) (q : Fin 1024), ∃ r : ℝ, A.p (ix2 n (⟨7168 + q.val, by omega⟩ : Fin 12288)) = r)
      ∧ (∀ i, A.bias i < (⊤ : EReal)) ∧ ∀ i, ∃ r : ℝ, A.dO i = r := by
  have h0 := congrFun h ix0
  unfold Cert.Pre_finite.fn Cert.Pre_finite.fn_part1 at h0
  dsimp only at h0
  replace h0 : IntOp.andi (IntOp.andi (IntOp.andi (IntOp.andi _ _) _) _) _ = 1#1 := h0
  rw [IntOp.andi_eq_one, IntOp.andi_eq_one, IntOp.andi_eq_one, IntOp.andi_eq_one] at h0
  obtain ⟨⟨⟨⟨hq, hk⟩, hp⟩, hb⟩, hd⟩ := h0
  have : Subsingleton S_.Idx := ⟨fun a b => funext fun k => k.elim0⟩
  refine ⟨fun i => ?_, fun i => ?_, fun n q => ?_, fun i => ?_, fun i => ?_⟩
  · have e := Host.reduce_andi_all _ _ _ _ _ hq i
    pointwise at e
    exact Cert.FfnValue.real_of_abs_lt _ (lt_of_olt e)
  · have e := Host.reduce_andi_all _ _ _ _ _ hk i
    pointwise at e
    exact Cert.FfnValue.real_of_abs_lt _ (lt_of_olt e)
  · have e := Host.reduce_andi_all _ _ _ _ _ hp (ix2 n q)
    pointwise at e
    exact Cert.FfnValue.real_of_abs_lt _ (lt_of_olt e)
  · have e := Host.reduce_andi_all _ _ _ _ _ hb i
    pointwise at e
    exact lt_of_olt e
  · have e := Host.reduce_andi_all _ _ _ _ _ hd i
    pointwise at e
    exact Cert.FfnValue.real_of_abs_lt _ (lt_of_olt e)

theorem real_of_pre [Cert.Pre_finite.Facts] (A : Arrs) (h : Cert.Pre_finite.fn (F := Ideal) A.q A.kall A.p A.bias A.dO = fun _ => 1#1)
    (hh : Fin 8) (r : Fin 32) : (A.blk hh r).Real := by
  obtain ⟨hq, hk, hp, hb, hd⟩ := parts_of_pre A h
  exact ⟨fun _ _ => hq _, fun _ _ => hk _, fun _ _ => hk _, fun _ d => hp _ ⟨hh.val * 128 + d.val, by omega⟩, fun _ d => hp _ ⟨hh.val * 128 + d.val, by omega⟩, fun _ _ => hb _, fun _ _ => hd _⟩

end Cert.NaValue
end
-- ==== Proof.NaClaim.lean ====
module

public import proofs.«01_k».proof.Defs
public import proofs.«01_k».proof.Proof.NaFinal
public import proofs.«01_k».proof.Proof.NaRefRun
public import proofs.«01_k».proof.Proof.NaFinite

/-! The kernel of the attention's gradient and the reference compute the same four arrays. -/

@[expose] public section

set_option maxRecDepth 16384

noncomputable section

namespace Cert.NaValue

open Cert.KernelIdeal Cert.KernelIdeal.Gen Cert.NaFrame
open Idealize.ShloMosaic Idealize.ShloMosaic.TcCoe Idealize.SL.Sem
open Cert.NaValue.Ref (Arrs col)

theorem exists_head (h : Fin 8) : ∃ (g : Fin 2) (j : Fin 4), h = hd g j :=
  ⟨⟨h.val / 4, by omega⟩, ⟨h.val % 4, by omega⟩, Fin.ext (by show h.val = 4 * (h.val / 4) + h.val % 4; omega)⟩

theorem exists_head_col (q : Fin 1024) : ∃ (g : Fin 2) (j : Fin 4) (d : Fin 128), q = col (hd g j) d := by
  obtain ⟨g, j, e⟩ := exists_head ⟨q.val / 128, by omega⟩
  exact ⟨g, j, ⟨q.val % 128, by omega⟩, by rw [← e]; exact Fin.ext (by show q.val = q.val / 128 * 128 + q.val % 128; omega)⟩

theorem exists_row (n : Fin 2048) : ∃ (r : Fin 32) (a : Fin 64), n = ⟨r.val * 64 + a.val, by omega⟩ :=
  ⟨⟨n.val / 64, by omega⟩, ⟨n.val % 64, by omega⟩, Fin.ext (by show n.val = n.val / 64 * 64 + n.val % 64; omega)⟩

section
variable (m : (ℓ : Loc nD τ sig) → Buf (Elt Ideal) ℓ) (c : Dev nD) (hr : ∀ h r, ((args m c).blk h r).Real)
include hr

theorem res0 : Ref.v147 (args m c) = (dats m 0 c).arrAt 5 cfg0.N := by
  funext i
  obtain ⟨n, q, rfl⟩ : ∃ (n : Fin 2048) (q : Fin 1024), i = ix2 n q := ⟨i 0, i 1, eq_ix2 i⟩
  obtain ⟨g, j, d, rfl⟩ := exists_head_col q
  obtain ⟨r, a, rfl⟩ := exists_row n
  exact (Ref.v147_at (args m c) (hd g j) r a d).trans ((Blk.rdq_eq (hr _ _) a d).trans (final5 m c g r j a d).symm)

theorem res1 : Ref.v148 (args m c) = (dats m 0 c).arrAt 6 cfg0.N := by
  funext i
  obtain ⟨n, q, rfl⟩ : ∃ (n : Fin 2304) (q : Fin 1024), i = ix2 n q := ⟨i 0, i 1, eq_ix2 i⟩
  obtain ⟨g, j, d, rfl⟩ := exists_head_col q
  refine (Ref.v148_at (args m c) (hd g j) d n).trans (Eq.trans ?_ (final6 m c g j n d).symm)
  refine Finset.sum_congr rfl fun r _ => ?_
  simp only [Blk.rdkB_eq (hr _ _), Blk.rdkC_eq (hr _ _)]

theorem res2 : Ref.v150 (args m c) = (dats m 0 c).arrAt 7 cfg0.N := by
  funext i
  obtain ⟨n, q, rfl⟩ : ∃ (n : Fin 2304) (q : Fin 1024), i = ix2 n q := ⟨i 0, i 1, eq_ix2 i⟩
  obtain ⟨g, j, d, rfl⟩ := exists_head_col q
  refine (Ref.v150_at (args m c) (hd g j) d n).trans (Eq.trans ?_ (final7 m c g j n d).symm)
  refine Finset.sum_congr rfl fun r _ => ?_
  simp only [Blk.rdvB_eq (hr _ _), Blk.rdvC_eq (hr _ _)]

theorem res3 : Ref.v128 (args m c) = (dats m 0 c).arrAt 8 cfg0.N := by
  funext i
  obtain ⟨h, v, a, k, rfl⟩ : ∃ (h v : Fin 8) (a : Fin 64) (k : Fin 512), i = ix4 h v a k := ⟨i 0, i 1, i 2, i 3, eq_ix4 i⟩
  obtain ⟨g, j, rfl⟩ := exists_head h
  refine (Ref.v128_at (args m c) (hd g j) a v k).trans (Eq.trans ?_ (final8 m c g j v a k).symm)
  refine Finset.sum_congr rfl fun r _ => ?_
  simp only [Blk.rgB_eq (hr _ _)]
end

section
variable (m : (ℓ : Loc nD τ sig) → Buf (Elt Ideal) ℓ) (g : Dev nD → PrngReg)

/-- The kernel's run: its results are the arrays the windows leave, its arguments end as they were. -/
theorem kernel_run : θ_run defs (onTc (τ := τ) (main (F := Ideal))) ⟨m, fun _ => 0, g⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m g)
end

theorem algebraic : Cert.algebraic_KernelIdeal_ReferenceIdeal_pre_finite := by
  intro m g m' g' hpre hargs
  have hr : ∀ c h r, ((args m c).blk h r).Real := fun c => real_of_pre (args m c) (hpre c)
  refine ⟨fun c => (dats m 0 c).arrAt 5 cfg0.N, fun c => (dats m 0 c).arrAt 6 cfg0.N, fun c => (dats m 0 c).arrAt 7 cfg0.N, fun c => (dats m 0 c).arrAt 8 cfg0.N,
    kernel_run m g, (θ_run Cert.ReferenceIdeal.defs _ _).mono (fun r h c => ?_) (Ref.run' m' g')⟩
  obtain ⟨h0, h1, h2, h3, hk⟩ := h c
  obtain ⟨a0, a1, a2, a3, a4⟩ := hargs c
  have e : Ref.arrs m' c = args m c := by unfold Ref.arrs args; rw [a0, a1, a2, a3, a4]
  rw [e] at h0 h1 h2 h3
  exact ⟨h0.trans (res0 m c (hr c)), h1.trans (res1 m c (hr c)), h2.trans (res2 m c (hr c)), h3.trans (res3 m c (hr c)), hk⟩

end Cert.NaValue
end
-- ==== Proof.lean ====
module

public import proofs.«01_k».proof.Defs
public import proofs.«01_k».proof.Proof.Gen.FfnKernel
public import proofs.«01_k».proof.Proof.Gen.FfnKernel.Frame
public import proofs.«01_k».proof.Proof.Gen.FfnKernelIdeal
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.Pre_finite_ffn
public import proofs.«01_k».proof.Proof.Gen.KernelIdeal
public import proofs.«01_k».proof.Proof.Gen.Kernel
public import proofs.«01_k».proof.Proof.Gen.Kernel.Frame
public import proofs.«01_k».proof.Proof.Gen.Kernel.Skeleton
public import proofs.«01_k».proof.Proof.Gen.KernelIdeal.Skeleton
public import proofs.«01_k».proof.Proof.Gen.KernelIdeal.Frame
public import proofs.«01_k».proof.Proof.Gen.ReferenceIdeal.Run
public import proofs.«01_k».proof.Proof.Gen.Pre_finite
public import proofs.«01_k».proof.Proof.FfnClaim
public import proofs.«01_k».proof.Proof.NaBits
public import proofs.«01_k».proof.Proof.WinValue
public import proofs.«01_k».proof.Proof.ActValue
public import proofs.«01_k».proof.Proof.HaValue
public import proofs.«01_k».proof.Proof.HbValue
public import proofs.«01_k».proof.Proof.FdValue
public import proofs.«01_k».proof.Proof.HcatValue
public import proofs.«01_k».proof.Proof.InValue
public import proofs.«01_k».proof.Proof.FwdValue
public import proofs.«01_k».proof.Proof.UpValue
public import proofs.«01_k».proof.Proof.DownValue
public import proofs.«01_k».proof.Proof.NaClaim
public import Idealize.ShloMosaic.Lib.Quiescent
public import Idealize.ShloMosaic.Adequacy
public import Idealize.ShloMosaic.Init

@[expose] public section

noncomputable section

namespace Cert.Proof

open Idealize.ShloMosaic Idealize.SL.Sem

/-- The reference of the gated convolution's gradient leaves its arguments as they were and every counter at
    zero: it declares no semaphore. -/
theorem ffn_reference : Cert.quiescent_FfnReferenceIdeal := fun m ρ _ =>
  (θ_run Cert.FfnReferenceIdeal.defs _ _).mono
    (fun r h => ⟨fun c => (h c).2.2.2.2, Idealize.ShloMosaic.sem_eq_zero_of_no_sems (by decide) r.2⟩)
    (Cert.FfnReferenceIdeal.Value.run (F := Ideal) m ρ)

theorem frame_kernel_ideal : Cert.quiescent_KernelIdeal := fun m ρ _ => Cert.NaFrame.frame (F := Ideal) m ρ

/-- The reference of the attention's gradient declares no semaphore. -/
theorem reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-! The references of the matrix products declare no semaphore either. -/

theorem win_reference : Cert.quiescent_WinReferenceIdeal := fun m ρ _ =>
  (θ_run Cert.WinReferenceIdeal.defs _ _).mono
    (fun r h => ⟨fun c => (h c).2, Idealize.ShloMosaic.sem_eq_zero_of_no_sems (by decide) r.2⟩)
    (Cert.WinReferenceIdeal.Value.run (F := Ideal) m ρ)

theorem up_reference : Cert.quiescent_UpReferenceIdeal := fun m ρ _ =>
  (θ_run Cert.UpReferenceIdeal.defs _ _).mono
    (fun r h => ⟨fun c => (h c).2, Idealize.ShloMosaic.sem_eq_zero_of_no_sems (by decide) r.2⟩)
    (Cert.UpReferenceIdeal.Value.run (F := Ideal) m ρ)

theorem down_reference : Cert.quiescent_DownReferenceIdeal := fun m ρ _ =>
  (θ_run Cert.DownReferenceIdeal.defs _ _).mono
    (fun r h => ⟨fun c => (h c).2, Idealize.ShloMosaic.sem_eq_zero_of_no_sems (by decide) r.2⟩)
    (Cert.DownReferenceIdeal.Value.run (F := Ideal) m ρ)

theorem hcat_reference : Cert.quiescent_HcatReferenceIdeal := fun m ρ _ =>
  (θ_run Cert.HcatReferenceIdeal.defs _ _).mono
    (fun r h => ⟨fun c => (h c).2, Idealize.ShloMosaic.sem_eq_zero_of_no_sems (by decide) r.2⟩)
    (Cert.HcatReferenceIdeal.Value.run (F := Ideal) m ρ)

theorem in_reference : Cert.quiescent_InReferenceIdeal := fun m ρ _ =>
  (θ_run Cert.InReferenceIdeal.defs _ _).mono
    (fun r h => ⟨fun c => (h c).2, Idealize.ShloMosaic.sem_eq_zero_of_no_sems (by decide) r.2⟩)
    (Cert.InReferenceIdeal.Value.run (F := Ideal) m ρ)

theorem fwd_reference : Cert.quiescent_FwdReferenceIdeal := fun m ρ _ =>
  (θ_run Cert.FwdReferenceIdeal.defs _ _).mono
    (fun r h => ⟨fun c => (h c).2, Idealize.ShloMosaic.sem_eq_zero_of_no_sems (by decide) r.2⟩)
    (Cert.FwdReferenceIdeal.Value.run (F := Ideal) m ρ)

theorem act_reference : Cert.quiescent_ActReferenceIdeal := fun m ρ _ =>
  (θ_run Cert.ActReferenceIdeal.defs _ _).mono
    (fun r h => ⟨fun c => (h c).2, Idealize.ShloMosaic.sem_eq_zero_of_no_sems (by decide) r.2⟩)
    (Cert.ActReferenceIdeal.Value.run (F := Ideal) m ρ)

theorem ha_reference : Cert.quiescent_HaReferenceIdeal := fun m ρ _ =>
  (θ_run Cert.HaReferenceIdeal.defs _ _).mono
    (fun r h => ⟨fun c => (h c).2, Idealize.ShloMosaic.sem_eq_zero_of_no_sems (by decide) r.2⟩)
    (Cert.HaReferenceIdeal.Value.run (F := Ideal) m ρ)

theorem hb_reference : Cert.quiescent_HbReferenceIdeal := fun m ρ _ =>
  (θ_run Cert.HbReferenceIdeal.defs _ _).mono
    (fun r h => ⟨fun c => (h c).2, Idealize.ShloMosaic.sem_eq_zero_of_no_sems (by decide) r.2⟩)
    (Cert.HbReferenceIdeal.Value.run (F := Ideal) m ρ)

theorem fd_reference : Cert.quiescent_FdReferenceIdeal := fun m ρ _ =>
  (θ_run Cert.FdReferenceIdeal.defs _ _).mono
    (fun r h => ⟨fun c => (h c).2, Idealize.ShloMosaic.sem_eq_zero_of_no_sems (by decide) r.2⟩)
    (Cert.FdReferenceIdeal.Value.run (F := Ideal) m ρ)

theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.WinKernel.Gen.facts, Cert.WinKernelIdeal.Gen.facts, Cert.WinReferenceIdeal.Gen.facts,
    Cert.UpKernel.Gen.facts, Cert.UpKernelIdeal.Gen.facts, Cert.UpReferenceIdeal.Gen.facts,
    Cert.DownKernel.Gen.facts, Cert.DownKernelIdeal.Gen.facts, Cert.DownReferenceIdeal.Gen.facts,
    Cert.HcatKernel.Gen.facts, Cert.HcatKernelIdeal.Gen.facts, Cert.HcatReferenceIdeal.Gen.facts,
    Cert.InKernel.Gen.facts, Cert.InKernelIdeal.Gen.facts, Cert.InReferenceIdeal.Gen.facts,
    Cert.FwdKernel.Gen.facts, Cert.FwdKernelIdeal.Gen.facts, Cert.FwdReferenceIdeal.Gen.facts,
    Cert.ActKernel.Gen.facts, Cert.ActKernelIdeal.Gen.facts, Cert.ActReferenceIdeal.Gen.facts,
    Cert.HaKernel.Gen.facts, Cert.HaKernelIdeal.Gen.facts, Cert.HaReferenceIdeal.Gen.facts,
    Cert.HbKernel.Gen.facts, Cert.HbKernelIdeal.Gen.facts, Cert.HbReferenceIdeal.Gen.facts,
    Cert.FdKernel.Gen.facts, Cert.FdKernelIdeal.Gen.facts, Cert.FdReferenceIdeal.Gen.facts,
    Cert.Pre_finite.Gen.facts, Cert.Pre_finite_ffn.Gen.facts,
    Cert.NaFrame.frame_kernel, frame_kernel_ideal, fun m ρ _ => frame_kernel_ideal m ρ trivial, reference, fun m ρ _ => reference m ρ trivial,
    fun m ρ _ => Cert.FfnKernel.Gen.frame m ρ, fun m ρ _ => Cert.FfnKernelIdeal.Gen.frame m ρ, fun m ρ _ => Cert.FfnKernelIdeal.Gen.frame m ρ,
    ffn_reference, fun m ρ _ => ffn_reference m ρ trivial,
    fun m ρ _ => Cert.WinKernel.Gen.frame m ρ, fun m ρ _ => Cert.WinKernelIdeal.Gen.frame m ρ, win_reference,
    fun m ρ _ => Cert.UpKernel.Gen.frame m ρ, fun m ρ _ => Cert.UpKernelIdeal.Gen.frame m ρ, up_reference,
    fun m ρ _ => Cert.DownKernel.Gen.frame m ρ, fun m ρ _ => Cert.DownKernelIdeal.Gen.frame m ρ, down_reference,
    fun m ρ _ => Cert.HcatKernel.Gen.frame m ρ, fun m ρ _ => Cert.HcatKernelIdeal.Gen.frame m ρ, hcat_reference,
    fun m ρ _ => Cert.InKernel.Gen.frame m ρ, fun m ρ _ => Cert.InKernelIdeal.Gen.frame m ρ, in_reference,
    fun m ρ _ => Cert.FwdKernel.Gen.frame m ρ, fun m ρ _ => Cert.FwdKernelIdeal.Gen.frame m ρ, fwd_reference,
    fun m ρ _ => Cert.ActKernel.Gen.frame m ρ, fun m ρ _ => Cert.ActKernelIdeal.Gen.frame m ρ, act_reference,
    fun m ρ _ => Cert.HaKernel.Gen.frame m ρ, fun m ρ _ => Cert.HaKernelIdeal.Gen.frame m ρ, ha_reference,
    fun m ρ _ => Cert.HbKernel.Gen.frame m ρ, fun m ρ _ => Cert.HbKernelIdeal.Gen.frame m ρ, hb_reference,
    fun m ρ _ => Cert.FdKernel.Gen.frame m ρ, fun m ρ _ => Cert.FdKernelIdeal.Gen.frame m ρ, fd_reference,
    trivial, Cert.NaValue.algebraic, trivial, Cert.FfnValue.algebraic,
    trivial, Cert.WinValue.algebraic, trivial, Cert.UpValue.algebraic, trivial, Cert.DownValue.algebraic, trivial, Cert.HcatValue.algebraic, trivial, Cert.InValue.algebraic, trivial, Cert.FwdValue.algebraic,
    trivial, Cert.ActValue.algebraic, trivial, Cert.HaValue.algebraic, trivial, Cert.HbValue.algebraic, trivial, Cert.FdValue.algebraic⟩

end Cert.Proof

end
